-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v37) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)) (v2 : (c : Dev Cert.Kernel3Ideal.nD) → Buf (Elt Ideal) ((c.tc : Thread Cert.Kernel3Ideal.nD Cert.Kernel3Ideal.τ).loc Cert.Kernel3Ideal.main_v10_2)) (v3 : (c : Dev Cert.Kernel3Ideal.nD) → Buf (Elt Ideal) ((c.tc : Thread Cert.Kernel3Ideal.nD Cert.Kernel3Ideal.τ).loc Cert.Kernel3Ideal.main_v10_3)) (v4 : (c : Dev Cert.Kernel3Ideal.nD) → Buf (Elt Ideal) ((c.tc : Thread Cert.Kernel3Ideal.nD Cert.Kernel3Ideal.τ).loc Cert.Kernel3Ideal.main_v10_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_v10_2) = v2 c
          ∧ r.2.mem ((c.tc : Thread Cert.Kernel3Ideal.nD Cert.Kernel3Ideal.τ).loc Cert.Kernel3Ideal.main_v10_3) = v3 c
          ∧ r.2.mem ((c.tc : Thread Cert.Kernel3Ideal.nD Cert.Kernel3Ideal.τ).loc Cert.Kernel3Ideal.main_v10_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_v26) = v1 c
          ∧ r.2.mem ((c.tc : Thread Cert.Reference3Ideal.nD Cert.Reference3Ideal.τ).loc Cert.Reference3Ideal.main_v28) = v2 c
          ∧ r.2.mem ((c.tc : Thread Cert.Reference3Ideal.nD Cert.Reference3Ideal.τ).loc Cert.Reference3Ideal.main_v31) = v3 c
          ∧ r.2.mem ((c.tc : Thread Cert.Reference3Ideal.nD Cert.Reference3Ideal.τ).loc Cert.Reference3Ideal.main_v34) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v14)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v308) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S16x2048x1024 : Shape := ⟨3, ![16, 2048, 1024]⟩
abbrev S1x1024 : Shape := ⟨2, ![1, 1024]⟩
abbrev S1x1024x2048 : Shape := ⟨3, ![1, 1024, 2048]⟩
abbrev S1x2048 : Shape := ⟨2, ![1, 2048]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S32768x1024 : Shape := ⟨2, ![32768, 1024]⟩
abbrev S1024 : Shape := ⟨1, ![1024]⟩
abbrev S1024x2048 : Shape := ⟨2, ![1024, 2048]⟩
abbrev S2048 : Shape := ⟨1, ![2048]⟩
abbrev S8x128x128 : Shape := ⟨3, ![8, 128, 128]⟩
abbrev S8x128 : Shape := ⟨2, ![8, 128]⟩
abbrev S1024x1024 : Shape := ⟨2, ![1024, 1024]⟩
abbrev S8x128x1 : Shape := ⟨3, ![8, 128, 1]⟩
abbrev S256x1024 : Shape := ⟨2, ![256, 1024]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S128x1024 : Shape := ⟨2, ![128, 1024]⟩

abbrev nBuf : Space → Nat
  | .hbm => 27
  | .vmem => 16
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x2048, .f32⟩
  | .hbm, ⟨3, _⟩ => ⟨S1x2048, .f32⟩
  | .hbm, ⟨4, _⟩ => ⟨S1x1024, .f32⟩
  | .hbm, ⟨5, _⟩ => ⟨S1x1024, .f32⟩
  | .hbm, ⟨6, _⟩ => ⟨S1x8x128x128, .f32⟩
  | .hbm, ⟨7, _⟩ => ⟨S1x8x128, .f32⟩
  | .hbm, ⟨8, _⟩ => ⟨S1x1024x1024, .f32⟩
  | .hbm, ⟨9, _⟩ => ⟨S32768x1024, .f32⟩
  | .hbm, ⟨10, _⟩ => ⟨S1024, .f32⟩
  | .hbm, ⟨11, _⟩ => ⟨S1024x2048, .f32⟩
  | .hbm, ⟨12, _⟩ => ⟨S1024x2048, .bf16⟩
  | .hbm, ⟨13, _⟩ => ⟨S2048, .f32⟩
  | .hbm, ⟨14, _⟩ => ⟨S1024, .f32⟩
  | .hbm, ⟨15, _⟩ => ⟨S1024, .f32⟩
  | .hbm, ⟨16, _⟩ => ⟨S8x128x128, .f32⟩
  | .hbm, ⟨17, _⟩ => ⟨S8x128, .f32⟩
  | .hbm, ⟨18, _⟩ => ⟨S1024x1024, .f32⟩
  | .hbm, ⟨19, _⟩ => ⟨S1024x1024, .bf16⟩
  | .hbm, ⟨20, _⟩ => ⟨S8x128x1, .f32⟩
  | .hbm, ⟨21, _⟩ => ⟨S8x128x128, .f32⟩
  | .hbm, ⟨22, _⟩ => ⟨S1x1024, .f32⟩
  | .hbm, ⟨23, _⟩ => ⟨S1x2048, .f32⟩
  | .hbm, ⟨24, _⟩ => ⟨S1x1024, .f32⟩
  | .hbm, ⟨25, _⟩ => ⟨S1x1024, .f32⟩
  | .hbm, ⟨26, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2048, .bf16⟩
  | .local _ .vmem, ⟨4, _⟩ => ⟨S1x2048, .f32⟩
  | .local _ .vmem, ⟨5, _⟩ => ⟨S1x1024, .f32⟩
  | .local _ .vmem, ⟨6, _⟩ => ⟨S1x1024, .f32⟩
  | .local _ .vmem, ⟨7, _⟩ => ⟨S8x128x128, .f32⟩
  | .local _ .vmem, ⟨8, _⟩ => ⟨S8x128x128, .f32⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .f32⟩
  | .local _ .vmem, ⟨14, _⟩ => ⟨S1024x1024, .bf16⟩
  | .local _ .vmem, ⟨15, _⟩ => ⟨S1024x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S16x2048x1024 : Shape := ⟨3, ![16, 2048, 1024]⟩
abbrev S1x1024 : Shape := ⟨2, ![1, 1024]⟩
abbrev S1x1024x2048 : Shape := ⟨3, ![1, 1024, 2048]⟩
abbrev S1x2048 : Shape := ⟨2, ![1, 2048]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x2048 : Shape := ⟨2, ![1024, 2048]⟩
abbrev S16x2048x2048 : Shape := ⟨3, ![16, 2048, 2048]⟩
abbrev S2048 : Shape := ⟨1, ![2048]⟩
abbrev S1x1x2048 : Shape := ⟨3, ![1, 1, 2048]⟩
abbrev S16x16x128x8x128 : Shape := ⟨5, ![16, 16, 128, 8, 128]⟩
abbrev S128x128 : Shape := ⟨2, ![128, 128]⟩
abbrev S1x128x128 : Shape := ⟨3, ![1, 128, 128]⟩
abbrev S8x128x128 : Shape := ⟨3, ![8, 128, 128]⟩
abbrev S8x16x16x128x128 : Shape := ⟨5, ![8, 16, 16, 128, 128]⟩
abbrev S8x128 : Shape := ⟨2, ![8, 128]⟩
abbrev S128x8 : Shape := ⟨2, ![128, 8]⟩
abbrev S1x1x128x8x1 : Shape := ⟨5, ![1, 1, 128, 8, 1]⟩
abbrev S1024x1024 : Shape := ⟨2, ![1024, 1024]⟩
abbrev S32768x1024 : Shape := ⟨2, ![32768, 1024]⟩

abbrev nBuf : Space → Nat
  | .hbm => 104
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x2048, .f32⟩
  | .hbm, ⟨3, _⟩ => ⟨S1x2048, .f32⟩
  | .hbm, ⟨4, _⟩ => ⟨S1x1024, .f32⟩
  | .hbm, ⟨5, _⟩ => ⟨S1x1024, .f32⟩
  | .hbm, ⟨6, _⟩ => ⟨S1x8x128x128, .f32⟩
  | .hbm, ⟨7, _⟩ => ⟨S1x8x128, .f32⟩
  | .hbm, ⟨8, _⟩ => ⟨S1x1024x1024, .f32⟩
  | .hbm, ⟨9, _⟩ => ⟨S1024, .f32⟩
  | .hbm, ⟨10, _⟩ => ⟨S16x2048x1024, .f32⟩
  | .hbm, ⟨11, _⟩ => ⟨S_, .f32⟩
  | .hbm, ⟨12, _⟩ => ⟨S16x2048, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S_, .f32⟩
  | .hbm, ⟨18, _⟩ => ⟨S16x2048x1, .f32⟩
  | .hbm, ⟨19, _⟩ => ⟨S16x2048x1, .f32⟩
  | .hbm, ⟨20, _⟩ => ⟨S16x2048x1, .f32⟩
  | .hbm, ⟨21, _⟩ => ⟨S16x2048x1024, .f32⟩
  | .hbm, ⟨22, _⟩ => ⟨S16x2048x1024, .f32⟩
  | .hbm, ⟨23, _⟩ => ⟨S1x1x1024, .f32⟩
  | .hbm, ⟨24, _⟩ => ⟨S16x2048x1024, .f32⟩
  | .hbm, ⟨25, _⟩ => ⟨S16x2048x1024, .f32⟩
  | .hbm, ⟨26, _⟩ => ⟨S1024x2048, .f32⟩
  | .hbm, ⟨27, _⟩ => ⟨S16x2048x2048, .f32⟩
  | .hbm, ⟨28, _⟩ => ⟨S2048, .f32⟩
  | .hbm, ⟨29, _⟩ => ⟨S1x1x2048, .f32⟩
  | .hbm, ⟨30, _⟩ => ⟨S16x2048x2048, .f32⟩
  | .hbm, ⟨31, _⟩ => ⟨S16x2048x2048, .f32⟩
  | .hbm, ⟨32, _⟩ => ⟨S_, .f32⟩
  | .hbm, ⟨33, _⟩ => ⟨S16x2048x2048, .f32⟩
  | .hbm, ⟨34, _⟩ => ⟨S16x2048x2048, .f32⟩
  | .hbm, ⟨35, _⟩ => ⟨S16x2048x2048, .f32⟩
  | .hbm, ⟨36, _⟩ => ⟨S_, .f32⟩
  | .hbm, ⟨37, _⟩ => ⟨S16x2048x2048, .f32⟩
  | .hbm, ⟨38, _⟩ => ⟨S16x2048x2048, .f32⟩
  | .hbm, ⟨39, _⟩ => ⟨S16x2048x2048, .f32⟩
  | .hbm, ⟨40, _⟩ => ⟨S16x2048x2048, .f32⟩
  | .hbm, ⟨41, _⟩ => ⟨S16x2048x1024, .f32⟩
  | .hbm, ⟨42, _⟩ => ⟨S16x2048x1024, .f32⟩
  | .hbm, ⟨43, _⟩ => ⟨S1024, .f32⟩
  | .hbm, ⟨44, _⟩ => ⟨S1024, .f32⟩
  | .hbm, ⟨45, _⟩ => ⟨S_, .f32⟩
  | .hbm, ⟨46, _⟩ => ⟨S16x2048, .f32⟩
  | .hbm, ⟨47, _⟩ => ⟨S16x2048x1, .f32⟩
  | .hbm, ⟨48, _⟩ => ⟨S_, .f32⟩
  | .hbm, ⟨49, _⟩ => ⟨S16x2048x1, .f32⟩
  | .hbm, ⟨50, _⟩ => ⟨S16x2048x1, .f32⟩
  | .hbm, ⟨51, _⟩ => ⟨S16x2048x1024, .f32⟩
  | .hbm, ⟨52, _⟩ => ⟨S16x2048x1024, .f32⟩
  | .hbm, ⟨53, _⟩ => ⟨S16x2048x1024, .f32⟩
  | .hbm, ⟨54, _⟩ => ⟨S_, .f32⟩
  | .hbm, ⟨55, _⟩ => ⟨S16x2048, .f32⟩
  | .hbm, ⟨56, _⟩ => ⟨S16x2048x1, .f32⟩
  | .hbm, ⟨57, _⟩ => ⟨S_, .f32⟩
  | .hbm, ⟨58, _⟩ => ⟨S16x2048x1, .f32⟩
  | .hbm, ⟨59, _⟩ => ⟨S16x2048x1, .f32⟩
  | .hbm, ⟨60, _⟩ => ⟨S_, .f32⟩
  | .hbm, ⟨61, _⟩ => ⟨S16x2048x1, .f32⟩
  | .hbm, ⟨62, _⟩ => ⟨S16x2048x1, .f32⟩
  | .hbm, ⟨63, _⟩ => ⟨S16x2048x1, .f32⟩
  | .hbm, ⟨64, _⟩ => ⟨S16x2048x1024, .f32⟩
  | .hbm, ⟨65, _⟩ => ⟨S16x2048x1024, .f32⟩
  | .hbm, ⟨66, _⟩ => ⟨S1x1x1024, .f32⟩
  | .hbm, ⟨67, _⟩ => ⟨S16x2048x1024, .f32⟩
  | .hbm, ⟨68, _⟩ => ⟨S16x2048x1024, .f32⟩
  | .hbm, ⟨69, _⟩ => ⟨S1x1x1024, .f32⟩
  | .hbm, ⟨70, _⟩ => ⟨S16x2048x1024, .f32⟩
  | .hbm, ⟨71, _⟩ => ⟨S16x2048x1024, .f32⟩
  | .hbm, ⟨72, _⟩ => ⟨S16x16x128x8x128, .f32⟩
  | .hbm, ⟨73, _⟩ => ⟨S_, .i1⟩
  | .hbm, ⟨74, _⟩ => ⟨S128x128, .i1⟩
  | .hbm, ⟨75, _⟩ => ⟨S128x128, .i32⟩
  | .hbm, ⟨76, _⟩ => ⟨S_, .i32⟩
  | .hbm, ⟨77, _⟩ => ⟨S128x128, .i32⟩
  | .hbm, ⟨78, _⟩ => ⟨S128x128, .i32⟩
  | .hbm, ⟨79, _⟩ => ⟨S128x128, .i32⟩
  | .hbm, ⟨80, _⟩ => ⟨S128x128, .i1⟩
  | .hbm, ⟨81, _⟩ => ⟨S_, .i1⟩
  | .hbm, ⟨82, _⟩ => ⟨S128x128, .i1⟩
  | .hbm, ⟨83, _⟩ => ⟨S128x128, .i1⟩
  | .hbm, ⟨84, _⟩ => ⟨S1x128x128, .i1⟩
  | .hbm, ⟨85, _⟩ => ⟨S8x128x128, .f32⟩
  | .hbm, ⟨86, _⟩ => ⟨S_, .f32⟩
  | .hbm, ⟨87, _⟩ => ⟨S_, .f32⟩
  | .hbm, ⟨88, _⟩ => ⟨S8x128x128, .i1⟩
  | .hbm, ⟨89, _⟩ => ⟨S8x128x128, .f32⟩
  | .hbm, ⟨90, _⟩ => ⟨S8x128x128, .f32⟩
  | .hbm, ⟨91, _⟩ => ⟨S8x16x16x128x128, .f32⟩
  | .hbm, ⟨92, _⟩ => ⟨S16x16x128x8x128, .f32⟩
  | .hbm, ⟨93, _⟩ => ⟨S8x128, .f32⟩
  | .hbm, ⟨94, _⟩ => ⟨S128x8, .f32⟩
  | .hbm, ⟨95, _⟩ => ⟨S1x1x128x8x1, .f32⟩
  | .hbm, ⟨96, _⟩ => ⟨S16x16x128x8x128, .f32⟩
  | .hbm, ⟨97, _⟩ => ⟨S16x16x128x8x128, .f32⟩
  | .hbm, ⟨98, _⟩ => ⟨S16x2048x1024, .f32⟩
  | .hbm, ⟨99, _⟩ => ⟨S16x2048x1024, .f32⟩
  | .hbm, ⟨100, _⟩ => ⟨S1024x1024, .f32⟩
  | .hbm, ⟨101, _⟩ => ⟨S16x2048x1024, .f32⟩
  | .hbm, ⟨102, _⟩ => ⟨S16x2048x1024, .f32⟩
  | .hbm, ⟨103, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c : Ref sig .tc := ⟨.hbm, 73, rfl⟩
abbrev main_v54 : Ref sig .tc := ⟨.hbm, 74, rfl⟩
abbrev main_call0_v0 : Ref sig .tc := ⟨.hbm, 75, rfl⟩
abbrev main_call0_c : Ref sig .tc := ⟨.hbm, 76, rfl⟩
abbrev main_call0_v1 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_call0_c_0 : Ref sig .tc := ⟨.hbm, 81, rfl⟩
abbrev main_call0_v5 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_9 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩

abbrev nD : Nat := 1
abbrev τ : Topo := Topo.v7x

variable {F : FTy → Type} [FloatOps F]
-- ==== Kernel2.lean ====
abbrev S16x2048x1024 : Shape := ⟨3, ![16, 2048, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S32768x1024 : Shape := ⟨2, ![32768, 1024]⟩
abbrev S1x1024 : Shape := ⟨2, ![1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S1024x1024 : Shape := ⟨2, ![1024, 1024]⟩
abbrev S1024x1 : Shape := ⟨2, ![1024, 1]⟩
abbrev S1024x512 : Shape := ⟨2, ![1024, 512]⟩
abbrev S512x1024 : Shape := ⟨2, ![512, 1024]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩

abbrev nBuf : Space → Nat
  | .hbm => 17
  | .vmem => 10
  | .smem => 0
  | _ => 0

abbrev bufTy : (tb : Table) → Fin (tcTables nBuf tb) → BufTy
  | .hbm, ⟨0, _⟩ => ⟨S16x2048x1024, .f32⟩
  | .hbm, ⟨1, _⟩ => ⟨S2x1024, .f32⟩
  | .hbm, ⟨2, _⟩ => ⟨S2x1024x4096, .f32⟩
  | .hbm, ⟨3, _⟩ => ⟨S2x4096x1024, .f32⟩
  | .hbm, ⟨4, _⟩ => ⟨S1024, .f32⟩
  | .hbm, ⟨5, _⟩ => ⟨S32768x1024, .f32⟩
  | .hbm, ⟨6, _⟩ => ⟨S1x1024, .f32⟩
  | .hbm, ⟨7, _⟩ => ⟨S1024, .f32⟩
  | .hbm, ⟨8, _⟩ => ⟨S1x1024x4096, .f32⟩
  | .hbm, ⟨9, _⟩ => ⟨S1024x4096, .f32⟩
  | .hbm, ⟨10, _⟩ => ⟨S1024x4096, .bf16⟩
  | .hbm, ⟨11, _⟩ => ⟨S1x4096x1024, .f32⟩
  | .hbm, ⟨12, _⟩ => ⟨S4096x1024, .f32⟩
  | .hbm, ⟨13, _⟩ => ⟨S4096x1024, .bf16⟩
  | .hbm, ⟨14, _⟩ => ⟨S1x1024, .f32⟩
  | .hbm, ⟨15, _⟩ => ⟨S1x1024, .f32⟩
  | .hbm, ⟨16, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S16x2048x1024 : Shape := ⟨3, ![16, 2048, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1x1024 : Shape := ⟨2, ![1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S16x2048x4096 : Shape := ⟨3, ![16, 2048, 4096]⟩
abbrev S1x4096x1024 : Shape := ⟨3, ![1, 4096, 1024]⟩
abbrev S4096x1024 : Shape := ⟨2, ![4096, 1024]⟩
abbrev S32768x1024 : Shape := ⟨2, ![32768, 1024]⟩

abbrev nBuf : Space → Nat
  | .hbm => 51
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S2x1024, .f32⟩
  | .hbm, ⟨2, _⟩ => ⟨S2x1024x4096, .f32⟩
  | .hbm, ⟨3, _⟩ => ⟨S2x4096x1024, .f32⟩
  | .hbm, ⟨4, _⟩ => ⟨S1024, .f32⟩
  | .hbm, ⟨5, _⟩ => ⟨S1x1024, .f32⟩
  | .hbm, ⟨6, _⟩ => ⟨S1024, .f32⟩
  | .hbm, ⟨7, _⟩ => ⟨S16x2048x1024, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S16x2048x1, .f32⟩
  | .hbm, ⟨18, _⟩ => ⟨S16x2048x1024, .f32⟩
  | .hbm, ⟨19, _⟩ => ⟨S16x2048x1024, .f32⟩
  | .hbm, ⟨20, _⟩ => ⟨S1x1x1024, .f32⟩
  | .hbm, ⟨21, _⟩ => ⟨S16x2048x1024, .f32⟩
  | .hbm, ⟨22, _⟩ => ⟨S16x2048x1024, .f32⟩
  | .hbm, ⟨23, _⟩ => ⟨S1x1024x4096, .f32⟩
  | .hbm, ⟨24, _⟩ => ⟨S1024x4096, .f32⟩
  | .hbm, ⟨25, _⟩ => ⟨S16x2048x4096, .f32⟩
  | .hbm, ⟨26, _⟩ => ⟨S_, .f32⟩
  | .hbm, ⟨27, _⟩ => ⟨S16x2048x4096, .f32⟩
  | .hbm, ⟨28, _⟩ => ⟨S16x2048x4096, .f32⟩
  | .hbm, ⟨29, _⟩ => ⟨S16x2048x4096, .f32⟩
  | .hbm, ⟨30, _⟩ => ⟨S1x4096x1024, .f32⟩
  | .hbm, ⟨31, _⟩ => ⟨S4096x1024, .f32⟩
  | .hbm, ⟨32, _⟩ => ⟨S16x2048x1024, .f32⟩
  | .hbm, ⟨33, _⟩ => ⟨S16x2048x1024, .f32⟩
  | .hbm, ⟨34, _⟩ => ⟨S16x2048x1024, .f32⟩
  | .hbm, ⟨35, _⟩ => ⟨S_, .f32⟩
  | .hbm, ⟨36, _⟩ => ⟨S16x2048, .f32⟩
  | .hbm, ⟨37, _⟩ => ⟨S16x2048x1, .f32⟩
  | .hbm, ⟨38, _⟩ => ⟨S_, .f32⟩
  | .hbm, ⟨39, _⟩ => ⟨S16x2048x1, .f32⟩
  | .hbm, ⟨40, _⟩ => ⟨S16x2048x1, .f32⟩
  | .hbm, ⟨41, _⟩ => ⟨S_, .f32⟩
  | .hbm, ⟨42, _⟩ => ⟨S16x2048x1, .f32⟩
  | .hbm, ⟨43, _⟩ => ⟨S16x2048x1, .f32⟩
  | .hbm, ⟨44, _⟩ => ⟨S16x2048x1, .f32⟩
  | .hbm, ⟨45, _⟩ => ⟨S16x2048x1024, .f32⟩
  | .hbm, ⟨46, _⟩ => ⟨S16x2048x1024, .f32⟩
  | .hbm, ⟨47, _⟩ => ⟨S1x1x1024, .f32⟩
  | .hbm, ⟨48, _⟩ => ⟨S16x2048x1024, .f32⟩
  | .hbm, ⟨49, _⟩ => ⟨S16x2048x1024, .f32⟩
  | .hbm, ⟨50, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_cst : Ref sig .tc := ⟨.hbm, 26, rfl⟩
abbrev main_call0_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel3.lean ====
abbrev S16x2048x1024 : Shape := ⟨3, ![16, 2048, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1x1024x2048 : Shape := ⟨3, ![1, 1024, 2048]⟩
abbrev S1x1024x1024 : Shape := ⟨3, ![1, 1024, 1024]⟩
abbrev S32768x1024 : Shape := ⟨2, ![32768, 1024]⟩
abbrev S1x1024 : Shape := ⟨2, ![1, 1024]⟩
abbrev S1024 : Shape := ⟨1, ![1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S1024x2048 : Shape := ⟨2, ![1024, 2048]⟩
abbrev S1024x1024 : Shape := ⟨2, ![1024, 1024]⟩
abbrev S1x32x2048 : Shape := ⟨3, ![1, 32, 2048]⟩
abbrev S1x32x1024 : Shape := ⟨3, ![1, 32, 1024]⟩
abbrev S1x32x4096 : Shape := ⟨3, ![1, 32, 4096]⟩
abbrev S1x128x1024 : Shape := ⟨3, ![1, 128, 1024]⟩
abbrev S32x2048 : Shape := ⟨2, ![32, 2048]⟩
abbrev S32x1024 : Shape := ⟨2, ![32, 1024]⟩
abbrev S32x4096 : Shape := ⟨2, ![32, 4096]⟩
abbrev S128x1024 : Shape := ⟨2, ![128, 1024]⟩
abbrev S1024x1 : Shape := ⟨2, ![1024, 1]⟩
abbrev S1024x512 : Shape := ⟨2, ![1024, 512]⟩
abbrev S512x1024 : Shape := ⟨2, ![512, 1024]⟩
abbrev S256x1024 : Shape := ⟨2, ![256, 1024]⟩
abbrev S256x512 : Shape := ⟨2, ![256, 512]⟩

abbrev nBuf : Space → Nat
  | .hbm => 21
  | .vmem => 25
  | .smem => 0
  | _ => 0

abbrev bufTy : (tb : Table) → Fin (tcTables nBuf tb) → BufTy
  | .hbm, ⟨0, _⟩ => ⟨S16x2048x1024, .f32⟩
  | .hbm, ⟨1, _⟩ => ⟨S2x1024, .f32⟩
  | .hbm, ⟨2, _⟩ => ⟨S2x1024x4096, .f32⟩
  | .hbm, ⟨3, _⟩ => ⟨S2x4096x1024, .f32⟩
  | .hbm, ⟨4, _⟩ => ⟨S1x1024x2048, .f32⟩
  | .hbm, ⟨5, _⟩ => ⟨S1x1024x1024, .f32⟩
  | .hbm, ⟨6, _⟩ => ⟨S32768x1024, .f32⟩
  | .hbm, ⟨7, _⟩ => ⟨S1x1024, .f32⟩
  | .hbm, ⟨8, _⟩ => ⟨S1024, .f32⟩
  | .hbm, ⟨9, _⟩ => ⟨S1x1024x4096, .f32⟩
  | .hbm, ⟨10, _⟩ => ⟨S1024x4096, .f32⟩
  | .hbm, ⟨11, _⟩ => ⟨S1024x4096, .bf16⟩
  | .hbm, ⟨12, _⟩ => ⟨S1x4096x1024, .f32⟩
  | .hbm, ⟨13, _⟩ => ⟨S4096x1024, .f32⟩
  | .hbm, ⟨14, _⟩ => ⟨S4096x1024, .bf16⟩
  | .hbm, ⟨15, _⟩ => ⟨S1x1024, .f32⟩
  | .hbm, ⟨16, _⟩ => ⟨S32768x1024, .f32⟩
  | .hbm, ⟨17, _⟩ => ⟨S1024x2048, .bf16⟩
  | .hbm, ⟨18, _⟩ => ⟨S1024x1024, .bf16⟩
  | .hbm, ⟨19, _⟩ => ⟨S1024x4096, .bf16⟩
  | .hbm, ⟨20, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x32x2048, .f32⟩
  | .local _ .vmem, ⟨6, _⟩ => ⟨S1x32x2048, .f32⟩
  | .local _ .vmem, ⟨7, _⟩ => ⟨S1x32x1024, .f32⟩
  | .local _ .vmem, ⟨8, _⟩ => ⟨S1x32x1024, .f32⟩
  | .local _ .vmem, ⟨9, _⟩ => ⟨S1x32x4096, .f32⟩
  | .local _ .vmem, ⟨10, _⟩ => ⟨S1x32x4096, .f32⟩
  | .local _ .vmem, ⟨11, _⟩ => ⟨S1x128x1024, .f32⟩
  | .local _ .vmem, ⟨12, _⟩ => ⟨S1x128x1024, .f32⟩
  | .local _ .vmem, ⟨13, _⟩ => ⟨S1024x1024, .f32⟩
  | .local _ .vmem, ⟨14, _⟩ => ⟨S1024x1024, .f32⟩
  | .local _ .vmem, ⟨15, _⟩ => ⟨S32x2048, .bf16⟩
  | .local _ .vmem, ⟨16, _⟩ => ⟨S32x2048, .bf16⟩
  | .local _ .vmem, ⟨17, _⟩ => ⟨S32x1024, .bf16⟩
  | .local _ .vmem, ⟨18, _⟩ => ⟨S32x1024, .bf16⟩
  | .local _ .vmem, ⟨19, _⟩ => ⟨S32x4096, .bf16⟩
  | .local _ .vmem, ⟨20, _⟩ => ⟨S32x4096, .bf16⟩
  | .local _ .vmem, ⟨21, _⟩ => ⟨S128x1024, .bf16⟩
  | .local _ .vmem, ⟨22, _⟩ => ⟨S128x1024, .bf16⟩
  | .local _ .vmem, ⟨23, _⟩ => ⟨S1024x1024, .bf16⟩
  | .local _ .vmem, ⟨24, _⟩ => ⟨S1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v10_3 : Ref sig .tc := ⟨.hbm, 19, rfl⟩
abbrev main_v10_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x32x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S16x2048x1024 : Shape := ⟨3, ![16, 2048, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1x1024x2048 : Shape := ⟨3, ![1, 1024, 2048]⟩
abbrev S1x1024x1024 : Shape := ⟨3, ![1, 1024, 1024]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S16x2048x4096 : Shape := ⟨3, ![16, 2048, 4096]⟩
abbrev S1x4096x1024 : Shape := ⟨3, ![1, 4096, 1024]⟩
abbrev S4096x1024 : Shape := ⟨2, ![4096, 1024]⟩
abbrev S32768x1024 : Shape := ⟨2, ![32768, 1024]⟩
abbrev S1024x2048 : Shape := ⟨2, ![1024, 2048]⟩
abbrev S1024x1024 : Shape := ⟨2, ![1024, 1024]⟩

abbrev nBuf : Space → Nat
  | .hbm => 46
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S2x1024, .f32⟩
  | .hbm, ⟨2, _⟩ => ⟨S2x1024x4096, .f32⟩
  | .hbm, ⟨3, _⟩ => ⟨S2x4096x1024, .f32⟩
  | .hbm, ⟨4, _⟩ => ⟨S1x1024x2048, .f32⟩
  | .hbm, ⟨5, _⟩ => ⟨S1x1024x1024, .f32⟩
  | .hbm, ⟨6, _⟩ => ⟨S1x1024, .f32⟩
  | .hbm, ⟨7, _⟩ => ⟨S1024, .f32⟩
  | .hbm, ⟨8, _⟩ => ⟨S16x2048x1024, .f32⟩
  | .hbm, ⟨9, _⟩ => ⟨S_, .f32⟩
  | .hbm, ⟨10, _⟩ => ⟨S16x2048, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S_, .f32⟩
  | .hbm, ⟨16, _⟩ => ⟨S16x2048x1, .f32⟩
  | .hbm, ⟨17, _⟩ => ⟨S16x2048x1, .f32⟩
  | .hbm, ⟨18, _⟩ => ⟨S16x2048x1, .f32⟩
  | .hbm, ⟨19, _⟩ => ⟨S16x2048x1024, .f32⟩
  | .hbm, ⟨20, _⟩ => ⟨S16x2048x1024, .f32⟩
  | .hbm, ⟨21, _⟩ => ⟨S1x1x1024, .f32⟩
  | .hbm, ⟨22, _⟩ => ⟨S16x2048x1024, .f32⟩
  | .hbm, ⟨23, _⟩ => ⟨S16x2048x1024, .f32⟩
  | .hbm, ⟨24, _⟩ => ⟨S1x1024x4096, .f32⟩
  | .hbm, ⟨25, _⟩ => ⟨S1024x4096, .f32⟩
  | .hbm, ⟨26, _⟩ => ⟨S16x2048x4096, .f32⟩
  | .hbm, ⟨27, _⟩ => ⟨S_, .f32⟩
  | .hbm, ⟨28, _⟩ => ⟨S16x2048x4096, .f32⟩
  | .hbm, ⟨29, _⟩ => ⟨S16x2048x4096, .f32⟩
  | .hbm, ⟨30, _⟩ => ⟨S16x2048x4096, .f32⟩
  | .hbm, ⟨31, _⟩ => ⟨S1x4096x1024, .f32⟩
  | .hbm, ⟨32, _⟩ => ⟨S4096x1024, .f32⟩
  | .hbm, ⟨33, _⟩ => ⟨S16x2048x1024, .f32⟩
  | .hbm, ⟨34, _⟩ => ⟨S16x2048x1024, .f32⟩
  | .hbm, ⟨35, _⟩ => ⟨S32768x1024, .f32⟩
  | .hbm, ⟨36, _⟩ => ⟨S1024x2048, .f32⟩
  | .hbm, ⟨37, _⟩ => ⟨S1024x2048, .bf16⟩
  | .hbm, ⟨38, _⟩ => ⟨S1024x1024, .f32⟩
  | .hbm, ⟨39, _⟩ => ⟨S1024x1024, .bf16⟩
  | .hbm, ⟨40, _⟩ => ⟨S1x1024x4096, .f32⟩
  | .hbm, ⟨41, _⟩ => ⟨S1024x4096, .f32⟩
  | .hbm, ⟨42, _⟩ => ⟨S1024x4096, .bf16⟩
  | .hbm, ⟨43, _⟩ => ⟨S1x4096x1024, .f32⟩
  | .hbm, ⟨44, _⟩ => ⟨S4096x1024, .f32⟩
  | .hbm, ⟨45, _⟩ => ⟨S4096x1024, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_cst : Ref sig .tc := ⟨.hbm, 27, rfl⟩
abbrev main_call0_v0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Kernel4.lean ====
abbrev S16x2048x1024 : Shape := ⟨3, ![16, 2048, 1024]⟩
abbrev S1x1024 : Shape := ⟨2, ![1, 1024]⟩
abbrev S1x1024x2560 : Shape := ⟨3, ![1, 1024, 2560]⟩
abbrev S1x31x512 : Shape := ⟨3, ![1, 31, 512]⟩
abbrev S1x512 : Shape := ⟨2, ![1, 512]⟩
abbrev S1x3x512 : Shape := ⟨3, ![1, 3, 512]⟩
abbrev S1x1024x1024 : Shape := ⟨3, ![1, 1024, 1024]⟩
abbrev S1024 : Shape := ⟨1, ![1024]⟩
abbrev S1024x2560 : Shape := ⟨2, ![1024, 2560]⟩
abbrev S31x512 : Shape := ⟨2, ![31, 512]⟩
abbrev S512 : Shape := ⟨1, ![512]⟩
abbrev S3x512 : Shape := ⟨2, ![3, 512]⟩
abbrev S1024x1024 : Shape := ⟨2, ![1024, 1024]⟩
abbrev S1x512x1024 : Shape := ⟨3, ![1, 512, 1024]⟩
abbrev S512x1024 : Shape := ⟨2, ![512, 1024]⟩
abbrev S544x512 : Shape := ⟨2, ![544, 512]⟩
abbrev S520x512 : Shape := ⟨2, ![520, 512]⟩
abbrev S32x512 : Shape := ⟨2, ![32, 512]⟩
abbrev S8x512 : Shape := ⟨2, ![8, 512]⟩
abbrev S512x1 : Shape := ⟨2, ![512, 1]⟩
abbrev S512x512 : Shape := ⟨2, ![512, 512]⟩
abbrev S1024x512 : Shape := ⟨2, ![1024, 512]⟩
abbrev S32 : Shape := ⟨1, ![32]⟩
abbrev S32x1 : Shape := ⟨2, ![32, 1]⟩

abbrev nBuf : Space → Nat
  | .hbm => 24
  | .vmem => 16
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x2560, .f32⟩
  | .hbm, ⟨3, _⟩ => ⟨S1x31x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x3x512, .f32⟩
  | .hbm, ⟨8, _⟩ => ⟨S1x1024x1024, .f32⟩
  | .hbm, ⟨9, _⟩ => ⟨S1024, .f32⟩
  | .hbm, ⟨10, _⟩ => ⟨S1024x2560, .f32⟩
  | .hbm, ⟨11, _⟩ => ⟨S31x512, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S3x512, .f32⟩
  | .hbm, ⟨16, _⟩ => ⟨S1024x1024, .f32⟩
  | .hbm, ⟨17, _⟩ => ⟨S1x1024, .f32⟩
  | .hbm, ⟨18, _⟩ => ⟨S1024x2560, .bf16⟩
  | .hbm, ⟨19, _⟩ => ⟨S1x512, .f32⟩
  | .hbm, ⟨20, _⟩ => ⟨S1x512, .f32⟩
  | .hbm, ⟨21, _⟩ => ⟨S1x512, .f32⟩
  | .hbm, ⟨22, _⟩ => ⟨S1024x1024, .bf16⟩
  | .hbm, ⟨23, _⟩ => ⟨S16x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2560, .bf16⟩
  | .local _ .vmem, ⟨4, _⟩ => ⟨S31x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S3x512, .f32⟩
  | .local _ .vmem, ⟨9, _⟩ => ⟨S1024x1024, .bf16⟩
  | .local _ .vmem, ⟨10, _⟩ => ⟨S1x512x1024, .f32⟩
  | .local _ .vmem, ⟨11, _⟩ => ⟨S1x512x1024, .f32⟩
  | .local _ .vmem, ⟨12, _⟩ => ⟨S512x1024, .bf16⟩
  | .local _ .vmem, ⟨13, _⟩ => ⟨S544x512, .f32⟩
  | .local _ .vmem, ⟨14, _⟩ => ⟨S520x512, .f32⟩
  | .local _ .vmem, ⟨15, _⟩ => ⟨S512x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S31x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference4Ideal.lean ====
abbrev S16x2048x1024 : Shape := ⟨3, ![16, 2048, 1024]⟩
abbrev S1x1024 : Shape := ⟨2, ![1, 1024]⟩
abbrev S1x1024x2560 : Shape := ⟨3, ![1, 1024, 2560]⟩
abbrev S1x31x512 : Shape := ⟨3, ![1, 31, 512]⟩
abbrev S1x512 : Shape := ⟨2, ![1, 512]⟩
abbrev S1x3x512 : Shape := ⟨3, ![1, 3, 512]⟩
abbrev S1x1024x1024 : Shape := ⟨3, ![1, 1024, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x2560 : Shape := ⟨2, ![1024, 2560]⟩
abbrev S31x512 : Shape := ⟨2, ![31, 512]⟩
abbrev S512 : Shape := ⟨1, ![512]⟩
abbrev S3x512 : Shape := ⟨2, ![3, 512]⟩
abbrev S1024x1024 : Shape := ⟨2, ![1024, 1024]⟩
abbrev S16x2048x2560 : Shape := ⟨3, ![16, 2048, 2560]⟩
abbrev S16x2048x512 : Shape := ⟨3, ![16, 2048, 512]⟩
abbrev S16x30x512 : Shape := ⟨3, ![16, 30, 512]⟩
abbrev S16x2078x512 : Shape := ⟨3, ![16, 2078, 512]⟩
abbrev S1x1x512 : Shape := ⟨3, ![1, 1, 512]⟩
abbrev S16x2x512 : Shape := ⟨3, ![16, 2, 512]⟩
abbrev S16x2050x512 : Shape := ⟨3, ![16, 2050, 512]⟩

abbrev nBuf : Space → Nat
  | .hbm => 340
  | .vmem => 0
  | .smem => 0
  | _ => 0

abbrev hbmTy0_0 (i : Nat) : BufTy := match i % 128 with
  | 0 => ⟨S16x2048x1024, .f32⟩
  | 1 => ⟨S1x1024, .f32⟩
  | 2 => ⟨S1x1024x2560, .f32⟩
  | 3 => ⟨S1x31x512, .f32⟩
  | 4 => ⟨S1x512, .f32⟩
  | 5 => ⟨S1x512, .f32⟩
  | 6 => ⟨S1x512, .f32⟩
  | 7 => ⟨S1x3x512, .f32⟩
  | 8 => ⟨S1x1024x1024, .f32⟩
  | 9 => ⟨S1024, .f32⟩
  | 10 => ⟨S16x2048x1024, .f32⟩
  | 11 => ⟨S_, .f32⟩
  | 12 => ⟨S16x2048, .f32⟩
  | 13 => ⟨S16x2048x1, .f32⟩
  | 14 => ⟨S_, .f32⟩
  | 15 => ⟨S16x2048x1, .f32⟩
  | 16 => ⟨S16x2048x1, .f32⟩
  | 17 => ⟨S_, .f32⟩
  | 18 => ⟨S16x2048x1, .f32⟩
  | 19 => ⟨S16x2048x1, .f32⟩
  | 20 => ⟨S16x2048x1, .f32⟩
  | 21 => ⟨S16x2048x1024, .f32⟩
  | 22 => ⟨S16x2048x1024, .f32⟩
  | 23 => ⟨S1x1x1024, .f32⟩
  | 24 => ⟨S16x2048x1024, .f32⟩
  | 25 => ⟨S16x2048x1024, .f32⟩
  | 26 => ⟨S1024x2560, .f32⟩
  | 27 => ⟨S31x512, .f32⟩
  | 28 => ⟨S512, .f32⟩
  | 29 => ⟨S512, .f32⟩
  | 30 => ⟨S512, .f32⟩
  | 31 => ⟨S3x512, .f32⟩
  | 32 => ⟨S1024x1024, .f32⟩
  | 33 => ⟨S16x2048x2560, .f32⟩
  | 34 => ⟨S16x2048x512, .f32⟩
  | 35 => ⟨S16x2048x512, .f32⟩
  | 36 => ⟨S16x2048x512, .f32⟩
  | 37 => ⟨S16x2048x512, .f32⟩
  | 38 => ⟨S16x2048x512, .f32⟩
  | 39 => ⟨S16x2048x512, .f32⟩
  | 40 => ⟨S16x2048x512, .f32⟩
  | 41 => ⟨S_, .f32⟩
  | 42 => ⟨S16x2048x512, .f32⟩
  | 43 => ⟨S16x2048x512, .f32⟩
  | 44 => ⟨S_, .f32⟩
  | 45 => ⟨S16x2048x512, .f32⟩
  | 46 => ⟨S16x2048x512, .f32⟩
  | 47 => ⟨S16x2048x512, .f32⟩
  | 48 => ⟨S_, .f32⟩
  | 49 => ⟨S16x30x512, .f32⟩
  | 50 => ⟨S16x2078x512, .f32⟩
  | 51 => ⟨S16x2048x512, .f32⟩
  | 52 => ⟨S1x512, .f32⟩
  | 53 => ⟨S512, .f32⟩
  | 54 => ⟨S1x1x512, .f32⟩
  | 55 => ⟨S16x2048x512, .f32⟩
  | 56 => ⟨S16x2048x512, .f32⟩
  | 57 => ⟨S_, .f32⟩
  | 58 => ⟨S16x2048x512, .f32⟩
  | 59 => ⟨S16x2048x512, .f32⟩
  | 60 => ⟨S16x2048x512, .f32⟩
  | 61 => ⟨S1x512, .f32⟩
  | 62 => ⟨S512, .f32⟩
  | 63 => ⟨S1x1x512, .f32⟩
  | 64 => ⟨S16x2048x512, .f32⟩
  | 65 => ⟨S16x2048x512, .f32⟩
  | 66 => ⟨S16x2048x512, .f32⟩
  | 67 => ⟨S16x2048x512, .f32⟩
  | 68 => ⟨S1x512, .f32⟩
  | 69 => ⟨S512, .f32⟩
  | 70 => ⟨S1x1x512, .f32⟩
  | 71 => ⟨S16x2048x512, .f32⟩
  | 72 => ⟨S16x2048x512, .f32⟩
  | 73 => ⟨S16x2048x512, .f32⟩
  | 74 => ⟨S16x2048x512, .f32⟩
  | 75 => ⟨S1x512, .f32⟩
  | 76 => ⟨S512, .f32⟩
  | 77 => ⟨S1x1x512, .f32⟩
  | 78 => ⟨S16x2048x512, .f32⟩
  | 79 => ⟨S16x2048x512, .f32⟩
  | 80 => ⟨S16x2048x512, .f32⟩
  | 81 => ⟨S16x2048x512, .f32⟩
  | 82 => ⟨S1x512, .f32⟩
  | 83 => ⟨S512, .f32⟩
  | 84 => ⟨S1x1x512, .f32⟩
  | 85 => ⟨S16x2048x512, .f32⟩
  | 86 => ⟨S16x2048x512, .f32⟩
  | 87 => ⟨S16x2048x512, .f32⟩
  | 88 => ⟨S16x2048x512, .f32⟩
  | 89 => ⟨S1x512, .f32⟩
  | 90 => ⟨S512, .f32⟩
  | 91 => ⟨S1x1x512, .f32⟩
  | 92 => ⟨S16x2048x512, .f32⟩
  | 93 => ⟨S16x2048x512, .f32⟩
  | 94 => ⟨S16x2048x512, .f32⟩
  | 95 => ⟨S16x2048x512, .f32⟩
  | 96 => ⟨S1x512, .f32⟩
  | 97 => ⟨S512, .f32⟩
  | 98 => ⟨S1x1x512, .f32⟩
  | 99 => ⟨S16x2048x512, .f32⟩
  | 100 => ⟨S16x2048x512, .f32⟩
  | 101 => ⟨S16x2048x512, .f32⟩
  | 102 => ⟨S16x2048x512, .f32⟩
  | 103 => ⟨S1x512, .f32⟩
  | 104 => ⟨S512, .f32⟩
  | 105 => ⟨S1x1x512, .f32⟩
  | 106 => ⟨S16x2048x512, .f32⟩
  | 107 => ⟨S16x2048x512, .f32⟩
  | 108 => ⟨S16x2048x512, .f32⟩
  | 109 => ⟨S16x2048x512, .f32⟩
  | 110 => ⟨S1x512, .f32⟩
  | 111 => ⟨S512, .f32⟩
  | 112 => ⟨S1x1x512, .f32⟩
  | 113 => ⟨S16x2048x512, .f32⟩
  | 114 => ⟨S16x2048x512, .f32⟩
  | 115 => ⟨S16x2048x512, .f32⟩
  | 116 => ⟨S16x2048x512, .f32⟩
  | 117 => ⟨S1x512, .f32⟩
  | 118 => ⟨S512, .f32⟩
  | 119 => ⟨S1x1x512, .f32⟩
  | 120 => ⟨S16x2048x512, .f32⟩
  | 121 => ⟨S16x2048x512, .f32⟩
  | 122 => ⟨S16x2048x512, .f32⟩
  | 123 => ⟨S16x2048x512, .f32⟩
  | 124 => ⟨S1x512, .f32⟩
  | 125 => ⟨S512, .f32⟩
  | 126 => ⟨S1x1x512, .f32⟩
  | 127 => ⟨S16x2048x512, .f32⟩
  | _ => ⟨S16x2048x1024, .f32⟩

abbrev hbmTy0_1 (i : Nat) : BufTy := match i % 128 with
  | 0 => ⟨S16x2048x512, .f32⟩
  | 1 => ⟨S16x2048x512, .f32⟩
  | 2 => ⟨S16x2048x512, .f32⟩
  | 3 => ⟨S1x512, .f32⟩
  | 4 => ⟨S512, .f32⟩
  | 5 => ⟨S1x1x512, .f32⟩
  | 6 => ⟨S16x2048x512, .f32⟩
  | 7 => ⟨S16x2048x512, .f32⟩
  | 8 => ⟨S16x2048x512, .f32⟩
  | 9 => ⟨S16x2048x512, .f32⟩
  | 10 => ⟨S1x512, .f32⟩
  | 11 => ⟨S512, .f32⟩
  | 12 => ⟨S1x1x512, .f32⟩
  | 13 => ⟨S16x2048x512, .f32⟩
  | 14 => ⟨S16x2048x512, .f32⟩
  | 15 => ⟨S16x2048x512, .f32⟩
  | 16 => ⟨S16x2048x512, .f32⟩
  | 17 => ⟨S1x512, .f32⟩
  | 18 => ⟨S512, .f32⟩
  | 19 => ⟨S1x1x512, .f32⟩
  | 20 => ⟨S16x2048x512, .f32⟩
  | 21 => ⟨S16x2048x512, .f32⟩
  | 22 => ⟨S16x2048x512, .f32⟩
  | 23 => ⟨S16x2048x512, .f32⟩
  | 24 => ⟨S1x512, .f32⟩
  | 25 => ⟨S512, .f32⟩
  | 26 => ⟨S1x1x512, .f32⟩
  | 27 => ⟨S16x2048x512, .f32⟩
  | 28 => ⟨S16x2048x512, .f32⟩
  | 29 => ⟨S16x2048x512, .f32⟩
  | 30 => ⟨S16x2048x512, .f32⟩
  | 31 => ⟨S1x512, .f32⟩
  | 32 => ⟨S512, .f32⟩
  | 33 => ⟨S1x1x512, .f32⟩
  | 34 => ⟨S16x2048x512, .f32⟩
  | 35 => ⟨S16x2048x512, .f32⟩
  | 36 => ⟨S16x2048x512, .f32⟩
  | 37 => ⟨S16x2048x512, .f32⟩
  | 38 => ⟨S1x512, .f32⟩
  | 39 => ⟨S512, .f32⟩
  | 40 => ⟨S1x1x512, .f32⟩
  | 41 => ⟨S16x2048x512, .f32⟩
  | 42 => ⟨S16x2048x512, .f32⟩
  | 43 => ⟨S16x2048x512, .f32⟩
  | 44 => ⟨S16x2048x512, .f32⟩
  | 45 => ⟨S1x512, .f32⟩
  | 46 => ⟨S512, .f32⟩
  | 47 => ⟨S1x1x512, .f32⟩
  | 48 => ⟨S16x2048x512, .f32⟩
  | 49 => ⟨S16x2048x512, .f32⟩
  | 50 => ⟨S16x2048x512, .f32⟩
  | 51 => ⟨S16x2048x512, .f32⟩
  | 52 => ⟨S1x512, .f32⟩
  | 53 => ⟨S512, .f32⟩
  | 54 => ⟨S1x1x512, .f32⟩
  | 55 => ⟨S16x2048x512, .f32⟩
  | 56 => ⟨S16x2048x512, .f32⟩
  | 57 => ⟨S16x2048x512, .f32⟩
  | 58 => ⟨S16x2048x512, .f32⟩
  | 59 => ⟨S1x512, .f32⟩
  | 60 => ⟨S512, .f32⟩
  | 61 => ⟨S1x1x512, .f32⟩
  | 62 => ⟨S16x2048x512, .f32⟩
  | 63 => ⟨S16x2048x512, .f32⟩
  | 64 => ⟨S16x2048x512, .f32⟩
  | 65 => ⟨S16x2048x512, .f32⟩
  | 66 => ⟨S1x512, .f32⟩
  | 67 => ⟨S512, .f32⟩
  | 68 => ⟨S1x1x512, .f32⟩
  | 69 => ⟨S16x2048x512, .f32⟩
  | 70 => ⟨S16x2048x512, .f32⟩
  | 71 => ⟨S16x2048x512, .f32⟩
  | 72 => ⟨S16x2048x512, .f32⟩
  | 73 => ⟨S1x512, .f32⟩
  | 74 => ⟨S512, .f32⟩
  | 75 => ⟨S1x1x512, .f32⟩
  | 76 => ⟨S16x2048x512, .f32⟩
  | 77 => ⟨S16x2048x512, .f32⟩
  | 78 => ⟨S16x2048x512, .f32⟩
  | 79 => ⟨S16x2048x512, .f32⟩
  | 80 => ⟨S1x512, .f32⟩
  | 81 => ⟨S512, .f32⟩
  | 82 => ⟨S1x1x512, .f32⟩
  | 83 => ⟨S16x2048x512, .f32⟩
  | 84 => ⟨S16x2048x512, .f32⟩
  | 85 => ⟨S16x2048x512, .f32⟩
  | 86 => ⟨S16x2048x512, .f32⟩
  | 87 => ⟨S1x512, .f32⟩
  | 88 => ⟨S512, .f32⟩
  | 89 => ⟨S1x1x512, .f32⟩
  | 90 => ⟨S16x2048x512, .f32⟩
  | 91 => ⟨S16x2048x512, .f32⟩
  | 92 => ⟨S16x2048x512, .f32⟩
  | 93 => ⟨S16x2048x512, .f32⟩
  | 94 => ⟨S1x512, .f32⟩
  | 95 => ⟨S512, .f32⟩
  | 96 => ⟨S1x1x512, .f32⟩
  | 97 => ⟨S16x2048x512, .f32⟩
  | 98 => ⟨S16x2048x512, .f32⟩
  | 99 => ⟨S16x2048x512, .f32⟩
  | 100 => ⟨S16x2048x512, .f32⟩
  | 101 => ⟨S1x512, .f32⟩
  | 102 => ⟨S512, .f32⟩
  | 103 => ⟨S1x1x512, .f32⟩
  | 104 => ⟨S16x2048x512, .f32⟩
  | 105 => ⟨S16x2048x512, .f32⟩
  | 106 => ⟨S16x2048x512, .f32⟩
  | 107 => ⟨S16x2048x512, .f32⟩
  | 108 => ⟨S1x512, .f32⟩
  | 109 => ⟨S512, .f32⟩
  | 110 => ⟨S1x1x512, .f32⟩
  | 111 => ⟨S16x2048x512, .f32⟩
  | 112 => ⟨S16x2048x512, .f32⟩
  | 113 => ⟨S16x2048x512, .f32⟩
  | 114 => ⟨S16x2048x512, .f32⟩
  | 115 => ⟨S1x512, .f32⟩
  | 116 => ⟨S512, .f32⟩
  | 117 => ⟨S1x1x512, .f32⟩
  | 118 => ⟨S16x2048x512, .f32⟩
  | 119 => ⟨S16x2048x512, .f32⟩
  | 120 => ⟨S16x2048x512, .f32⟩
  | 121 => ⟨S16x2048x512, .f32⟩
  | 122 => ⟨S1x512, .f32⟩
  | 123 => ⟨S512, .f32⟩
  | 124 => ⟨S1x1x512, .f32⟩
  | 125 => ⟨S16x2048x512, .f32⟩
  | 126 => ⟨S16x2048x512, .f32⟩
  | 127 => ⟨S16x2048x512, .f32⟩
  | _ => ⟨S16x2048x1024, .f32⟩

abbrev hbmTy0_2 (i : Nat) : BufTy := match i % 128 with
  | 0 => ⟨S16x2048x512, .f32⟩
  | 1 => ⟨S1x512, .f32⟩
  | 2 => ⟨S512, .f32⟩
  | 3 => ⟨S1x1x512, .f32⟩
  | 4 => ⟨S16x2048x512, .f32⟩
  | 5 => ⟨S16x2048x512, .f32⟩
  | 6 => ⟨S16x2048x512, .f32⟩
  | 7 => ⟨S16x2048x512, .f32⟩
  | 8 => ⟨S1x512, .f32⟩
  | 9 => ⟨S512, .f32⟩
  | 10 => ⟨S1x1x512, .f32⟩
  | 11 => ⟨S16x2048x512, .f32⟩
  | 12 => ⟨S16x2048x512, .f32⟩
  | 13 => ⟨S16x2048x512, .f32⟩
  | 14 => ⟨S1x1x512, .f32⟩
  | 15 => ⟨S16x2048x512, .f32⟩
  | 16 => ⟨S16x2048x512, .f32⟩
  | 17 => ⟨S_, .f32⟩
  | 18 => ⟨S16x2048, .f32⟩
  | 19 => ⟨S16x2048x1, .f32⟩
  | 20 => ⟨S_, .f32⟩
  | 21 => ⟨S16x2048x1, .f32⟩
  | 22 => ⟨S16x2048x1, .f32⟩
  | 23 => ⟨S16x2048x512, .f32⟩
  | 24 => ⟨S16x2048x512, .f32⟩
  | 25 => ⟨S16x2048x512, .f32⟩
  | 26 => ⟨S_, .f32⟩
  | 27 => ⟨S16x2048, .f32⟩
  | 28 => ⟨S16x2048x1, .f32⟩
  | 29 => ⟨S_, .f32⟩
  | 30 => ⟨S16x2048x1, .f32⟩
  | 31 => ⟨S16x2048x1, .f32⟩
  | 32 => ⟨S_, .f32⟩
  | 33 => ⟨S16x2048x1, .f32⟩
  | 34 => ⟨S16x2048x1, .f32⟩
  | 35 => ⟨S16x2048x1, .f32⟩
  | 36 => ⟨S16x2048x512, .f32⟩
  | 37 => ⟨S16x2048x512, .f32⟩
  | 38 => ⟨S1x1x512, .f32⟩
  | 39 => ⟨S16x2048x512, .f32⟩
  | 40 => ⟨S16x2048x512, .f32⟩
  | 41 => ⟨S1x1x512, .f32⟩
  | 42 => ⟨S16x2048x512, .f32⟩
  | 43 => ⟨S16x2048x512, .f32⟩
  | 44 => ⟨S16x2048x512, .f32⟩
  | 45 => ⟨S16x2048x512, .f32⟩
  | 46 => ⟨S_, .f32⟩
  | 47 => ⟨S16x2048x512, .f32⟩
  | 48 => ⟨S16x2048x512, .f32⟩
  | 49 => ⟨S_, .f32⟩
  | 50 => ⟨S16x2048x512, .f32⟩
  | 51 => ⟨S16x2048x512, .f32⟩
  | 52 => ⟨S16x2048x512, .f32⟩
  | 53 => ⟨S16x2048x512, .f32⟩
  | 54 => ⟨S_, .f32⟩
  | 55 => ⟨S16x2x512, .f32⟩
  | 56 => ⟨S16x2050x512, .f32⟩
  | 57 => ⟨S16x2048x512, .f32⟩
  | 58 => ⟨S1x512, .f32⟩
  | 59 => ⟨S512, .f32⟩
  | 60 => ⟨S1x1x512, .f32⟩
  | 61 => ⟨S16x2048x512, .f32⟩
  | 62 => ⟨S16x2048x512, .f32⟩
  | 63 => ⟨S_, .f32⟩
  | 64 => ⟨S16x2048x512, .f32⟩
  | 65 => ⟨S16x2048x512, .f32⟩
  | 66 => ⟨S16x2048x512, .f32⟩
  | 67 => ⟨S1x512, .f32⟩
  | 68 => ⟨S512, .f32⟩
  | 69 => ⟨S1x1x512, .f32⟩
  | 70 => ⟨S16x2048x512, .f32⟩
  | 71 => ⟨S16x2048x512, .f32⟩
  | 72 => ⟨S16x2048x512, .f32⟩
  | 73 => ⟨S16x2048x512, .f32⟩
  | 74 => ⟨S1x512, .f32⟩
  | 75 => ⟨S512, .f32⟩
  | 76 => ⟨S1x1x512, .f32⟩
  | 77 => ⟨S16x2048x512, .f32⟩
  | 78 => ⟨S16x2048x512, .f32⟩
  | 79 => ⟨S16x2048x512, .f32⟩
  | 80 => ⟨S16x2048x512, .f32⟩
  | 81 => ⟨S16x2048x1024, .f32⟩
  | 82 => ⟨S16x2048x1024, .f32⟩
  | 83 => ⟨S16x2048x1024, .f32⟩
  | _ => ⟨S16x2048x1024, .f32⟩

abbrev hbmTy (i : Nat) : BufTy := match i / 128 with
  | 0 => hbmTy0_0 i
  | 1 => hbmTy0_1 i
  | 2 => hbmTy0_2 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_5 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_v164 : Ref sig .tc := ⟨.hbm, 180, rfl⟩
abbrev main_v165 : Ref sig .tc := ⟨.hbm, 181, rfl⟩
abbrev main_v166 : Ref sig .tc := ⟨.hbm, 182, rfl⟩
abbrev main_v167 : Ref sig .tc := ⟨.hbm, 183, rfl⟩
abbrev main_v168 : Ref sig .tc := ⟨.hbm, 184, rfl⟩
abbrev main_v169 : Ref sig .tc := ⟨.hbm, 185, rfl⟩
abbrev main_v170 : Ref sig .tc := ⟨.hbm, 186, rfl⟩
abbrev main_v171 : Ref sig .tc := ⟨.hbm, 187, rfl⟩
abbrev main_v172 : Ref sig .tc := ⟨.hbm, 188, rfl⟩
abbrev main_v173 : Ref sig .tc := ⟨.hbm, 189, rfl⟩
abbrev main_v174 : Ref sig .tc := ⟨.hbm, 190, rfl⟩
abbrev main_v175 : Ref sig .tc := ⟨.hbm, 191, rfl⟩
abbrev main_v176 : Ref sig .tc := ⟨.hbm, 192, rfl⟩
abbrev main_v177 : Ref sig .tc := ⟨.hbm, 193, rfl⟩
abbrev main_v178 : Ref sig .tc := ⟨.hbm, 194, rfl⟩
abbrev main_v179 : Ref sig .tc := ⟨.hbm, 195, rfl⟩
abbrev main_v180 : Ref sig .tc := ⟨.hbm, 196, rfl⟩
abbrev main_v181 : Ref sig .tc := ⟨.hbm, 197, rfl⟩
abbrev main_v182 : Ref sig .tc := ⟨.hbm, 198, rfl⟩
abbrev main_v183 : Ref sig .tc := ⟨.hbm, 199, rfl⟩
abbrev main_v184 : Ref sig .tc := ⟨.hbm, 200, rfl⟩
abbrev main_v185 : Ref sig .tc := ⟨.hbm, 201, rfl⟩
abbrev main_v186 : Ref sig .tc := ⟨.hbm, 202, rfl⟩
abbrev main_v187 : Ref sig .tc := ⟨.hbm, 203, rfl⟩
abbrev main_v188 : Ref sig .tc := ⟨.hbm, 204, rfl⟩
abbrev main_v189 : Ref sig .tc := ⟨.hbm, 205, rfl⟩
abbrev main_v190 : Ref sig .tc := ⟨.hbm, 206, rfl⟩
abbrev main_v191 : Ref sig .tc := ⟨.hbm, 207, rfl⟩
abbrev main_v192 : Ref sig .tc := ⟨.hbm, 208, rfl⟩
abbrev main_v193 : Ref sig .tc := ⟨.hbm, 209, rfl⟩
abbrev main_v194 : Ref sig .tc := ⟨.hbm, 210, rfl⟩
abbrev main_v195 : Ref sig .tc := ⟨.hbm, 211, rfl⟩
abbrev main_v196 : Ref sig .tc := ⟨.hbm, 212, rfl⟩
abbrev main_v197 : Ref sig .tc := ⟨.hbm, 213, rfl⟩
abbrev main_v198 : Ref sig .tc := ⟨.hbm, 214, rfl⟩
abbrev main_v199 : Ref sig .tc := ⟨.hbm, 215, rfl⟩
abbrev main_v200 : Ref sig .tc := ⟨.hbm, 216, rfl⟩
abbrev main_v201 : Ref sig .tc := ⟨.hbm, 217, rfl⟩
abbrev main_v202 : Ref sig .tc := ⟨.hbm, 218, rfl⟩
abbrev main_v203 : Ref sig .tc := ⟨.hbm, 219, rfl⟩
abbrev main_v204 : Ref sig .tc := ⟨.hbm, 220, rfl⟩
abbrev main_v205 : Ref sig .tc := ⟨.hbm, 221, rfl⟩
abbrev main_v206 : Ref sig .tc := ⟨.hbm, 222, rfl⟩
abbrev main_v207 : Ref sig .tc := ⟨.hbm, 223, rfl⟩
abbrev main_v208 : Ref sig .tc := ⟨.hbm, 224, rfl⟩
abbrev main_v209 : Ref sig .tc := ⟨.hbm, 225, rfl⟩
abbrev main_v210 : Ref sig .tc := ⟨.hbm, 226, rfl⟩
abbrev main_v211 : Ref sig .tc := ⟨.hbm, 227, rfl⟩
abbrev main_v212 : Ref sig .tc := ⟨.hbm, 228, rfl⟩
abbrev main_v213 : Ref sig .tc := ⟨.hbm, 229, rfl⟩
abbrev main_v214 : Ref sig .tc := ⟨.hbm, 230, rfl⟩
abbrev main_v215 : Ref sig .tc := ⟨.hbm, 231, rfl⟩
abbrev main_v216 : Ref sig .tc := ⟨.hbm, 232, rfl⟩
abbrev main_v217 : Ref sig .tc := ⟨.hbm, 233, rfl⟩
abbrev main_v218 : Ref sig .tc := ⟨.hbm, 234, rfl⟩
abbrev main_v219 : Ref sig .tc := ⟨.hbm, 235, rfl⟩
abbrev main_v220 : Ref sig .tc := ⟨.hbm, 236, rfl⟩
abbrev main_v221 : Ref sig .tc := ⟨.hbm, 237, rfl⟩
abbrev main_v222 : Ref sig .tc := ⟨.hbm, 238, rfl⟩
abbrev main_v223 : Ref sig .tc := ⟨.hbm, 239, rfl⟩
abbrev main_v224 : Ref sig .tc := ⟨.hbm, 240, rfl⟩
abbrev main_v225 : Ref sig .tc := ⟨.hbm, 241, rfl⟩
abbrev main_v226 : Ref sig .tc := ⟨.hbm, 242, rfl⟩
abbrev main_v227 : Ref sig .tc := ⟨.hbm, 243, rfl⟩
abbrev main_v228 : Ref sig .tc := ⟨.hbm, 244, rfl⟩
abbrev main_v229 : Ref sig .tc := ⟨.hbm, 245, rfl⟩
abbrev main_v230 : Ref sig .tc := ⟨.hbm, 246, rfl⟩
abbrev main_v231 : Ref sig .tc := ⟨.hbm, 247, rfl⟩
abbrev main_v232 : Ref sig .tc := ⟨.hbm, 248, rfl⟩
abbrev main_v233 : Ref sig .tc := ⟨.hbm, 249, rfl⟩
abbrev main_v234 : Ref sig .tc := ⟨.hbm, 250, rfl⟩
abbrev main_v235 : Ref sig .tc := ⟨.hbm, 251, rfl⟩
abbrev main_v236 : Ref sig .tc := ⟨.hbm, 252, rfl⟩
abbrev main_v237 : Ref sig .tc := ⟨.hbm, 253, rfl⟩
abbrev main_v238 : Ref sig .tc := ⟨.hbm, 254, rfl⟩
abbrev main_v239 : Ref sig .tc := ⟨.hbm, 255, rfl⟩
abbrev main_v240 : Ref sig .tc := ⟨.hbm, 256, rfl⟩
abbrev main_v241 : Ref sig .tc := ⟨.hbm, 257, rfl⟩
abbrev main_v242 : Ref sig .tc := ⟨.hbm, 258, rfl⟩
abbrev main_v243 : Ref sig .tc := ⟨.hbm, 259, rfl⟩
abbrev main_v244 : Ref sig .tc := ⟨.hbm, 260, rfl⟩
abbrev main_v245 : Ref sig .tc := ⟨.hbm, 261, rfl⟩
abbrev main_v246 : Ref sig .tc := ⟨.hbm, 262, rfl⟩
abbrev main_v247 : Ref sig .tc := ⟨.hbm, 263, rfl⟩
abbrev main_v248 : Ref sig .tc := ⟨.hbm, 264, rfl⟩
abbrev main_v249 : Ref sig .tc := ⟨.hbm, 265, rfl⟩
abbrev main_v250 : Ref sig .tc := ⟨.hbm, 266, rfl⟩
abbrev main_v251 : Ref sig .tc := ⟨.hbm, 267, rfl⟩
abbrev main_v252 : Ref sig .tc := ⟨.hbm, 268, rfl⟩
abbrev main_v253 : Ref sig .tc := ⟨.hbm, 269, rfl⟩
abbrev main_v254 : Ref sig .tc := ⟨.hbm, 270, rfl⟩
abbrev main_v255 : Ref sig .tc := ⟨.hbm, 271, rfl⟩
abbrev main_v256 : Ref sig .tc := ⟨.hbm, 272, rfl⟩
abbrev main_cst_6 : Ref sig .tc := ⟨.hbm, 273, rfl⟩
abbrev main_v257 : Ref sig .tc := ⟨.hbm, 274, rfl⟩
abbrev main_v258 : Ref sig .tc := ⟨.hbm, 275, rfl⟩
abbrev main_cst_7 : Ref sig .tc := ⟨.hbm, 276, rfl⟩
abbrev main_v259 : Ref sig .tc := ⟨.hbm, 277, rfl⟩
abbrev main_v260 : Ref sig .tc := ⟨.hbm, 278, rfl⟩
abbrev main_v261 : Ref sig .tc := ⟨.hbm, 279, rfl⟩
abbrev main_v262 : Ref sig .tc := ⟨.hbm, 280, rfl⟩
abbrev main_v263 : Ref sig .tc := ⟨.hbm, 281, rfl⟩
abbrev main_cst_8 : Ref sig .tc := ⟨.hbm, 282, rfl⟩
abbrev main_v264 : Ref sig .tc := ⟨.hbm, 283, rfl⟩
abbrev main_v265 : Ref sig .tc := ⟨.hbm, 284, rfl⟩
abbrev main_cst_9 : Ref sig .tc := ⟨.hbm, 285, rfl⟩
abbrev main_v266 : Ref sig .tc := ⟨.hbm, 286, rfl⟩
abbrev main_v267 : Ref sig .tc := ⟨.hbm, 287, rfl⟩
abbrev main_cst_10 : Ref sig .tc := ⟨.hbm, 288, rfl⟩
abbrev main_v268 : Ref sig .tc := ⟨.hbm, 289, rfl⟩
abbrev main_v269 : Ref sig .tc := ⟨.hbm, 290, rfl⟩
abbrev main_v270 : Ref sig .tc := ⟨.hbm, 291, rfl⟩
abbrev main_v271 : Ref sig .tc := ⟨.hbm, 292, rfl⟩
abbrev main_v272 : Ref sig .tc := ⟨.hbm, 293, rfl⟩
abbrev main_v273 : Ref sig .tc := ⟨.hbm, 294, rfl⟩
abbrev main_v274 : Ref sig .tc := ⟨.hbm, 295, rfl⟩
abbrev main_v275 : Ref sig .tc := ⟨.hbm, 296, rfl⟩
abbrev main_v276 : Ref sig .tc := ⟨.hbm, 297, rfl⟩
abbrev main_v277 : Ref sig .tc := ⟨.hbm, 298, rfl⟩
abbrev main_v278 : Ref sig .tc := ⟨.hbm, 299, rfl⟩
abbrev main_call0_v0 : Ref sig .tc := ⟨.hbm, 300, rfl⟩
abbrev main_call0_v1 : Ref sig .tc := ⟨.hbm, 301, rfl⟩
abbrev main_call0_cst : Ref sig .tc := ⟨.hbm, 302, rfl⟩
abbrev main_call0_v2 : Ref sig .tc := ⟨.hbm, 303, rfl⟩
abbrev main_call0_v3 : Ref sig .tc := ⟨.hbm, 304, rfl⟩
abbrev main_call0_cst_0 : Ref sig .tc := ⟨.hbm, 305, rfl⟩
abbrev main_call0_v4 : Ref sig .tc := ⟨.hbm, 306, rfl⟩
abbrev main_call0_v5 : Ref sig .tc := ⟨.hbm, 307, rfl⟩
abbrev main_v279 : Ref sig .tc := ⟨.hbm, 308, rfl⟩
abbrev main_v280 : Ref sig .tc := ⟨.hbm, 309, rfl⟩
abbrev main_cst_11 : Ref sig .tc := ⟨.hbm, 310, rfl⟩
abbrev main_v281 : Ref sig .tc := ⟨.hbm, 311, rfl⟩
abbrev main_v282 : Ref sig .tc := ⟨.hbm, 312, rfl⟩
abbrev main_v283 : Ref sig .tc := ⟨.hbm, 313, rfl⟩
abbrev main_v284 : Ref sig .tc := ⟨.hbm, 314, rfl⟩
abbrev main_v285 : Ref sig .tc := ⟨.hbm, 315, rfl⟩
abbrev main_v286 : Ref sig .tc := ⟨.hbm, 316, rfl⟩
abbrev main_v287 : Ref sig .tc := ⟨.hbm, 317, rfl⟩
abbrev main_v288 : Ref sig .tc := ⟨.hbm, 318, rfl⟩
abbrev main_cst_12 : Ref sig .tc := ⟨.hbm, 319, rfl⟩
abbrev main_v289 : Ref sig .tc := ⟨.hbm, 320, rfl⟩
abbrev main_v290 : Ref sig .tc := ⟨.hbm, 321, rfl⟩
abbrev main_v291 : Ref sig .tc := ⟨.hbm, 322, rfl⟩
abbrev main_v292 : Ref sig .tc := ⟨.hbm, 323, rfl⟩
abbrev main_v293 : Ref sig .tc := ⟨.hbm, 324, rfl⟩
abbrev main_v294 : Ref sig .tc := ⟨.hbm, 325, rfl⟩
abbrev main_v295 : Ref sig .tc := ⟨.hbm, 326, rfl⟩
abbrev main_v296 : Ref sig .tc := ⟨.hbm, 327, rfl⟩
abbrev main_v297 : Ref sig .tc := ⟨.hbm, 328, rfl⟩
abbrev main_v298 : Ref sig .tc := ⟨.hbm, 329, rfl⟩
abbrev main_v299 : Ref sig .tc := ⟨.hbm, 330, rfl⟩
abbrev main_v300 : Ref sig .tc := ⟨.hbm, 331, rfl⟩
abbrev main_v301 : Ref sig .tc := ⟨.hbm, 332, rfl⟩
abbrev main_v302 : Ref sig .tc := ⟨.hbm, 333, rfl⟩
abbrev main_v303 : Ref sig .tc := ⟨.hbm, 334, rfl⟩
abbrev main_v304 : Ref sig .tc := ⟨.hbm, 335, rfl⟩
abbrev main_v305 : Ref sig .tc := ⟨.hbm, 336, rfl⟩
abbrev main_v306 : Ref sig .tc := ⟨.hbm, 337, rfl⟩
abbrev main_v307 : Ref sig .tc := ⟨.hbm, 338, rfl⟩
abbrev main_v308 : Ref sig .tc := ⟨.hbm, 339, rfl⟩

abbrev nD : Nat := 1
abbrev τ : Topo := Topo.v7x

variable {F : FTy → Type} [FloatOps F]
-- ==== Proof.Bands.lean ====
/- Loads through a rectangle of a matrix, and reads of a buffer that stores have filled with the values of one function. -/
module

public import Idealize.ShloMosaic.Lib.Pointwise
public import Idealize.ShloMosaic.Lib.Pipeline.FrameBody
public import Idealize.ShloMosaic.Lib.Pipeline.Value

@[expose] public section

noncomputable section

namespace Cert.Bands

open Idealize.ShloMosaic Idealize.ShloMosaic.Pointwise

section Rectangles

variable {n p a b : ℕ} (o q : ℕ) (h : ∀ x, (![o, q] : Fin 2 → ℕ) x + (![a, b] : Fin 2 → ℕ) x ≤ (⟨2, ![n, p]⟩ : Shape).size x)
  (r : Fin a) (l : Fin b) (hr : o + a ≤ n) (hl : q + b ≤ p)

include hr hl in
/-- A rectangle's corner is added to an index inside it. -/
theorem emb_apply : (Rect.unit (s := ⟨2, ![n, p]⟩) ![o, q] ![a, b] h).emb (ix2 r l)
    = ix2 ⟨o + r.val, by have := r.isLt; omega⟩ ⟨q + l.val, by have := l.isLt; omega⟩ := by
  funext x; apply Fin.ext
  match x with
  | ⟨0, _⟩ => show o + 1 * r.val = o + r.val; omega
  | ⟨1, _⟩ => show q + 1 * l.val = q + l.val; omega

include hr hl in
/-- A load through a rectangle, at an index inside it. -/
theorem ld_apply {Val : EltTy → Type} {e : EltTy} (y : (⟨2, ![n, p]⟩ : Shape).Idx → Val e) :
    View.ld y (Rect.unit (s := ⟨2, ![n, p]⟩) ![o, q] ![a, b] h) (ix2 r l)
      = y (ix2 ⟨o + r.val, by have := r.isLt; omega⟩ ⟨q + l.val, by have := l.isLt; omega⟩) :=
  congrArg y (emb_apply o q h r l hr hl)

end Rectangles

section Buffers

variable {sig : RefSig} {κ : Kind} {sp : Space} {s : Shape} {e : EltTy} {Val : EltTy → Type} [∀ e, Nonempty (Val e)]
  (v : View sig κ sp s e) (G : s.Idx → Val e)

/-- Every store of the list left the function's values where it stored. -/
def Holds (L : List (View.Piece Val s e)) : Prop := ∀ p ∈ L, ∀ x : p.1.shape.Idx, p.2 x = G (p.1.emb x)

/-- A load of what the last store wrote reads the function. -/
theorem read_last (R : Rect s) (w : R.shape.Idx → Val e) (L : List (View.Piece Val s e)) (h : Holds G (⟨R, w⟩ :: L)) :
    v.readCov (⟨R, w⟩ :: L) R.toLoadRect = View.ld G R := by
  rw [View.readCov_cons_toLoadRect]
  exact funext fun x => h ⟨R, w⟩ (by simp) x

/-- Where the stores cover the buffer a load reads the function. -/
theorem read_all (R : Rect s) (L : List (View.Piece Val s e)) (h : Holds G L) (hc : ∀ y, ∃ p ∈ L, y ∈ p.1.set) :
    v.readCov L R.toLoadRect = View.ld G R := by
  rw [View.readCov_eq_canon']
  exact funext fun x => View.canon_apply_of_pieces G L h _ (hc _)

end Buffers

end Cert.Bands

end
-- ==== Proof.Rows.lean ====
/- The mathematics of the layer's rows over the extended reals, as both programs of each pair are read: a row is a
   function of its column, a weight a function of its two. No program is mentioned here. -/
module

public import Idealize.ShloMosaic.Lib.Pointwise

@[expose] public section

noncomputable section

namespace Cert.Rows

open Idealize.ShloMosaic
open scoped BigOperators

/-- The mean of a row of 1024 entries: its sum over the word of 1024.0. -/
def mean (x : Fin 1024 → EReal) : EReal := Ideal.div (∑ k, x k) (Ideal.ofBits FTy.f32 1149239296#32)

/-- The root-mean-square norm of a row, scaled by a gain. -/
def rms (x g : Fin 1024 → EReal) (l : Fin 1024) : EReal :=
  x l * Ideal.rsqrt (mean (fun k => x k * x k) + Ideal.ofBits FTy.f32 897988541#32) * g l

/-- A hidden unit: the row against one weight column, cut at zero and squared. -/
def sqrelu (x w : Fin 1024 → EReal) : EReal := max (∑ k, x k * w k) 0 * max (∑ k, x k * w k) 0

/-- The feed-forward block on a row: the row plus its hidden units against the second weight. -/
def ffn (x g : Fin 1024 → EReal) (w1 : Fin 1024 → Fin 4096 → EReal) (w2 : Fin 4096 → Fin 1024 → EReal) (l : Fin 1024) : EReal :=
  x l + ∑ f, sqrelu (rms x g) (fun k => w1 k f) * w2 f l

/-- The last feed-forward block on a row, with the norm that ends the trunk. -/
def mlp (x g : Fin 1024 → EReal) (w1 : Fin 1024 → Fin 4096 → EReal) (w2 : Fin 4096 → Fin 1024 → EReal)
    (gf : Fin 1024 → EReal) : Fin 1024 → EReal := rms (ffn x g w1 w2) gf

/-- The part of a sum over the 4096 hidden units that starts at unit `o` and takes 512 of them. -/
def part (u : Fin 4096 → EReal) (o : ℕ) (ho : o + 512 ≤ 4096) : EReal :=
  ∑ f : Fin 512, u ⟨o + f.val, by have := f.isLt; omega⟩

/-- The sum over the hidden units is the eight parts of 512, added in order. -/
theorem sum_parts (u : Fin 4096 → EReal) : ∑ f, u f =
    part u 0 (by decide) + part u 512 (by decide) + part u 1024 (by decide) + part u 1536 (by decide)
      + part u 2048 (by decide) + part u 2560 (by decide) + part u 3072 (by decide) + part u 3584 (by decide) := by
  rw [Fin.sum_univ_tiles 8 512 (by decide) u, Fin.sum_univ_eight]
  rfl

/-- The Gaussian unit: half of `x` times one plus the error function of `x` over the square root of two. -/
def gelu (x : EReal) : EReal :=
  Ideal.ofBits FTy.f32 1056964608#32 * x * (1 + Ideal.erf (x * Ideal.ofBits FTy.f32 1060439283#32))

/-- The layer norm of a row, with its gain and its shift. -/
def lnorm (x g b : Fin 1024 → EReal) (l : Fin 1024) : EReal :=
  (x l - mean x) * Ideal.rsqrt (mean (fun k => (x k - mean x) * (x k - mean x)) + Ideal.ofBits FTy.f32 925353388#32) * g l + b l

/-- A row against a weight's columns, plus a bias. -/
def dense (x : Fin 1024 → EReal) (w : Fin 1024 → Fin 1024 → EReal) (b : Fin 1024 → EReal) (l : Fin 1024) : EReal :=
  ∑ k, x k * w k l + b l

/-- A square of weights with what lies above its diagonal cut to zero. -/
def tri (w : Fin 128 → Fin 128 → EReal) (t s : Fin 128) : EReal := if s.val ≤ t.val then w t s else 0

/-- A word below 128 is at most another as a signed word exactly when it is as a number. -/
theorem word_le (s t : Fin 128) : BitVec.sle (BitVec.ofNat 32 s.val) (BitVec.ofNat 32 t.val) = decide (s.val ≤ t.val) := by
  have n : ∀ k : Fin 128, (BitVec.ofNat 32 k.val).toInt = (k.val : ℤ) := fun k => by
    have hk := k.isLt
    have e : (BitVec.ofNat 32 k.val).toNat = k.val := by rw [BitVec.toNat_ofNat]; omega
    rw [BitVec.toInt_eq_toNat_of_lt (by omega), e]
  rw [BitVec.sle_eq_decide, n, n]
  simp

/-- The 1024 columns from `o` of a weight with 2048 of them, and of a bias. -/
def lanes (o : ℕ) (ho : o + 1024 ≤ 2048) (w : Fin 1024 → Fin 2048 → EReal) (k l : Fin 1024) : EReal :=
  w k ⟨o + l.val, by have := l.isLt; omega⟩
def shift (o : ℕ) (ho : o + 1024 ≤ 2048) (b : Fin 2048 → EReal) (l : Fin 1024) : EReal := b ⟨o + l.val, by have := l.isLt; omega⟩

/-- The group of a column, and the column within its group. -/
def grp (l : Fin 1024) : Fin 8 := ⟨l.val / 128, by have := l.isLt; omega⟩
def lane (l : Fin 1024) : Fin 128 := ⟨l.val % 128, by omega⟩

/-- The value half of a row: the second 1024 hidden columns, through the Gaussian unit and the layer norm. -/
def valueRow (x g : Fin 1024 → EReal) (w : Fin 1024 → Fin 2048 → EReal) (b : Fin 2048 → EReal) (lg lb : Fin 1024 → EReal) :
    Fin 1024 → EReal :=
  lnorm (fun l => gelu (dense (rms x g) (lanes 1024 (by decide) w) (shift 1024 (by decide) b) l)) lg lb

/-- The gated half of a row: the first 1024 hidden columns, through the Gaussian unit. -/
def gatedRow (x g : Fin 1024 → EReal) (w : Fin 1024 → Fin 2048 → EReal) (b : Fin 2048 → EReal) (l : Fin 1024) : EReal :=
  gelu (dense (rms x g) (lanes 0 (by decide) w) (shift 0 (by decide) b) l)

/-- The spatial gating block on a chunk of 128 rows, at its row `t`: the row plus the gated half, times the values of the chunk's
rows up to `t` mixed by the group's weights, against the output weight. -/
def spatial (h : Fin 128 → Fin 1024 → EReal) (g : Fin 1024 → EReal) (w : Fin 1024 → Fin 2048 → EReal) (b : Fin 2048 → EReal)
    (lg lb : Fin 1024 → EReal) (ws : Fin 8 → Fin 128 → Fin 128 → EReal) (bs : Fin 8 → Fin 128 → EReal)
    (wo : Fin 1024 → Fin 1024 → EReal) (t : Fin 128) (l : Fin 1024) : EReal :=
  h t l + ∑ c, gatedRow (h t) g w b c * (∑ s, tri (ws (grp c)) t s * valueRow (h s) g w b lg lb c + bs (grp c) t) * wo c l

end Cert.Rows

end
-- ==== Proof.Spatial.Forms.lean ====
/- The steps of the spatial gating kernel, each at an index: one lemma per kind of step, and each of the kernel's blocks as one of
   those kinds. -/
module

public import proofs.«01_k».proof.Proof.Rows
public import proofs.«01_k».proof.Proof.Gen.KernelIdeal.Value

@[expose] public section

noncomputable section

namespace Cert.Spatial

open Cert.KernelIdeal Cert.KernelIdeal.Gen Idealize.ShloMosaic Idealize.ShloMosaic.TcCoe Idealize.SL.Sem
open Idealize.ShloMosaic.Pointwise Cert.Rows

/-! ### The hidden layer of a block of 256 rows -/

section Hidden

variable (h : Vec Ideal S256x1024 .f32) (g : Vec Ideal S1x1024 .f32) (xn : Vec Ideal S256x1024 .bf16)
  (w : Vec Ideal S1024x1024 .bf16) (b lg lb : Vec Ideal S1x1024 .f32) (r : Fin 256) (l : Fin 1024)

/-- The normed rows at an index. -/
theorem normed_apply : k0_pay2 h g (ix2 r l) = rms (fun k => h (ix2 r k)) (fun k => g (ix2 0 k)) l := by
  pointwise [k0_pay2]
  rfl

theorem normed1 : k0_pay6 (k0_pay5 h g) = k0_pay2 h g := rfl
theorem normed2 : k0_pay12 h g = k0_pay2 h g := rfl
theorem normed3 : k0_pay19 (k0_pay16 h) (k0_pay17 g) (k0_pay18 h) = k0_pay2 h g := rfl

/-- A hidden unit at an index: the Gaussian unit of the dense layer. -/
theorem unit_apply : k0_pay25 xn w b (ix2 r l)
    = gelu (dense (fun k => xn (ix2 r k)) (fun k l => w (ix2 k l)) (fun k => b (ix2 0 k)) l) := by
  pointwise [k0_pay25]
  rfl

theorem inner_apply : k0_pay3 xn w b (ix2 r l)
    = gelu (dense (fun k => xn (ix2 r k)) (fun k l => w (ix2 k l)) (fun k => b (ix2 0 k)) l) := by
  pointwise [k0_pay3]
  rfl

theorem unit1 : k0_pay26 xn w b = k0_pay25 xn w b := rfl
theorem unit2 : k0_pay27 xn w b = k0_pay25 xn w b := rfl
theorem unit3 : k0_pay28 xn w b = k0_pay25 xn w b := rfl

/-- The normed values of a block from its hidden units, at an index. -/
theorem value_apply (u : FVec Ideal S256x1024 .f32) :
    k0_pay4 u lg lb (ix2 r l) = lnorm (fun k => u (ix2 r k)) (fun k => lg (ix2 0 k)) (fun k => lb (ix2 0 k)) l := by
  pointwise [k0_pay4]
  rfl

theorem value1 : k0_pay11 (k0_pay7 lg) (k0_pay8 lb) (k0_pay9 xn w b) (k0_pay10 xn w b) = k0_pay4 (k0_pay3 xn w b) lg lb := rfl
theorem value2 : k0_pay15 (k0_pay13 xn w b) k0_pay14 lg lb = k0_pay4 (k0_pay3 xn w b) lg lb := rfl
theorem value3 : k0_pay24 (k0_pay20 xn w b) (k0_pay21 lg) (k0_pay22 lb) (k0_pay23 xn w b) = k0_pay4 (k0_pay3 xn w b) lg lb := rfl

end Hidden

/-! ### The mixing over a chunk of 128 rows -/

/-- Eight pieces of 128 columns side by side: column `l` is column `l % 128` of piece `l / 128`. -/
theorem chain (p : Fin 8 → Fin 128 → EReal) (l : Fin 1024) :
    (if h : l.val < 128 then p 0 ⟨l.val, h⟩
      else if h : l.val - 128 < 128 then p 1 ⟨l.val - 128, h⟩
      else if h : l.val - 128 - 128 < 128 then p 2 ⟨l.val - 128 - 128, h⟩
      else if h : l.val - 128 - 128 - 128 < 128 then p 3 ⟨l.val - 128 - 128 - 128, h⟩
      else if h : l.val - 128 - 128 - 128 - 128 < 128 then p 4 ⟨l.val - 128 - 128 - 128 - 128, h⟩
      else if h : l.val - 128 - 128 - 128 - 128 - 128 < 128 then p 5 ⟨l.val - 128 - 128 - 128 - 128 - 128, h⟩
      else if h : l.val - 128 - 128 - 128 - 128 - 128 - 128 < 128 then p 6 ⟨l.val - 128 - 128 - 128 - 128 - 128 - 128, h⟩
      else p 7 ⟨l.val - 128 - 128 - 128 - 128 - 128 - 128 - 128, by have := l.isLt; omega⟩) = p (grp l) (lane l) := by
  have hl := l.isLt
  have key : ∀ (g : Fin 8) (c : Fin 128), l.val = g.val * 128 + c.val → p g c = p (grp l) (lane l) := by
    intro g c e
    have hc := c.isLt
    rw [show grp l = g from Fin.ext (by show l.val / 128 = g.val; omega), show lane l = c from Fin.ext (by show l.val % 128 = c.val; omega)]
  split_ifs
  · exact key 0 _ (by show l.val = 0 * 128 + l.val; omega)
  · exact key 1 _ (by show l.val = 1 * 128 + (l.val - 128); omega)
  · exact key 2 _ (by show l.val = 2 * 128 + (l.val - 128 - 128); omega)
  · exact key 3 _ (by show l.val = 3 * 128 + (l.val - 128 - 128 - 128); omega)
  · exact key 4 _ (by show l.val = 4 * 128 + (l.val - 128 - 128 - 128 - 128); omega)
  · exact key 5 _ (by show l.val = 5 * 128 + (l.val - 128 - 128 - 128 - 128 - 128); omega)
  · exact key 6 _ (by show l.val = 6 * 128 + (l.val - 128 - 128 - 128 - 128 - 128 - 128); omega)
  · exact key 7 _ (by show l.val = 7 * 128 + (l.val - 128 - 128 - 128 - 128 - 128 - 128 - 128); omega)

section Mixing

variable (ws : Vec Ideal S1x128x128 .f32) (v : Fin 8 → Vec Ideal S128x128 .bf16) (t : Fin 128) (l : Fin 1024)

/-- The kernel's choice by the comparison of a column with a row. -/
theorem sle_iff (s t : Fin 128) : Scalar.select (IntOp.cmpi CmpIPredicate.sle (BitVec.ofNat 32 s.val) (BitVec.ofNat 32 t.val))
    = fun (a b : EReal) => if s.val ≤ t.val then a else b := by
  funext a b
  unfold Scalar.select IntOp.cmpi
  simp only [word_le]
  by_cases h : s.val ≤ t.val <;> simp [h]

/-- The weights with what lies above the diagonal cut. -/
theorem cut_apply (s : Fin 128) : k0_pay30 ws (ix2 t s) = tri (fun t s => ws (ix3 0 t s)) t s := by
  pointwise [k0_pay30, k0_pay29]
  rw [sle_iff]
  rfl

/-- The eight chunks' values of a group, mixed. -/
theorem mixed_apply : k0_pay31 (k0_pay30 ws) (v 0) (v 1) (v 2) (v 3) (v 4) (v 5) (v 6) (v 7) (ix2 t l)
    = ∑ s, tri (fun t s => ws (ix3 0 t s)) t s * v (grp l) (ix2 s (lane l)) := by
  pointwise [k0_pay31]
  simp only [cut_apply]
  exact Finset.sum_congr rfl fun s _ => congrArg _ (chain (fun g c => v g (ix2 s c)) l)

variable (v0 v1 v2 v3 v4 v5 v6 v7 : Vec Ideal S128x128 .bf16)

theorem mixed1 : k0_pay32 k0_pay29 ws v0 v1 v2 v3 v4 v5 v6 v7 = k0_pay31 (k0_pay30 ws) v0 v1 v2 v3 v4 v5 v6 v7 := rfl
theorem mixed2 : k0_pay34 (k0_pay33 k0_pay29 ws) v0 v1 v2 v3 v4 v5 v6 v7 = k0_pay31 (k0_pay30 ws) v0 v1 v2 v3 v4 v5 v6 v7 := rfl
theorem mixed3 : k0_pay35 k0_pay29 ws v0 v1 v2 v3 v4 v5 v6 v7 = k0_pay31 (k0_pay30 ws) v0 v1 v2 v3 v4 v5 v6 v7 := rfl
theorem mixed4 : k0_pay36 k0_pay29 ws v0 v1 v2 v3 v4 v5 v6 v7 = k0_pay31 (k0_pay30 ws) v0 v1 v2 v3 v4 v5 v6 v7 := rfl
theorem mixed5 : k0_pay38 (k0_pay37 k0_pay29 ws) v0 v1 v2 v3 v4 v5 v6 v7 = k0_pay31 (k0_pay30 ws) v0 v1 v2 v3 v4 v5 v6 v7 := rfl
theorem mixed6 : k0_pay39 k0_pay29 ws v0 v1 v2 v3 v4 v5 v6 v7 = k0_pay31 (k0_pay30 ws) v0 v1 v2 v3 v4 v5 v6 v7 := rfl
theorem mixed7 : k0_pay41 (k0_pay40 k0_pay29 ws) v0 v1 v2 v3 v4 v5 v6 v7 = k0_pay31 (k0_pay30 ws) v0 v1 v2 v3 v4 v5 v6 v7 := rfl

end Mixing

/-! ### The gate and the output projection of a block of 256 rows -/

section Output

variable (sv : Fin 8 → FVec Ideal S128x1024 .f32) (bs : Fin 8 → Vec Ideal S1x128x128 .f32)

/-- The mixed values of a group for the chunk whose columns start at `o`, plus the group's bias. -/
def cell (o : ℕ) (ho : S128x1024.Slices ![0, o] S128x128) (sv : FVec Ideal S128x1024 .f32) (b : Vec Ideal S1x128x128 .f32) :
    FVec Ideal S128x128 .f32 :=
  addf (extractStridedSlice S128x128 ![0, o] sv ho) (shapeCast S128x128 b shapeCasts_S1x128x128_S128x128)

/-- The gated rows of that chunk. -/
def gated (o : ℕ) (ho : S128x1024.Slices ![0, o] S128x128) (u : Vec Ideal S128x1024 .f32) : FVec Ideal S128x1024 .bf16 :=
  k0_pay71 (cell o ho (sv 0) (bs 0)) (cell o ho (sv 1) (bs 1)) (cell o ho (sv 2) (bs 2)) (cell o ho (sv 3) (bs 3))
    (cell o ho (sv 4) (bs 4)) (cell o ho (sv 5) (bs 5)) (cell o ho (sv 6) (bs 6)) (cell o ho (sv 7) (bs 7)) u

/-- A block's rows plus its two chunks' gated rows against the output weight. -/
def last (hb : Vec Ideal S256x1024 .f32) (p q : FVec Ideal S128x1024 .bf16) (w : Vec Ideal S1024x1024 .bf16) : FVec Ideal S256x1024 .f32 :=
  addf (shapeCast S256x1024 hb shapeCasts_S256x1024_S256x1024)
    (matmul dot_S256x1024_S1024x1024_S256x1024_1_0_0_1_n_n none
      (concatenate S256x1024 0 [⟨S128x1024, p⟩, ⟨S128x1024, q⟩] concatenates_S128x1024_S128x1024_S256x1024_d0)
      (shapeCast S1024x1024 w shapeCasts_S1024x1024_S1024x1024 : FVec Ideal S1024x1024 .bf16) (constant S256x1024 .f32 0x00000000#32))

theorem cell_apply (o : ℕ) (ho) (h : o + 128 ≤ 1024) (sv : FVec Ideal S128x1024 .f32) (b : Vec Ideal S1x128x128 .f32) (t k : Fin 128) :
    cell o ho sv b (ix2 t k) = sv (ix2 t ⟨o + k.val, by have := k.isLt; omega⟩) + b (ix3 0 t k) := by
  pointwise [cell]

theorem gated_apply (o : ℕ) (ho) (h : o + 128 ≤ 1024) (u : Vec Ideal S128x1024 .f32) (t : Fin 128) (c : Fin 1024) :
    gated sv bs o ho u (ix2 t c) = u (ix2 t c)
      * (sv (grp c) (ix2 t ⟨o + (lane c).val, by have := (lane c).isLt; omega⟩) + bs (grp c) (ix3 0 t (lane c))) := by
  rw [← cell_apply o ho h]
  pointwise [gated, k0_pay71]
  exact congrArg _ (chain (fun g k => cell o ho (sv g) (bs g) (ix2 t k)) c)

theorem last_apply (hb : Vec Ideal S256x1024 .f32) (p q : FVec Ideal S128x1024 .bf16) (w : Vec Ideal S1024x1024 .bf16)
    (r : Fin 256) (l : Fin 1024) : last hb p q w (ix2 r l) = hb (ix2 r l)
      + ∑ c, (if h : r.val < 128 then p (ix2 ⟨r.val, h⟩ c) else q (ix2 ⟨r.val - 128, by have := r.isLt; omega⟩ c)) * w (ix2 c l) := by
  pointwise [last]

variable (u0 u1 : Vec Ideal S128x1024 .f32) (hb : Vec Ideal S256x1024 .f32) (w : Vec Ideal S1024x1024 .bf16)

/-- The four blocks' stores. -/
theorem store0 : k0_pay55 (sv 5) (sv 6) (sv 7)
    (k0_pay48 (sv 6) (sv 7) (k0_pay42 (sv 0) (bs 0)) (k0_pay43 (sv 1) (bs 1)) (k0_pay44 (sv 2) (bs 2)) (k0_pay45 (sv 3) (bs 3))
      (k0_pay46 (sv 4) (bs 4)) (k0_pay47 (sv 5)) (bs 5) (bs 6) (bs 7) u0)
    (k0_pay49 (sv 0) (bs 0)) (k0_pay50 (sv 1) (bs 1)) (k0_pay51 (sv 2) (bs 2)) (k0_pay52 (sv 3) (bs 3)) (k0_pay53 (sv 4)) (k0_pay54 (bs 4))
      (bs 5) (bs 6) (bs 7) u1 hb w
    = last hb (gated sv bs 0 slices_S128x1024_o0_0_S128x128 u0) (gated sv bs 128 slices_S128x1024_o0_128_S128x128 u1) w := rfl

theorem store1 : k0_pay62 (sv 2) (sv 3) (sv 4) (sv 5) (sv 6) (sv 7)
    (k0_pay59 (sv 3) (sv 4) (sv 5) (sv 6) (sv 7) (k0_pay56 (sv 0) (bs 0)) (k0_pay57 (sv 1) (bs 1)) (k0_pay58 (sv 2))
      (bs 2) (bs 3) (bs 4) (bs 5) (bs 6) (bs 7) u0)
    (k0_pay60 (sv 0) (bs 0)) (k0_pay61 (sv 1) (bs 1)) (bs 2) (bs 3) (bs 4) (bs 5) (bs 6) (bs 7) u1 hb w
    = last hb (gated sv bs 256 slices_S128x1024_o0_256_S128x128 u0) (gated sv bs 384 slices_S128x1024_o0_384_S128x128 u1) w := rfl

theorem store2 : k0_pay80
    (k0_pay71 (k0_pay63 (sv 0) (bs 0)) (k0_pay64 (sv 1) (bs 1)) (k0_pay65 (sv 2) (bs 2)) (k0_pay66 (sv 3) (bs 3)) (k0_pay67 (sv 4) (bs 4))
      (k0_pay68 (sv 5) (bs 5)) (k0_pay69 (sv 6) (bs 6)) (k0_pay70 (sv 7) (bs 7)) u0)
    (k0_pay72 (sv 0) (bs 0)) (k0_pay73 (sv 1) (bs 1)) (k0_pay74 (sv 2) (bs 2)) (k0_pay75 (sv 3) (bs 3)) (k0_pay76 (sv 4) (bs 4))
      (k0_pay77 (sv 5) (bs 5)) (k0_pay78 (sv 6) (bs 6)) (k0_pay79 (sv 7)) (bs 7) u1 hb w
    = last hb (gated sv bs 512 slices_S128x1024_o0_512_S128x128 u0) (gated sv bs 640 slices_S128x1024_o0_640_S128x128 u1) w := rfl

theorem store3 : k0_pay1 (k0_pay94 hb)
    (k0_pay95 (sv 5) (sv 6) (sv 7)
      (k0_pay87 (sv 6) (sv 7) (k0_pay81 (sv 0) (bs 0)) (k0_pay82 (sv 1) (bs 1)) (k0_pay83 (sv 2) (bs 2)) (k0_pay84 (sv 3) (bs 3))
        (k0_pay85 (sv 4) (bs 4)) (k0_pay86 (sv 5)) (bs 5) (bs 6) (bs 7) u0)
      (k0_pay88 (sv 0) (bs 0)) (k0_pay89 (sv 1) (bs 1)) (k0_pay90 (sv 2) (bs 2)) (k0_pay91 (sv 3) (bs 3)) (k0_pay92 (sv 4)) (k0_pay93 (bs 4))
      (bs 5) (bs 6) (bs 7) u1)
    (k0_pay96 w) (constant S256x1024 .f32 0x00000000#32)
    = last hb (gated sv bs 768 slices_S128x1024_o0_768_S128x128 u0) (gated sv bs 896 slices_S128x1024_o0_896_S128x128 u1) w := rfl

end Output

end Cert.Spatial

end
-- ==== Proof.Spatial.Buffers.lean ====
/- What the spatial gating kernel's body leaves in the buffers it works in, for a block of 1024 rows: the normed rows, the gated
   half, the values. -/
module

public import proofs.«01_k».proof.Proof.Bands
public import proofs.«01_k».proof.Proof.Spatial.Forms

@[expose] public section

noncomputable section

namespace Cert.Spatial

open Cert.KernelIdeal Cert.KernelIdeal.Gen Idealize.ShloMosaic Idealize.ShloMosaic.TcCoe Idealize.SL.Sem
open Idealize.ShloMosaic.Pointwise Cert.Rows Cert.Bands

theorem hz : (![0, 0] : Fin 2 → Nat) = fun _ => 0 := by funext a; fin_cases a <;> rfl

section Rows

variable (x0 : Vec Ideal S1024x1024 .f32) (x1 : Vec Ideal S1x1024 .f32) (x2 : Vec Ideal S1024x2048 .bf16) (x3 : Vec Ideal S1x2048 .f32)
  (x4 x5 : Vec Ideal S1x1024 .f32)

/-- The normed rows. -/
def normed : Vec Ideal S1024x1024 .bf16 := fun i => rms (fun k => x0 (ix2 (i 0) k)) (fun k => x1 (ix2 0 k)) (i 1)

/-- The gated half of the rows. -/
def gates : Vec Ideal S1024x1024 .f32 := fun i =>
  gatedRow (fun k => x0 (ix2 (i 0) k)) (fun k => x1 (ix2 0 k)) (fun k l => x2 (ix2 k l)) (fun l => x3 (ix2 0 l)) (i 1)

/-- The values of the rows. -/
def values : Vec Ideal S1024x1024 .bf16 := fun i =>
  valueRow (fun k => x0 (ix2 (i 0) k)) (fun k => x1 (ix2 0 k)) (fun k l => x2 (ix2 k l)) (fun l => x3 (ix2 0 l))
    (fun k => x4 (ix2 0 k)) (fun k => x5 (ix2 0 k)) (i 1)

variable (o : ℕ) (h : ∀ a, (![o, 0] : Fin 2 → ℕ) a + S256x1024.size a ≤ S1024x1024.size a) (ho : o + 256 ≤ 1024)

include ho

/-- The normed rows of a block of 256, where they are stored. -/
theorem normed_band (i : S256x1024.Idx) : k0_pay2 (View.ld x0 (Rect.unit (s := S1024x1024) ![o, 0] S256x1024.size h)) x1 i
    = normed x0 x1 ((Rect.unit (s := S1024x1024) ![o, 0] S256x1024.size h).emb i) := by
  obtain ⟨r, l, rfl⟩ : ∃ (r : Fin 256) (l : Fin 1024), i = ix2 r l := ⟨i 0, i 1, eq_ix2 i⟩
  rw [normed_apply, emb_apply o 0 h r l ho (by decide)]
  exact congr (congrArg (fun f => rms f fun k => x1 (ix2 0 k)) (funext fun k => (ld_apply o 0 h r k ho (by decide) x0).trans
    (congrArg x0 (congrArg (ix2 _) (Fin.ext (Nat.zero_add _)))))) (Fin.ext (Nat.zero_add _).symm)

/-- A hidden unit of a block of 256 rows over the columns from `q`. -/
theorem inner_band (q : ℕ) (hq : q + 1024 ≤ 2048) (h2 h3) (r : Fin 256) (l : Fin 1024) :
    gelu (dense (fun k => View.ld (normed x0 x1) (Rect.unit (s := S1024x1024) ![o, 0] S256x1024.size h) (ix2 r k))
      (fun k l => View.ld x2 (Rect.unit (s := S1024x2048) ![0, q] S1024x1024.size h2) (ix2 k l))
      (fun k => View.ld x3 (Rect.unit (s := S1x2048) ![0, q] S1x1024.size h3) (ix2 0 k)) l)
    = gelu (dense (rms (fun k => x0 (ix2 ⟨o + r.val, by have := r.isLt; omega⟩ k)) (fun k => x1 (ix2 0 k)))
        (lanes q hq (fun k l => x2 (ix2 k l))) (shift q hq (fun l => x3 (ix2 0 l))) l) := by
  have e0 : (fun k => View.ld (normed x0 x1) (Rect.unit (s := S1024x1024) ![o, 0] S256x1024.size h) (ix2 r k))
      = rms (fun k => x0 (ix2 ⟨o + r.val, by have := r.isLt; omega⟩ k)) (fun k => x1 (ix2 0 k)) := funext fun k =>
    (ld_apply o 0 h r k ho (by decide) _).trans (congrArg (normed x0 x1) (congrArg (ix2 _) (Fin.ext (Nat.zero_add _))))
  have e2 : (fun k l => View.ld x2 (Rect.unit (s := S1024x2048) ![0, q] S1024x1024.size h2) (ix2 k l))
      = lanes q hq (fun k l => x2 (ix2 k l)) := funext fun k => funext fun l =>
    (ld_apply 0 q h2 k l (by decide) hq x2).trans (congrArg (fun r => x2 (ix2 r _)) (Fin.ext (Nat.zero_add _)))
  have e3 : (fun l => View.ld x3 (Rect.unit (s := S1x2048) ![0, q] S1x1024.size h3) (ix2 0 l)) = shift q hq (fun l => x3 (ix2 0 l)) :=
    funext fun l => ld_apply 0 q h3 0 l (by decide) hq x3
  rw [e0, e2, e3]

/-- The gated half of a block of 256 rows, where it is stored. -/
theorem gates_band (h2 h3) (i : S256x1024.Idx) :
    k0_pay25 (View.ld (normed x0 x1) (Rect.unit (s := S1024x1024) ![o, 0] S256x1024.size h))
      (View.ld x2 (Rect.unit (s := S1024x2048) ![0, 0] S1024x1024.size h2)) (View.ld x3 (Rect.unit (s := S1x2048) ![0, 0] S1x1024.size h3)) i
    = gates x0 x1 x2 x3 ((Rect.unit (s := S1024x1024) ![o, 0] S256x1024.size h).emb i) := by
  obtain ⟨r, l, rfl⟩ : ∃ (r : Fin 256) (l : Fin 1024), i = ix2 r l := ⟨i 0, i 1, eq_ix2 i⟩
  rw [unit_apply, emb_apply o 0 h r l ho (by decide), inner_band x0 x1 x2 x3 o h ho 0 (by decide) h2 h3]
  simp only [Nat.zero_add]
  rfl

/-- The values of a block of 256 rows, where they are stored. -/
theorem values_band (h2 h3) (i : S256x1024.Idx) :
    k0_pay4 (k0_pay3 (View.ld (normed x0 x1) (Rect.unit (s := S1024x1024) ![o, 0] S256x1024.size h))
      (View.ld x2 (Rect.unit (s := S1024x2048) ![0, 1024] S1024x1024.size h2)) (View.ld x3 (Rect.unit (s := S1x2048) ![0, 1024] S1x1024.size h3)))
      x4 x5 i
    = values x0 x1 x2 x3 x4 x5 ((Rect.unit (s := S1024x1024) ![o, 0] S256x1024.size h).emb i) := by
  obtain ⟨r, l, rfl⟩ : ∃ (r : Fin 256) (l : Fin 1024), i = ix2 r l := ⟨i 0, i 1, eq_ix2 i⟩
  rw [value_apply, emb_apply o 0 h r l ho (by decide)]
  simp only [inner_apply, inner_band x0 x1 x2 x3 o h ho 1024 (by decide) h2 h3, Nat.zero_add]
  rfl

end Rows

/-- A store of the function's values, and stores of them before it. -/
theorem holds_cons {s : Shape} {e : EltTy} {Val : EltTy → Type} {G : s.Idx → Val e} {R : Rect s} {w : R.shape.Idx → Val e}
    {L : List (View.Piece Val s e)} (hw : ∀ x, w x = G (R.emb x)) (hL : Holds G L) : Holds G (⟨R, w⟩ :: L) := by
  intro p hp
  rcases List.mem_cons.mp hp with rfl | hp
  · exact hw
  · exact hL p hp

theorem holds_nil {s : Shape} {e : EltTy} {Val : EltTy → Type} {G : s.Idx → Val e} : Holds G ([] : List (View.Piece Val s e)) :=
  fun _ hp => absurd hp List.not_mem_nil

section Buffers

variable (c : Dev nD) (m1 : Memref sig .tc .vmem S1024x1024 .f32) (h1 : m1.IsWhole) (m2 : Memref sig .tc .vmem S1x1024 .f32) (h2 : m2.IsWhole) (m3 : Memref sig .tc .vmem S1024x2048 .bf16) (h3 : m3.IsWhole) (m4 : Memref sig .tc .vmem S1x2048 .f32) (h4 : m4.IsWhole) (m5 : Memref sig .tc .vmem S1x1024 .f32) (h5 : m5.IsWhole) (m6 : Memref sig .tc .vmem S1x1024 .f32) (h6 : m6.IsWhole) (m7 : Memref sig .tc .vmem S8x128x128 .f32) (h7 : m7.IsWhole) (m8 : Memref sig .tc .vmem S8x128x128 .f32) (h8 : m8.IsWhole) (m9 : Memref sig .tc .vmem S1024x1024 .bf16) (h9 : m9.IsWhole)
  (m11 : Memref sig .tc .vmem S1024x1024 .bf16) (m12 : Memref sig .tc .vmem S1024x1024 .f32) (m13 : Memref sig .tc .vmem S1024x1024 .bf16)
  (x0 : Vec Ideal S1024x1024 .f32) (x1 : Vec Ideal S1x1024 .f32) (x2 : Vec Ideal S1024x2048 .bf16) (x3 : Vec Ideal S1x2048 .f32)
  (x4 x5 : Vec Ideal S1x1024 .f32) (x6 x7 : Vec Ideal S8x128x128 .f32) (x8 : Vec Ideal S1024x1024 .bf16)

theorem holds0_1 : Holds (normed x0 x1) (kernelRun0_A.sl.HS0_1 (F := Ideal) c m1 h1 m2 h2 x0 x1) := by
  unfold kernelRun0_A.sl.HS0_1
  refine holds_cons (fun i => ?_) holds_nil
  simp only [View.readAt_eq_ld, h1.read_unread, h2.read_unread, View.ld_unit_zero (S := S1x1024) hz]
  exact normed_band x0 x1 0 inb_S1024x1024_S256x1024_0_0 (by decide) i

theorem holds0_2 : Holds (normed x0 x1) (kernelRun0_A.sl.HS0_2 (F := Ideal) c m1 h1 m2 h2 x0 x1) := by
  unfold kernelRun0_A.sl.HS0_2
  refine holds_cons (fun i => ?_) (holds0_1 c m1 h1 m2 h2 x0 x1)
  simp only [kernelRun0_A.sl.r_2, View.readAt_eq_ld, h1.read_unread, h2.read_unread, View.ld_unit_zero (S := S1x1024) hz, normed1]
  exact normed_band x0 x1 256 inb_S1024x1024_S256x1024_256_0 (by decide) i

theorem holds0_3 : Holds (normed x0 x1) (kernelRun0_A.sl.HS0_3 (F := Ideal) c m1 h1 m2 h2 x0 x1) := by
  unfold kernelRun0_A.sl.HS0_3
  refine holds_cons (fun i => ?_) (holds0_2 c m1 h1 m2 h2 x0 x1)
  simp only [View.readAt_eq_ld, h1.read_unread, h2.read_unread, View.ld_unit_zero (S := S1x1024) hz, normed2]
  exact normed_band x0 x1 512 inb_S1024x1024_S256x1024_512_0 (by decide) i

theorem holds0_4 : Holds (normed x0 x1) (kernelRun0_A.sl.HS0_4 (F := Ideal) c m1 h1 m2 h2 x0 x1) := by
  unfold kernelRun0_A.sl.HS0_4
  refine holds_cons (fun i => ?_) (holds0_3 c m1 h1 m2 h2 x0 x1)
  simp only [kernelRun0_A.sl.r_8, kernelRun0_A.sl.r_9, kernelRun0_A.sl.r_10, View.readAt_eq_ld, h1.read_unread, h2.read_unread, View.ld_unit_zero (S := S1x1024) hz, normed3]
  exact normed_band x0 x1 768 inb_S1024x1024_S256x1024_768_0 (by decide) i

theorem read0 (R : Rect S1024x1024) : m11.view.readCov (kernelRun0_A.sl.HS0_4 (F := Ideal) c m1 h1 m2 h2 x0 x1) R.toLoadRect = View.ld (normed x0 x1) R :=
  read_all _ _ _ _ (holds0_4 c m1 h1 m2 h2 x0 x1) (View.cover_of_tiledL _ S256x1024.size (by sl_kernel_rfl))

theorem read_v20 : kernelRun0_A.sl.v20 (F := Ideal) c m1 h1 m2 h2 m11 x0 x1 = View.ld (normed x0 x1) (Rect.unit (s := S1024x1024) ![0, 0] S256x1024.size inb_S1024x1024_S256x1024_0_0) :=
  read_last _ _ _ _ _ (holds0_1 c m1 h1 m2 h2 x0 x1)

theorem read_v84 : kernelRun0_A.sl.v84 (F := Ideal) c m1 h1 m2 h2 m11 x0 x1 = View.ld (normed x0 x1) (Rect.unit (s := S1024x1024) ![256, 0] S256x1024.size inb_S1024x1024_S256x1024_256_0) :=
  read_last _ _ _ _ _ (holds0_2 c m1 h1 m2 h2 x0 x1)

theorem read_v148 : kernelRun0_A.sl.v148 (F := Ideal) c m1 h1 m2 h2 m11 x0 x1 = View.ld (normed x0 x1) (Rect.unit (s := S1024x1024) ![512, 0] S256x1024.size inb_S1024x1024_S256x1024_512_0) :=
  read_last _ _ _ _ _ (holds0_3 c m1 h1 m2 h2 x0 x1)

theorem holds1 : Holds (gates x0 x1 x2 x3) (kernelRun0_A.sl.HS1_4 (F := Ideal) c m1 h1 m2 h2 m3 h3 m4 h4 m11 x0 x1 x2 x3) := by
  unfold kernelRun0_A.sl.HS1_4
  simp only [kernelRun0_A.sl.v212, kernelRun0_A.sl.r_15, kernelRun0_A.sl.v294, kernelRun0_A.sl.v, kernelRun0_A.sl.v256, read0, View.readAt_eq_ld, h1.read_unread, h2.read_unread, h3.read_unread, h4.read_unread, View.ld_unit_zero (S := S1x1024) hz, unit1, unit2, unit3]
  exact holds_cons (gates_band x0 x1 x2 x3 768 inb_S1024x1024_S256x1024_768_0 (by decide) _ _)
    (holds_cons (gates_band x0 x1 x2 x3 512 inb_S1024x1024_S256x1024_512_0 (by decide) _ _)
      (holds_cons (gates_band x0 x1 x2 x3 256 inb_S1024x1024_S256x1024_256_0 (by decide) _ _)
        (holds_cons (gates_band x0 x1 x2 x3 0 inb_S1024x1024_S256x1024_0_0 (by decide) _ _) holds_nil)))

theorem read1 (R : Rect S1024x1024) : m12.view.readCov (kernelRun0_A.sl.HS1_4 (F := Ideal) c m1 h1 m2 h2 m3 h3 m4 h4 m11 x0 x1 x2 x3) R.toLoadRect = View.ld (gates x0 x1 x2 x3) R :=
  read_all _ _ _ _ (holds1 c m1 h1 m2 h2 m3 h3 m4 h4 m11 x0 x1 x2 x3) (View.cover_of_tiledL _ S256x1024.size (by sl_kernel_rfl))

theorem holds2 : Holds (values x0 x1 x2 x3 x4 x5) (kernelRun0_A.sl.HS2_4 (F := Ideal) c m1 h1 m2 h2 m3 h3 m4 h4 m5 h5 m6 h6 m11 x0 x1 x2 x3 x4 x5) := by
  unfold kernelRun0_A.sl.HS2_4
  simp only [kernelRun0_A.sl.v212, kernelRun0_A.sl.r, kernelRun0_A.sl.r_1, kernelRun0_A.sl.r_3, kernelRun0_A.sl.r_4, kernelRun0_A.sl.r_5, kernelRun0_A.sl.r_6, kernelRun0_A.sl.r_7, kernelRun0_A.sl.r_11, kernelRun0_A.sl.r_12, kernelRun0_A.sl.r_13, kernelRun0_A.sl.r_14, read_v20, read_v84, read_v148, read0, View.readAt_eq_ld, h1.read_unread, h2.read_unread, h3.read_unread, h4.read_unread, h5.read_unread, h6.read_unread, View.ld_unit_zero (S := S1x1024) hz, value1, value2, value3]
  exact holds_cons (values_band x0 x1 x2 x3 x4 x5 768 inb_S1024x1024_S256x1024_768_0 (by decide) _ _)
    (holds_cons (values_band x0 x1 x2 x3 x4 x5 512 inb_S1024x1024_S256x1024_512_0 (by decide) _ _)
      (holds_cons (values_band x0 x1 x2 x3 x4 x5 256 inb_S1024x1024_S256x1024_256_0 (by decide) _ _)
        (holds_cons (values_band x0 x1 x2 x3 x4 x5 0 inb_S1024x1024_S256x1024_0_0 (by decide) _ _) holds_nil)))

theorem read2 (R : Rect S1024x1024) : m13.view.readCov (kernelRun0_A.sl.HS2_4 (F := Ideal) c m1 h1 m2 h2 m3 h3 m4 h4 m5 h5 m6 h6 m11 x0 x1 x2 x3 x4 x5) R.toLoadRect = View.ld (values x0 x1 x2 x3 x4 x5) R :=
  read_all _ _ _ _ (holds2 c m1 h1 m2 h2 m3 h3 m4 h4 m5 h5 m6 h6 m11 x0 x1 x2 x3 x4 x5) (View.cover_of_tiledL _ S256x1024.size (by sl_kernel_rfl))

end Buffers

end Cert.Spatial

end
-- ==== Proof.Conv.Rows.lean ====
/- The mathematics of the convolution mixers over the extended reals: a sequence is a function of its token and its column. No
   program is mentioned here. -/
module

public import proofs.«01_k».proof.Proof.Rows

@[expose] public section

noncomputable section

namespace Cert.Rows

open Idealize.ShloMosaic
open scoped BigOperators

/-- The mean of a row of 512 entries: its sum over the word of 512.0. -/
def half (x : Fin 512 → EReal) : EReal := Ideal.div (∑ k, x k) (Ideal.ofBits FTy.f32 1140850688#32)

/-- The layer norm of a row of 512 entries, with its gain and its shift. -/
def hnorm (x g b : Fin 512 → EReal) (l : Fin 512) : EReal :=
  (x l - half x) * Ideal.rsqrt (half (fun k => (x k - half x) * (x k - half x)) + Ideal.ofBits FTy.f32 925353388#32) * g l + b l

/-- A value times its logistic. -/
def swish (x : EReal) : EReal := x * Ideal.logistic x

/-- A row against the 512 columns of a weight that start at `o`. -/
def proj (x : Fin 1024 → EReal) (w : Fin 1024 → Fin 2560 → EReal) (o : ℕ) (ho : o + 512 ≤ 2560) (l : Fin 512) : EReal :=
  ∑ k, x k * w k ⟨o + l.val, by have := l.isLt; omega⟩

/-- What the first convolution reads of a row: the first columns times the logistic of the second. -/
def glu (x : Fin 1024 → EReal) (w : Fin 1024 → Fin 2560 → EReal) (l : Fin 512) : EReal :=
  proj x w 0 (by decide) l * Ideal.logistic (proj x w 512 (by decide) l)

/-- What the second convolution reads of a row: the fourth columns times the fifth. -/
def duo (x : Fin 1024 → EReal) (w : Fin 1024 → Fin 2560 → EReal) (l : Fin 512) : EReal :=
  proj x w 1536 (by decide) l * proj x w 2048 (by decide) l

/-- The first `n` terms of `f` added in order onto `b`. -/
def acc (b : EReal) (f : ℕ → EReal) : ℕ → EReal
  | 0 => b
  | n + 1 => acc b f n + f n

/-- What a sum starts with can be added last. -/
theorem acc_shift (b : EReal) (f : ℕ → EReal) : ∀ n, acc b f n = acc 0 f n + b
  | 0 => (zero_add b).symm
  | n + 1 => by
    show acc b f n + f n = acc 0 f n + f n + b
    rw [acc_shift b f n, add_assoc, add_comm b, ← add_assoc]

/-- Position `q` of a sequence with `p` zeros before its first token. -/
def past (p : ℕ) (u : Fin 2048 → Fin 512 → EReal) (q : ℕ) (l : Fin 512) : EReal :=
  if h : p ≤ q ∧ q < p + 2048 then u ⟨q - p, by omega⟩ l else 0

/-- Moving the zeros moves the position. -/
theorem past_add (p d : ℕ) (u : Fin 2048 → Fin 512 → EReal) (q : ℕ) (l : Fin 512) : past (p + d) u (q + d) l = past p u q l := by
  unfold past
  by_cases h : p ≤ q ∧ q < p + 2048
  · rw [dif_pos h, dif_pos (by omega)]
    exact congrArg (fun s => u s l) (Fin.ext (by show q + d - (p + d) = q - p; omega))
  · rw [dif_neg h, dif_neg (by omega)]

/-- A row of a filter, and zero past its last. -/
def tap {n : ℕ} (w : Fin n → Fin 512 → EReal) (k : ℕ) (l : Fin 512) : EReal := if h : k < n then w ⟨k, h⟩ l else 0

theorem tap_val {n : ℕ} (w : Fin n → Fin 512 → EReal) (k : Fin n) (l : Fin 512) : tap w k.val l = w k l := dif_pos k.isLt

/-- The first convolution at a token: 31 taps, the last on the token itself, and a bias. -/
def convA (u : Fin 2048 → Fin 512 → EReal) (w : Fin 31 → Fin 512 → EReal) (b : Fin 512 → EReal) (t : ℕ) (l : Fin 512) : EReal :=
  acc (b l) (fun k => past 30 u (k + t) l * tap w k l) 31

/-- The second convolution at a token: 3 taps. -/
def convB (u : Fin 2048 → Fin 512 → EReal) (w : Fin 3 → Fin 512 → EReal) (t : ℕ) (l : Fin 512) : EReal :=
  acc 0 (fun k => past 2 u (k + t) l * tap w k l) 3

section

variable (x : Fin 2048 → Fin 1024 → EReal) (g : Fin 1024 → EReal) (w : Fin 1024 → Fin 2560 → EReal) (cw : Fin 31 → Fin 512 → EReal)
  (cb lg lb : Fin 512 → EReal) (dw : Fin 3 → Fin 512 → EReal) (wo : Fin 1024 → Fin 1024 → EReal)

/-- What the first mixer makes of a token. -/
def mixA (t : ℕ) : Fin 512 → EReal := fun l =>
  swish (hnorm (convA (fun s => glu (rms (x s) g) w) cw cb t) lg lb l)

/-- What the second mixer makes of a token. -/
def mixB (t : Fin 2048) (l : Fin 512) : EReal :=
  proj (rms (x t) g) w 1024 (by decide) l * convB (fun s => duo (rms (x s) g) w) dw t.val l

/-- The two mixers' columns side by side. -/
def mixed (t : Fin 2048) (c : Fin 1024) : EReal :=
  if h : c.val < 512 then mixA x g w cw cb lg lb t.val ⟨c.val, h⟩ else mixB x g w dw t ⟨c.val - 512, by have := c.isLt; omega⟩

/-- The convolution mixers' block on a sequence, at a token: the row plus the mixers' columns against the output weight. -/
def convmix (t : Fin 2048) (l : Fin 1024) : EReal := x t l + ∑ c, mixed x g w cw cb lg lb dw t c * wo c l

end

end Cert.Rows

end
-- ==== Proof.Conv.Forms.lean ====
/- The steps of the convolution mixers' kernel, each at an index: one lemma per kind of step, and each of the kernel's sixteen blocks
   of 32 rows as the two kinds of block. -/
module

public import proofs.«01_k».proof.Proof.Conv.Rows
public import proofs.«01_k».proof.Proof.Gen.Kernel4Ideal.Value

@[expose] public section

noncomputable section

namespace Cert.Conv

open Cert.Kernel4Ideal Cert.Kernel4Ideal.Gen Idealize.ShloMosaic Idealize.ShloMosaic.TcCoe Idealize.SL.Sem
open Idealize.ShloMosaic.Pointwise Cert.Rows

/-! ### What is computed of all 512 rows at once -/

section Whole

variable (x : Vec Ideal S1x512x1024 .f32) (g : Vec Ideal S1x1024 .f32) (xn : Vec Ideal S512x1024 .bf16)
  (w : Vec Ideal S1024x1024 .bf16) (u : Vec Ideal S1024x512 .bf16) (r : Fin 512)

/-- The normed rows at an index. -/
theorem normed_apply (k : Fin 1024) : k0_pay5 x g (ix2 r k) = rms (fun k => x (ix3 0 r k)) (fun k => g (ix2 0 k)) k := by
  pointwise [k0_pay5]
  rfl

/-- What the first convolution reads, at an index. -/
theorem glu_apply (l : Fin 512) : k0_pay6 xn w (ix2 r l)
    = (∑ k, xn (ix2 r k) * w (ix2 k ⟨l.val, by have := l.isLt; omega⟩))
      * Ideal.logistic (∑ k, xn (ix2 r k) * w (ix2 k ⟨512 + l.val, by have := l.isLt; omega⟩)) := by
  pointwise [k0_pay6]
  try rfl

/-- What the second convolution reads, at an index. -/
theorem duo_apply (l : Fin 512) : k0_pay7 xn w (ix2 r l)
    = (∑ k, xn (ix2 r k) * w (ix2 k ⟨l.val, by have := l.isLt; omega⟩))
      * (∑ k, xn (ix2 r k) * w (ix2 k ⟨512 + l.val, by have := l.isLt; omega⟩)) := by
  pointwise [k0_pay7]
  try rfl

/-- The gate at an index. -/
theorem gate_apply (l : Fin 512) : k0_pay8 xn u (ix2 r l) = ∑ k, xn (ix2 r k) * u (ix2 k l) := by
  pointwise [k0_pay8]
  try rfl

/-- The output block at an index. -/
theorem last_apply (l : Fin 1024) : k0_pay2 x xn w (ix3 0 r l) = x (ix3 0 r l) + ∑ c, xn (ix2 r c) * w (ix2 c l) := by
  pointwise [k0_pay2]
  try rfl

end Whole

/-! ### A block of 32 rows -/

section Block

/-- The bias on every row. -/
def base (bi : Vec Ideal S1x512 .f32) : FVec Ideal S32x512 .f32 :=
  broadcastTo S32x512 (shapeCast S1x512 (shapeCast S1x512 bi shapeCasts_S1x512_S1x512 : FVec Ideal S1x512 .f32) shapeCasts_S1x512_S1x512 : FVec Ideal S1x512 .f32) broadcasts_S1x512_S32x512

/-- Rows times a row of the filter. -/
def term (a : Vec Ideal S32x512 .f32) (w : Vec Ideal S1x512 .f32) : FVec Ideal S32x512 .f32 :=
  mulf (a : FVec Ideal S32x512 .f32) (broadcastTo S32x512 (shapeCast S1x512 w shapeCasts_S1x512_S1x512 : FVec Ideal S1x512 .f32) broadcasts_S1x512_S32x512)

/-- A tap added. -/
def step (s : FVec Ideal S32x512 .f32) (a : Vec Ideal S32x512 .f32) (w : Vec Ideal S1x512 .f32) : FVec Ideal S32x512 .f32 :=
  addf s (term a w)

theorem base_apply (bi : Vec Ideal S1x512 .f32) (r : Fin 32) (l : Fin 512) : base bi (ix2 r l) = bi (ix2 0 l) := by
  pointwise [base]

theorem term_apply (a : Vec Ideal S32x512 .f32) (w : Vec Ideal S1x512 .f32) (r : Fin 32) (l : Fin 512) :
    term a w (ix2 r l) = a (ix2 r l) * w (ix2 0 l) := by
  pointwise [term]

theorem step_apply (s : FVec Ideal S32x512 .f32) (a : Vec Ideal S32x512 .f32) (w : Vec Ideal S1x512 .f32) (r : Fin 32) (l : Fin 512) :
    step s a w (ix2 r l) = s (ix2 r l) + a (ix2 r l) * w (ix2 0 l) := by
  show s (ix2 r l) + term a w (ix2 r l) = _
  rw [term_apply]

/-- The layer norm of rows, times its logistic. -/
def act (s : FVec Ideal S32x512 .f32) (lg lb : Vec Ideal S1x512 .f32) : FVec Ideal S32x512 .bf16 :=
  have v482 : FVec Ideal S1x512 .f32 := shapeCast S1x512 lg shapeCasts_S1x512_S1x512
  have v484 : FVec Ideal S1x512 .f32 := shapeCast S1x512 lb shapeCasts_S1x512_S1x512
  have v485 : FVec Ideal S32 .f32 := multiReduction .add [1] S32 s 0x00000000#32 reduces_S32x512_S32 (.inl rfl) rfl
  have v486 : FVec Ideal S32x1 .f32 := shapeCast S32x1 v485 shapeCasts_S32_S32x1
  have cst_244 : Ideal .f32 := Scalar.ofBits .f32 0x44000000#32
  have v487 : FVec Ideal S32x1 .f32 := broadcast S32x1 cst_244
  have v488 : FVec Ideal S32x1 .f32 := divf v486 v487
  have v489 : FVec Ideal S32x512 .f32 := broadcastTo S32x512 v488 broadcasts_S32x1_S32x512
  have v490 : FVec Ideal S32x512 .f32 := subf s v489
  have v491 : FVec Ideal S32x512 .f32 := mulf v490 v490
  have v492 : FVec Ideal S32 .f32 := multiReduction .add [1] S32 v491 0x00000000#32 reduces_S32x512_S32 (.inl rfl) rfl
  have v493 : FVec Ideal S32x1 .f32 := shapeCast S32x1 v492 shapeCasts_S32_S32x1
  have v495 : FVec Ideal S32x1 .f32 := divf v493 v487
  have cst_247 : Ideal .f32 := Scalar.ofBits .f32 0x3727C5AC#32
  have v496 : FVec Ideal S32x1 .f32 := broadcast S32x1 cst_247
  have v497 : FVec Ideal S32x1 .f32 := addf v495 v496
  have v498 : FVec Ideal S32x1 .f32 := rsqrt v497
  have v499 : FVec Ideal S32x512 .f32 := broadcastTo S32x512 v498 broadcasts_S32x1_S32x512
  have v500 : FVec Ideal S32x512 .f32 := mulf v490 v499
  have v501 : FVec Ideal S32x512 .f32 := broadcastTo S32x512 v482 broadcasts_S1x512_S32x512
  have v502 : FVec Ideal S32x512 .f32 := mulf v500 v501
  have v503 : FVec Ideal S32x512 .f32 := broadcastTo S32x512 v484 broadcasts_S1x512_S32x512
  have v504 : FVec Ideal S32x512 .f32 := addf v502 v503
  have v505 : FVec Ideal S32x512 .f32 := logistic v504
  have v506 : FVec Ideal S32x512 .f32 := mulf v504 v505
  have v507 : FVec Ideal S32x512 .bf16 := truncf .bf16 v506 bitsLt_bf16_f32
  shapeCast S32x512 v507 shapeCasts_S32x512_S32x512

theorem act_apply (s : FVec Ideal S32x512 .f32) (lg lb : Vec Ideal S1x512 .f32) (r : Fin 32) (l : Fin 512) :
    act s lg lb (ix2 r l) = swish (hnorm (fun l => s (ix2 r l)) (fun l => lg (ix2 0 l)) (fun l => lb (ix2 0 l)) l) := by
  pointwise [act]
  rfl

variable (A B : ℕ → Vec Ideal S32x512 .f32) (W D : ℕ → Vec Ideal S1x512 .f32) (bi lg lb : Vec Ideal S1x512 .f32)
  (gt : FVec Ideal S512x512 .f32)

/-- The 31 taps of a block. -/
def taps : FVec Ideal S32x512 .f32 :=
  (step (step (step (step (step (step (step (step (step (step (step (step (step (step (step (step (step (step (step (step (step (step (step (step (step (step (step (step (step (step (step (base bi) (A 0) (W 0)) (A 1) (W 1)) (A 2) (W 2)) (A 3) (W 3)) (A 4) (W 4)) (A 5) (W 5)) (A 6) (W 6)) (A 7) (W 7)) (A 8) (W 8)) (A 9) (W 9)) (A 10) (W 10)) (A 11) (W 11)) (A 12) (W 12)) (A 13) (W 13)) (A 14) (W 14)) (A 15) (W 15)) (A 16) (W 16)) (A 17) (W 17)) (A 18) (W 18)) (A 19) (W 19)) (A 20) (W 20)) (A 21) (W 21)) (A 22) (W 22)) (A 23) (W 23)) (A 24) (W 24)) (A 25) (W 25)) (A 26) (W 26)) (A 27) (W 27)) (A 28) (W 28)) (A 29) (W 29)) (A 30) (W 30))

theorem taps_apply (r : Fin 32) (l : Fin 512) :
    taps A W bi (ix2 r l) = acc (bi (ix2 0 l)) (fun k => A k (ix2 r l) * W k (ix2 0 l)) 31 := by
  simp only [taps, step_apply, base_apply, acc]

/-- What the first mixer makes of a block. -/
def blockA : FVec Ideal S32x512 .bf16 := act (taps A W bi) lg lb

theorem blockA_apply (r : Fin 32) (l : Fin 512) : blockA A W bi lg lb (ix2 r l)
    = swish (hnorm (fun l => acc (bi (ix2 0 l)) (fun k => A k (ix2 r l) * W k (ix2 0 l)) 31) (fun l => lg (ix2 0 l)) (fun l => lb (ix2 0 l)) l) := by
  rw [blockA, act_apply]
  simp only [taps_apply]

/-- What the second mixer makes of the block whose rows start at `o`. -/
def blockB (o : ℕ) (ho : S512x512.Slices ![o, 0] S32x512) : FVec Ideal S32x512 .bf16 :=
  shapeCast S32x512 (truncf .bf16 (mulf (extractStridedSlice S32x512 ![o, 0] gt ho : FVec Ideal S32x512 .f32)
    (addf (addf (term (B 0) (D 0)) (term (B 1) (D 1))) (term (B 2) (D 2)))) bitsLt_bf16_f32 : FVec Ideal S32x512 .bf16) shapeCasts_S32x512_S32x512

theorem blockB_apply (o : ℕ) (ho) (h : o + 32 ≤ 512) (r : Fin 32) (l : Fin 512) : blockB B D gt o ho (ix2 r l)
    = gt (ix2 ⟨o + r.val, by have := r.isLt; omega⟩ l) * acc 0 (fun k => B k (ix2 r l) * D k (ix2 0 l)) 3 := by
  pointwise [blockB]
  simp only [term_apply, acc, zero_add]

theorem blockA0 : k0_pay23 (k0_pay19 lg) (k0_pay20 lb) (k0_pay21 (k0_pay17 (k0_pay15 (k0_pay13 (k0_pay11 (k0_pay9 bi (A 0) (W 0) (A 1) (W 1)) (k0_pay10 (A 2) (W 2)) (A 3) (W 3) (A 4) (W 4) (A 5) (W 5) (A 6) (W 6) (A 7) (W 7)) (k0_pay12 (A 8) (W 8)) (A 9) (W 9) (A 10) (W 10) (A 11) (W 11) (A 12) (W 12) (A 13) (W 13)) (k0_pay14 (A 14) (W 14)) (A 15) (W 15) (A 16) (W 16) (A 17) (W 17) (A 18) (W 18) (A 19) (W 19)) (k0_pay16 (A 20) (W 20)) (A 21) (W 21) (A 22) (W 22) (A 23) (W 23) (A 24) (W 24) (A 25) (W 25)) (k0_pay18 (A 26) (W 26)) (A 27) (W 27) (A 28) (W 28) (A 29) (W 29) (A 30) (W 30)) (k0_pay22 (k0_pay17 (k0_pay15 (k0_pay13 (k0_pay11 (k0_pay9 bi (A 0) (W 0) (A 1) (W 1)) (k0_pay10 (A 2) (W 2)) (A 3) (W 3) (A 4) (W 4) (A 5) (W 5) (A 6) (W 6) (A 7) (W 7)) (k0_pay12 (A 8) (W 8)) (A 9) (W 9) (A 10) (W 10) (A 11) (W 11) (A 12) (W 12) (A 13) (W 13)) (k0_pay14 (A 14) (W 14)) (A 15) (W 15) (A 16) (W 16) (A 17) (W 17) (A 18) (W 18) (A 19) (W 19)) (k0_pay16 (A 20) (W 20)) (A 21) (W 21) (A 22) (W 22) (A 23) (W 23) (A 24) (W 24) (A 25) (W 25)) (k0_pay18 (A 26) (W 26)) (A 27) (W 27) (A 28) (W 28) (A 29) (W 29) (A 30) (W 30)) = blockA A W bi lg lb := rfl
theorem blockB0 : k0_pay24 gt (B 0) (D 0) (B 1) (D 1) (B 2) (D 2) = blockB B D gt 0 slices_S512x512_o0_0_S32x512 := rfl
theorem blockA1 : k0_pay30 (k0_pay29 (k0_pay28 (k0_pay27 (k0_pay26 (k0_pay25 bi (A 0) (W 0) (A 1) (W 1) (A 2) (W 2) (A 3) (W 3) (A 4) (W 4)) (A 5) (W 5) (A 6) (W 6) (A 7) (W 7) (A 8) (W 8) (A 9) (W 9) (A 10) (W 10)) (A 11) (W 11) (A 12) (W 12) (A 13) (W 13) (A 14) (W 14) (A 15) (W 15) (A 16) (W 16)) (A 17) (W 17) (A 18) (W 18) (A 19) (W 19) (A 20) (W 20) (A 21) (W 21) (A 22) (W 22)) (A 23) (W 23) (A 24) (W 24) (A 25) (W 25) (A 26) (W 26) (A 27) (W 27) (A 28) (W 28)) (A 29) (W 29) (A 30) (W 30) lg lb = blockA A W bi lg lb := rfl
theorem blockB1 : k0_pay31 gt (B 0) (D 0) (B 1) (D 1) (B 2) (D 2) = blockB B D gt 32 slices_S512x512_o32_0_S32x512 := rfl
theorem blockA2 : k0_pay44 (k0_pay42 (k0_pay40 (k0_pay38 (k0_pay36 (k0_pay34 (k0_pay32 bi (A 0) (W 0)) (A 1) (k0_pay33 (W 1)) (A 2) (W 2) (A 3) (W 3) (A 4) (W 4) (A 5) (W 5) (A 6) (W 6)) (A 7) (k0_pay35 (W 7)) (A 8) (W 8) (A 9) (W 9) (A 10) (W 10) (A 11) (W 11) (A 12) (W 12)) (A 13) (k0_pay37 (W 13)) (A 14) (W 14) (A 15) (W 15) (A 16) (W 16) (A 17) (W 17) (A 18) (W 18)) (A 19) (k0_pay39 (W 19)) (A 20) (W 20) (A 21) (W 21) (A 22) (W 22) (A 23) (W 23) (A 24) (W 24)) (A 25) (k0_pay41 (W 25)) (A 26) (W 26) (A 27) (W 27) (A 28) (W 28) (A 29) (W 29) (A 30) (W 30)) (k0_pay43 lg) lb = blockA A W bi lg lb := rfl
theorem blockB2 : k0_pay46 gt (k0_pay45 (B 0) (D 0) (B 1) (D 1)) (B 2) (D 2) = blockB B D gt 64 slices_S512x512_o64_0_S32x512 := rfl
theorem blockA3 : k0_pay54 (k0_pay52 lb) (k0_pay53 (k0_pay51 (k0_pay50 (k0_pay49 (k0_pay48 (k0_pay47 bi (A 0) (W 0) (A 1) (W 1) (A 2) (W 2) (A 3) (W 3)) (A 4) (W 4) (A 5) (W 5) (A 6) (W 6) (A 7) (W 7) (A 8) (W 8) (A 9) (W 9)) (A 10) (W 10) (A 11) (W 11) (A 12) (W 12) (A 13) (W 13) (A 14) (W 14) (A 15) (W 15)) (A 16) (W 16) (A 17) (W 17) (A 18) (W 18) (A 19) (W 19) (A 20) (W 20) (A 21) (W 21)) (A 22) (W 22) (A 23) (W 23) (A 24) (W 24) (A 25) (W 25) (A 26) (W 26) (A 27) (W 27)) (A 28) (W 28) (A 29) (W 29) (A 30) (W 30) lg) = blockA A W bi lg lb := rfl
theorem blockB3 : k0_pay55 gt (B 0) (D 0) (B 1) (D 1) (B 2) (D 2) = blockB B D gt 96 slices_S512x512_o96_0_S32x512 := rfl
theorem blockA4 : k0_pay62 (k0_pay61 (k0_pay60 (k0_pay59 (k0_pay58 (k0_pay57 (k0_pay56 bi) (A 0) (W 0) (A 1) (W 1) (A 2) (W 2) (A 3) (W 3) (A 4) (W 4) (A 5) (W 5)) (A 6) (W 6) (A 7) (W 7) (A 8) (W 8) (A 9) (W 9) (A 10) (W 10) (A 11) (W 11)) (A 12) (W 12) (A 13) (W 13) (A 14) (W 14) (A 15) (W 15) (A 16) (W 16) (A 17) (W 17)) (A 18) (W 18) (A 19) (W 19) (A 20) (W 20) (A 21) (W 21) (A 22) (W 22) (A 23) (W 23)) (A 24) (W 24) (A 25) (W 25) (A 26) (W 26) (A 27) (W 27) (A 28) (W 28) (A 29) (W 29)) (A 30) (W 30) lg lb = blockA A W bi lg lb := rfl
theorem blockB4 : k0_pay64 gt (k0_pay63 (B 0) (D 0)) (B 1) (D 1) (B 2) (D 2) = blockB B D gt 128 slices_S512x512_o128_0_S32x512 := rfl
theorem blockA5 : k0_pay79 (k0_pay75 lg) (k0_pay76 lb) (k0_pay77 (k0_pay73 (k0_pay71 (k0_pay69 (k0_pay67 (k0_pay65 bi (A 0) (W 0) (A 1) (W 1)) (k0_pay66 (A 2) (W 2)) (A 3) (W 3) (A 4) (W 4) (A 5) (W 5) (A 6) (W 6) (A 7) (W 7)) (k0_pay68 (A 8) (W 8)) (A 9) (W 9) (A 10) (W 10) (A 11) (W 11) (A 12) (W 12) (A 13) (W 13)) (k0_pay70 (A 14) (W 14)) (A 15) (W 15) (A 16) (W 16) (A 17) (W 17) (A 18) (W 18) (A 19) (W 19)) (k0_pay72 (A 20) (W 20)) (A 21) (W 21) (A 22) (W 22) (A 23) (W 23) (A 24) (W 24) (A 25) (W 25)) (k0_pay74 (A 26) (W 26)) (A 27) (W 27) (A 28) (W 28) (A 29) (W 29) (A 30) (W 30)) (k0_pay78 (k0_pay73 (k0_pay71 (k0_pay69 (k0_pay67 (k0_pay65 bi (A 0) (W 0) (A 1) (W 1)) (k0_pay66 (A 2) (W 2)) (A 3) (W 3) (A 4) (W 4) (A 5) (W 5) (A 6) (W 6) (A 7) (W 7)) (k0_pay68 (A 8) (W 8)) (A 9) (W 9) (A 10) (W 10) (A 11) (W 11) (A 12) (W 12) (A 13) (W 13)) (k0_pay70 (A 14) (W 14)) (A 15) (W 15) (A 16) (W 16) (A 17) (W 17) (A 18) (W 18) (A 19) (W 19)) (k0_pay72 (A 20) (W 20)) (A 21) (W 21) (A 22) (W 22) (A 23) (W 23) (A 24) (W 24) (A 25) (W 25)) (k0_pay74 (A 26) (W 26)) (A 27) (W 27) (A 28) (W 28) (A 29) (W 29) (A 30) (W 30)) = blockA A W bi lg lb := rfl
theorem blockB5 : k0_pay80 gt (B 0) (D 0) (B 1) (D 1) (B 2) (D 2) = blockB B D gt 160 slices_S512x512_o160_0_S32x512 := rfl
theorem blockA6 : k0_pay86 (k0_pay85 (k0_pay84 (k0_pay83 (k0_pay82 (k0_pay81 bi (A 0) (W 0) (A 1) (W 1) (A 2) (W 2) (A 3) (W 3) (A 4) (W 4)) (A 5) (W 5) (A 6) (W 6) (A 7) (W 7) (A 8) (W 8) (A 9) (W 9) (A 10) (W 10)) (A 11) (W 11) (A 12) (W 12) (A 13) (W 13) (A 14) (W 14) (A 15) (W 15) (A 16) (W 16)) (A 17) (W 17) (A 18) (W 18) (A 19) (W 19) (A 20) (W 20) (A 21) (W 21) (A 22) (W 22)) (A 23) (W 23) (A 24) (W 24) (A 25) (W 25) (A 26) (W 26) (A 27) (W 27) (A 28) (W 28)) (A 29) (W 29) (A 30) (W 30) lg lb = blockA A W bi lg lb := rfl
theorem blockB6 : k0_pay87 gt (B 0) (D 0) (B 1) (D 1) (B 2) (D 2) = blockB B D gt 192 slices_S512x512_o192_0_S32x512 := rfl
theorem blockA7 : k0_pay100 (k0_pay98 (k0_pay96 (k0_pay94 (k0_pay92 (k0_pay90 (k0_pay88 bi (A 0) (W 0)) (A 1) (k0_pay89 (W 1)) (A 2) (W 2) (A 3) (W 3) (A 4) (W 4) (A 5) (W 5) (A 6) (W 6)) (A 7) (k0_pay91 (W 7)) (A 8) (W 8) (A 9) (W 9) (A 10) (W 10) (A 11) (W 11) (A 12) (W 12)) (A 13) (k0_pay93 (W 13)) (A 14) (W 14) (A 15) (W 15) (A 16) (W 16) (A 17) (W 17) (A 18) (W 18)) (A 19) (k0_pay95 (W 19)) (A 20) (W 20) (A 21) (W 21) (A 22) (W 22) (A 23) (W 23) (A 24) (W 24)) (A 25) (k0_pay97 (W 25)) (A 26) (W 26) (A 27) (W 27) (A 28) (W 28) (A 29) (W 29) (A 30) (W 30)) (k0_pay99 lg) lb = blockA A W bi lg lb := rfl
theorem blockB7 : k0_pay102 gt (k0_pay101 (B 0) (D 0) (B 1) (D 1)) (B 2) (D 2) = blockB B D gt 224 slices_S512x512_o224_0_S32x512 := rfl
theorem blockA8 : k0_pay110 (k0_pay108 lb) (k0_pay109 (k0_pay107 (k0_pay106 (k0_pay105 (k0_pay104 (k0_pay103 bi (A 0) (W 0) (A 1) (W 1) (A 2) (W 2) (A 3) (W 3)) (A 4) (W 4) (A 5) (W 5) (A 6) (W 6) (A 7) (W 7) (A 8) (W 8) (A 9) (W 9)) (A 10) (W 10) (A 11) (W 11) (A 12) (W 12) (A 13) (W 13) (A 14) (W 14) (A 15) (W 15)) (A 16) (W 16) (A 17) (W 17) (A 18) (W 18) (A 19) (W 19) (A 20) (W 20) (A 21) (W 21)) (A 22) (W 22) (A 23) (W 23) (A 24) (W 24) (A 25) (W 25) (A 26) (W 26) (A 27) (W 27)) (A 28) (W 28) (A 29) (W 29) (A 30) (W 30) lg) = blockA A W bi lg lb := rfl
theorem blockB8 : k0_pay111 gt (B 0) (D 0) (B 1) (D 1) (B 2) (D 2) = blockB B D gt 256 slices_S512x512_o256_0_S32x512 := rfl
theorem blockA9 : k0_pay118 (k0_pay117 (k0_pay116 (k0_pay115 (k0_pay114 (k0_pay113 (k0_pay112 bi) (A 0) (W 0) (A 1) (W 1) (A 2) (W 2) (A 3) (W 3) (A 4) (W 4) (A 5) (W 5)) (A 6) (W 6) (A 7) (W 7) (A 8) (W 8) (A 9) (W 9) (A 10) (W 10) (A 11) (W 11)) (A 12) (W 12) (A 13) (W 13) (A 14) (W 14) (A 15) (W 15) (A 16) (W 16) (A 17) (W 17)) (A 18) (W 18) (A 19) (W 19) (A 20) (W 20) (A 21) (W 21) (A 22) (W 22) (A 23) (W 23)) (A 24) (W 24) (A 25) (W 25) (A 26) (W 26) (A 27) (W 27) (A 28) (W 28) (A 29) (W 29)) (A 30) (W 30) lg lb = blockA A W bi lg lb := rfl
theorem blockB9 : k0_pay120 gt (k0_pay119 (B 0) (D 0)) (B 1) (D 1) (B 2) (D 2) = blockB B D gt 288 slices_S512x512_o288_0_S32x512 := rfl
theorem blockA10 : k0_pay135 (k0_pay131 lg) (k0_pay132 lb) (k0_pay133 (k0_pay129 (k0_pay127 (k0_pay125 (k0_pay123 (k0_pay121 bi (A 0) (W 0) (A 1) (W 1)) (k0_pay122 (A 2) (W 2)) (A 3) (W 3) (A 4) (W 4) (A 5) (W 5) (A 6) (W 6) (A 7) (W 7)) (k0_pay124 (A 8) (W 8)) (A 9) (W 9) (A 10) (W 10) (A 11) (W 11) (A 12) (W 12) (A 13) (W 13)) (k0_pay126 (A 14) (W 14)) (A 15) (W 15) (A 16) (W 16) (A 17) (W 17) (A 18) (W 18) (A 19) (W 19)) (k0_pay128 (A 20) (W 20)) (A 21) (W 21) (A 22) (W 22) (A 23) (W 23) (A 24) (W 24) (A 25) (W 25)) (k0_pay130 (A 26) (W 26)) (A 27) (W 27) (A 28) (W 28) (A 29) (W 29) (A 30) (W 30)) (k0_pay134 (k0_pay129 (k0_pay127 (k0_pay125 (k0_pay123 (k0_pay121 bi (A 0) (W 0) (A 1) (W 1)) (k0_pay122 (A 2) (W 2)) (A 3) (W 3) (A 4) (W 4) (A 5) (W 5) (A 6) (W 6) (A 7) (W 7)) (k0_pay124 (A 8) (W 8)) (A 9) (W 9) (A 10) (W 10) (A 11) (W 11) (A 12) (W 12) (A 13) (W 13)) (k0_pay126 (A 14) (W 14)) (A 15) (W 15) (A 16) (W 16) (A 17) (W 17) (A 18) (W 18) (A 19) (W 19)) (k0_pay128 (A 20) (W 20)) (A 21) (W 21) (A 22) (W 22) (A 23) (W 23) (A 24) (W 24) (A 25) (W 25)) (k0_pay130 (A 26) (W 26)) (A 27) (W 27) (A 28) (W 28) (A 29) (W 29) (A 30) (W 30)) = blockA A W bi lg lb := rfl
theorem blockB10 : k0_pay136 gt (B 0) (D 0) (B 1) (D 1) (B 2) (D 2) = blockB B D gt 320 slices_S512x512_o320_0_S32x512 := rfl
theorem blockA11 : k0_pay142 (k0_pay141 (k0_pay140 (k0_pay139 (k0_pay138 (k0_pay137 bi (A 0) (W 0) (A 1) (W 1) (A 2) (W 2) (A 3) (W 3) (A 4) (W 4)) (A 5) (W 5) (A 6) (W 6) (A 7) (W 7) (A 8) (W 8) (A 9) (W 9) (A 10) (W 10)) (A 11) (W 11) (A 12) (W 12) (A 13) (W 13) (A 14) (W 14) (A 15) (W 15) (A 16) (W 16)) (A 17) (W 17) (A 18) (W 18) (A 19) (W 19) (A 20) (W 20) (A 21) (W 21) (A 22) (W 22)) (A 23) (W 23) (A 24) (W 24) (A 25) (W 25) (A 26) (W 26) (A 27) (W 27) (A 28) (W 28)) (A 29) (W 29) (A 30) (W 30) lg lb = blockA A W bi lg lb := rfl
theorem blockB11 : k0_pay143 gt (B 0) (D 0) (B 1) (D 1) (B 2) (D 2) = blockB B D gt 352 slices_S512x512_o352_0_S32x512 := rfl
theorem blockA12 : k0_pay156 (k0_pay154 (k0_pay152 (k0_pay150 (k0_pay148 (k0_pay146 (k0_pay144 bi (A 0) (W 0)) (A 1) (k0_pay145 (W 1)) (A 2) (W 2) (A 3) (W 3) (A 4) (W 4) (A 5) (W 5) (A 6) (W 6)) (A 7) (k0_pay147 (W 7)) (A 8) (W 8) (A 9) (W 9) (A 10) (W 10) (A 11) (W 11) (A 12) (W 12)) (A 13) (k0_pay149 (W 13)) (A 14) (W 14) (A 15) (W 15) (A 16) (W 16) (A 17) (W 17) (A 18) (W 18)) (A 19) (k0_pay151 (W 19)) (A 20) (W 20) (A 21) (W 21) (A 22) (W 22) (A 23) (W 23) (A 24) (W 24)) (A 25) (k0_pay153 (W 25)) (A 26) (W 26) (A 27) (W 27) (A 28) (W 28) (A 29) (W 29) (A 30) (W 30)) (k0_pay155 lg) lb = blockA A W bi lg lb := rfl
theorem blockB12 : k0_pay158 gt (k0_pay157 (B 0) (D 0) (B 1) (D 1)) (B 2) (D 2) = blockB B D gt 384 slices_S512x512_o384_0_S32x512 := rfl
theorem blockA13 : k0_pay166 (k0_pay164 lb) (k0_pay165 (k0_pay163 (k0_pay162 (k0_pay161 (k0_pay160 (k0_pay159 bi (A 0) (W 0) (A 1) (W 1) (A 2) (W 2) (A 3) (W 3)) (A 4) (W 4) (A 5) (W 5) (A 6) (W 6) (A 7) (W 7) (A 8) (W 8) (A 9) (W 9)) (A 10) (W 10) (A 11) (W 11) (A 12) (W 12) (A 13) (W 13) (A 14) (W 14) (A 15) (W 15)) (A 16) (W 16) (A 17) (W 17) (A 18) (W 18) (A 19) (W 19) (A 20) (W 20) (A 21) (W 21)) (A 22) (W 22) (A 23) (W 23) (A 24) (W 24) (A 25) (W 25) (A 26) (W 26) (A 27) (W 27)) (A 28) (W 28) (A 29) (W 29) (A 30) (W 30) lg) = blockA A W bi lg lb := rfl
theorem blockB13 : k0_pay167 gt (B 0) (D 0) (B 1) (D 1) (B 2) (D 2) = blockB B D gt 416 slices_S512x512_o416_0_S32x512 := rfl
theorem blockA14 : k0_pay174 (k0_pay173 (k0_pay172 (k0_pay171 (k0_pay170 (k0_pay169 (k0_pay168 bi) (A 0) (W 0) (A 1) (W 1) (A 2) (W 2) (A 3) (W 3) (A 4) (W 4) (A 5) (W 5)) (A 6) (W 6) (A 7) (W 7) (A 8) (W 8) (A 9) (W 9) (A 10) (W 10) (A 11) (W 11)) (A 12) (W 12) (A 13) (W 13) (A 14) (W 14) (A 15) (W 15) (A 16) (W 16) (A 17) (W 17)) (A 18) (W 18) (A 19) (W 19) (A 20) (W 20) (A 21) (W 21) (A 22) (W 22) (A 23) (W 23)) (A 24) (W 24) (A 25) (W 25) (A 26) (W 26) (A 27) (W 27) (A 28) (W 28) (A 29) (W 29)) (A 30) (W 30) lg lb = blockA A W bi lg lb := rfl
theorem blockB14 : k0_pay176 gt (k0_pay175 (B 0) (D 0)) (B 1) (D 1) (B 2) (D 2) = blockB B D gt 448 slices_S512x512_o448_0_S32x512 := rfl
theorem blockA15 : k0_pay191 (k0_pay187 lg) (k0_pay188 lb) (k0_pay189 (k0_pay185 (k0_pay183 (k0_pay181 (k0_pay179 (k0_pay177 bi (A 0) (W 0) (A 1) (W 1)) (k0_pay178 (A 2) (W 2)) (A 3) (W 3) (A 4) (W 4) (A 5) (W 5) (A 6) (W 6) (A 7) (W 7)) (k0_pay180 (A 8) (W 8)) (A 9) (W 9) (A 10) (W 10) (A 11) (W 11) (A 12) (W 12) (A 13) (W 13)) (k0_pay182 (A 14) (W 14)) (A 15) (W 15) (A 16) (W 16) (A 17) (W 17) (A 18) (W 18) (A 19) (W 19)) (k0_pay184 (A 20) (W 20)) (A 21) (W 21) (A 22) (W 22) (A 23) (W 23) (A 24) (W 24) (A 25) (W 25)) (k0_pay186 (A 26) (W 26)) (A 27) (W 27) (A 28) (W 28) (A 29) (W 29) (A 30) (W 30)) (k0_pay190 (k0_pay185 (k0_pay183 (k0_pay181 (k0_pay179 (k0_pay177 bi (A 0) (W 0) (A 1) (W 1)) (k0_pay178 (A 2) (W 2)) (A 3) (W 3) (A 4) (W 4) (A 5) (W 5) (A 6) (W 6) (A 7) (W 7)) (k0_pay180 (A 8) (W 8)) (A 9) (W 9) (A 10) (W 10) (A 11) (W 11) (A 12) (W 12) (A 13) (W 13)) (k0_pay182 (A 14) (W 14)) (A 15) (W 15) (A 16) (W 16) (A 17) (W 17) (A 18) (W 18) (A 19) (W 19)) (k0_pay184 (A 20) (W 20)) (A 21) (W 21) (A 22) (W 22) (A 23) (W 23) (A 24) (W 24) (A 25) (W 25)) (k0_pay186 (A 26) (W 26)) (A 27) (W 27) (A 28) (W 28) (A 29) (W 29) (A 30) (W 30)) = blockA A W bi lg lb := rfl
theorem blockB15 : k0_pay192 gt (B 0) (D 0) (B 1) (D 1) (B 2) (D 2) = blockB B D gt 480 slices_S512x512_o480_0_S32x512 := rfl

end Block

end Cert.Conv

end
-- ==== Proof.Conv.Bands.lean ====
/- What the convolution mixers' body leaves in the buffers it works in, for a block of 512 rows: the normed rows, the rows each
   convolution reads with what comes before them, and the mixers' columns. -/
module

public import proofs.«01_k».proof.Proof.Bands
public import proofs.«01_k».proof.Proof.Spatial.Buffers
public import proofs.«01_k».proof.Proof.Conv.Forms

@[expose] public section

noncomputable section

namespace Cert.Conv

open Cert.Kernel4Ideal Cert.Kernel4Ideal.Gen Idealize.ShloMosaic Idealize.ShloMosaic.TcCoe Idealize.SL.Sem
open Idealize.ShloMosaic.Pointwise Cert.Rows Cert.Bands
open Cert.Spatial (holds_cons holds_nil hz)

/-! ### Reads of a buffer -/

section Reads

variable {sig : RefSig} {κ : Kind} {sp : Space} {s : Shape} {e : EltTy} {Val : EltTy → Type} [∀ e, Nonempty (Val e)]
  (v : View sig κ sp s e) (G : s.Idx → Val e)

/-- Where the stores cover what a load reads, it reads the function. -/
theorem read_some (R : Rect s) (L : List (View.Piece Val s e)) (h : Holds G L) (hc : ∀ x, ∃ p ∈ L, R.emb x ∈ p.1.set) :
    v.readCov L R.toLoadRect = View.ld G R := by
  rw [View.readCov_eq_canon']
  exact funext fun x => View.canon_apply_of_pieces G L h _ (hc x)

/-- A store of the function's values over contents that are the function's elsewhere. -/
theorem read_over (R : Rect s) (w : R.shape.Idx → Val e) (f : v.ty.Contents Val) (hw : ∀ x, w x = G (R.emb x))
    (hf : ∀ y, y ∉ R.set → v.read Val f y = G y) : v.read Val (v.writes Val f [⟨R, w⟩]) = G := by
  funext y
  by_cases hy : y ∈ R.set
  · obtain ⟨x, rfl⟩ : ∃ x, R.emb x = y := R.exists_idx_of_mem hy
    rw [View.read_writes_cons_emb]
    exact hw x
  · have hy' : y ∉ Finset.univ.map R.emb := by rwa [Rect.map_emb_univ]
    rw [View.writes_cons, View.read_slice_write_of_not_mem R _ _ _ hy', View.writes_nil]
    exact hf y hy

end Reads

/-! ### The functions -/

/-- A matrix's row at a number, and zero past its last. -/
def rowsOf {n : ℕ} (X : (⟨2, ![n, 512]⟩ : Shape).Idx → EReal) (q : ℕ) (l : Fin 512) : EReal := if h : q < n then X (ix2 ⟨q, h⟩ l) else 0

theorem rowsOf_lt {n : ℕ} (X : (⟨2, ![n, 512]⟩ : Shape).Idx → EReal) (q : ℕ) (h : q < n) (l : Fin 512) : rowsOf X q l = X (ix2 ⟨q, h⟩ l) := dif_pos h

/-- The rows of a buffer, numbered. -/
def vecA (u : ℕ → Fin 512 → EReal) : Vec Ideal S544x512 .f32 := fun i => u (i 0).val (i 1)
def vecB (u : ℕ → Fin 512 → EReal) : Vec Ideal S520x512 .f32 := fun i => u (i 0).val (i 1)

/-- Thirty-two rows of them. -/
def band (u : ℕ → Fin 512 → EReal) (n : ℕ) : Vec Ideal S32x512 .f32 := fun i => u (n + (i 0).val) (i 1)

/-- A row of a filter. -/
def wrow {n : ℕ} (w : Fin n → Fin 512 → EReal) (k : ℕ) : Vec Ideal S1x512 .f32 := fun i => tap w k (i 1)

theorem ld_bandA (u : ℕ → Fin 512 → EReal) (n : ℕ) (h : ∀ a, (![n, 0] : Fin 2 → ℕ) a + S32x512.size a ≤ S544x512.size a) :
    View.ld (vecA u) (Rect.unit (s := S544x512) ![n, 0] S32x512.size h) = band u n := by
  funext i
  obtain ⟨r, l, rfl⟩ : ∃ (r : Fin 32) (l : Fin 512), i = ix2 r l := ⟨i 0, i 1, eq_ix2 i⟩
  exact (ld_apply n 0 h r l (h 0) (by decide) (vecA u)).trans (congrArg (u (n + r.val)) (Fin.ext (Nat.zero_add _)))

theorem ld_bandB (u : ℕ → Fin 512 → EReal) (n : ℕ) (h : ∀ a, (![n, 0] : Fin 2 → ℕ) a + S32x512.size a ≤ S520x512.size a) :
    View.ld (vecB u) (Rect.unit (s := S520x512) ![n, 0] S32x512.size h) = band u n := by
  funext i
  obtain ⟨r, l, rfl⟩ : ∃ (r : Fin 32) (l : Fin 512), i = ix2 r l := ⟨i 0, i 1, eq_ix2 i⟩
  exact (ld_apply n 0 h r l (h 0) (by decide) (vecB u)).trans (congrArg (u (n + r.val)) (Fin.ext (Nat.zero_add _)))

theorem ld_wrow31 (w : Vec Ideal S31x512 .f32) (k : ℕ) (h : ∀ a, (![k, 0] : Fin 2 → ℕ) a + S1x512.size a ≤ S31x512.size a) :
    View.ld w (Rect.unit (s := S31x512) ![k, 0] S1x512.size h) = wrow (fun k l => w (ix2 k l)) k := by
  funext i
  obtain ⟨r, l, rfl⟩ : ∃ (r : Fin 1) (l : Fin 512), i = ix2 r l := ⟨i 0, i 1, eq_ix2 i⟩
  have hk : k < 31 := h 0
  have hr : r.val = 0 := by have := r.isLt; omega
  refine (ld_apply k 0 h r l (h 0) (by decide) w).trans ?_
  refine Eq.trans ?_ (tap_val (fun k l => w (ix2 k l)) ⟨k, hk⟩ l).symm
  exact congrArg w (congr (congrArg ix2 (Fin.ext (by show k + r.val = k; omega))) (Fin.ext (Nat.zero_add _)))

theorem ld_wrow3 (w : Vec Ideal S3x512 .f32) (k : ℕ) (h : ∀ a, (![k, 0] : Fin 2 → ℕ) a + S1x512.size a ≤ S3x512.size a) :
    View.ld w (Rect.unit (s := S3x512) ![k, 0] S1x512.size h) = wrow (fun k l => w (ix2 k l)) k := by
  funext i
  obtain ⟨r, l, rfl⟩ : ∃ (r : Fin 1) (l : Fin 512), i = ix2 r l := ⟨i 0, i 1, eq_ix2 i⟩
  have hk : k < 3 := h 0
  have hr : r.val = 0 := by have := r.isLt; omega
  refine (ld_apply k 0 h r l (h 0) (by decide) w).trans ?_
  refine Eq.trans ?_ (tap_val (fun k l => w (ix2 k l)) ⟨k, hk⟩ l).symm
  exact congrArg w (congr (congrArg ix2 (Fin.ext (by show k + r.val = k; omega))) (Fin.ext (Nat.zero_add _)))

section Rows

variable (x0 : Vec Ideal S1x512x1024 .f32) (x1 : Vec Ideal S1x1024 .f32) (x2 : Vec Ideal S1024x2560 .bf16) (x3 : Vec Ideal S31x512 .f32)
  (x4 x5 x6 : Vec Ideal S1x512 .f32) (x7 : Vec Ideal S3x512 .f32)

/-- A normed row. -/
def nrow (r : Fin 512) : Fin 1024 → EReal := rms (fun k => x0 (ix3 0 r k)) (fun k => x1 (ix2 0 k))

/-- The normed rows. -/
def normed : Vec Ideal S512x1024 .bf16 := fun i => nrow x0 x1 (i 0) (i 1)

/-- What the convolutions read of the block's rows, and the gate. -/
def glus : Vec Ideal S512x512 .f32 := fun i => glu (nrow x0 x1 (i 0)) (fun k f => x2 (ix2 k f)) (i 1)
def duos : Vec Ideal S512x512 .f32 := fun i => duo (nrow x0 x1 (i 0)) (fun k f => x2 (ix2 k f)) (i 1)
def gates : FVec Ideal S512x512 .f32 := fun i => proj (nrow x0 x1 (i 0)) (fun k f => x2 (ix2 k f)) 1024 (by decide) (i 1)

/-- The rows each convolution reads: some from before the block, then the block's. -/
def seqA (h : Vec Ideal S544x512 .f32) (q : ℕ) (l : Fin 512) : EReal := if q < 32 then rowsOf h q l else rowsOf (glus x0 x1 x2) (q - 32) l
def seqB (h : Vec Ideal S520x512 .f32) (q : ℕ) (l : Fin 512) : EReal := if q < 8 then rowsOf h q l else rowsOf (duos x0 x1 x2) (q - 8) l

/-- The first mixer's columns of a row, and the second's. -/
def colA (u : ℕ → Fin 512 → EReal) (r : Fin 512) : Fin 512 → EReal := fun l =>
  swish (hnorm (fun l => acc (x4 (ix2 0 l)) (fun k => u (k + (r.val + 2)) l * tap (fun k l => x3 (ix2 k l)) k l) 31)
    (fun l => x5 (ix2 0 l)) (fun l => x6 (ix2 0 l)) l)
def colB (v : ℕ → Fin 512 → EReal) (r l : Fin 512) : EReal :=
  gates x0 x1 x2 (ix2 r l) * acc 0 (fun k => v (k + (r.val + 6)) l * tap (fun k l => x7 (ix2 k l)) k l) 3

/-- The mixers' columns. -/
def mixes (u v : ℕ → Fin 512 → EReal) : Vec Ideal S512x1024 .bf16 := fun i =>
  if h : (i 1).val < 512 then colA x3 x4 x5 x6 u (i 0) ⟨(i 1).val, h⟩
  else colB x0 x1 x2 x7 v (i 0) ⟨(i 1).val - 512, by have : (i 1).val < 1024 := (i 1).isLt; omega⟩

/-- What the first mixer makes of 32 rows, where it is stored. -/
theorem bandA (u v : ℕ → Fin 512 → EReal) (o : ℕ) (h : ∀ a, (![o, 0] : Fin 2 → ℕ) a + S32x512.size a ≤ S512x1024.size a) (i : S32x512.Idx) :
    blockA (fun k => band u (o + 2 + k)) (wrow (fun k l => x3 (ix2 k l))) x4 x5 x6 i
      = mixes x0 x1 x2 x3 x4 x5 x6 x7 u v ((Rect.unit (s := S512x1024) ![o, 0] S32x512.size h).emb i) := by
  obtain ⟨r, l, rfl⟩ : ∃ (r : Fin 32) (l : Fin 512), i = ix2 r l := ⟨i 0, i 1, eq_ix2 i⟩
  have hl := l.isLt
  rw [blockA_apply, emb_apply o 0 h r l (h 0) (by decide)]
  refine Eq.trans ?_ (dif_pos (show 0 + l.val < 512 by omega)).symm
  have el : (⟨0 + l.val, by omega⟩ : Fin 512) = l := Fin.ext (Nat.zero_add _)
  refine Eq.trans ?_ (congrArg (colA x3 x4 x5 x6 u _) el.symm)
  unfold colA
  refine congrArg swish ?_
  refine congrFun (congrFun (congrFun (congrArg hnorm (funext fun l => congrFun (congrArg (acc _) (funext fun k => ?_)) 31)) _) _) _
  have e : o + 2 + k + r.val = k + (o + r.val + 2) := by omega
  exact congrArg (fun q => u q l * tap (fun k l => x3 (ix2 k l)) k l) e

/-- What the second mixer makes of 32 rows, where it is stored. -/
theorem bandB (u v : ℕ → Fin 512 → EReal) (o : ℕ) (ho) (h : ∀ a, (![o, 512] : Fin 2 → ℕ) a + S32x512.size a ≤ S512x1024.size a) (i : S32x512.Idx) :
    blockB (fun k => band v (o + 6 + k)) (wrow (fun k l => x7 (ix2 k l))) (gates x0 x1 x2) o ho i
      = mixes x0 x1 x2 x3 x4 x5 x6 x7 u v ((Rect.unit (s := S512x1024) ![o, 512] S32x512.size h).emb i) := by
  obtain ⟨r, l, rfl⟩ : ∃ (r : Fin 32) (l : Fin 512), i = ix2 r l := ⟨i 0, i 1, eq_ix2 i⟩
  have hl := l.isLt
  rw [blockB_apply _ _ _ o _ (h 0), emb_apply o 512 h r l (h 0) (by decide)]
  refine Eq.trans ?_ (dif_neg (show ¬ 512 + l.val < 512 by omega)).symm
  have el : (⟨512 + l.val - 512, by omega⟩ : Fin 512) = l := Fin.ext (Nat.add_sub_cancel_left ..)
  refine Eq.trans ?_ (congrArg (colB x0 x1 x2 x7 v _) el.symm)
  unfold colB
  refine congrArg (_ * ·) (congrFun (congrArg (acc 0) (funext fun k => ?_)) 3)
  have e : o + 6 + k + r.val = k + (o + r.val + 6) := by omega
  exact congrArg (fun q => v q l * tap (fun k l => x7 (ix2 k l)) k l) e

/-- The rows the first convolution reads, where they are stored. -/
theorem glus_band (hh : Vec Ideal S544x512 .f32) (h2) (h : ∀ a, (![32, 0] : Fin 2 → ℕ) a + S512x512.size a ≤ S544x512.size a) (i : S512x512.Idx) :
    k0_pay6 (normed x0 x1) (View.ld x2 (Rect.unit (s := S1024x2560) ![0, 0] S1024x1024.size h2)) i
      = vecA (seqA x0 x1 x2 hh) ((Rect.unit (s := S544x512) ![32, 0] S512x512.size h).emb i) := by
  obtain ⟨r, l, rfl⟩ : ∃ (r : Fin 512) (l : Fin 512), i = ix2 r l := ⟨i 0, i 1, eq_ix2 i⟩
  have hl := l.isLt
  have hr := r.isLt
  rw [glu_apply, emb_apply 32 0 h r l (by omega) (by decide)]
  have e : vecA (seqA x0 x1 x2 hh) (ix2 ⟨32 + r.val, by omega⟩ ⟨0 + l.val, by omega⟩) = glu (nrow x0 x1 r) (fun k f => x2 (ix2 k f)) l := by
    have el : (⟨0 + l.val, by omega⟩ : Fin 512) = l := Fin.ext (Nat.zero_add _)
    rw [el]
    show seqA x0 x1 x2 hh (32 + r.val) l = _
    unfold seqA
    rw [if_neg (by omega), rowsOf_lt _ _ (by omega)]
    exact congrArg (fun r => glu (nrow x0 x1 r) (fun k f => x2 (ix2 k f)) l) (Fin.ext (Nat.add_sub_cancel_left ..))
  rw [e]
  unfold glu proj
  refine congr (congrArg HMul.hMul (Finset.sum_congr rfl fun k _ => ?_)) (congrArg Ideal.logistic (Finset.sum_congr rfl fun k _ => ?_))
  · exact congrArg (_ * ·) ((ld_apply 0 0 h2 k ⟨l.val, by omega⟩ (by decide) (by decide) x2).trans
      (congrArg x2 (congrFun (congrArg ix2 (Fin.ext (Nat.zero_add _))) _)))
  · exact congrArg (_ * ·) ((ld_apply 0 0 h2 k ⟨512 + l.val, by omega⟩ (by decide) (by decide) x2).trans
      (congrArg x2 (congr (congrArg ix2 (Fin.ext (Nat.zero_add _))) (Fin.ext (Nat.zero_add _)))))

/-- The rows the second convolution reads, where they are stored. -/
theorem duos_band (hh : Vec Ideal S520x512 .f32) (h2) (h : ∀ a, (![8, 0] : Fin 2 → ℕ) a + S512x512.size a ≤ S520x512.size a) (i : S512x512.Idx) :
    k0_pay7 (normed x0 x1) (View.ld x2 (Rect.unit (s := S1024x2560) ![0, 1536] S1024x1024.size h2)) i
      = vecB (seqB x0 x1 x2 hh) ((Rect.unit (s := S520x512) ![8, 0] S512x512.size h).emb i) := by
  obtain ⟨r, l, rfl⟩ : ∃ (r : Fin 512) (l : Fin 512), i = ix2 r l := ⟨i 0, i 1, eq_ix2 i⟩
  have hl := l.isLt
  have hr := r.isLt
  rw [duo_apply, emb_apply 8 0 h r l (by omega) (by decide)]
  have e : vecB (seqB x0 x1 x2 hh) (ix2 ⟨8 + r.val, by omega⟩ ⟨0 + l.val, by omega⟩) = duo (nrow x0 x1 r) (fun k f => x2 (ix2 k f)) l := by
    have el : (⟨0 + l.val, by omega⟩ : Fin 512) = l := Fin.ext (Nat.zero_add _)
    rw [el]
    show seqB x0 x1 x2 hh (8 + r.val) l = _
    unfold seqB
    rw [if_neg (by omega), rowsOf_lt _ _ (by omega)]
    exact congrArg (fun r => duo (nrow x0 x1 r) (fun k f => x2 (ix2 k f)) l) (Fin.ext (Nat.add_sub_cancel_left ..))
  rw [e]
  unfold duo proj
  refine congr (congrArg HMul.hMul (Finset.sum_congr rfl fun k _ => ?_)) (Finset.sum_congr rfl fun k _ => ?_)
  · exact congrArg (_ * ·) ((ld_apply 0 1536 h2 k ⟨l.val, by omega⟩ (by decide) (by decide) x2).trans
      (congrArg x2 (congrFun (congrArg ix2 (Fin.ext (Nat.zero_add _))) _)))
  · exact congrArg (_ * ·) ((ld_apply 0 1536 h2 k ⟨512 + l.val, by omega⟩ (by decide) (by decide) x2).trans
      (congrArg x2 (congr (congrArg ix2 (Fin.ext (Nat.zero_add _))) (Fin.ext (by show 1536 + (512 + l.val) = 2048 + l.val; omega)))))

/-- The gate. -/
theorem gates_eq (h2) : k0_pay8 (normed x0 x1) (View.ld x2 (Rect.unit (s := S1024x2560) ![0, 1024] S1024x512.size h2)) = gates x0 x1 x2 := by
  funext i
  obtain ⟨r, l, rfl⟩ : ∃ (r : Fin 512) (l : Fin 512), i = ix2 r l := ⟨i 0, i 1, eq_ix2 i⟩
  rw [gate_apply]
  exact Finset.sum_congr rfl fun k _ => congrArg (_ * ·) ((ld_apply 0 1024 h2 k l (by decide) (by decide) x2).trans
      (congrArg x2 (congrFun (congrArg ix2 (Fin.ext (Nat.zero_add _))) _)))

theorem normed_eq : k0_pay5 x0 x1 = normed x0 x1 := by
  funext i
  obtain ⟨r, l, rfl⟩ : ∃ (r : Fin 512) (l : Fin 1024), i = ix2 r l := ⟨i 0, i 1, eq_ix2 i⟩
  exact normed_apply x0 x1 r l

end Rows

end Cert.Conv

end
-- ==== Proof.Conv.BuffersA.lean ====
/- What the convolution mixers' body leaves in the buffers it works in on a sequence's first block of 512 rows. -/
module

public import proofs.«01_k».proof.Proof.Conv.Bands

@[expose] public section

noncomputable section

namespace Cert.Conv

open Cert.Kernel4Ideal Cert.Kernel4Ideal.Gen Idealize.ShloMosaic Idealize.ShloMosaic.TcCoe Idealize.SL.Sem
open Idealize.ShloMosaic.Pointwise Cert.Rows Cert.Bands
open Cert.Spatial (holds_cons holds_nil hz)

theorem hz3 : (![0, 0, 0] : Fin 3 → Nat) = fun _ => 0 := by funext a; fin_cases a <;> rfl

/-! ### Loads of the input blocks -/

section Loads

variable (arg5 : Memref sig .tc .vmem S31x512 .f32) (harg5 : arg5.IsWhole) (arg9 : Memref sig .tc .vmem S3x512 .f32) (harg9 : arg9.IsWhole)
  (m : Memref sig .tc .vmem S1x512 .f32) (hm : m.IsWhole) (x3 : Vec Ideal S31x512 .f32) (x7 : Vec Ideal S3x512 .f32) (x : Vec Ideal S1x512 .f32)

theorem read_w31 (k : ℕ) (h : ∀ a, (![k, 0] : Fin 2 → ℕ) a + (![1, 512] : Fin 2 → ℕ) a ≤ S31x512.size a) :
    View.readAt (Elt Ideal) arg5.view (Rect.unit (s := S31x512) ![k, 0] ![1, 512] h).toLoadRect (harg5.unread x3) = wrow (fun k l => x3 (ix2 k l)) k := by
  rw [View.readAt_eq_ld, harg5.read_unread]
  exact ld_wrow31 x3 k h

theorem read_w3 (k : ℕ) (h : ∀ a, (![k, 0] : Fin 2 → ℕ) a + (![1, 512] : Fin 2 → ℕ) a ≤ S3x512.size a) :
    View.readAt (Elt Ideal) arg9.view (Rect.unit (s := S3x512) ![k, 0] ![1, 512] h).toLoadRect (harg9.unread x7) = wrow (fun k l => x7 (ix2 k l)) k := by
  rw [View.readAt_eq_ld, harg9.read_unread]
  exact ld_wrow3 x7 k h

theorem read_row (h : ∀ a, (![0, 0] : Fin 2 → ℕ) a + (![1, 512] : Fin 2 → ℕ) a ≤ S1x512.size a) :
    View.readAt (Elt Ideal) m.view (Rect.unit (s := S1x512) ![0, 0] ![1, 512] h).toLoadRect (hm.unread x) = x := by
  rw [View.readAt_eq_ld, hm.read_unread]
  exact View.ld_unit_zero (S := S1x512) hz _ x

end Loads

theorem zeros_band (x0 : Vec Ideal S1x512x1024 .f32) (x1 : Vec Ideal S1x1024 .f32) (x2 : Vec Ideal S1024x2560 .bf16)
    (h : ∀ a, (![0, 0] : Fin 2 → ℕ) a + S32x512.size a ≤ S544x512.size a) (i : S32x512.Idx) :
    k0_pay3 (F := Ideal) i = vecA (seqA x0 x1 x2 (fun _ => 0)) ((Rect.unit (s := S544x512) ![0, 0] S32x512.size h).emb i) := by
  obtain ⟨r, l, rfl⟩ : ∃ (r : Fin 32) (l : Fin 512), i = ix2 r l := ⟨i 0, i 1, eq_ix2 i⟩
  have hr := r.isLt
  have e : k0_pay3 (F := Ideal) (ix2 r l) = 0 := by pointwise [k0_pay3]
  rw [e, emb_apply 0 0 h r l (by decide) (by decide)]
  show (0 : EReal) = seqA x0 x1 x2 (fun _ => 0) (0 + r.val) (⟨0 + l.val, by have := l.isLt; omega⟩ : Fin 512)
  unfold seqA
  rw [if_pos (by omega), rowsOf_lt _ _ (by omega)]

theorem zeros_bandB (x0 : Vec Ideal S1x512x1024 .f32) (x1 : Vec Ideal S1x1024 .f32) (x2 : Vec Ideal S1024x2560 .bf16)
    (h : ∀ a, (![0, 0] : Fin 2 → ℕ) a + S8x512.size a ≤ S520x512.size a) (i : S8x512.Idx) :
    k0_pay4 (F := Ideal) i = vecB (seqB x0 x1 x2 (fun _ => 0)) ((Rect.unit (s := S520x512) ![0, 0] S8x512.size h).emb i) := by
  obtain ⟨r, l, rfl⟩ : ∃ (r : Fin 8) (l : Fin 512), i = ix2 r l := ⟨i 0, i 1, eq_ix2 i⟩
  have hr := r.isLt
  have e : k0_pay4 (F := Ideal) (ix2 r l) = 0 := by pointwise [k0_pay4]
  rw [e, emb_apply 0 0 h r l (by decide) (by decide)]
  show (0 : EReal) = seqB x0 x1 x2 (fun _ => 0) (0 + r.val) (⟨0 + l.val, by have := l.isLt; omega⟩ : Fin 512)
  unfold seqB
  rw [if_pos (by omega), rowsOf_lt _ _ (by omega)]

section BuffersA

variable (c : Dev nD) (arg2 : Memref sig .tc .vmem S1x512x1024 .f32) (harg2 : arg2.IsWhole) (arg3 : Memref sig .tc .vmem S1x1024 .f32) (harg3 : arg3.IsWhole) (arg4 : Memref sig .tc .vmem S1024x2560 .bf16) (harg4 : arg4.IsWhole) (arg5 : Memref sig .tc .vmem S31x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S3x512 .f32) (harg9 : arg9.IsWhole) (arg10 : Memref sig .tc .vmem S1024x1024 .bf16) (harg10 : arg10.IsWhole)
  (arg12 : Memref sig .tc .vmem S512x1024 .bf16) (arg13 : Memref sig .tc .vmem S544x512 .f32) (harg13 : arg13.IsWhole) (arg14 : Memref sig .tc .vmem S520x512 .f32) (harg14 : arg14.IsWhole) (arg15 : Memref sig .tc .vmem S512x1024 .bf16)
  (x0 : Vec Ideal S1x512x1024 .f32) (x1 : Vec Ideal S1x1024 .f32) (x2 : Vec Ideal S1024x2560 .bf16) (x3 : Vec Ideal S31x512 .f32)
  (x4 x5 x6 : Vec Ideal S1x512 .f32) (x7 : Vec Ideal S3x512 .f32)

theorem holds0_A : Holds (normed x0 x1) (kernelRun0_A.sl.HS0_1 (F := Ideal) c arg2 harg2 arg3 harg3 x0 x1) := by
  unfold kernelRun0_A.sl.HS0_1
  refine holds_cons (fun i => ?_) holds_nil
  have e : View.ld (normed x0 x1) (Rect.unit (s := S512x1024) ![0, 0] S512x1024.size inb_S512x1024_S512x1024_0_0) = normed x0 x1 :=
    View.ld_unit_zero (S := S512x1024) hz _ _
  rw [View.readAt_eq_ld, View.readAt_eq_ld, harg2.read_unread, harg3.read_unread, View.ld_unit_zero (S := S1x1024) hz, View.ld_unit_zero (S := S1x512x1024) hz3, normed_eq]
  exact (congrFun e i).symm

theorem v23_A : kernelRun0_A.sl.v23 (F := Ideal) c arg2 harg2 arg3 harg3 arg12 x0 x1 = normed x0 x1 := by
  unfold kernelRun0_A.sl.v23
  exact (read_all _ (normed x0 x1) _ _ (holds0_A c arg2 harg2 arg3 harg3 x0 x1) (View.cover_of_tiledL _ S512x1024.size (by sl_kernel_rfl))).trans
    (View.ld_unit_zero (S := S512x1024) hz _ _)

theorem gate_A : kernelRun0_A.sl.r (F := Ideal) c arg2 harg2 arg3 harg3 arg4 harg4 arg12 x0 x1 x2 = gates x0 x1 x2 := by
  unfold kernelRun0_A.sl.r
  rw [v23_A, View.readAt_eq_ld, harg4.read_unread]
  exact gates_eq x0 x1 x2 _

theorem holds1_A : Holds (vecA (seqA x0 x1 x2 (fun _ => 0))) (kernelRun0_A.sl.HS1_2 (F := Ideal) c arg2 harg2 arg3 harg3 arg4 harg4 arg12 x0 x1 x2) := by
  unfold kernelRun0_A.sl.HS1_2
  rw [v23_A, View.readAt_eq_ld, harg4.read_unread]
  exact holds_cons (fun i => glus_band x0 x1 x2 (fun _ => 0) _ inb_S544x512_S512x512_32_0 i) (holds_cons (fun i => zeros_band x0 x1 x2 inb_S544x512_S32x512_0_0 i) holds_nil)

theorem holds2_A : Holds (vecB (seqB x0 x1 x2 (fun _ => 0))) (kernelRun0_A.sl.HS2_2 (F := Ideal) c arg2 harg2 arg3 harg3 arg4 harg4 arg12 x0 x1 x2) := by
  unfold kernelRun0_A.sl.HS2_2
  rw [v23_A, View.readAt_eq_ld, harg4.read_unread]
  exact holds_cons (fun i => duos_band x0 x1 x2 (fun _ => 0) _ inb_S520x512_S512x512_8_0 i) (holds_cons (fun i => zeros_bandB x0 x1 x2 inb_S520x512_S8x512_0_0 i) holds_nil)

theorem ld1_A (R : Rect S544x512) : arg13.view.readCov (kernelRun0_A.sl.HS1_2 (F := Ideal) c arg2 harg2 arg3 harg3 arg4 harg4 arg12 x0 x1 x2) R.toLoadRect = View.ld (vecA (seqA x0 x1 x2 (fun _ => 0))) R :=
  read_all _ _ _ _ (holds1_A c arg2 harg2 arg3 harg3 arg4 harg4 arg12 x0 x1 x2) (View.cover_of_tiledBy _ ![32, 512] (by sl_kernel_rfl))

theorem ld2_A (R : Rect S520x512) : arg14.view.readCov (kernelRun0_A.sl.HS2_2 (F := Ideal) c arg2 harg2 arg3 harg3 arg4 harg4 arg12 x0 x1 x2) R.toLoadRect = View.ld (vecB (seqB x0 x1 x2 (fun _ => 0))) R :=
  read_all _ _ _ _ (holds2_A c arg2 harg2 arg3 harg3 arg4 harg4 arg12 x0 x1 x2) (View.cover_of_tiledBy _ ![8, 512] (by sl_kernel_rfl))

theorem read1_A (n : ℕ) (h : ∀ a, (![n, 0] : Fin 2 → ℕ) a + (![32, 512] : Fin 2 → ℕ) a ≤ S544x512.size a) :
    arg13.view.readCov (kernelRun0_A.sl.HS1_2 (F := Ideal) c arg2 harg2 arg3 harg3 arg4 harg4 arg12 x0 x1 x2) (Rect.unit (s := S544x512) ![n, 0] ![32, 512] h).toLoadRect = band (seqA x0 x1 x2 (fun _ => 0)) n :=
  (ld1_A c arg2 harg2 arg3 harg3 arg4 harg4 arg12 arg13 x0 x1 x2 _).trans (ld_bandA _ n h)

theorem read2_A (n : ℕ) (h : ∀ a, (![n, 0] : Fin 2 → ℕ) a + (![32, 512] : Fin 2 → ℕ) a ≤ S520x512.size a) :
    arg14.view.readCov (kernelRun0_A.sl.HS2_2 (F := Ideal) c arg2 harg2 arg3 harg3 arg4 harg4 arg12 x0 x1 x2) (Rect.unit (s := S520x512) ![n, 0] ![32, 512] h).toLoadRect = band (seqB x0 x1 x2 (fun _ => 0)) n :=
  (ld2_A c arg2 harg2 arg3 harg3 arg4 harg4 arg12 arg14 x0 x1 x2 _).trans (ld_bandB _ n h)

include arg2 arg3 arg4 arg5 arg6 arg7 arg8 arg9 harg2 harg3 harg4 harg5 harg6 harg7 harg8 harg9 arg12 arg13 arg14 c in
theorem pieceAB15 (i : S32x512.Idx) : (show FVec Ideal S32x512 .bf16 from kernelRun0_A.sl.r_158 c arg2 harg2 arg3 harg3 arg4 harg4 arg9 harg9 arg12 arg14 x0 x1 x2 x7) i
    = mixes x0 x1 x2 x3 x4 x5 x6 x7 (seqA x0 x1 x2 (fun _ => 0)) (seqB x0 x1 x2 (fun _ => 0)) ((Rect.unit (s := S512x1024) ![480, 512] S32x512.size inb_S512x1024_S32x512_480_512).emb i) := by
  simp only [kernelRun0_A.sl.r_158, kernelRun0_A.sl.v3913, kernelRun0_A.sl.v3918, kernelRun0_A.sl.v3924, read_w3, gate_A, read1_A, read2_A]
  exact (congrFun (blockB15 (fun k => band (seqB x0 x1 x2 (fun _ => 0)) (480 + 6 + k)) (wrow (fun k l => x7 (ix2 k l))) (gates x0 x1 x2)) i).trans
    (bandB x0 x1 x2 x3 x4 x5 x6 x7 (seqA x0 x1 x2 (fun _ => 0)) (seqB x0 x1 x2 (fun _ => 0)) 480 _ inb_S512x1024_S32x512_480_512 i)

include arg2 arg3 arg4 arg5 arg6 arg7 arg8 arg9 harg2 harg3 harg4 harg5 harg6 harg7 harg8 harg9 arg12 arg13 arg14 c in
theorem pieceAA15 (i : S32x512.Idx) : (show FVec Ideal S32x512 .bf16 from k0_pay191 (kernelRun0_A.sl.r_154 c arg7 harg7 x5) (kernelRun0_A.sl.r_155 c arg8 harg8 x6) (kernelRun0_A.sl.r_156 c arg2 harg2 arg3 harg3 arg4 harg4 arg5 harg5 arg6 harg6 arg12 arg13 x0 x1 x2 x3 x4) (kernelRun0_A.sl.r_157 c arg2 harg2 arg3 harg3 arg4 harg4 arg5 harg5 arg6 harg6 arg12 arg13 x0 x1 x2 x3 x4)) i
    = mixes x0 x1 x2 x3 x4 x5 x6 x7 (seqA x0 x1 x2 (fun _ => 0)) (seqB x0 x1 x2 (fun _ => 0)) ((Rect.unit (s := S512x1024) ![480, 0] S32x512.size inb_S512x1024_S32x512_480_0).emb i) := by
  simp only [kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.v3697, kernelRun0_A.sl.v3703, kernelRun0_A.sl.v3709, kernelRun0_A.sl.v3715, kernelRun0_A.sl.v3721, kernelRun0_A.sl.v3727, kernelRun0_A.sl.v3733, kernelRun0_A.sl.v3739, kernelRun0_A.sl.v3745, kernelRun0_A.sl.v3751, kernelRun0_A.sl.v3757, kernelRun0_A.sl.v3763, kernelRun0_A.sl.v3769, kernelRun0_A.sl.v3775, kernelRun0_A.sl.v3781, kernelRun0_A.sl.v3787, kernelRun0_A.sl.v3793, kernelRun0_A.sl.v3799, kernelRun0_A.sl.v3805, kernelRun0_A.sl.v3811, kernelRun0_A.sl.v3817, kernelRun0_A.sl.v3823, kernelRun0_A.sl.v3829, kernelRun0_A.sl.v3835, kernelRun0_A.sl.v3841, kernelRun0_A.sl.v3847, kernelRun0_A.sl.v3853, kernelRun0_A.sl.v3859, kernelRun0_A.sl.v3865, kernelRun0_A.sl.v3871, kernelRun0_A.sl.v3877, read_w31, read_row, read1_A, read2_A]
  exact (congrFun (blockA15 (fun k => band (seqA x0 x1 x2 (fun _ => 0)) (480 + 2 + k)) (wrow (fun k l => x3 (ix2 k l))) x4 x5 x6) i).trans
    (bandA x0 x1 x2 x3 x4 x5 x6 x7 (seqA x0 x1 x2 (fun _ => 0)) (seqB x0 x1 x2 (fun _ => 0)) 480 inb_S512x1024_S32x512_480_0 i)

include arg2 arg3 arg4 arg5 arg6 arg7 arg8 arg9 harg2 harg3 harg4 harg5 harg6 harg7 harg8 harg9 arg12 arg13 arg14 c in
theorem pieceAB14 (i : S32x512.Idx) : (show FVec Ideal S32x512 .bf16 from k0_pay176 (kernelRun0_A.sl.r c arg2 harg2 arg3 harg3 arg4 harg4 arg12 x0 x1 x2) (kernelRun0_A.sl.r_143 c arg2 harg2 arg3 harg3 arg4 harg4 arg9 harg9 arg12 arg14 x0 x1 x2 x7) (kernelRun0_A.sl.v3675 c arg2 harg2 arg3 harg3 arg4 harg4 arg12 arg14 x0 x1 x2) (View.readAt (Elt Ideal) arg9.view (Rect.unit (s := S3x512) ![1, 0] S1x512.size inb_S3x512_S1x512_1_0).toLoadRect (harg9.unread x7)) (kernelRun0_A.sl.v3681 c arg2 harg2 arg3 harg3 arg4 harg4 arg12 arg14 x0 x1 x2) (View.readAt (Elt Ideal) arg9.view (Rect.unit (s := S3x512) ![2, 0] S1x512.size inb_S3x512_S1x512_2_0).toLoadRect (harg9.unread x7))) i
    = mixes x0 x1 x2 x3 x4 x5 x6 x7 (seqA x0 x1 x2 (fun _ => 0)) (seqB x0 x1 x2 (fun _ => 0)) ((Rect.unit (s := S512x1024) ![448, 512] S32x512.size inb_S512x1024_S32x512_448_512).emb i) := by
  simp only [kernelRun0_A.sl.r_143, kernelRun0_A.sl.v3670, kernelRun0_A.sl.v3675, kernelRun0_A.sl.v3681, read_w3, gate_A, read1_A, read2_A]
  exact (congrFun (blockB14 (fun k => band (seqB x0 x1 x2 (fun _ => 0)) (448 + 6 + k)) (wrow (fun k l => x7 (ix2 k l))) (gates x0 x1 x2)) i).trans
    (bandB x0 x1 x2 x3 x4 x5 x6 x7 (seqA x0 x1 x2 (fun _ => 0)) (seqB x0 x1 x2 (fun _ => 0)) 448 _ inb_S512x1024_S32x512_448_512 i)

include arg2 arg3 arg4 arg5 arg6 arg7 arg8 arg9 harg2 harg3 harg4 harg5 harg6 harg7 harg8 harg9 arg12 arg13 arg14 c in
theorem pieceAA14 (i : S32x512.Idx) : (show FVec Ideal S32x512 .bf16 from k0_pay174 (kernelRun0_A.sl.r_142 c arg2 harg2 arg3 harg3 arg4 harg4 arg5 harg5 arg6 harg6 arg12 arg13 x0 x1 x2 x3 x4) (kernelRun0_A.sl.v3634 c arg2 harg2 arg3 harg3 arg4 harg4 arg12 arg13 x0 x1 x2) (View.readAt (Elt Ideal) arg5.view (Rect.unit (s := S31x512) ![30, 0] S1x512.size inb_S31x512_S1x512_30_0).toLoadRect (harg5.unread x3)) (View.readAt (Elt Ideal) arg7.view (Rect.unit (s := S1x512) ![0, 0] S1x512.size inb_S1x512_S1x512_0_0).toLoadRect (harg7.unread x5)) (View.readAt (Elt Ideal) arg8.view (Rect.unit (s := S1x512) ![0, 0] S1x512.size inb_S1x512_S1x512_0_0).toLoadRect (harg8.unread x6))) i
    = mixes x0 x1 x2 x3 x4 x5 x6 x7 (seqA x0 x1 x2 (fun _ => 0)) (seqB x0 x1 x2 (fun _ => 0)) ((Rect.unit (s := S512x1024) ![448, 0] S32x512.size inb_S512x1024_S32x512_448_0).emb i) := by
  simp only [kernelRun0_A.sl.r_137, kernelRun0_A.sl.r_138, kernelRun0_A.sl.r_139, kernelRun0_A.sl.r_140, kernelRun0_A.sl.r_141, kernelRun0_A.sl.r_142, kernelRun0_A.sl.v3454, kernelRun0_A.sl.v3460, kernelRun0_A.sl.v3466, kernelRun0_A.sl.v3472, kernelRun0_A.sl.v3478, kernelRun0_A.sl.v3484, kernelRun0_A.sl.v3490, kernelRun0_A.sl.v3496, kernelRun0_A.sl.v3502, kernelRun0_A.sl.v3508, kernelRun0_A.sl.v3514, kernelRun0_A.sl.v3520, kernelRun0_A.sl.v3526, kernelRun0_A.sl.v3532, kernelRun0_A.sl.v3538, kernelRun0_A.sl.v3544, kernelRun0_A.sl.v3550, kernelRun0_A.sl.v3556, kernelRun0_A.sl.v3562, kernelRun0_A.sl.v3568, kernelRun0_A.sl.v3574, kernelRun0_A.sl.v3580, kernelRun0_A.sl.v3586, kernelRun0_A.sl.v3592, kernelRun0_A.sl.v3598, kernelRun0_A.sl.v3604, kernelRun0_A.sl.v3610, kernelRun0_A.sl.v3616, kernelRun0_A.sl.v3622, kernelRun0_A.sl.v3628, kernelRun0_A.sl.v3634, read_w31, read_row, read1_A, read2_A]
  exact (congrFun (blockA14 (fun k => band (seqA x0 x1 x2 (fun _ => 0)) (448 + 2 + k)) (wrow (fun k l => x3 (ix2 k l))) x4 x5 x6) i).trans
    (bandA x0 x1 x2 x3 x4 x5 x6 x7 (seqA x0 x1 x2 (fun _ => 0)) (seqB x0 x1 x2 (fun _ => 0)) 448 inb_S512x1024_S32x512_448_0 i)

include arg2 arg3 arg4 arg5 arg6 arg7 arg8 arg9 harg2 harg3 harg4 harg5 harg6 harg7 harg8 harg9 arg12 arg13 arg14 c in
theorem pieceAB13 (i : S32x512.Idx) : (show FVec Ideal S32x512 .bf16 from k0_pay167 (kernelRun0_A.sl.r c arg2 harg2 arg3 harg3 arg4 harg4 arg12 x0 x1 x2) (kernelRun0_A.sl.v3427 c arg2 harg2 arg3 harg3 arg4 harg4 arg12 arg14 x0 x1 x2) (View.readAt (Elt Ideal) arg9.view (Rect.unit (s := S3x512) ![0, 0] S1x512.size inb_S3x512_S1x512_0_0).toLoadRect (harg9.unread x7)) (kernelRun0_A.sl.v3432 c arg2 harg2 arg3 harg3 arg4 harg4 arg12 arg14 x0 x1 x2) (View.readAt (Elt Ideal) arg9.view (Rect.unit (s := S3x512) ![1, 0] S1x512.size inb_S3x512_S1x512_1_0).toLoadRect (harg9.unread x7)) (kernelRun0_A.sl.v3438 c arg2 harg2 arg3 harg3 arg4 harg4 arg12 arg14 x0 x1 x2) (View.readAt (Elt Ideal) arg9.view (Rect.unit (s := S3x512) ![2, 0] S1x512.size inb_S3x512_S1x512_2_0).toLoadRect (harg9.unread x7))) i
    = mixes x0 x1 x2 x3 x4 x5 x6 x7 (seqA x0 x1 x2 (fun _ => 0)) (seqB x0 x1 x2 (fun _ => 0)) ((Rect.unit (s := S512x1024) ![416, 512] S32x512.size inb_S512x1024_S32x512_416_512).emb i) := by
  simp only [kernelRun0_A.sl.v3427, kernelRun0_A.sl.v3432, kernelRun0_A.sl.v3438, read_w3, gate_A, read1_A, read2_A]
  exact (congrFun (blockB13 (fun k => band (seqB x0 x1 x2 (fun _ => 0)) (416 + 6 + k)) (wrow (fun k l => x7 (ix2 k l))) (gates x0 x1 x2)) i).trans
    (bandB x0 x1 x2 x3 x4 x5 x6 x7 (seqA x0 x1 x2 (fun _ => 0)) (seqB x0 x1 x2 (fun _ => 0)) 416 _ inb_S512x1024_S32x512_416_512 i)

include arg2 arg3 arg4 arg5 arg6 arg7 arg8 arg9 harg2 harg3 harg4 harg5 harg6 harg7 harg8 harg9 arg12 arg13 arg14 c in
theorem pieceAA13 (i : S32x512.Idx) : (show FVec Ideal S32x512 .bf16 from k0_pay166 (kernelRun0_A.sl.r_135 c arg8 harg8 x6) (kernelRun0_A.sl.r_136 c arg2 harg2 arg3 harg3 arg4 harg4 arg5 harg5 arg6 harg6 arg7 harg7 arg12 arg13 x0 x1 x2 x3 x4 x5)) i
    = mixes x0 x1 x2 x3 x4 x5 x6 x7 (seqA x0 x1 x2 (fun _ => 0)) (seqB x0 x1 x2 (fun _ => 0)) ((Rect.unit (s := S512x1024) ![416, 0] S32x512.size inb_S512x1024_S32x512_416_0).emb i) := by
  simp only [kernelRun0_A.sl.r_130, kernelRun0_A.sl.r_131, kernelRun0_A.sl.r_132, kernelRun0_A.sl.r_133, kernelRun0_A.sl.r_134, kernelRun0_A.sl.r_135, kernelRun0_A.sl.r_136, kernelRun0_A.sl.v3211, kernelRun0_A.sl.v3217, kernelRun0_A.sl.v3223, kernelRun0_A.sl.v3229, kernelRun0_A.sl.v3235, kernelRun0_A.sl.v3241, kernelRun0_A.sl.v3247, kernelRun0_A.sl.v3253, kernelRun0_A.sl.v3259, kernelRun0_A.sl.v3265, kernelRun0_A.sl.v3271, kernelRun0_A.sl.v3277, kernelRun0_A.sl.v3283, kernelRun0_A.sl.v3289, kernelRun0_A.sl.v3295, kernelRun0_A.sl.v3301, kernelRun0_A.sl.v3307, kernelRun0_A.sl.v3313, kernelRun0_A.sl.v3319, kernelRun0_A.sl.v3325, kernelRun0_A.sl.v3331, kernelRun0_A.sl.v3337, kernelRun0_A.sl.v3343, kernelRun0_A.sl.v3349, kernelRun0_A.sl.v3355, kernelRun0_A.sl.v3361, kernelRun0_A.sl.v3367, kernelRun0_A.sl.v3373, kernelRun0_A.sl.v3379, kernelRun0_A.sl.v3385, kernelRun0_A.sl.v3391, read_w31, read_row, read1_A, read2_A]
  exact (congrFun (blockA13 (fun k => band (seqA x0 x1 x2 (fun _ => 0)) (416 + 2 + k)) (wrow (fun k l => x3 (ix2 k l))) x4 x5 x6) i).trans
    (bandA x0 x1 x2 x3 x4 x5 x6 x7 (seqA x0 x1 x2 (fun _ => 0)) (seqB x0 x1 x2 (fun _ => 0)) 416 inb_S512x1024_S32x512_416_0 i)

include arg2 arg3 arg4 arg5 arg6 arg7 arg8 arg9 harg2 harg3 harg4 harg5 harg6 harg7 harg8 harg9 arg12 arg13 arg14 c in
theorem pieceAB12 (i : S32x512.Idx) : (show FVec Ideal S32x512 .bf16 from k0_pay158 (kernelRun0_A.sl.r c arg2 harg2 arg3 harg3 arg4 harg4 arg12 x0 x1 x2) (kernelRun0_A.sl.r_129 c arg2 harg2 arg3 harg3 arg4 harg4 arg9 harg9 arg12 arg14 x0 x1 x2 x7) (kernelRun0_A.sl.v3195 c arg2 harg2 arg3 harg3 arg4 harg4 arg12 arg14 x0 x1 x2) (kernelRun0_A.sl.r_35 c arg9 harg9 x7)) i
    = mixes x0 x1 x2 x3 x4 x5 x6 x7 (seqA x0 x1 x2 (fun _ => 0)) (seqB x0 x1 x2 (fun _ => 0)) ((Rect.unit (s := S512x1024) ![384, 512] S32x512.size inb_S512x1024_S32x512_384_512).emb i) := by
  simp only [kernelRun0_A.sl.r_35, kernelRun0_A.sl.r_129, kernelRun0_A.sl.v3184, kernelRun0_A.sl.v3189, kernelRun0_A.sl.v3195, read_w3, gate_A, read1_A, read2_A]
  exact (congrFun (blockB12 (fun k => band (seqB x0 x1 x2 (fun _ => 0)) (384 + 6 + k)) (wrow (fun k l => x7 (ix2 k l))) (gates x0 x1 x2)) i).trans
    (bandB x0 x1 x2 x3 x4 x5 x6 x7 (seqA x0 x1 x2 (fun _ => 0)) (seqB x0 x1 x2 (fun _ => 0)) 384 _ inb_S512x1024_S32x512_384_512 i)

include arg2 arg3 arg4 arg5 arg6 arg7 arg8 arg9 harg2 harg3 harg4 harg5 harg6 harg7 harg8 harg9 arg12 arg13 arg14 c in
theorem pieceAA12 (i : S32x512.Idx) : (show FVec Ideal S32x512 .bf16 from k0_pay156 (kernelRun0_A.sl.r_127 c arg2 harg2 arg3 harg3 arg4 harg4 arg5 harg5 arg6 harg6 arg12 arg13 x0 x1 x2 x3 x4) (kernelRun0_A.sl.r_128 c arg7 harg7 x5) (kernelRun0_A.sl.r_33 c arg8 harg8 x6)) i
    = mixes x0 x1 x2 x3 x4 x5 x6 x7 (seqA x0 x1 x2 (fun _ => 0)) (seqB x0 x1 x2 (fun _ => 0)) ((Rect.unit (s := S512x1024) ![384, 0] S32x512.size inb_S512x1024_S32x512_384_0).emb i) := by
  simp only [kernelRun0_A.sl.r_33, kernelRun0_A.sl.r_117, kernelRun0_A.sl.r_118, kernelRun0_A.sl.r_119, kernelRun0_A.sl.r_120, kernelRun0_A.sl.r_121, kernelRun0_A.sl.r_122, kernelRun0_A.sl.r_123, kernelRun0_A.sl.r_124, kernelRun0_A.sl.r_125, kernelRun0_A.sl.r_126, kernelRun0_A.sl.r_127, kernelRun0_A.sl.r_128, kernelRun0_A.sl.v2968, kernelRun0_A.sl.v2974, kernelRun0_A.sl.v2980, kernelRun0_A.sl.v2986, kernelRun0_A.sl.v2992, kernelRun0_A.sl.v2998, kernelRun0_A.sl.v3004, kernelRun0_A.sl.v3010, kernelRun0_A.sl.v3016, kernelRun0_A.sl.v3022, kernelRun0_A.sl.v3028, kernelRun0_A.sl.v3034, kernelRun0_A.sl.v3040, kernelRun0_A.sl.v3046, kernelRun0_A.sl.v3052, kernelRun0_A.sl.v3058, kernelRun0_A.sl.v3064, kernelRun0_A.sl.v3070, kernelRun0_A.sl.v3076, kernelRun0_A.sl.v3082, kernelRun0_A.sl.v3088, kernelRun0_A.sl.v3094, kernelRun0_A.sl.v3100, kernelRun0_A.sl.v3106, kernelRun0_A.sl.v3112, kernelRun0_A.sl.v3118, kernelRun0_A.sl.v3124, kernelRun0_A.sl.v3130, kernelRun0_A.sl.v3136, kernelRun0_A.sl.v3142, kernelRun0_A.sl.v3148, read_w31, read_row, read1_A, read2_A]
  exact (congrFun (blockA12 (fun k => band (seqA x0 x1 x2 (fun _ => 0)) (384 + 2 + k)) (wrow (fun k l => x3 (ix2 k l))) x4 x5 x6) i).trans
    (bandA x0 x1 x2 x3 x4 x5 x6 x7 (seqA x0 x1 x2 (fun _ => 0)) (seqB x0 x1 x2 (fun _ => 0)) 384 inb_S512x1024_S32x512_384_0 i)

include arg2 arg3 arg4 arg5 arg6 arg7 arg8 arg9 harg2 harg3 harg4 harg5 harg6 harg7 harg8 harg9 arg12 arg13 arg14 c in
theorem pieceAB11 (i : S32x512.Idx) : (show FVec Ideal S32x512 .bf16 from k0_pay143 (kernelRun0_A.sl.r c arg2 harg2 arg3 harg3 arg4 harg4 arg12 x0 x1 x2) (kernelRun0_A.sl.v2941 c arg2 harg2 arg3 harg3 arg4 harg4 arg12 arg14 x0 x1 x2) (View.readAt (Elt Ideal) arg9.view (Rect.unit (s := S3x512) ![0, 0] S1x512.size inb_S3x512_S1x512_0_0).toLoadRect (harg9.unread x7)) (kernelRun0_A.sl.v2946 c arg2 harg2 arg3 harg3 arg4 harg4 arg12 arg14 x0 x1 x2) (View.readAt (Elt Ideal) arg9.view (Rect.unit (s := S3x512) ![1, 0] S1x512.size inb_S3x512_S1x512_1_0).toLoadRect (harg9.unread x7)) (kernelRun0_A.sl.v2952 c arg2 harg2 arg3 harg3 arg4 harg4 arg12 arg14 x0 x1 x2) (View.readAt (Elt Ideal) arg9.view (Rect.unit (s := S3x512) ![2, 0] S1x512.size inb_S3x512_S1x512_2_0).toLoadRect (harg9.unread x7))) i
    = mixes x0 x1 x2 x3 x4 x5 x6 x7 (seqA x0 x1 x2 (fun _ => 0)) (seqB x0 x1 x2 (fun _ => 0)) ((Rect.unit (s := S512x1024) ![352, 512] S32x512.size inb_S512x1024_S32x512_352_512).emb i) := by
  simp only [kernelRun0_A.sl.v2941, kernelRun0_A.sl.v2946, kernelRun0_A.sl.v2952, read_w3, gate_A, read1_A, read2_A]
  exact (congrFun (blockB11 (fun k => band (seqB x0 x1 x2 (fun _ => 0)) (352 + 6 + k)) (wrow (fun k l => x7 (ix2 k l))) (gates x0 x1 x2)) i).trans
    (bandB x0 x1 x2 x3 x4 x5 x6 x7 (seqA x0 x1 x2 (fun _ => 0)) (seqB x0 x1 x2 (fun _ => 0)) 352 _ inb_S512x1024_S32x512_352_512 i)

include arg2 arg3 arg4 arg5 arg6 arg7 arg8 arg9 harg2 harg3 harg4 harg5 harg6 harg7 harg8 harg9 arg12 arg13 arg14 c in
theorem pieceAA11 (i : S32x512.Idx) : (show FVec Ideal S32x512 .bf16 from k0_pay142 (kernelRun0_A.sl.r_116 c arg2 harg2 arg3 harg3 arg4 harg4 arg5 harg5 arg6 harg6 arg12 arg13 x0 x1 x2 x3 x4) (kernelRun0_A.sl.v2899 c arg2 harg2 arg3 harg3 arg4 harg4 arg12 arg13 x0 x1 x2) (View.readAt (Elt Ideal) arg5.view (Rect.unit (s := S31x512) ![29, 0] S1x512.size inb_S31x512_S1x512_29_0).toLoadRect (harg5.unread x3)) (kernelRun0_A.sl.v2905 c arg2 harg2 arg3 harg3 arg4 harg4 arg12 arg13 x0 x1 x2) (View.readAt (Elt Ideal) arg5.view (Rect.unit (s := S31x512) ![30, 0] S1x512.size inb_S31x512_S1x512_30_0).toLoadRect (harg5.unread x3)) (View.readAt (Elt Ideal) arg7.view (Rect.unit (s := S1x512) ![0, 0] S1x512.size inb_S1x512_S1x512_0_0).toLoadRect (harg7.unread x5)) (View.readAt (Elt Ideal) arg8.view (Rect.unit (s := S1x512) ![0, 0] S1x512.size inb_S1x512_S1x512_0_0).toLoadRect (harg8.unread x6))) i
    = mixes x0 x1 x2 x3 x4 x5 x6 x7 (seqA x0 x1 x2 (fun _ => 0)) (seqB x0 x1 x2 (fun _ => 0)) ((Rect.unit (s := S512x1024) ![352, 0] S32x512.size inb_S512x1024_S32x512_352_0).emb i) := by
  simp only [kernelRun0_A.sl.r_112, kernelRun0_A.sl.r_113, kernelRun0_A.sl.r_114, kernelRun0_A.sl.r_115, kernelRun0_A.sl.r_116, kernelRun0_A.sl.v2725, kernelRun0_A.sl.v2731, kernelRun0_A.sl.v2737, kernelRun0_A.sl.v2743, kernelRun0_A.sl.v2749, kernelRun0_A.sl.v2755, kernelRun0_A.sl.v2761, kernelRun0_A.sl.v2767, kernelRun0_A.sl.v2773, kernelRun0_A.sl.v2779, kernelRun0_A.sl.v2785, kernelRun0_A.sl.v2791, kernelRun0_A.sl.v2797, kernelRun0_A.sl.v2803, kernelRun0_A.sl.v2809, kernelRun0_A.sl.v2815, kernelRun0_A.sl.v2821, kernelRun0_A.sl.v2827, kernelRun0_A.sl.v2833, kernelRun0_A.sl.v2839, kernelRun0_A.sl.v2845, kernelRun0_A.sl.v2851, kernelRun0_A.sl.v2857, kernelRun0_A.sl.v2863, kernelRun0_A.sl.v2869, kernelRun0_A.sl.v2875, kernelRun0_A.sl.v2881, kernelRun0_A.sl.v2887, kernelRun0_A.sl.v2893, kernelRun0_A.sl.v2899, kernelRun0_A.sl.v2905, read_w31, read_row, read1_A, read2_A]
  exact (congrFun (blockA11 (fun k => band (seqA x0 x1 x2 (fun _ => 0)) (352 + 2 + k)) (wrow (fun k l => x3 (ix2 k l))) x4 x5 x6) i).trans
    (bandA x0 x1 x2 x3 x4 x5 x6 x7 (seqA x0 x1 x2 (fun _ => 0)) (seqB x0 x1 x2 (fun _ => 0)) 352 inb_S512x1024_S32x512_352_0 i)

include arg2 arg3 arg4 arg5 arg6 arg7 arg8 arg9 harg2 harg3 harg4 harg5 harg6 harg7 harg8 harg9 arg12 arg13 arg14 c in
theorem pieceAB10 (i : S32x512.Idx) : (show FVec Ideal S32x512 .bf16 from kernelRun0_A.sl.r_111 c arg2 harg2 arg3 harg3 arg4 harg4 arg9 harg9 arg12 arg14 x0 x1 x2 x7) i
    = mixes x0 x1 x2 x3 x4 x5 x6 x7 (seqA x0 x1 x2 (fun _ => 0)) (seqB x0 x1 x2 (fun _ => 0)) ((Rect.unit (s := S512x1024) ![320, 512] S32x512.size inb_S512x1024_S32x512_320_512).emb i) := by
  simp only [kernelRun0_A.sl.r_111, kernelRun0_A.sl.v2698, kernelRun0_A.sl.v2703, kernelRun0_A.sl.v2709, read_w3, gate_A, read1_A, read2_A]
  exact (congrFun (blockB10 (fun k => band (seqB x0 x1 x2 (fun _ => 0)) (320 + 6 + k)) (wrow (fun k l => x7 (ix2 k l))) (gates x0 x1 x2)) i).trans
    (bandB x0 x1 x2 x3 x4 x5 x6 x7 (seqA x0 x1 x2 (fun _ => 0)) (seqB x0 x1 x2 (fun _ => 0)) 320 _ inb_S512x1024_S32x512_320_512 i)

include arg2 arg3 arg4 arg5 arg6 arg7 arg8 arg9 harg2 harg3 harg4 harg5 harg6 harg7 harg8 harg9 arg12 arg13 arg14 c in
theorem pieceAA10 (i : S32x512.Idx) : (show FVec Ideal S32x512 .bf16 from k0_pay135 (kernelRun0_A.sl.r_107 c arg7 harg7 x5) (kernelRun0_A.sl.r_108 c arg8 harg8 x6) (kernelRun0_A.sl.r_109 c arg2 harg2 arg3 harg3 arg4 harg4 arg5 harg5 arg6 harg6 arg12 arg13 x0 x1 x2 x3 x4) (kernelRun0_A.sl.r_110 c arg2 harg2 arg3 harg3 arg4 harg4 arg5 harg5 arg6 harg6 arg12 arg13 x0 x1 x2 x3 x4)) i
    = mixes x0 x1 x2 x3 x4 x5 x6 x7 (seqA x0 x1 x2 (fun _ => 0)) (seqB x0 x1 x2 (fun _ => 0)) ((Rect.unit (s := S512x1024) ![320, 0] S32x512.size inb_S512x1024_S32x512_320_0).emb i) := by
  simp only [kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.r_110, kernelRun0_A.sl.v2482, kernelRun0_A.sl.v2488, kernelRun0_A.sl.v2494, kernelRun0_A.sl.v2500, kernelRun0_A.sl.v2506, kernelRun0_A.sl.v2512, kernelRun0_A.sl.v2518, kernelRun0_A.sl.v2524, kernelRun0_A.sl.v2530, kernelRun0_A.sl.v2536, kernelRun0_A.sl.v2542, kernelRun0_A.sl.v2548, kernelRun0_A.sl.v2554, kernelRun0_A.sl.v2560, kernelRun0_A.sl.v2566, kernelRun0_A.sl.v2572, kernelRun0_A.sl.v2578, kernelRun0_A.sl.v2584, kernelRun0_A.sl.v2590, kernelRun0_A.sl.v2596, kernelRun0_A.sl.v2602, kernelRun0_A.sl.v2608, kernelRun0_A.sl.v2614, kernelRun0_A.sl.v2620, kernelRun0_A.sl.v2626, kernelRun0_A.sl.v2632, kernelRun0_A.sl.v2638, kernelRun0_A.sl.v2644, kernelRun0_A.sl.v2650, kernelRun0_A.sl.v2656, kernelRun0_A.sl.v2662, read_w31, read_row, read1_A, read2_A]
  exact (congrFun (blockA10 (fun k => band (seqA x0 x1 x2 (fun _ => 0)) (320 + 2 + k)) (wrow (fun k l => x3 (ix2 k l))) x4 x5 x6) i).trans
    (bandA x0 x1 x2 x3 x4 x5 x6 x7 (seqA x0 x1 x2 (fun _ => 0)) (seqB x0 x1 x2 (fun _ => 0)) 320 inb_S512x1024_S32x512_320_0 i)

include arg2 arg3 arg4 arg5 arg6 arg7 arg8 arg9 harg2 harg3 harg4 harg5 harg6 harg7 harg8 harg9 arg12 arg13 arg14 c in
theorem pieceAB9 (i : S32x512.Idx) : (show FVec Ideal S32x512 .bf16 from k0_pay120 (kernelRun0_A.sl.r c arg2 harg2 arg3 harg3 arg4 harg4 arg12 x0 x1 x2) (kernelRun0_A.sl.r_96 c arg2 harg2 arg3 harg3 arg4 harg4 arg9 harg9 arg12 arg14 x0 x1 x2 x7) (kernelRun0_A.sl.v2460 c arg2 harg2 arg3 harg3 arg4 harg4 arg12 arg14 x0 x1 x2) (View.readAt (Elt Ideal) arg9.view (Rect.unit (s := S3x512) ![1, 0] S1x512.size inb_S3x512_S1x512_1_0).toLoadRect (harg9.unread x7)) (kernelRun0_A.sl.v2466 c arg2 harg2 arg3 harg3 arg4 harg4 arg12 arg14 x0 x1 x2) (View.readAt (Elt Ideal) arg9.view (Rect.unit (s := S3x512) ![2, 0] S1x512.size inb_S3x512_S1x512_2_0).toLoadRect (harg9.unread x7))) i
    = mixes x0 x1 x2 x3 x4 x5 x6 x7 (seqA x0 x1 x2 (fun _ => 0)) (seqB x0 x1 x2 (fun _ => 0)) ((Rect.unit (s := S512x1024) ![288, 512] S32x512.size inb_S512x1024_S32x512_288_512).emb i) := by
  simp only [kernelRun0_A.sl.r_96, kernelRun0_A.sl.v2455, kernelRun0_A.sl.v2460, kernelRun0_A.sl.v2466, read_w3, gate_A, read1_A, read2_A]
  exact (congrFun (blockB9 (fun k => band (seqB x0 x1 x2 (fun _ => 0)) (288 + 6 + k)) (wrow (fun k l => x7 (ix2 k l))) (gates x0 x1 x2)) i).trans
    (bandB x0 x1 x2 x3 x4 x5 x6 x7 (seqA x0 x1 x2 (fun _ => 0)) (seqB x0 x1 x2 (fun _ => 0)) 288 _ inb_S512x1024_S32x512_288_512 i)

include arg2 arg3 arg4 arg5 arg6 arg7 arg8 arg9 harg2 harg3 harg4 harg5 harg6 harg7 harg8 harg9 arg12 arg13 arg14 c in
theorem pieceAA9 (i : S32x512.Idx) : (show FVec Ideal S32x512 .bf16 from k0_pay118 (kernelRun0_A.sl.r_95 c arg2 harg2 arg3 harg3 arg4 harg4 arg5 harg5 arg6 harg6 arg12 arg13 x0 x1 x2 x3 x4) (kernelRun0_A.sl.v2419 c arg2 harg2 arg3 harg3 arg4 harg4 arg12 arg13 x0 x1 x2) (View.readAt (Elt Ideal) arg5.view (Rect.unit (s := S31x512) ![30, 0] S1x512.size inb_S31x512_S1x512_30_0).toLoadRect (harg5.unread x3)) (View.readAt (Elt Ideal) arg7.view (Rect.unit (s := S1x512) ![0, 0] S1x512.size inb_S1x512_S1x512_0_0).toLoadRect (harg7.unread x5)) (View.readAt (Elt Ideal) arg8.view (Rect.unit (s := S1x512) ![0, 0] S1x512.size inb_S1x512_S1x512_0_0).toLoadRect (harg8.unread x6))) i
    = mixes x0 x1 x2 x3 x4 x5 x6 x7 (seqA x0 x1 x2 (fun _ => 0)) (seqB x0 x1 x2 (fun _ => 0)) ((Rect.unit (s := S512x1024) ![288, 0] S32x512.size inb_S512x1024_S32x512_288_0).emb i) := by
  simp only [kernelRun0_A.sl.r_90, kernelRun0_A.sl.r_91, kernelRun0_A.sl.r_92, kernelRun0_A.sl.r_93, kernelRun0_A.sl.r_94, kernelRun0_A.sl.r_95, kernelRun0_A.sl.v2239, kernelRun0_A.sl.v2245, kernelRun0_A.sl.v2251, kernelRun0_A.sl.v2257, kernelRun0_A.sl.v2263, kernelRun0_A.sl.v2269, kernelRun0_A.sl.v2275, kernelRun0_A.sl.v2281, kernelRun0_A.sl.v2287, kernelRun0_A.sl.v2293, kernelRun0_A.sl.v2299, kernelRun0_A.sl.v2305, kernelRun0_A.sl.v2311, kernelRun0_A.sl.v2317, kernelRun0_A.sl.v2323, kernelRun0_A.sl.v2329, kernelRun0_A.sl.v2335, kernelRun0_A.sl.v2341, kernelRun0_A.sl.v2347, kernelRun0_A.sl.v2353, kernelRun0_A.sl.v2359, kernelRun0_A.sl.v2365, kernelRun0_A.sl.v2371, kernelRun0_A.sl.v2377, kernelRun0_A.sl.v2383, kernelRun0_A.sl.v2389, kernelRun0_A.sl.v2395, kernelRun0_A.sl.v2401, kernelRun0_A.sl.v2407, kernelRun0_A.sl.v2413, kernelRun0_A.sl.v2419, read_w31, read_row, read1_A, read2_A]
  exact (congrFun (blockA9 (fun k => band (seqA x0 x1 x2 (fun _ => 0)) (288 + 2 + k)) (wrow (fun k l => x3 (ix2 k l))) x4 x5 x6) i).trans
    (bandA x0 x1 x2 x3 x4 x5 x6 x7 (seqA x0 x1 x2 (fun _ => 0)) (seqB x0 x1 x2 (fun _ => 0)) 288 inb_S512x1024_S32x512_288_0 i)

include arg2 arg3 arg4 arg5 arg6 arg7 arg8 arg9 harg2 harg3 harg4 harg5 harg6 harg7 harg8 harg9 arg12 arg13 arg14 c in
theorem pieceAB8 (i : S32x512.Idx) : (show FVec Ideal S32x512 .bf16 from k0_pay111 (kernelRun0_A.sl.r c arg2 harg2 arg3 harg3 arg4 harg4 arg12 x0 x1 x2) (kernelRun0_A.sl.v2212 c arg2 harg2 arg3 harg3 arg4 harg4 arg12 arg14 x0 x1 x2) (View.readAt (Elt Ideal) arg9.view (Rect.unit (s := S3x512) ![0, 0] S1x512.size inb_S3x512_S1x512_0_0).toLoadRect (harg9.unread x7)) (kernelRun0_A.sl.v2217 c arg2 harg2 arg3 harg3 arg4 harg4 arg12 arg14 x0 x1 x2) (View.readAt (Elt Ideal) arg9.view (Rect.unit (s := S3x512) ![1, 0] S1x512.size inb_S3x512_S1x512_1_0).toLoadRect (harg9.unread x7)) (kernelRun0_A.sl.v2223 c arg2 harg2 arg3 harg3 arg4 harg4 arg12 arg14 x0 x1 x2) (View.readAt (Elt Ideal) arg9.view (Rect.unit (s := S3x512) ![2, 0] S1x512.size inb_S3x512_S1x512_2_0).toLoadRect (harg9.unread x7))) i
    = mixes x0 x1 x2 x3 x4 x5 x6 x7 (seqA x0 x1 x2 (fun _ => 0)) (seqB x0 x1 x2 (fun _ => 0)) ((Rect.unit (s := S512x1024) ![256, 512] S32x512.size inb_S512x1024_S32x512_256_512).emb i) := by
  simp only [kernelRun0_A.sl.v2212, kernelRun0_A.sl.v2217, kernelRun0_A.sl.v2223, read_w3, gate_A, read1_A, read2_A]
  exact (congrFun (blockB8 (fun k => band (seqB x0 x1 x2 (fun _ => 0)) (256 + 6 + k)) (wrow (fun k l => x7 (ix2 k l))) (gates x0 x1 x2)) i).trans
    (bandB x0 x1 x2 x3 x4 x5 x6 x7 (seqA x0 x1 x2 (fun _ => 0)) (seqB x0 x1 x2 (fun _ => 0)) 256 _ inb_S512x1024_S32x512_256_512 i)

include arg2 arg3 arg4 arg5 arg6 arg7 arg8 arg9 harg2 harg3 harg4 harg5 harg6 harg7 harg8 harg9 arg12 arg13 arg14 c in
theorem pieceAA8 (i : S32x512.Idx) : (show FVec Ideal S32x512 .bf16 from k0_pay110 (kernelRun0_A.sl.r_88 c arg8 harg8 x6) (kernelRun0_A.sl.r_89 c arg2 harg2 arg3 harg3 arg4 harg4 arg5 harg5 arg6 harg6 arg7 harg7 arg12 arg13 x0 x1 x2 x3 x4 x5)) i
    = mixes x0 x1 x2 x3 x4 x5 x6 x7 (seqA x0 x1 x2 (fun _ => 0)) (seqB x0 x1 x2 (fun _ => 0)) ((Rect.unit (s := S512x1024) ![256, 0] S32x512.size inb_S512x1024_S32x512_256_0).emb i) := by
  simp only [kernelRun0_A.sl.r_83, kernelRun0_A.sl.r_84, kernelRun0_A.sl.r_85, kernelRun0_A.sl.r_86, kernelRun0_A.sl.r_87, kernelRun0_A.sl.r_88, kernelRun0_A.sl.r_89, kernelRun0_A.sl.v1996, kernelRun0_A.sl.v2002, kernelRun0_A.sl.v2008, kernelRun0_A.sl.v2014, kernelRun0_A.sl.v2020, kernelRun0_A.sl.v2026, kernelRun0_A.sl.v2032, kernelRun0_A.sl.v2038, kernelRun0_A.sl.v2044, kernelRun0_A.sl.v2050, kernelRun0_A.sl.v2056, kernelRun0_A.sl.v2062, kernelRun0_A.sl.v2068, kernelRun0_A.sl.v2074, kernelRun0_A.sl.v2080, kernelRun0_A.sl.v2086, kernelRun0_A.sl.v2092, kernelRun0_A.sl.v2098, kernelRun0_A.sl.v2104, kernelRun0_A.sl.v2110, kernelRun0_A.sl.v2116, kernelRun0_A.sl.v2122, kernelRun0_A.sl.v2128, kernelRun0_A.sl.v2134, kernelRun0_A.sl.v2140, kernelRun0_A.sl.v2146, kernelRun0_A.sl.v2152, kernelRun0_A.sl.v2158, kernelRun0_A.sl.v2164, kernelRun0_A.sl.v2170, kernelRun0_A.sl.v2176, read_w31, read_row, read1_A, read2_A]
  exact (congrFun (blockA8 (fun k => band (seqA x0 x1 x2 (fun _ => 0)) (256 + 2 + k)) (wrow (fun k l => x3 (ix2 k l))) x4 x5 x6) i).trans
    (bandA x0 x1 x2 x3 x4 x5 x6 x7 (seqA x0 x1 x2 (fun _ => 0)) (seqB x0 x1 x2 (fun _ => 0)) 256 inb_S512x1024_S32x512_256_0 i)

include arg2 arg3 arg4 arg5 arg6 arg7 arg8 arg9 harg2 harg3 harg4 harg5 harg6 harg7 harg8 harg9 arg12 arg13 arg14 c in
theorem pieceAB7 (i : S32x512.Idx) : (show FVec Ideal S32x512 .bf16 from k0_pay102 (kernelRun0_A.sl.r c arg2 harg2 arg3 harg3 arg4 harg4 arg12 x0 x1 x2) (kernelRun0_A.sl.r_82 c arg2 harg2 arg3 harg3 arg4 harg4 arg9 harg9 arg12 arg14 x0 x1 x2 x7) (kernelRun0_A.sl.v1980 c arg2 harg2 arg3 harg3 arg4 harg4 arg12 arg14 x0 x1 x2) (kernelRun0_A.sl.r_35 c arg9 harg9 x7)) i
    = mixes x0 x1 x2 x3 x4 x5 x6 x7 (seqA x0 x1 x2 (fun _ => 0)) (seqB x0 x1 x2 (fun _ => 0)) ((Rect.unit (s := S512x1024) ![224, 512] S32x512.size inb_S512x1024_S32x512_224_512).emb i) := by
  simp only [kernelRun0_A.sl.r_35, kernelRun0_A.sl.r_82, kernelRun0_A.sl.v1969, kernelRun0_A.sl.v1974, kernelRun0_A.sl.v1980, read_w3, gate_A, read1_A, read2_A]
  exact (congrFun (blockB7 (fun k => band (seqB x0 x1 x2 (fun _ => 0)) (224 + 6 + k)) (wrow (fun k l => x7 (ix2 k l))) (gates x0 x1 x2)) i).trans
    (bandB x0 x1 x2 x3 x4 x5 x6 x7 (seqA x0 x1 x2 (fun _ => 0)) (seqB x0 x1 x2 (fun _ => 0)) 224 _ inb_S512x1024_S32x512_224_512 i)

include arg2 arg3 arg4 arg5 arg6 arg7 arg8 arg9 harg2 harg3 harg4 harg5 harg6 harg7 harg8 harg9 arg12 arg13 arg14 c in
theorem pieceAA7 (i : S32x512.Idx) : (show FVec Ideal S32x512 .bf16 from k0_pay100 (kernelRun0_A.sl.r_80 c arg2 harg2 arg3 harg3 arg4 harg4 arg5 harg5 arg6 harg6 arg12 arg13 x0 x1 x2 x3 x4) (kernelRun0_A.sl.r_81 c arg7 harg7 x5) (kernelRun0_A.sl.r_33 c arg8 harg8 x6)) i
    = mixes x0 x1 x2 x3 x4 x5 x6 x7 (seqA x0 x1 x2 (fun _ => 0)) (seqB x0 x1 x2 (fun _ => 0)) ((Rect.unit (s := S512x1024) ![224, 0] S32x512.size inb_S512x1024_S32x512_224_0).emb i) := by
  simp only [kernelRun0_A.sl.r_33, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.v1753, kernelRun0_A.sl.v1759, kernelRun0_A.sl.v1765, kernelRun0_A.sl.v1771, kernelRun0_A.sl.v1777, kernelRun0_A.sl.v1783, kernelRun0_A.sl.v1789, kernelRun0_A.sl.v1795, kernelRun0_A.sl.v1801, kernelRun0_A.sl.v1807, kernelRun0_A.sl.v1813, kernelRun0_A.sl.v1819, kernelRun0_A.sl.v1825, kernelRun0_A.sl.v1831, kernelRun0_A.sl.v1837, kernelRun0_A.sl.v1843, kernelRun0_A.sl.v1849, kernelRun0_A.sl.v1855, kernelRun0_A.sl.v1861, kernelRun0_A.sl.v1867, kernelRun0_A.sl.v1873, kernelRun0_A.sl.v1879, kernelRun0_A.sl.v1885, kernelRun0_A.sl.v1891, kernelRun0_A.sl.v1897, kernelRun0_A.sl.v1903, kernelRun0_A.sl.v1909, kernelRun0_A.sl.v1915, kernelRun0_A.sl.v1921, kernelRun0_A.sl.v1927, kernelRun0_A.sl.v1933, read_w31, read_row, read1_A, read2_A]
  exact (congrFun (blockA7 (fun k => band (seqA x0 x1 x2 (fun _ => 0)) (224 + 2 + k)) (wrow (fun k l => x3 (ix2 k l))) x4 x5 x6) i).trans
    (bandA x0 x1 x2 x3 x4 x5 x6 x7 (seqA x0 x1 x2 (fun _ => 0)) (seqB x0 x1 x2 (fun _ => 0)) 224 inb_S512x1024_S32x512_224_0 i)

include arg2 arg3 arg4 arg5 arg6 arg7 arg8 arg9 harg2 harg3 harg4 harg5 harg6 harg7 harg8 harg9 arg12 arg13 arg14 c in
theorem pieceAB6 (i : S32x512.Idx) : (show FVec Ideal S32x512 .bf16 from k0_pay87 (kernelRun0_A.sl.r c arg2 harg2 arg3 harg3 arg4 harg4 arg12 x0 x1 x2) (kernelRun0_A.sl.v1726 c arg2 harg2 arg3 harg3 arg4 harg4 arg12 arg14 x0 x1 x2) (View.readAt (Elt Ideal) arg9.view (Rect.unit (s := S3x512) ![0, 0] S1x512.size inb_S3x512_S1x512_0_0).toLoadRect (harg9.unread x7)) (kernelRun0_A.sl.v1731 c arg2 harg2 arg3 harg3 arg4 harg4 arg12 arg14 x0 x1 x2) (View.readAt (Elt Ideal) arg9.view (Rect.unit (s := S3x512) ![1, 0] S1x512.size inb_S3x512_S1x512_1_0).toLoadRect (harg9.unread x7)) (kernelRun0_A.sl.v1737 c arg2 harg2 arg3 harg3 arg4 harg4 arg12 arg14 x0 x1 x2) (View.readAt (Elt Ideal) arg9.view (Rect.unit (s := S3x512) ![2, 0] S1x512.size inb_S3x512_S1x512_2_0).toLoadRect (harg9.unread x7))) i
    = mixes x0 x1 x2 x3 x4 x5 x6 x7 (seqA x0 x1 x2 (fun _ => 0)) (seqB x0 x1 x2 (fun _ => 0)) ((Rect.unit (s := S512x1024) ![192, 512] S32x512.size inb_S512x1024_S32x512_192_512).emb i) := by
  simp only [kernelRun0_A.sl.v1726, kernelRun0_A.sl.v1731, kernelRun0_A.sl.v1737, read_w3, gate_A, read1_A, read2_A]
  exact (congrFun (blockB6 (fun k => band (seqB x0 x1 x2 (fun _ => 0)) (192 + 6 + k)) (wrow (fun k l => x7 (ix2 k l))) (gates x0 x1 x2)) i).trans
    (bandB x0 x1 x2 x3 x4 x5 x6 x7 (seqA x0 x1 x2 (fun _ => 0)) (seqB x0 x1 x2 (fun _ => 0)) 192 _ inb_S512x1024_S32x512_192_512 i)

include arg2 arg3 arg4 arg5 arg6 arg7 arg8 arg9 harg2 harg3 harg4 harg5 harg6 harg7 harg8 harg9 arg12 arg13 arg14 c in
theorem pieceAA6 (i : S32x512.Idx) : (show FVec Ideal S32x512 .bf16 from k0_pay86 (kernelRun0_A.sl.r_69 c arg2 harg2 arg3 harg3 arg4 harg4 arg5 harg5 arg6 harg6 arg12 arg13 x0 x1 x2 x3 x4) (kernelRun0_A.sl.v1684 c arg2 harg2 arg3 harg3 arg4 harg4 arg12 arg13 x0 x1 x2) (View.readAt (Elt Ideal) arg5.view (Rect.unit (s := S31x512) ![29, 0] S1x512.size inb_S31x512_S1x512_29_0).toLoadRect (harg5.unread x3)) (kernelRun0_A.sl.v1690 c arg2 harg2 arg3 harg3 arg4 harg4 arg12 arg13 x0 x1 x2) (View.readAt (Elt Ideal) arg5.view (Rect.unit (s := S31x512) ![30, 0] S1x512.size inb_S31x512_S1x512_30_0).toLoadRect (harg5.unread x3)) (View.readAt (Elt Ideal) arg7.view (Rect.unit (s := S1x512) ![0, 0] S1x512.size inb_S1x512_S1x512_0_0).toLoadRect (harg7.unread x5)) (View.readAt (Elt Ideal) arg8.view (Rect.unit (s := S1x512) ![0, 0] S1x512.size inb_S1x512_S1x512_0_0).toLoadRect (harg8.unread x6))) i
    = mixes x0 x1 x2 x3 x4 x5 x6 x7 (seqA x0 x1 x2 (fun _ => 0)) (seqB x0 x1 x2 (fun _ => 0)) ((Rect.unit (s := S512x1024) ![192, 0] S32x512.size inb_S512x1024_S32x512_192_0).emb i) := by
  simp only [kernelRun0_A.sl.r_65, kernelRun0_A.sl.r_66, kernelRun0_A.sl.r_67, kernelRun0_A.sl.r_68, kernelRun0_A.sl.r_69, kernelRun0_A.sl.v1510, kernelRun0_A.sl.v1516, kernelRun0_A.sl.v1522, kernelRun0_A.sl.v1528, kernelRun0_A.sl.v1534, kernelRun0_A.sl.v1540, kernelRun0_A.sl.v1546, kernelRun0_A.sl.v1552, kernelRun0_A.sl.v1558, kernelRun0_A.sl.v1564, kernelRun0_A.sl.v1570, kernelRun0_A.sl.v1576, kernelRun0_A.sl.v1582, kernelRun0_A.sl.v1588, kernelRun0_A.sl.v1594, kernelRun0_A.sl.v1600, kernelRun0_A.sl.v1606, kernelRun0_A.sl.v1612, kernelRun0_A.sl.v1618, kernelRun0_A.sl.v1624, kernelRun0_A.sl.v1630, kernelRun0_A.sl.v1636, kernelRun0_A.sl.v1642, kernelRun0_A.sl.v1648, kernelRun0_A.sl.v1654, kernelRun0_A.sl.v1660, kernelRun0_A.sl.v1666, kernelRun0_A.sl.v1672, kernelRun0_A.sl.v1678, kernelRun0_A.sl.v1684, kernelRun0_A.sl.v1690, read_w31, read_row, read1_A, read2_A]
  exact (congrFun (blockA6 (fun k => band (seqA x0 x1 x2 (fun _ => 0)) (192 + 2 + k)) (wrow (fun k l => x3 (ix2 k l))) x4 x5 x6) i).trans
    (bandA x0 x1 x2 x3 x4 x5 x6 x7 (seqA x0 x1 x2 (fun _ => 0)) (seqB x0 x1 x2 (fun _ => 0)) 192 inb_S512x1024_S32x512_192_0 i)

include arg2 arg3 arg4 arg5 arg6 arg7 arg8 arg9 harg2 harg3 harg4 harg5 harg6 harg7 harg8 harg9 arg12 arg13 arg14 c in
theorem pieceAB5 (i : S32x512.Idx) : (show FVec Ideal S32x512 .bf16 from kernelRun0_A.sl.r_64 c arg2 harg2 arg3 harg3 arg4 harg4 arg9 harg9 arg12 arg14 x0 x1 x2 x7) i
    = mixes x0 x1 x2 x3 x4 x5 x6 x7 (seqA x0 x1 x2 (fun _ => 0)) (seqB x0 x1 x2 (fun _ => 0)) ((Rect.unit (s := S512x1024) ![160, 512] S32x512.size inb_S512x1024_S32x512_160_512).emb i) := by
  simp only [kernelRun0_A.sl.r_64, kernelRun0_A.sl.v1483, kernelRun0_A.sl.v1488, kernelRun0_A.sl.v1494, read_w3, gate_A, read1_A, read2_A]
  exact (congrFun (blockB5 (fun k => band (seqB x0 x1 x2 (fun _ => 0)) (160 + 6 + k)) (wrow (fun k l => x7 (ix2 k l))) (gates x0 x1 x2)) i).trans
    (bandB x0 x1 x2 x3 x4 x5 x6 x7 (seqA x0 x1 x2 (fun _ => 0)) (seqB x0 x1 x2 (fun _ => 0)) 160 _ inb_S512x1024_S32x512_160_512 i)

include arg2 arg3 arg4 arg5 arg6 arg7 arg8 arg9 harg2 harg3 harg4 harg5 harg6 harg7 harg8 harg9 arg12 arg13 arg14 c in
theorem pieceAA5 (i : S32x512.Idx) : (show FVec Ideal S32x512 .bf16 from k0_pay79 (kernelRun0_A.sl.r_60 c arg7 harg7 x5) (kernelRun0_A.sl.r_61 c arg8 harg8 x6) (kernelRun0_A.sl.r_62 c arg2 harg2 arg3 harg3 arg4 harg4 arg5 harg5 arg6 harg6 arg12 arg13 x0 x1 x2 x3 x4) (kernelRun0_A.sl.r_63 c arg2 harg2 arg3 harg3 arg4 harg4 arg5 harg5 arg6 harg6 arg12 arg13 x0 x1 x2 x3 x4)) i
    = mixes x0 x1 x2 x3 x4 x5 x6 x7 (seqA x0 x1 x2 (fun _ => 0)) (seqB x0 x1 x2 (fun _ => 0)) ((Rect.unit (s := S512x1024) ![160, 0] S32x512.size inb_S512x1024_S32x512_160_0).emb i) := by
  simp only [kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.v1267, kernelRun0_A.sl.v1273, kernelRun0_A.sl.v1279, kernelRun0_A.sl.v1285, kernelRun0_A.sl.v1291, kernelRun0_A.sl.v1297, kernelRun0_A.sl.v1303, kernelRun0_A.sl.v1309, kernelRun0_A.sl.v1315, kernelRun0_A.sl.v1321, kernelRun0_A.sl.v1327, kernelRun0_A.sl.v1333, kernelRun0_A.sl.v1339, kernelRun0_A.sl.v1345, kernelRun0_A.sl.v1351, kernelRun0_A.sl.v1357, kernelRun0_A.sl.v1363, kernelRun0_A.sl.v1369, kernelRun0_A.sl.v1375, kernelRun0_A.sl.v1381, kernelRun0_A.sl.v1387, kernelRun0_A.sl.v1393, kernelRun0_A.sl.v1399, kernelRun0_A.sl.v1405, kernelRun0_A.sl.v1411, kernelRun0_A.sl.v1417, kernelRun0_A.sl.v1423, kernelRun0_A.sl.v1429, kernelRun0_A.sl.v1435, kernelRun0_A.sl.v1441, kernelRun0_A.sl.v1447, read_w31, read_row, read1_A, read2_A]
  exact (congrFun (blockA5 (fun k => band (seqA x0 x1 x2 (fun _ => 0)) (160 + 2 + k)) (wrow (fun k l => x3 (ix2 k l))) x4 x5 x6) i).trans
    (bandA x0 x1 x2 x3 x4 x5 x6 x7 (seqA x0 x1 x2 (fun _ => 0)) (seqB x0 x1 x2 (fun _ => 0)) 160 inb_S512x1024_S32x512_160_0 i)

include arg2 arg3 arg4 arg5 arg6 arg7 arg8 arg9 harg2 harg3 harg4 harg5 harg6 harg7 harg8 harg9 arg12 arg13 arg14 c in
theorem pieceAB4 (i : S32x512.Idx) : (show FVec Ideal S32x512 .bf16 from k0_pay64 (kernelRun0_A.sl.r c arg2 harg2 arg3 harg3 arg4 harg4 arg12 x0 x1 x2) (kernelRun0_A.sl.r_49 c arg2 harg2 arg3 harg3 arg4 harg4 arg9 harg9 arg12 arg14 x0 x1 x2 x7) (kernelRun0_A.sl.v1245 c arg2 harg2 arg3 harg3 arg4 harg4 arg12 arg14 x0 x1 x2) (View.readAt (Elt Ideal) arg9.view (Rect.unit (s := S3x512) ![1, 0] S1x512.size inb_S3x512_S1x512_1_0).toLoadRect (harg9.unread x7)) (kernelRun0_A.sl.v1251 c arg2 harg2 arg3 harg3 arg4 harg4 arg12 arg14 x0 x1 x2) (View.readAt (Elt Ideal) arg9.view (Rect.unit (s := S3x512) ![2, 0] S1x512.size inb_S3x512_S1x512_2_0).toLoadRect (harg9.unread x7))) i
    = mixes x0 x1 x2 x3 x4 x5 x6 x7 (seqA x0 x1 x2 (fun _ => 0)) (seqB x0 x1 x2 (fun _ => 0)) ((Rect.unit (s := S512x1024) ![128, 512] S32x512.size inb_S512x1024_S32x512_128_512).emb i) := by
  simp only [kernelRun0_A.sl.r_49, kernelRun0_A.sl.v1240, kernelRun0_A.sl.v1245, kernelRun0_A.sl.v1251, read_w3, gate_A, read1_A, read2_A]
  exact (congrFun (blockB4 (fun k => band (seqB x0 x1 x2 (fun _ => 0)) (128 + 6 + k)) (wrow (fun k l => x7 (ix2 k l))) (gates x0 x1 x2)) i).trans
    (bandB x0 x1 x2 x3 x4 x5 x6 x7 (seqA x0 x1 x2 (fun _ => 0)) (seqB x0 x1 x2 (fun _ => 0)) 128 _ inb_S512x1024_S32x512_128_512 i)

include arg2 arg3 arg4 arg5 arg6 arg7 arg8 arg9 harg2 harg3 harg4 harg5 harg6 harg7 harg8 harg9 arg12 arg13 arg14 c in
theorem pieceAA4 (i : S32x512.Idx) : (show FVec Ideal S32x512 .bf16 from k0_pay62 (kernelRun0_A.sl.r_48 c arg2 harg2 arg3 harg3 arg4 harg4 arg5 harg5 arg6 harg6 arg12 arg13 x0 x1 x2 x3 x4) (kernelRun0_A.sl.v1204 c arg2 harg2 arg3 harg3 arg4 harg4 arg12 arg13 x0 x1 x2) (View.readAt (Elt Ideal) arg5.view (Rect.unit (s := S31x512) ![30, 0] S1x512.size inb_S31x512_S1x512_30_0).toLoadRect (harg5.unread x3)) (View.readAt (Elt Ideal) arg7.view (Rect.unit (s := S1x512) ![0, 0] S1x512.size inb_S1x512_S1x512_0_0).toLoadRect (harg7.unread x5)) (View.readAt (Elt Ideal) arg8.view (Rect.unit (s := S1x512) ![0, 0] S1x512.size inb_S1x512_S1x512_0_0).toLoadRect (harg8.unread x6))) i
    = mixes x0 x1 x2 x3 x4 x5 x6 x7 (seqA x0 x1 x2 (fun _ => 0)) (seqB x0 x1 x2 (fun _ => 0)) ((Rect.unit (s := S512x1024) ![128, 0] S32x512.size inb_S512x1024_S32x512_128_0).emb i) := by
  simp only [kernelRun0_A.sl.r_43, kernelRun0_A.sl.r_44, kernelRun0_A.sl.r_45, kernelRun0_A.sl.r_46, kernelRun0_A.sl.r_47, kernelRun0_A.sl.r_48, kernelRun0_A.sl.v1024, kernelRun0_A.sl.v1030, kernelRun0_A.sl.v1036, kernelRun0_A.sl.v1042, kernelRun0_A.sl.v1048, kernelRun0_A.sl.v1054, kernelRun0_A.sl.v1060, kernelRun0_A.sl.v1066, kernelRun0_A.sl.v1072, kernelRun0_A.sl.v1078, kernelRun0_A.sl.v1084, kernelRun0_A.sl.v1090, kernelRun0_A.sl.v1096, kernelRun0_A.sl.v1102, kernelRun0_A.sl.v1108, kernelRun0_A.sl.v1114, kernelRun0_A.sl.v1120, kernelRun0_A.sl.v1126, kernelRun0_A.sl.v1132, kernelRun0_A.sl.v1138, kernelRun0_A.sl.v1144, kernelRun0_A.sl.v1150, kernelRun0_A.sl.v1156, kernelRun0_A.sl.v1162, kernelRun0_A.sl.v1168, kernelRun0_A.sl.v1174, kernelRun0_A.sl.v1180, kernelRun0_A.sl.v1186, kernelRun0_A.sl.v1192, kernelRun0_A.sl.v1198, kernelRun0_A.sl.v1204, read_w31, read_row, read1_A, read2_A]
  exact (congrFun (blockA4 (fun k => band (seqA x0 x1 x2 (fun _ => 0)) (128 + 2 + k)) (wrow (fun k l => x3 (ix2 k l))) x4 x5 x6) i).trans
    (bandA x0 x1 x2 x3 x4 x5 x6 x7 (seqA x0 x1 x2 (fun _ => 0)) (seqB x0 x1 x2 (fun _ => 0)) 128 inb_S512x1024_S32x512_128_0 i)

include arg2 arg3 arg4 arg5 arg6 arg7 arg8 arg9 harg2 harg3 harg4 harg5 harg6 harg7 harg8 harg9 arg12 arg13 arg14 c in
theorem pieceAB3 (i : S32x512.Idx) : (show FVec Ideal S32x512 .bf16 from k0_pay55 (kernelRun0_A.sl.r c arg2 harg2 arg3 harg3 arg4 harg4 arg12 x0 x1 x2) (kernelRun0_A.sl.v997 c arg2 harg2 arg3 harg3 arg4 harg4 arg12 arg14 x0 x1 x2) (View.readAt (Elt Ideal) arg9.view (Rect.unit (s := S3x512) ![0, 0] S1x512.size inb_S3x512_S1x512_0_0).toLoadRect (harg9.unread x7)) (kernelRun0_A.sl.v1002 c arg2 harg2 arg3 harg3 arg4 harg4 arg12 arg14 x0 x1 x2) (View.readAt (Elt Ideal) arg9.view (Rect.unit (s := S3x512) ![1, 0] S1x512.size inb_S3x512_S1x512_1_0).toLoadRect (harg9.unread x7)) (kernelRun0_A.sl.v1008 c arg2 harg2 arg3 harg3 arg4 harg4 arg12 arg14 x0 x1 x2) (View.readAt (Elt Ideal) arg9.view (Rect.unit (s := S3x512) ![2, 0] S1x512.size inb_S3x512_S1x512_2_0).toLoadRect (harg9.unread x7))) i
    = mixes x0 x1 x2 x3 x4 x5 x6 x7 (seqA x0 x1 x2 (fun _ => 0)) (seqB x0 x1 x2 (fun _ => 0)) ((Rect.unit (s := S512x1024) ![96, 512] S32x512.size inb_S512x1024_S32x512_96_512).emb i) := by
  simp only [kernelRun0_A.sl.v997, kernelRun0_A.sl.v1002, kernelRun0_A.sl.v1008, read_w3, gate_A, read1_A, read2_A]
  exact (congrFun (blockB3 (fun k => band (seqB x0 x1 x2 (fun _ => 0)) (96 + 6 + k)) (wrow (fun k l => x7 (ix2 k l))) (gates x0 x1 x2)) i).trans
    (bandB x0 x1 x2 x3 x4 x5 x6 x7 (seqA x0 x1 x2 (fun _ => 0)) (seqB x0 x1 x2 (fun _ => 0)) 96 _ inb_S512x1024_S32x512_96_512 i)

include arg2 arg3 arg4 arg5 arg6 arg7 arg8 arg9 harg2 harg3 harg4 harg5 harg6 harg7 harg8 harg9 arg12 arg13 arg14 c in
theorem pieceAA3 (i : S32x512.Idx) : (show FVec Ideal S32x512 .bf16 from k0_pay54 (kernelRun0_A.sl.r_41 c arg8 harg8 x6) (kernelRun0_A.sl.r_42 c arg2 harg2 arg3 harg3 arg4 harg4 arg5 harg5 arg6 harg6 arg7 harg7 arg12 arg13 x0 x1 x2 x3 x4 x5)) i
    = mixes x0 x1 x2 x3 x4 x5 x6 x7 (seqA x0 x1 x2 (fun _ => 0)) (seqB x0 x1 x2 (fun _ => 0)) ((Rect.unit (s := S512x1024) ![96, 0] S32x512.size inb_S512x1024_S32x512_96_0).emb i) := by
  simp only [kernelRun0_A.sl.r_36, kernelRun0_A.sl.r_37, kernelRun0_A.sl.r_38, kernelRun0_A.sl.r_39, kernelRun0_A.sl.r_40, kernelRun0_A.sl.r_41, kernelRun0_A.sl.r_42, kernelRun0_A.sl.v781, kernelRun0_A.sl.v787, kernelRun0_A.sl.v793, kernelRun0_A.sl.v799, kernelRun0_A.sl.v805, kernelRun0_A.sl.v811, kernelRun0_A.sl.v817, kernelRun0_A.sl.v823, kernelRun0_A.sl.v829, kernelRun0_A.sl.v835, kernelRun0_A.sl.v841, kernelRun0_A.sl.v847, kernelRun0_A.sl.v853, kernelRun0_A.sl.v859, kernelRun0_A.sl.v865, kernelRun0_A.sl.v871, kernelRun0_A.sl.v877, kernelRun0_A.sl.v883, kernelRun0_A.sl.v889, kernelRun0_A.sl.v895, kernelRun0_A.sl.v901, kernelRun0_A.sl.v907, kernelRun0_A.sl.v913, kernelRun0_A.sl.v919, kernelRun0_A.sl.v925, kernelRun0_A.sl.v931, kernelRun0_A.sl.v937, kernelRun0_A.sl.v943, kernelRun0_A.sl.v949, kernelRun0_A.sl.v955, kernelRun0_A.sl.v961, read_w31, read_row, read1_A, read2_A]
  exact (congrFun (blockA3 (fun k => band (seqA x0 x1 x2 (fun _ => 0)) (96 + 2 + k)) (wrow (fun k l => x3 (ix2 k l))) x4 x5 x6) i).trans
    (bandA x0 x1 x2 x3 x4 x5 x6 x7 (seqA x0 x1 x2 (fun _ => 0)) (seqB x0 x1 x2 (fun _ => 0)) 96 inb_S512x1024_S32x512_96_0 i)

include arg2 arg3 arg4 arg5 arg6 arg7 arg8 arg9 harg2 harg3 harg4 harg5 harg6 harg7 harg8 harg9 arg12 arg13 arg14 c in
theorem pieceAB2 (i : S32x512.Idx) : (show FVec Ideal S32x512 .bf16 from k0_pay46 (kernelRun0_A.sl.r c arg2 harg2 arg3 harg3 arg4 harg4 arg12 x0 x1 x2) (kernelRun0_A.sl.r_34 c arg2 harg2 arg3 harg3 arg4 harg4 arg9 harg9 arg12 arg14 x0 x1 x2 x7) (kernelRun0_A.sl.v765 c arg2 harg2 arg3 harg3 arg4 harg4 arg12 arg14 x0 x1 x2) (kernelRun0_A.sl.r_35 c arg9 harg9 x7)) i
    = mixes x0 x1 x2 x3 x4 x5 x6 x7 (seqA x0 x1 x2 (fun _ => 0)) (seqB x0 x1 x2 (fun _ => 0)) ((Rect.unit (s := S512x1024) ![64, 512] S32x512.size inb_S512x1024_S32x512_64_512).emb i) := by
  simp only [kernelRun0_A.sl.r_34, kernelRun0_A.sl.r_35, kernelRun0_A.sl.v754, kernelRun0_A.sl.v759, kernelRun0_A.sl.v765, read_w3, gate_A, read1_A, read2_A]
  exact (congrFun (blockB2 (fun k => band (seqB x0 x1 x2 (fun _ => 0)) (64 + 6 + k)) (wrow (fun k l => x7 (ix2 k l))) (gates x0 x1 x2)) i).trans
    (bandB x0 x1 x2 x3 x4 x5 x6 x7 (seqA x0 x1 x2 (fun _ => 0)) (seqB x0 x1 x2 (fun _ => 0)) 64 _ inb_S512x1024_S32x512_64_512 i)

include arg2 arg3 arg4 arg5 arg6 arg7 arg8 arg9 harg2 harg3 harg4 harg5 harg6 harg7 harg8 harg9 arg12 arg13 arg14 c in
theorem pieceAA2 (i : S32x512.Idx) : (show FVec Ideal S32x512 .bf16 from k0_pay44 (kernelRun0_A.sl.r_31 c arg2 harg2 arg3 harg3 arg4 harg4 arg5 harg5 arg6 harg6 arg12 arg13 x0 x1 x2 x3 x4) (kernelRun0_A.sl.r_32 c arg7 harg7 x5) (kernelRun0_A.sl.r_33 c arg8 harg8 x6)) i
    = mixes x0 x1 x2 x3 x4 x5 x6 x7 (seqA x0 x1 x2 (fun _ => 0)) (seqB x0 x1 x2 (fun _ => 0)) ((Rect.unit (s := S512x1024) ![64, 0] S32x512.size inb_S512x1024_S32x512_64_0).emb i) := by
  simp only [kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.v538, kernelRun0_A.sl.v544, kernelRun0_A.sl.v550, kernelRun0_A.sl.v556, kernelRun0_A.sl.v562, kernelRun0_A.sl.v568, kernelRun0_A.sl.v574, kernelRun0_A.sl.v580, kernelRun0_A.sl.v586, kernelRun0_A.sl.v592, kernelRun0_A.sl.v598, kernelRun0_A.sl.v604, kernelRun0_A.sl.v610, kernelRun0_A.sl.v616, kernelRun0_A.sl.v622, kernelRun0_A.sl.v628, kernelRun0_A.sl.v634, kernelRun0_A.sl.v640, kernelRun0_A.sl.v646, kernelRun0_A.sl.v652, kernelRun0_A.sl.v658, kernelRun0_A.sl.v664, kernelRun0_A.sl.v670, kernelRun0_A.sl.v676, kernelRun0_A.sl.v682, kernelRun0_A.sl.v688, kernelRun0_A.sl.v694, kernelRun0_A.sl.v700, kernelRun0_A.sl.v706, kernelRun0_A.sl.v712, kernelRun0_A.sl.v718, read_w31, read_row, read1_A, read2_A]
  exact (congrFun (blockA2 (fun k => band (seqA x0 x1 x2 (fun _ => 0)) (64 + 2 + k)) (wrow (fun k l => x3 (ix2 k l))) x4 x5 x6) i).trans
    (bandA x0 x1 x2 x3 x4 x5 x6 x7 (seqA x0 x1 x2 (fun _ => 0)) (seqB x0 x1 x2 (fun _ => 0)) 64 inb_S512x1024_S32x512_64_0 i)

include arg2 arg3 arg4 arg5 arg6 arg7 arg8 arg9 harg2 harg3 harg4 harg5 harg6 harg7 harg8 harg9 arg12 arg13 arg14 c in
theorem pieceAB1 (i : S32x512.Idx) : (show FVec Ideal S32x512 .bf16 from k0_pay31 (kernelRun0_A.sl.r c arg2 harg2 arg3 harg3 arg4 harg4 arg12 x0 x1 x2) (kernelRun0_A.sl.v511 c arg2 harg2 arg3 harg3 arg4 harg4 arg12 arg14 x0 x1 x2) (View.readAt (Elt Ideal) arg9.view (Rect.unit (s := S3x512) ![0, 0] S1x512.size inb_S3x512_S1x512_0_0).toLoadRect (harg9.unread x7)) (kernelRun0_A.sl.v516 c arg2 harg2 arg3 harg3 arg4 harg4 arg12 arg14 x0 x1 x2) (View.readAt (Elt Ideal) arg9.view (Rect.unit (s := S3x512) ![1, 0] S1x512.size inb_S3x512_S1x512_1_0).toLoadRect (harg9.unread x7)) (kernelRun0_A.sl.v522 c arg2 harg2 arg3 harg3 arg4 harg4 arg12 arg14 x0 x1 x2) (View.readAt (Elt Ideal) arg9.view (Rect.unit (s := S3x512) ![2, 0] S1x512.size inb_S3x512_S1x512_2_0).toLoadRect (harg9.unread x7))) i
    = mixes x0 x1 x2 x3 x4 x5 x6 x7 (seqA x0 x1 x2 (fun _ => 0)) (seqB x0 x1 x2 (fun _ => 0)) ((Rect.unit (s := S512x1024) ![32, 512] S32x512.size inb_S512x1024_S32x512_32_512).emb i) := by
  simp only [kernelRun0_A.sl.v511, kernelRun0_A.sl.v516, kernelRun0_A.sl.v522, read_w3, gate_A, read1_A, read2_A]
  exact (congrFun (blockB1 (fun k => band (seqB x0 x1 x2 (fun _ => 0)) (32 + 6 + k)) (wrow (fun k l => x7 (ix2 k l))) (gates x0 x1 x2)) i).trans
    (bandB x0 x1 x2 x3 x4 x5 x6 x7 (seqA x0 x1 x2 (fun _ => 0)) (seqB x0 x1 x2 (fun _ => 0)) 32 _ inb_S512x1024_S32x512_32_512 i)

include arg2 arg3 arg4 arg5 arg6 arg7 arg8 arg9 harg2 harg3 harg4 harg5 harg6 harg7 harg8 harg9 arg12 arg13 arg14 c in
theorem pieceAA1 (i : S32x512.Idx) : (show FVec Ideal S32x512 .bf16 from k0_pay30 (kernelRun0_A.sl.r_20 c arg2 harg2 arg3 harg3 arg4 harg4 arg5 harg5 arg6 harg6 arg12 arg13 x0 x1 x2 x3 x4) (kernelRun0_A.sl.v469 c arg2 harg2 arg3 harg3 arg4 harg4 arg12 arg13 x0 x1 x2) (View.readAt (Elt Ideal) arg5.view (Rect.unit (s := S31x512) ![29, 0] S1x512.size inb_S31x512_S1x512_29_0).toLoadRect (harg5.unread x3)) (kernelRun0_A.sl.v475 c arg2 harg2 arg3 harg3 arg4 harg4 arg12 arg13 x0 x1 x2) (View.readAt (Elt Ideal) arg5.view (Rect.unit (s := S31x512) ![30, 0] S1x512.size inb_S31x512_S1x512_30_0).toLoadRect (harg5.unread x3)) (View.readAt (Elt Ideal) arg7.view (Rect.unit (s := S1x512) ![0, 0] S1x512.size inb_S1x512_S1x512_0_0).toLoadRect (harg7.unread x5)) (View.readAt (Elt Ideal) arg8.view (Rect.unit (s := S1x512) ![0, 0] S1x512.size inb_S1x512_S1x512_0_0).toLoadRect (harg8.unread x6))) i
    = mixes x0 x1 x2 x3 x4 x5 x6 x7 (seqA x0 x1 x2 (fun _ => 0)) (seqB x0 x1 x2 (fun _ => 0)) ((Rect.unit (s := S512x1024) ![32, 0] S32x512.size inb_S512x1024_S32x512_32_0).emb i) := by
  simp only [kernelRun0_A.sl.r_16, kernelRun0_A.sl.r_17, kernelRun0_A.sl.r_18, kernelRun0_A.sl.r_19, kernelRun0_A.sl.r_20, kernelRun0_A.sl.v295, kernelRun0_A.sl.v301, kernelRun0_A.sl.v307, kernelRun0_A.sl.v313, kernelRun0_A.sl.v319, kernelRun0_A.sl.v325, kernelRun0_A.sl.v331, kernelRun0_A.sl.v337, kernelRun0_A.sl.v343, kernelRun0_A.sl.v349, kernelRun0_A.sl.v355, kernelRun0_A.sl.v361, kernelRun0_A.sl.v367, kernelRun0_A.sl.v373, kernelRun0_A.sl.v379, kernelRun0_A.sl.v385, kernelRun0_A.sl.v391, kernelRun0_A.sl.v397, kernelRun0_A.sl.v403, kernelRun0_A.sl.v409, kernelRun0_A.sl.v415, kernelRun0_A.sl.v421, kernelRun0_A.sl.v427, kernelRun0_A.sl.v433, kernelRun0_A.sl.v439, kernelRun0_A.sl.v445, kernelRun0_A.sl.v451, kernelRun0_A.sl.v457, kernelRun0_A.sl.v463, kernelRun0_A.sl.v469, kernelRun0_A.sl.v475, read_w31, read_row, read1_A, read2_A]
  exact (congrFun (blockA1 (fun k => band (seqA x0 x1 x2 (fun _ => 0)) (32 + 2 + k)) (wrow (fun k l => x3 (ix2 k l))) x4 x5 x6) i).trans
    (bandA x0 x1 x2 x3 x4 x5 x6 x7 (seqA x0 x1 x2 (fun _ => 0)) (seqB x0 x1 x2 (fun _ => 0)) 32 inb_S512x1024_S32x512_32_0 i)

include arg2 arg3 arg4 arg5 arg6 arg7 arg8 arg9 harg2 harg3 harg4 harg5 harg6 harg7 harg8 harg9 arg12 arg13 arg14 c in
theorem pieceAB0 (i : S32x512.Idx) : (show FVec Ideal S32x512 .bf16 from kernelRun0_A.sl.r_15 c arg2 harg2 arg3 harg3 arg4 harg4 arg9 harg9 arg12 arg14 x0 x1 x2 x7) i
    = mixes x0 x1 x2 x3 x4 x5 x6 x7 (seqA x0 x1 x2 (fun _ => 0)) (seqB x0 x1 x2 (fun _ => 0)) ((Rect.unit (s := S512x1024) ![0, 512] S32x512.size inb_S512x1024_S32x512_0_512).emb i) := by
  simp only [kernelRun0_A.sl.r_15, kernelRun0_A.sl.v268, kernelRun0_A.sl.v273, kernelRun0_A.sl.v279, read_w3, gate_A, read1_A, read2_A]
  exact (congrFun (blockB0 (fun k => band (seqB x0 x1 x2 (fun _ => 0)) (0 + 6 + k)) (wrow (fun k l => x7 (ix2 k l))) (gates x0 x1 x2)) i).trans
    (bandB x0 x1 x2 x3 x4 x5 x6 x7 (seqA x0 x1 x2 (fun _ => 0)) (seqB x0 x1 x2 (fun _ => 0)) 0 _ inb_S512x1024_S32x512_0_512 i)

include arg2 arg3 arg4 arg5 arg6 arg7 arg8 arg9 harg2 harg3 harg4 harg5 harg6 harg7 harg8 harg9 arg12 arg13 arg14 c in
theorem pieceAA0 (i : S32x512.Idx) : (show FVec Ideal S32x512 .bf16 from k0_pay23 (kernelRun0_A.sl.r_11 c arg7 harg7 x5) (kernelRun0_A.sl.r_12 c arg8 harg8 x6) (kernelRun0_A.sl.r_13 c arg2 harg2 arg3 harg3 arg4 harg4 arg5 harg5 arg6 harg6 arg12 arg13 x0 x1 x2 x3 x4) (kernelRun0_A.sl.r_14 c arg2 harg2 arg3 harg3 arg4 harg4 arg5 harg5 arg6 harg6 arg12 arg13 x0 x1 x2 x3 x4)) i
    = mixes x0 x1 x2 x3 x4 x5 x6 x7 (seqA x0 x1 x2 (fun _ => 0)) (seqB x0 x1 x2 (fun _ => 0)) ((Rect.unit (s := S512x1024) ![0, 0] S32x512.size inb_S512x1024_S32x512_0_0).emb i) := by
  simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.v52, kernelRun0_A.sl.v58, kernelRun0_A.sl.v64, kernelRun0_A.sl.v70, kernelRun0_A.sl.v76, kernelRun0_A.sl.v82, kernelRun0_A.sl.v88, kernelRun0_A.sl.v94, kernelRun0_A.sl.v100, kernelRun0_A.sl.v106, kernelRun0_A.sl.v112, kernelRun0_A.sl.v118, kernelRun0_A.sl.v124, kernelRun0_A.sl.v130, kernelRun0_A.sl.v136, kernelRun0_A.sl.v142, kernelRun0_A.sl.v148, kernelRun0_A.sl.v154, kernelRun0_A.sl.v160, kernelRun0_A.sl.v166, kernelRun0_A.sl.v172, kernelRun0_A.sl.v178, kernelRun0_A.sl.v184, kernelRun0_A.sl.v190, kernelRun0_A.sl.v196, kernelRun0_A.sl.v202, kernelRun0_A.sl.v208, kernelRun0_A.sl.v214, kernelRun0_A.sl.v220, kernelRun0_A.sl.v226, kernelRun0_A.sl.v232, read_w31, read_row, read1_A, read2_A]
  exact (congrFun (blockA0 (fun k => band (seqA x0 x1 x2 (fun _ => 0)) (0 + 2 + k)) (wrow (fun k l => x3 (ix2 k l))) x4 x5 x6) i).trans
    (bandA x0 x1 x2 x3 x4 x5 x6 x7 (seqA x0 x1 x2 (fun _ => 0)) (seqB x0 x1 x2 (fun _ => 0)) 0 inb_S512x1024_S32x512_0_0 i)

theorem holds3_A : Holds (mixes x0 x1 x2 x3 x4 x5 x6 x7 (seqA x0 x1 x2 (fun _ => 0)) (seqB x0 x1 x2 (fun _ => 0))) (kernelRun0_A.sl.HS3_32 (F := Ideal) c arg2 harg2 arg3 harg3 arg4 harg4 arg5 harg5 arg6 harg6 arg7 harg7 arg8 harg8 arg9 harg9 arg12 arg13 arg14 x0 x1 x2 x3 x4 x5 x6 x7) := by
  unfold kernelRun0_A.sl.HS3_32
  exact holds_cons (fun (i : S32x512.Idx) => pieceAB15 c arg2 harg2 arg3 harg3 arg4 harg4 arg5 harg5 arg6 harg6 arg7 harg7 arg8 harg8 arg9 harg9 arg12 arg13 arg14 x0 x1 x2 x3 x4 x5 x6 x7 i) (
    holds_cons (fun (i : S32x512.Idx) => pieceAA15 c arg2 harg2 arg3 harg3 arg4 harg4 arg5 harg5 arg6 harg6 arg7 harg7 arg8 harg8 arg9 harg9 arg12 arg13 arg14 x0 x1 x2 x3 x4 x5 x6 x7 i) (
    holds_cons (fun (i : S32x512.Idx) => pieceAB14 c arg2 harg2 arg3 harg3 arg4 harg4 arg5 harg5 arg6 harg6 arg7 harg7 arg8 harg8 arg9 harg9 arg12 arg13 arg14 x0 x1 x2 x3 x4 x5 x6 x7 i) (
    holds_cons (fun (i : S32x512.Idx) => pieceAA14 c arg2 harg2 arg3 harg3 arg4 harg4 arg5 harg5 arg6 harg6 arg7 harg7 arg8 harg8 arg9 harg9 arg12 arg13 arg14 x0 x1 x2 x3 x4 x5 x6 x7 i) (
    holds_cons (fun (i : S32x512.Idx) => pieceAB13 c arg2 harg2 arg3 harg3 arg4 harg4 arg5 harg5 arg6 harg6 arg7 harg7 arg8 harg8 arg9 harg9 arg12 arg13 arg14 x0 x1 x2 x3 x4 x5 x6 x7 i) (
    holds_cons (fun (i : S32x512.Idx) => pieceAA13 c arg2 harg2 arg3 harg3 arg4 harg4 arg5 harg5 arg6 harg6 arg7 harg7 arg8 harg8 arg9 harg9 arg12 arg13 arg14 x0 x1 x2 x3 x4 x5 x6 x7 i) (
    holds_cons (fun (i : S32x512.Idx) => pieceAB12 c arg2 harg2 arg3 harg3 arg4 harg4 arg5 harg5 arg6 harg6 arg7 harg7 arg8 harg8 arg9 harg9 arg12 arg13 arg14 x0 x1 x2 x3 x4 x5 x6 x7 i) (
    holds_cons (fun (i : S32x512.Idx) => pieceAA12 c arg2 harg2 arg3 harg3 arg4 harg4 arg5 harg5 arg6 harg6 arg7 harg7 arg8 harg8 arg9 harg9 arg12 arg13 arg14 x0 x1 x2 x3 x4 x5 x6 x7 i) (
    holds_cons (fun (i : S32x512.Idx) => pieceAB11 c arg2 harg2 arg3 harg3 arg4 harg4 arg5 harg5 arg6 harg6 arg7 harg7 arg8 harg8 arg9 harg9 arg12 arg13 arg14 x0 x1 x2 x3 x4 x5 x6 x7 i) (
    holds_cons (fun (i : S32x512.Idx) => pieceAA11 c arg2 harg2 arg3 harg3 arg4 harg4 arg5 harg5 arg6 harg6 arg7 harg7 arg8 harg8 arg9 harg9 arg12 arg13 arg14 x0 x1 x2 x3 x4 x5 x6 x7 i) (
    holds_cons (fun (i : S32x512.Idx) => pieceAB10 c arg2 harg2 arg3 harg3 arg4 harg4 arg5 harg5 arg6 harg6 arg7 harg7 arg8 harg8 arg9 harg9 arg12 arg13 arg14 x0 x1 x2 x3 x4 x5 x6 x7 i) (
    holds_cons (fun (i : S32x512.Idx) => pieceAA10 c arg2 harg2 arg3 harg3 arg4 harg4 arg5 harg5 arg6 harg6 arg7 harg7 arg8 harg8 arg9 harg9 arg12 arg13 arg14 x0 x1 x2 x3 x4 x5 x6 x7 i) (
    holds_cons (fun (i : S32x512.Idx) => pieceAB9 c arg2 harg2 arg3 harg3 arg4 harg4 arg5 harg5 arg6 harg6 arg7 harg7 arg8 harg8 arg9 harg9 arg12 arg13 arg14 x0 x1 x2 x3 x4 x5 x6 x7 i) (
    holds_cons (fun (i : S32x512.Idx) => pieceAA9 c arg2 harg2 arg3 harg3 arg4 harg4 arg5 harg5 arg6 harg6 arg7 harg7 arg8 harg8 arg9 harg9 arg12 arg13 arg14 x0 x1 x2 x3 x4 x5 x6 x7 i) (
    holds_cons (fun (i : S32x512.Idx) => pieceAB8 c arg2 harg2 arg3 harg3 arg4 harg4 arg5 harg5 arg6 harg6 arg7 harg7 arg8 harg8 arg9 harg9 arg12 arg13 arg14 x0 x1 x2 x3 x4 x5 x6 x7 i) (
    holds_cons (fun (i : S32x512.Idx) => pieceAA8 c arg2 harg2 arg3 harg3 arg4 harg4 arg5 harg5 arg6 harg6 arg7 harg7 arg8 harg8 arg9 harg9 arg12 arg13 arg14 x0 x1 x2 x3 x4 x5 x6 x7 i) (
    holds_cons (fun (i : S32x512.Idx) => pieceAB7 c arg2 harg2 arg3 harg3 arg4 harg4 arg5 harg5 arg6 harg6 arg7 harg7 arg8 harg8 arg9 harg9 arg12 arg13 arg14 x0 x1 x2 x3 x4 x5 x6 x7 i) (
    holds_cons (fun (i : S32x512.Idx) => pieceAA7 c arg2 harg2 arg3 harg3 arg4 harg4 arg5 harg5 arg6 harg6 arg7 harg7 arg8 harg8 arg9 harg9 arg12 arg13 arg14 x0 x1 x2 x3 x4 x5 x6 x7 i) (
    holds_cons (fun (i : S32x512.Idx) => pieceAB6 c arg2 harg2 arg3 harg3 arg4 harg4 arg5 harg5 arg6 harg6 arg7 harg7 arg8 harg8 arg9 harg9 arg12 arg13 arg14 x0 x1 x2 x3 x4 x5 x6 x7 i) (
    holds_cons (fun (i : S32x512.Idx) => pieceAA6 c arg2 harg2 arg3 harg3 arg4 harg4 arg5 harg5 arg6 harg6 arg7 harg7 arg8 harg8 arg9 harg9 arg12 arg13 arg14 x0 x1 x2 x3 x4 x5 x6 x7 i) (
    holds_cons (fun (i : S32x512.Idx) => pieceAB5 c arg2 harg2 arg3 harg3 arg4 harg4 arg5 harg5 arg6 harg6 arg7 harg7 arg8 harg8 arg9 harg9 arg12 arg13 arg14 x0 x1 x2 x3 x4 x5 x6 x7 i) (
    holds_cons (fun (i : S32x512.Idx) => pieceAA5 c arg2 harg2 arg3 harg3 arg4 harg4 arg5 harg5 arg6 harg6 arg7 harg7 arg8 harg8 arg9 harg9 arg12 arg13 arg14 x0 x1 x2 x3 x4 x5 x6 x7 i) (
    holds_cons (fun (i : S32x512.Idx) => pieceAB4 c arg2 harg2 arg3 harg3 arg4 harg4 arg5 harg5 arg6 harg6 arg7 harg7 arg8 harg8 arg9 harg9 arg12 arg13 arg14 x0 x1 x2 x3 x4 x5 x6 x7 i) (
    holds_cons (fun (i : S32x512.Idx) => pieceAA4 c arg2 harg2 arg3 harg3 arg4 harg4 arg5 harg5 arg6 harg6 arg7 harg7 arg8 harg8 arg9 harg9 arg12 arg13 arg14 x0 x1 x2 x3 x4 x5 x6 x7 i) (
    holds_cons (fun (i : S32x512.Idx) => pieceAB3 c arg2 harg2 arg3 harg3 arg4 harg4 arg5 harg5 arg6 harg6 arg7 harg7 arg8 harg8 arg9 harg9 arg12 arg13 arg14 x0 x1 x2 x3 x4 x5 x6 x7 i) (
    holds_cons (fun (i : S32x512.Idx) => pieceAA3 c arg2 harg2 arg3 harg3 arg4 harg4 arg5 harg5 arg6 harg6 arg7 harg7 arg8 harg8 arg9 harg9 arg12 arg13 arg14 x0 x1 x2 x3 x4 x5 x6 x7 i) (
    holds_cons (fun (i : S32x512.Idx) => pieceAB2 c arg2 harg2 arg3 harg3 arg4 harg4 arg5 harg5 arg6 harg6 arg7 harg7 arg8 harg8 arg9 harg9 arg12 arg13 arg14 x0 x1 x2 x3 x4 x5 x6 x7 i) (
    holds_cons (fun (i : S32x512.Idx) => pieceAA2 c arg2 harg2 arg3 harg3 arg4 harg4 arg5 harg5 arg6 harg6 arg7 harg7 arg8 harg8 arg9 harg9 arg12 arg13 arg14 x0 x1 x2 x3 x4 x5 x6 x7 i) (
    holds_cons (fun (i : S32x512.Idx) => pieceAB1 c arg2 harg2 arg3 harg3 arg4 harg4 arg5 harg5 arg6 harg6 arg7 harg7 arg8 harg8 arg9 harg9 arg12 arg13 arg14 x0 x1 x2 x3 x4 x5 x6 x7 i) (
    holds_cons (fun (i : S32x512.Idx) => pieceAA1 c arg2 harg2 arg3 harg3 arg4 harg4 arg5 harg5 arg6 harg6 arg7 harg7 arg8 harg8 arg9 harg9 arg12 arg13 arg14 x0 x1 x2 x3 x4 x5 x6 x7 i) (
    holds_cons (fun (i : S32x512.Idx) => pieceAB0 c arg2 harg2 arg3 harg3 arg4 harg4 arg5 harg5 arg6 harg6 arg7 harg7 arg8 harg8 arg9 harg9 arg12 arg13 arg14 x0 x1 x2 x3 x4 x5 x6 x7 i) (
    holds_cons (fun (i : S32x512.Idx) => pieceAA0 c arg2 harg2 arg3 harg3 arg4 harg4 arg5 harg5 arg6 harg6 arg7 harg7 arg8 harg8 arg9 harg9 arg12 arg13 arg14 x0 x1 x2 x3 x4 x5 x6 x7 i) holds_nil)))))))))))))))))))))))))))))))

theorem read3_A : kernelRun0_A.sl.v3946 (F := Ideal) c arg2 harg2 arg3 harg3 arg4 harg4 arg5 harg5 arg6 harg6 arg7 harg7 arg8 harg8 arg9 harg9 arg12 arg13 arg14 arg15 x0 x1 x2 x3 x4 x5 x6 x7 = mixes x0 x1 x2 x3 x4 x5 x6 x7 (seqA x0 x1 x2 (fun _ => 0)) (seqB x0 x1 x2 (fun _ => 0)) := by
  unfold kernelRun0_A.sl.v3946
  exact (read_all _ _ _ _ (holds3_A c arg2 harg2 arg3 harg3 arg4 harg4 arg5 harg5 arg6 harg6 arg7 harg7 arg8 harg8 arg9 harg9 arg12 arg13 arg14 x0 x1 x2 x3 x4 x5 x6 x7) (View.cover_of_tiledL _ S32x512.size (by sl_kernel_rfl))).trans
    (View.ld_unit_zero (S := S512x1024) hz _ _)

end BuffersA

end Cert.Conv

end
-- ==== Proof.Conv.BuffersB.lean ====
/- What the convolution mixers' body leaves in the buffers it works in on a later block of 512 rows. -/
module

public import proofs.«01_k».proof.Proof.Conv.BuffersA

@[expose] public section

noncomputable section

namespace Cert.Conv

open Cert.Kernel4Ideal Cert.Kernel4Ideal.Gen Idealize.ShloMosaic Idealize.ShloMosaic.TcCoe Idealize.SL.Sem
open Idealize.ShloMosaic.Pointwise Cert.Rows Cert.Bands
open Cert.Spatial (holds_cons holds_nil hz)

section BuffersB

variable (c : Dev nD) (arg2 : Memref sig .tc .vmem S1x512x1024 .f32) (harg2 : arg2.IsWhole) (arg3 : Memref sig .tc .vmem S1x1024 .f32) (harg3 : arg3.IsWhole) (arg4 : Memref sig .tc .vmem S1024x2560 .bf16) (harg4 : arg4.IsWhole) (arg5 : Memref sig .tc .vmem S31x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S3x512 .f32) (harg9 : arg9.IsWhole) (arg10 : Memref sig .tc .vmem S1024x1024 .bf16) (harg10 : arg10.IsWhole)
  (arg12 : Memref sig .tc .vmem S512x1024 .bf16) (arg13 : Memref sig .tc .vmem S544x512 .f32) (harg13 : arg13.IsWhole) (arg14 : Memref sig .tc .vmem S520x512 .f32) (harg14 : arg14.IsWhole) (arg15 : Memref sig .tc .vmem S512x1024 .bf16)
  (x0 : Vec Ideal S1x512x1024 .f32) (x1 : Vec Ideal S1x1024 .f32) (x2 : Vec Ideal S1024x2560 .bf16) (x3 : Vec Ideal S31x512 .f32)
  (x4 x5 x6 : Vec Ideal S1x512 .f32) (x7 : Vec Ideal S3x512 .f32) (xs1 : Vec Ideal S544x512 .f32) (xs2 : Vec Ideal S520x512 .f32)

theorem holds0_B : Holds (normed x0 x1) (kernelRun0_B.sl.HS0_1 (F := Ideal) c arg2 harg2 arg3 harg3 x0 x1) := by
  unfold kernelRun0_B.sl.HS0_1
  refine holds_cons (fun i => ?_) holds_nil
  have e : View.ld (normed x0 x1) (Rect.unit (s := S512x1024) ![0, 0] S512x1024.size inb_S512x1024_S512x1024_0_0) = normed x0 x1 :=
    View.ld_unit_zero (S := S512x1024) hz _ _
  rw [View.readAt_eq_ld, View.readAt_eq_ld, harg2.read_unread, harg3.read_unread, View.ld_unit_zero (S := S1x1024) hz, View.ld_unit_zero (S := S1x512x1024) hz3, normed_eq]
  exact (congrFun e i).symm

theorem v23_B : kernelRun0_B.sl.v23 (F := Ideal) c arg2 harg2 arg3 harg3 arg12 x0 x1 = normed x0 x1 := by
  unfold kernelRun0_B.sl.v23
  exact (read_all _ (normed x0 x1) _ _ (holds0_B c arg2 harg2 arg3 harg3 x0 x1) (View.cover_of_tiledL _ S512x1024.size (by sl_kernel_rfl))).trans
    (View.ld_unit_zero (S := S512x1024) hz _ _)

theorem gate_B : kernelRun0_B.sl.r (F := Ideal) c arg2 harg2 arg3 harg3 arg4 harg4 arg12 x0 x1 x2 = gates x0 x1 x2 := by
  unfold kernelRun0_B.sl.r
  rw [v23_B, View.readAt_eq_ld, harg4.read_unread]
  exact gates_eq x0 x1 x2 _

theorem holds1_B : Holds (vecA (seqA x0 x1 x2 xs1)) (kernelRun0_B.sl.HS1_1 (F := Ideal) c arg2 harg2 arg3 harg3 arg4 harg4 arg12 x0 x1 x2) := by
  unfold kernelRun0_B.sl.HS1_1
  rw [v23_B, View.readAt_eq_ld, harg4.read_unread]
  exact holds_cons (fun i => glus_band x0 x1 x2 xs1 _ inb_S544x512_S512x512_32_0 i) holds_nil

theorem holds2_B : Holds (vecB (seqB x0 x1 x2 xs2)) (kernelRun0_B.sl.HS2_1 (F := Ideal) c arg2 harg2 arg3 harg3 arg4 harg4 arg12 x0 x1 x2) := by
  unfold kernelRun0_B.sl.HS2_1
  rw [v23_B, View.readAt_eq_ld, harg4.read_unread]
  exact holds_cons (fun i => duos_band x0 x1 x2 xs2 _ inb_S520x512_S512x512_8_0 i) holds_nil

theorem ld1_B (R : Rect S544x512) (hR : ∀ x : R.shape.Idx, 32 ≤ (R.emb x 0).val) : arg13.view.readCov (kernelRun0_B.sl.HS1_1 (F := Ideal) c arg2 harg2 arg3 harg3 arg4 harg4 arg12 x0 x1 x2) R.toLoadRect = View.ld (vecA (seqA x0 x1 x2 xs1)) R := by
  refine read_some _ _ _ _ (holds1_B c arg2 harg2 arg3 harg3 arg4 harg4 arg12 x0 x1 x2 xs1) fun x => ?_
  unfold kernelRun0_B.sl.HS1_1
  refine ⟨_, List.mem_cons_self, ?_⟩
  show R.emb x ∈ (Rect.unit (s := S544x512) ![32, 0] S512x512.size inb_S544x512_S512x512_32_0).set
  refine Rect.mem_set_unit.mpr fun a => ?_
  have h0 := hR x
  have h1 := (R.emb x 0).isLt
  have h2 := (R.emb x 1).isLt
  match a with
  | ⟨0, _⟩ => exact ⟨h0, h1⟩
  | ⟨1, _⟩ => exact ⟨Nat.zero_le _, h2⟩

theorem read1_B (n : ℕ) (h : ∀ a, (![n, 0] : Fin 2 → ℕ) a + (![32, 512] : Fin 2 → ℕ) a ≤ S544x512.size a) (hn : 32 ≤ n) :
    arg13.view.readCov (kernelRun0_B.sl.HS1_1 (F := Ideal) c arg2 harg2 arg3 harg3 arg4 harg4 arg12 x0 x1 x2) (Rect.unit (s := S544x512) ![n, 0] ![32, 512] h).toLoadRect = band (seqA x0 x1 x2 xs1) n :=
  (ld1_B c arg2 harg2 arg3 harg3 arg4 harg4 arg12 arg13 x0 x1 x2 xs1 _ (fun x => by
    show 32 ≤ n + 1 * (x 0).val
    omega)).trans (ld_bandA _ n h)

theorem over1_B (n : ℕ) (h : ∀ a, (![n, 0] : Fin 2 → ℕ) a + (![32, 512] : Fin 2 → ℕ) a ≤ S544x512.size a) :
    View.readAt (Elt Ideal) arg13.view (Rect.unit (s := S544x512) ![n, 0] ![32, 512] h).toLoadRect
      (arg13.view.writes (Elt Ideal) (harg13.unread xs1) (kernelRun0_B.sl.HS1_1 (F := Ideal) c arg2 harg2 arg3 harg3 arg4 harg4 arg12 x0 x1 x2)) = band (seqA x0 x1 x2 xs1) n := by
  have e : arg13.view.read (Elt Ideal) (arg13.view.writes (Elt Ideal) (harg13.unread xs1) (kernelRun0_B.sl.HS1_1 (F := Ideal) c arg2 harg2 arg3 harg3 arg4 harg4 arg12 x0 x1 x2)) = vecA (seqA x0 x1 x2 xs1) := by
    unfold kernelRun0_B.sl.HS1_1
    rw [v23_B, View.readAt_eq_ld, harg4.read_unread]
    refine read_over _ _ _ _ _ (fun i => glus_band x0 x1 x2 xs1 _ inb_S544x512_S512x512_32_0 i) fun y hy => ?_
    rw [harg13.read_unread]
    obtain ⟨q, l, rfl⟩ : ∃ (q : Fin 544) (l : Fin 512), y = ix2 q l := ⟨y 0, y 1, eq_ix2 y⟩
    have hq : q.val < 32 := by
      by_contra hq
      refine hy (Rect.mem_set_unit.mpr fun a => ?_)
      match a with
      | ⟨0, _⟩ => exact ⟨Nat.not_lt.mp hq, q.isLt⟩
      | ⟨1, _⟩ => exact ⟨Nat.zero_le _, l.isLt⟩
    show xs1 (ix2 q l) = seqA x0 x1 x2 xs1 q.val l
    unfold seqA
    rw [if_pos hq, rowsOf_lt _ _ q.isLt]
  rw [View.readAt_eq_ld, e]
  exact ld_bandA _ n h

theorem ld2_B (R : Rect S520x512) (hR : ∀ x : R.shape.Idx, 8 ≤ (R.emb x 0).val) : arg14.view.readCov (kernelRun0_B.sl.HS2_1 (F := Ideal) c arg2 harg2 arg3 harg3 arg4 harg4 arg12 x0 x1 x2) R.toLoadRect = View.ld (vecB (seqB x0 x1 x2 xs2)) R := by
  refine read_some _ _ _ _ (holds2_B c arg2 harg2 arg3 harg3 arg4 harg4 arg12 x0 x1 x2 xs2) fun x => ?_
  unfold kernelRun0_B.sl.HS2_1
  refine ⟨_, List.mem_cons_self, ?_⟩
  show R.emb x ∈ (Rect.unit (s := S520x512) ![8, 0] S512x512.size inb_S520x512_S512x512_8_0).set
  refine Rect.mem_set_unit.mpr fun a => ?_
  have h0 := hR x
  have h1 := (R.emb x 0).isLt
  have h2 := (R.emb x 1).isLt
  match a with
  | ⟨0, _⟩ => exact ⟨h0, h1⟩
  | ⟨1, _⟩ => exact ⟨Nat.zero_le _, h2⟩

theorem read2_B (n : ℕ) (h : ∀ a, (![n, 0] : Fin 2 → ℕ) a + (![32, 512] : Fin 2 → ℕ) a ≤ S520x512.size a) (hn : 8 ≤ n) :
    arg14.view.readCov (kernelRun0_B.sl.HS2_1 (F := Ideal) c arg2 harg2 arg3 harg3 arg4 harg4 arg12 x0 x1 x2) (Rect.unit (s := S520x512) ![n, 0] ![32, 512] h).toLoadRect = band (seqB x0 x1 x2 xs2) n :=
  (ld2_B c arg2 harg2 arg3 harg3 arg4 harg4 arg12 arg14 x0 x1 x2 xs2 _ (fun x => by
    show 8 ≤ n + 1 * (x 0).val
    omega)).trans (ld_bandB _ n h)

theorem over2_B (n : ℕ) (h : ∀ a, (![n, 0] : Fin 2 → ℕ) a + (![32, 512] : Fin 2 → ℕ) a ≤ S520x512.size a) :
    View.readAt (Elt Ideal) arg14.view (Rect.unit (s := S520x512) ![n, 0] ![32, 512] h).toLoadRect
      (arg14.view.writes (Elt Ideal) (harg14.unread xs2) (kernelRun0_B.sl.HS2_1 (F := Ideal) c arg2 harg2 arg3 harg3 arg4 harg4 arg12 x0 x1 x2)) = band (seqB x0 x1 x2 xs2) n := by
  have e : arg14.view.read (Elt Ideal) (arg14.view.writes (Elt Ideal) (harg14.unread xs2) (kernelRun0_B.sl.HS2_1 (F := Ideal) c arg2 harg2 arg3 harg3 arg4 harg4 arg12 x0 x1 x2)) = vecB (seqB x0 x1 x2 xs2) := by
    unfold kernelRun0_B.sl.HS2_1
    rw [v23_B, View.readAt_eq_ld, harg4.read_unread]
    refine read_over _ _ _ _ _ (fun i => duos_band x0 x1 x2 xs2 _ inb_S520x512_S512x512_8_0 i) fun y hy => ?_
    rw [harg14.read_unread]
    obtain ⟨q, l, rfl⟩ : ∃ (q : Fin 520) (l : Fin 512), y = ix2 q l := ⟨y 0, y 1, eq_ix2 y⟩
    have hq : q.val < 8 := by
      by_contra hq
      refine hy (Rect.mem_set_unit.mpr fun a => ?_)
      match a with
      | ⟨0, _⟩ => exact ⟨Nat.not_lt.mp hq, q.isLt⟩
      | ⟨1, _⟩ => exact ⟨Nat.zero_le _, l.isLt⟩
    show xs2 (ix2 q l) = seqB x0 x1 x2 xs2 q.val l
    unfold seqB
    rw [if_pos hq, rowsOf_lt _ _ q.isLt]
  rw [View.readAt_eq_ld, e]
  exact ld_bandB _ n h

include arg2 arg3 arg4 arg5 arg6 arg7 arg8 arg9 harg2 harg3 harg4 harg5 harg6 harg7 harg8 harg9 arg12 arg13 harg13 arg14 harg14 c in
theorem pieceBB15 (i : S32x512.Idx) : (show FVec Ideal S32x512 .bf16 from kernelRun0_B.sl.r_158 c arg2 harg2 arg3 harg3 arg4 harg4 arg9 harg9 arg12 arg14 x0 x1 x2 x7) i
    = mixes x0 x1 x2 x3 x4 x5 x6 x7 (seqA x0 x1 x2 xs1) (seqB x0 x1 x2 xs2) ((Rect.unit (s := S512x1024) ![480, 512] S32x512.size inb_S512x1024_S32x512_480_512).emb i) := by
  simp only [kernelRun0_B.sl.r_158, kernelRun0_B.sl.v3913, kernelRun0_B.sl.v3918, kernelRun0_B.sl.v3924, read_w3, gate_B, read1_B (xs1 := xs1), read2_B (xs2 := xs2), over1_B, over2_B, Nat.reduceLeDiff]
  exact (congrFun (blockB15 (fun k => band (seqB x0 x1 x2 xs2) (480 + 6 + k)) (wrow (fun k l => x7 (ix2 k l))) (gates x0 x1 x2)) i).trans
    (bandB x0 x1 x2 x3 x4 x5 x6 x7 (seqA x0 x1 x2 xs1) (seqB x0 x1 x2 xs2) 480 _ inb_S512x1024_S32x512_480_512 i)

include arg2 arg3 arg4 arg5 arg6 arg7 arg8 arg9 harg2 harg3 harg4 harg5 harg6 harg7 harg8 harg9 arg12 arg13 harg13 arg14 harg14 c in
theorem pieceBA15 (i : S32x512.Idx) : (show FVec Ideal S32x512 .bf16 from k0_pay191 (kernelRun0_B.sl.r_154 c arg7 harg7 x5) (kernelRun0_B.sl.r_155 c arg8 harg8 x6) (kernelRun0_B.sl.r_156 c arg2 harg2 arg3 harg3 arg4 harg4 arg5 harg5 arg6 harg6 arg12 arg13 x0 x1 x2 x3 x4) (kernelRun0_B.sl.r_157 c arg2 harg2 arg3 harg3 arg4 harg4 arg5 harg5 arg6 harg6 arg12 arg13 x0 x1 x2 x3 x4)) i
    = mixes x0 x1 x2 x3 x4 x5 x6 x7 (seqA x0 x1 x2 xs1) (seqB x0 x1 x2 xs2) ((Rect.unit (s := S512x1024) ![480, 0] S32x512.size inb_S512x1024_S32x512_480_0).emb i) := by
  simp only [kernelRun0_B.sl.r_144, kernelRun0_B.sl.r_145, kernelRun0_B.sl.r_146, kernelRun0_B.sl.r_147, kernelRun0_B.sl.r_148, kernelRun0_B.sl.r_149, kernelRun0_B.sl.r_150, kernelRun0_B.sl.r_151, kernelRun0_B.sl.r_152, kernelRun0_B.sl.r_153, kernelRun0_B.sl.r_154, kernelRun0_B.sl.r_155, kernelRun0_B.sl.r_156, kernelRun0_B.sl.r_157, kernelRun0_B.sl.v3697, kernelRun0_B.sl.v3703, kernelRun0_B.sl.v3709, kernelRun0_B.sl.v3715, kernelRun0_B.sl.v3721, kernelRun0_B.sl.v3727, kernelRun0_B.sl.v3733, kernelRun0_B.sl.v3739, kernelRun0_B.sl.v3745, kernelRun0_B.sl.v3751, kernelRun0_B.sl.v3757, kernelRun0_B.sl.v3763, kernelRun0_B.sl.v3769, kernelRun0_B.sl.v3775, kernelRun0_B.sl.v3781, kernelRun0_B.sl.v3787, kernelRun0_B.sl.v3793, kernelRun0_B.sl.v3799, kernelRun0_B.sl.v3805, kernelRun0_B.sl.v3811, kernelRun0_B.sl.v3817, kernelRun0_B.sl.v3823, kernelRun0_B.sl.v3829, kernelRun0_B.sl.v3835, kernelRun0_B.sl.v3841, kernelRun0_B.sl.v3847, kernelRun0_B.sl.v3853, kernelRun0_B.sl.v3859, kernelRun0_B.sl.v3865, kernelRun0_B.sl.v3871, kernelRun0_B.sl.v3877, read_w31, read_row, read1_B (xs1 := xs1), read2_B (xs2 := xs2), over1_B, over2_B, Nat.reduceLeDiff]
  exact (congrFun (blockA15 (fun k => band (seqA x0 x1 x2 xs1) (480 + 2 + k)) (wrow (fun k l => x3 (ix2 k l))) x4 x5 x6) i).trans
    (bandA x0 x1 x2 x3 x4 x5 x6 x7 (seqA x0 x1 x2 xs1) (seqB x0 x1 x2 xs2) 480 inb_S512x1024_S32x512_480_0 i)

include arg2 arg3 arg4 arg5 arg6 arg7 arg8 arg9 harg2 harg3 harg4 harg5 harg6 harg7 harg8 harg9 arg12 arg13 harg13 arg14 harg14 c in
theorem pieceBB14 (i : S32x512.Idx) : (show FVec Ideal S32x512 .bf16 from k0_pay176 (kernelRun0_B.sl.r c arg2 harg2 arg3 harg3 arg4 harg4 arg12 x0 x1 x2) (kernelRun0_B.sl.r_143 c arg2 harg2 arg3 harg3 arg4 harg4 arg9 harg9 arg12 arg14 x0 x1 x2 x7) (kernelRun0_B.sl.v3675 c arg2 harg2 arg3 harg3 arg4 harg4 arg12 arg14 x0 x1 x2) (View.readAt (Elt Ideal) arg9.view (Rect.unit (s := S3x512) ![1, 0] S1x512.size inb_S3x512_S1x512_1_0).toLoadRect (harg9.unread x7)) (kernelRun0_B.sl.v3681 c arg2 harg2 arg3 harg3 arg4 harg4 arg12 arg14 x0 x1 x2) (View.readAt (Elt Ideal) arg9.view (Rect.unit (s := S3x512) ![2, 0] S1x512.size inb_S3x512_S1x512_2_0).toLoadRect (harg9.unread x7))) i
    = mixes x0 x1 x2 x3 x4 x5 x6 x7 (seqA x0 x1 x2 xs1) (seqB x0 x1 x2 xs2) ((Rect.unit (s := S512x1024) ![448, 512] S32x512.size inb_S512x1024_S32x512_448_512).emb i) := by
  simp only [kernelRun0_B.sl.r_143, kernelRun0_B.sl.v3670, kernelRun0_B.sl.v3675, kernelRun0_B.sl.v3681, read_w3, gate_B, read1_B (xs1 := xs1), read2_B (xs2 := xs2), over1_B, over2_B, Nat.reduceLeDiff]
  exact (congrFun (blockB14 (fun k => band (seqB x0 x1 x2 xs2) (448 + 6 + k)) (wrow (fun k l => x7 (ix2 k l))) (gates x0 x1 x2)) i).trans
    (bandB x0 x1 x2 x3 x4 x5 x6 x7 (seqA x0 x1 x2 xs1) (seqB x0 x1 x2 xs2) 448 _ inb_S512x1024_S32x512_448_512 i)

include arg2 arg3 arg4 arg5 arg6 arg7 arg8 arg9 harg2 harg3 harg4 harg5 harg6 harg7 harg8 harg9 arg12 arg13 harg13 arg14 harg14 c in
theorem pieceBA14 (i : S32x512.Idx) : (show FVec Ideal S32x512 .bf16 from k0_pay174 (kernelRun0_B.sl.r_142 c arg2 harg2 arg3 harg3 arg4 harg4 arg5 harg5 arg6 harg6 arg12 arg13 x0 x1 x2 x3 x4) (kernelRun0_B.sl.v3634 c arg2 harg2 arg3 harg3 arg4 harg4 arg12 arg13 x0 x1 x2) (View.readAt (Elt Ideal) arg5.view (Rect.unit (s := S31x512) ![30, 0] S1x512.size inb_S31x512_S1x512_30_0).toLoadRect (harg5.unread x3)) (View.readAt (Elt Ideal) arg7.view (Rect.unit (s := S1x512) ![0, 0] S1x512.size inb_S1x512_S1x512_0_0).toLoadRect (harg7.unread x5)) (View.readAt (Elt Ideal) arg8.view (Rect.unit (s := S1x512) ![0, 0] S1x512.size inb_S1x512_S1x512_0_0).toLoadRect (harg8.unread x6))) i
    = mixes x0 x1 x2 x3 x4 x5 x6 x7 (seqA x0 x1 x2 xs1) (seqB x0 x1 x2 xs2) ((Rect.unit (s := S512x1024) ![448, 0] S32x512.size inb_S512x1024_S32x512_448_0).emb i) := by
  simp only [kernelRun0_B.sl.r_137, kernelRun0_B.sl.r_138, kernelRun0_B.sl.r_139, kernelRun0_B.sl.r_140, kernelRun0_B.sl.r_141, kernelRun0_B.sl.r_142, kernelRun0_B.sl.v3454, kernelRun0_B.sl.v3460, kernelRun0_B.sl.v3466, kernelRun0_B.sl.v3472, kernelRun0_B.sl.v3478, kernelRun0_B.sl.v3484, kernelRun0_B.sl.v3490, kernelRun0_B.sl.v3496, kernelRun0_B.sl.v3502, kernelRun0_B.sl.v3508, kernelRun0_B.sl.v3514, kernelRun0_B.sl.v3520, kernelRun0_B.sl.v3526, kernelRun0_B.sl.v3532, kernelRun0_B.sl.v3538, kernelRun0_B.sl.v3544, kernelRun0_B.sl.v3550, kernelRun0_B.sl.v3556, kernelRun0_B.sl.v3562, kernelRun0_B.sl.v3568, kernelRun0_B.sl.v3574, kernelRun0_B.sl.v3580, kernelRun0_B.sl.v3586, kernelRun0_B.sl.v3592, kernelRun0_B.sl.v3598, kernelRun0_B.sl.v3604, kernelRun0_B.sl.v3610, kernelRun0_B.sl.v3616, kernelRun0_B.sl.v3622, kernelRun0_B.sl.v3628, kernelRun0_B.sl.v3634, read_w31, read_row, read1_B (xs1 := xs1), read2_B (xs2 := xs2), over1_B, over2_B, Nat.reduceLeDiff]
  exact (congrFun (blockA14 (fun k => band (seqA x0 x1 x2 xs1) (448 + 2 + k)) (wrow (fun k l => x3 (ix2 k l))) x4 x5 x6) i).trans
    (bandA x0 x1 x2 x3 x4 x5 x6 x7 (seqA x0 x1 x2 xs1) (seqB x0 x1 x2 xs2) 448 inb_S512x1024_S32x512_448_0 i)

include arg2 arg3 arg4 arg5 arg6 arg7 arg8 arg9 harg2 harg3 harg4 harg5 harg6 harg7 harg8 harg9 arg12 arg13 harg13 arg14 harg14 c in
theorem pieceBB13 (i : S32x512.Idx) : (show FVec Ideal S32x512 .bf16 from k0_pay167 (kernelRun0_B.sl.r c arg2 harg2 arg3 harg3 arg4 harg4 arg12 x0 x1 x2) (kernelRun0_B.sl.v3427 c arg2 harg2 arg3 harg3 arg4 harg4 arg12 arg14 x0 x1 x2) (View.readAt (Elt Ideal) arg9.view (Rect.unit (s := S3x512) ![0, 0] S1x512.size inb_S3x512_S1x512_0_0).toLoadRect (harg9.unread x7)) (kernelRun0_B.sl.v3432 c arg2 harg2 arg3 harg3 arg4 harg4 arg12 arg14 x0 x1 x2) (View.readAt (Elt Ideal) arg9.view (Rect.unit (s := S3x512) ![1, 0] S1x512.size inb_S3x512_S1x512_1_0).toLoadRect (harg9.unread x7)) (kernelRun0_B.sl.v3438 c arg2 harg2 arg3 harg3 arg4 harg4 arg12 arg14 x0 x1 x2) (View.readAt (Elt Ideal) arg9.view (Rect.unit (s := S3x512) ![2, 0] S1x512.size inb_S3x512_S1x512_2_0).toLoadRect (harg9.unread x7))) i
    = mixes x0 x1 x2 x3 x4 x5 x6 x7 (seqA x0 x1 x2 xs1) (seqB x0 x1 x2 xs2) ((Rect.unit (s := S512x1024) ![416, 512] S32x512.size inb_S512x1024_S32x512_416_512).emb i) := by
  simp only [kernelRun0_B.sl.v3427, kernelRun0_B.sl.v3432, kernelRun0_B.sl.v3438, read_w3, gate_B, read1_B (xs1 := xs1), read2_B (xs2 := xs2), over1_B, over2_B, Nat.reduceLeDiff]
  exact (congrFun (blockB13 (fun k => band (seqB x0 x1 x2 xs2) (416 + 6 + k)) (wrow (fun k l => x7 (ix2 k l))) (gates x0 x1 x2)) i).trans
    (bandB x0 x1 x2 x3 x4 x5 x6 x7 (seqA x0 x1 x2 xs1) (seqB x0 x1 x2 xs2) 416 _ inb_S512x1024_S32x512_416_512 i)

include arg2 arg3 arg4 arg5 arg6 arg7 arg8 arg9 harg2 harg3 harg4 harg5 harg6 harg7 harg8 harg9 arg12 arg13 harg13 arg14 harg14 c in
theorem pieceBA13 (i : S32x512.Idx) : (show FVec Ideal S32x512 .bf16 from k0_pay166 (kernelRun0_B.sl.r_135 c arg8 harg8 x6) (kernelRun0_B.sl.r_136 c arg2 harg2 arg3 harg3 arg4 harg4 arg5 harg5 arg6 harg6 arg7 harg7 arg12 arg13 x0 x1 x2 x3 x4 x5)) i
    = mixes x0 x1 x2 x3 x4 x5 x6 x7 (seqA x0 x1 x2 xs1) (seqB x0 x1 x2 xs2) ((Rect.unit (s := S512x1024) ![416, 0] S32x512.size inb_S512x1024_S32x512_416_0).emb i) := by
  simp only [kernelRun0_B.sl.r_130, kernelRun0_B.sl.r_131, kernelRun0_B.sl.r_132, kernelRun0_B.sl.r_133, kernelRun0_B.sl.r_134, kernelRun0_B.sl.r_135, kernelRun0_B.sl.r_136, kernelRun0_B.sl.v3211, kernelRun0_B.sl.v3217, kernelRun0_B.sl.v3223, kernelRun0_B.sl.v3229, kernelRun0_B.sl.v3235, kernelRun0_B.sl.v3241, kernelRun0_B.sl.v3247, kernelRun0_B.sl.v3253, kernelRun0_B.sl.v3259, kernelRun0_B.sl.v3265, kernelRun0_B.sl.v3271, kernelRun0_B.sl.v3277, kernelRun0_B.sl.v3283, kernelRun0_B.sl.v3289, kernelRun0_B.sl.v3295, kernelRun0_B.sl.v3301, kernelRun0_B.sl.v3307, kernelRun0_B.sl.v3313, kernelRun0_B.sl.v3319, kernelRun0_B.sl.v3325, kernelRun0_B.sl.v3331, kernelRun0_B.sl.v3337, kernelRun0_B.sl.v3343, kernelRun0_B.sl.v3349, kernelRun0_B.sl.v3355, kernelRun0_B.sl.v3361, kernelRun0_B.sl.v3367, kernelRun0_B.sl.v3373, kernelRun0_B.sl.v3379, kernelRun0_B.sl.v3385, kernelRun0_B.sl.v3391, read_w31, read_row, read1_B (xs1 := xs1), read2_B (xs2 := xs2), over1_B, over2_B, Nat.reduceLeDiff]
  exact (congrFun (blockA13 (fun k => band (seqA x0 x1 x2 xs1) (416 + 2 + k)) (wrow (fun k l => x3 (ix2 k l))) x4 x5 x6) i).trans
    (bandA x0 x1 x2 x3 x4 x5 x6 x7 (seqA x0 x1 x2 xs1) (seqB x0 x1 x2 xs2) 416 inb_S512x1024_S32x512_416_0 i)

include arg2 arg3 arg4 arg5 arg6 arg7 arg8 arg9 harg2 harg3 harg4 harg5 harg6 harg7 harg8 harg9 arg12 arg13 harg13 arg14 harg14 c in
theorem pieceBB12 (i : S32x512.Idx) : (show FVec Ideal S32x512 .bf16 from k0_pay158 (kernelRun0_B.sl.r c arg2 harg2 arg3 harg3 arg4 harg4 arg12 x0 x1 x2) (kernelRun0_B.sl.r_129 c arg2 harg2 arg3 harg3 arg4 harg4 arg9 harg9 arg12 arg14 x0 x1 x2 x7) (kernelRun0_B.sl.v3195 c arg2 harg2 arg3 harg3 arg4 harg4 arg12 arg14 x0 x1 x2) (kernelRun0_B.sl.r_35 c arg9 harg9 x7)) i
    = mixes x0 x1 x2 x3 x4 x5 x6 x7 (seqA x0 x1 x2 xs1) (seqB x0 x1 x2 xs2) ((Rect.unit (s := S512x1024) ![384, 512] S32x512.size inb_S512x1024_S32x512_384_512).emb i) := by
  simp only [kernelRun0_B.sl.r_35, kernelRun0_B.sl.r_129, kernelRun0_B.sl.v3184, kernelRun0_B.sl.v3189, kernelRun0_B.sl.v3195, read_w3, gate_B, read1_B (xs1 := xs1), read2_B (xs2 := xs2), over1_B, over2_B, Nat.reduceLeDiff]
  exact (congrFun (blockB12 (fun k => band (seqB x0 x1 x2 xs2) (384 + 6 + k)) (wrow (fun k l => x7 (ix2 k l))) (gates x0 x1 x2)) i).trans
    (bandB x0 x1 x2 x3 x4 x5 x6 x7 (seqA x0 x1 x2 xs1) (seqB x0 x1 x2 xs2) 384 _ inb_S512x1024_S32x512_384_512 i)

include arg2 arg3 arg4 arg5 arg6 arg7 arg8 arg9 harg2 harg3 harg4 harg5 harg6 harg7 harg8 harg9 arg12 arg13 harg13 arg14 harg14 c in
theorem pieceBA12 (i : S32x512.Idx) : (show FVec Ideal S32x512 .bf16 from k0_pay156 (kernelRun0_B.sl.r_127 c arg2 harg2 arg3 harg3 arg4 harg4 arg5 harg5 arg6 harg6 arg12 arg13 x0 x1 x2 x3 x4) (kernelRun0_B.sl.r_128 c arg7 harg7 x5) (kernelRun0_B.sl.r_33 c arg8 harg8 x6)) i
    = mixes x0 x1 x2 x3 x4 x5 x6 x7 (seqA x0 x1 x2 xs1) (seqB x0 x1 x2 xs2) ((Rect.unit (s := S512x1024) ![384, 0] S32x512.size inb_S512x1024_S32x512_384_0).emb i) := by
  simp only [kernelRun0_B.sl.r_33, kernelRun0_B.sl.r_117, kernelRun0_B.sl.r_118, kernelRun0_B.sl.r_119, kernelRun0_B.sl.r_120, kernelRun0_B.sl.r_121, kernelRun0_B.sl.r_122, kernelRun0_B.sl.r_123, kernelRun0_B.sl.r_124, kernelRun0_B.sl.r_125, kernelRun0_B.sl.r_126, kernelRun0_B.sl.r_127, kernelRun0_B.sl.r_128, kernelRun0_B.sl.v2968, kernelRun0_B.sl.v2974, kernelRun0_B.sl.v2980, kernelRun0_B.sl.v2986, kernelRun0_B.sl.v2992, kernelRun0_B.sl.v2998, kernelRun0_B.sl.v3004, kernelRun0_B.sl.v3010, kernelRun0_B.sl.v3016, kernelRun0_B.sl.v3022, kernelRun0_B.sl.v3028, kernelRun0_B.sl.v3034, kernelRun0_B.sl.v3040, kernelRun0_B.sl.v3046, kernelRun0_B.sl.v3052, kernelRun0_B.sl.v3058, kernelRun0_B.sl.v3064, kernelRun0_B.sl.v3070, kernelRun0_B.sl.v3076, kernelRun0_B.sl.v3082, kernelRun0_B.sl.v3088, kernelRun0_B.sl.v3094, kernelRun0_B.sl.v3100, kernelRun0_B.sl.v3106, kernelRun0_B.sl.v3112, kernelRun0_B.sl.v3118, kernelRun0_B.sl.v3124, kernelRun0_B.sl.v3130, kernelRun0_B.sl.v3136, kernelRun0_B.sl.v3142, kernelRun0_B.sl.v3148, read_w31, read_row, read1_B (xs1 := xs1), read2_B (xs2 := xs2), over1_B, over2_B, Nat.reduceLeDiff]
  exact (congrFun (blockA12 (fun k => band (seqA x0 x1 x2 xs1) (384 + 2 + k)) (wrow (fun k l => x3 (ix2 k l))) x4 x5 x6) i).trans
    (bandA x0 x1 x2 x3 x4 x5 x6 x7 (seqA x0 x1 x2 xs1) (seqB x0 x1 x2 xs2) 384 inb_S512x1024_S32x512_384_0 i)

include arg2 arg3 arg4 arg5 arg6 arg7 arg8 arg9 harg2 harg3 harg4 harg5 harg6 harg7 harg8 harg9 arg12 arg13 harg13 arg14 harg14 c in
theorem pieceBB11 (i : S32x512.Idx) : (show FVec Ideal S32x512 .bf16 from k0_pay143 (kernelRun0_B.sl.r c arg2 harg2 arg3 harg3 arg4 harg4 arg12 x0 x1 x2) (kernelRun0_B.sl.v2941 c arg2 harg2 arg3 harg3 arg4 harg4 arg12 arg14 x0 x1 x2) (View.readAt (Elt Ideal) arg9.view (Rect.unit (s := S3x512) ![0, 0] S1x512.size inb_S3x512_S1x512_0_0).toLoadRect (harg9.unread x7)) (kernelRun0_B.sl.v2946 c arg2 harg2 arg3 harg3 arg4 harg4 arg12 arg14 x0 x1 x2) (View.readAt (Elt Ideal) arg9.view (Rect.unit (s := S3x512) ![1, 0] S1x512.size inb_S3x512_S1x512_1_0).toLoadRect (harg9.unread x7)) (kernelRun0_B.sl.v2952 c arg2 harg2 arg3 harg3 arg4 harg4 arg12 arg14 x0 x1 x2) (View.readAt (Elt Ideal) arg9.view (Rect.unit (s := S3x512) ![2, 0] S1x512.size inb_S3x512_S1x512_2_0).toLoadRect (harg9.unread x7))) i
    = mixes x0 x1 x2 x3 x4 x5 x6 x7 (seqA x0 x1 x2 xs1) (seqB x0 x1 x2 xs2) ((Rect.unit (s := S512x1024) ![352, 512] S32x512.size inb_S512x1024_S32x512_352_512).emb i) := by
  simp only [kernelRun0_B.sl.v2941, kernelRun0_B.sl.v2946, kernelRun0_B.sl.v2952, read_w3, gate_B, read1_B (xs1 := xs1), read2_B (xs2 := xs2), over1_B, over2_B, Nat.reduceLeDiff]
  exact (congrFun (blockB11 (fun k => band (seqB x0 x1 x2 xs2) (352 + 6 + k)) (wrow (fun k l => x7 (ix2 k l))) (gates x0 x1 x2)) i).trans
    (bandB x0 x1 x2 x3 x4 x5 x6 x7 (seqA x0 x1 x2 xs1) (seqB x0 x1 x2 xs2) 352 _ inb_S512x1024_S32x512_352_512 i)

include arg2 arg3 arg4 arg5 arg6 arg7 arg8 arg9 harg2 harg3 harg4 harg5 harg6 harg7 harg8 harg9 arg12 arg13 harg13 arg14 harg14 c in
theorem pieceBA11 (i : S32x512.Idx) : (show FVec Ideal S32x512 .bf16 from k0_pay142 (kernelRun0_B.sl.r_116 c arg2 harg2 arg3 harg3 arg4 harg4 arg5 harg5 arg6 harg6 arg12 arg13 x0 x1 x2 x3 x4) (kernelRun0_B.sl.v2899 c arg2 harg2 arg3 harg3 arg4 harg4 arg12 arg13 x0 x1 x2) (View.readAt (Elt Ideal) arg5.view (Rect.unit (s := S31x512) ![29, 0] S1x512.size inb_S31x512_S1x512_29_0).toLoadRect (harg5.unread x3)) (kernelRun0_B.sl.v2905 c arg2 harg2 arg3 harg3 arg4 harg4 arg12 arg13 x0 x1 x2) (View.readAt (Elt Ideal) arg5.view (Rect.unit (s := S31x512) ![30, 0] S1x512.size inb_S31x512_S1x512_30_0).toLoadRect (harg5.unread x3)) (View.readAt (Elt Ideal) arg7.view (Rect.unit (s := S1x512) ![0, 0] S1x512.size inb_S1x512_S1x512_0_0).toLoadRect (harg7.unread x5)) (View.readAt (Elt Ideal) arg8.view (Rect.unit (s := S1x512) ![0, 0] S1x512.size inb_S1x512_S1x512_0_0).toLoadRect (harg8.unread x6))) i
    = mixes x0 x1 x2 x3 x4 x5 x6 x7 (seqA x0 x1 x2 xs1) (seqB x0 x1 x2 xs2) ((Rect.unit (s := S512x1024) ![352, 0] S32x512.size inb_S512x1024_S32x512_352_0).emb i) := by
  simp only [kernelRun0_B.sl.r_112, kernelRun0_B.sl.r_113, kernelRun0_B.sl.r_114, kernelRun0_B.sl.r_115, kernelRun0_B.sl.r_116, kernelRun0_B.sl.v2725, kernelRun0_B.sl.v2731, kernelRun0_B.sl.v2737, kernelRun0_B.sl.v2743, kernelRun0_B.sl.v2749, kernelRun0_B.sl.v2755, kernelRun0_B.sl.v2761, kernelRun0_B.sl.v2767, kernelRun0_B.sl.v2773, kernelRun0_B.sl.v2779, kernelRun0_B.sl.v2785, kernelRun0_B.sl.v2791, kernelRun0_B.sl.v2797, kernelRun0_B.sl.v2803, kernelRun0_B.sl.v2809, kernelRun0_B.sl.v2815, kernelRun0_B.sl.v2821, kernelRun0_B.sl.v2827, kernelRun0_B.sl.v2833, kernelRun0_B.sl.v2839, kernelRun0_B.sl.v2845, kernelRun0_B.sl.v2851, kernelRun0_B.sl.v2857, kernelRun0_B.sl.v2863, kernelRun0_B.sl.v2869, kernelRun0_B.sl.v2875, kernelRun0_B.sl.v2881, kernelRun0_B.sl.v2887, kernelRun0_B.sl.v2893, kernelRun0_B.sl.v2899, kernelRun0_B.sl.v2905, read_w31, read_row, read1_B (xs1 := xs1), read2_B (xs2 := xs2), over1_B, over2_B, Nat.reduceLeDiff]
  exact (congrFun (blockA11 (fun k => band (seqA x0 x1 x2 xs1) (352 + 2 + k)) (wrow (fun k l => x3 (ix2 k l))) x4 x5 x6) i).trans
    (bandA x0 x1 x2 x3 x4 x5 x6 x7 (seqA x0 x1 x2 xs1) (seqB x0 x1 x2 xs2) 352 inb_S512x1024_S32x512_352_0 i)

include arg2 arg3 arg4 arg5 arg6 arg7 arg8 arg9 harg2 harg3 harg4 harg5 harg6 harg7 harg8 harg9 arg12 arg13 harg13 arg14 harg14 c in
theorem pieceBB10 (i : S32x512.Idx) : (show FVec Ideal S32x512 .bf16 from kernelRun0_B.sl.r_111 c arg2 harg2 arg3 harg3 arg4 harg4 arg9 harg9 arg12 arg14 x0 x1 x2 x7) i
    = mixes x0 x1 x2 x3 x4 x5 x6 x7 (seqA x0 x1 x2 xs1) (seqB x0 x1 x2 xs2) ((Rect.unit (s := S512x1024) ![320, 512] S32x512.size inb_S512x1024_S32x512_320_512).emb i) := by
  simp only [kernelRun0_B.sl.r_111, kernelRun0_B.sl.v2698, kernelRun0_B.sl.v2703, kernelRun0_B.sl.v2709, read_w3, gate_B, read1_B (xs1 := xs1), read2_B (xs2 := xs2), over1_B, over2_B, Nat.reduceLeDiff]
  exact (congrFun (blockB10 (fun k => band (seqB x0 x1 x2 xs2) (320 + 6 + k)) (wrow (fun k l => x7 (ix2 k l))) (gates x0 x1 x2)) i).trans
    (bandB x0 x1 x2 x3 x4 x5 x6 x7 (seqA x0 x1 x2 xs1) (seqB x0 x1 x2 xs2) 320 _ inb_S512x1024_S32x512_320_512 i)

include arg2 arg3 arg4 arg5 arg6 arg7 arg8 arg9 harg2 harg3 harg4 harg5 harg6 harg7 harg8 harg9 arg12 arg13 harg13 arg14 harg14 c in
theorem pieceBA10 (i : S32x512.Idx) : (show FVec Ideal S32x512 .bf16 from k0_pay135 (kernelRun0_B.sl.r_107 c arg7 harg7 x5) (kernelRun0_B.sl.r_108 c arg8 harg8 x6) (kernelRun0_B.sl.r_109 c arg2 harg2 arg3 harg3 arg4 harg4 arg5 harg5 arg6 harg6 arg12 arg13 x0 x1 x2 x3 x4) (kernelRun0_B.sl.r_110 c arg2 harg2 arg3 harg3 arg4 harg4 arg5 harg5 arg6 harg6 arg12 arg13 x0 x1 x2 x3 x4)) i
    = mixes x0 x1 x2 x3 x4 x5 x6 x7 (seqA x0 x1 x2 xs1) (seqB x0 x1 x2 xs2) ((Rect.unit (s := S512x1024) ![320, 0] S32x512.size inb_S512x1024_S32x512_320_0).emb i) := by
  simp only [kernelRun0_B.sl.r_97, kernelRun0_B.sl.r_98, kernelRun0_B.sl.r_99, kernelRun0_B.sl.r_100, kernelRun0_B.sl.r_101, kernelRun0_B.sl.r_102, kernelRun0_B.sl.r_103, kernelRun0_B.sl.r_104, kernelRun0_B.sl.r_105, kernelRun0_B.sl.r_106, kernelRun0_B.sl.r_107, kernelRun0_B.sl.r_108, kernelRun0_B.sl.r_109, kernelRun0_B.sl.r_110, kernelRun0_B.sl.v2482, kernelRun0_B.sl.v2488, kernelRun0_B.sl.v2494, kernelRun0_B.sl.v2500, kernelRun0_B.sl.v2506, kernelRun0_B.sl.v2512, kernelRun0_B.sl.v2518, kernelRun0_B.sl.v2524, kernelRun0_B.sl.v2530, kernelRun0_B.sl.v2536, kernelRun0_B.sl.v2542, kernelRun0_B.sl.v2548, kernelRun0_B.sl.v2554, kernelRun0_B.sl.v2560, kernelRun0_B.sl.v2566, kernelRun0_B.sl.v2572, kernelRun0_B.sl.v2578, kernelRun0_B.sl.v2584, kernelRun0_B.sl.v2590, kernelRun0_B.sl.v2596, kernelRun0_B.sl.v2602, kernelRun0_B.sl.v2608, kernelRun0_B.sl.v2614, kernelRun0_B.sl.v2620, kernelRun0_B.sl.v2626, kernelRun0_B.sl.v2632, kernelRun0_B.sl.v2638, kernelRun0_B.sl.v2644, kernelRun0_B.sl.v2650, kernelRun0_B.sl.v2656, kernelRun0_B.sl.v2662, read_w31, read_row, read1_B (xs1 := xs1), read2_B (xs2 := xs2), over1_B, over2_B, Nat.reduceLeDiff]
  exact (congrFun (blockA10 (fun k => band (seqA x0 x1 x2 xs1) (320 + 2 + k)) (wrow (fun k l => x3 (ix2 k l))) x4 x5 x6) i).trans
    (bandA x0 x1 x2 x3 x4 x5 x6 x7 (seqA x0 x1 x2 xs1) (seqB x0 x1 x2 xs2) 320 inb_S512x1024_S32x512_320_0 i)

include arg2 arg3 arg4 arg5 arg6 arg7 arg8 arg9 harg2 harg3 harg4 harg5 harg6 harg7 harg8 harg9 arg12 arg13 harg13 arg14 harg14 c in
theorem pieceBB9 (i : S32x512.Idx) : (show FVec Ideal S32x512 .bf16 from k0_pay120 (kernelRun0_B.sl.r c arg2 harg2 arg3 harg3 arg4 harg4 arg12 x0 x1 x2) (kernelRun0_B.sl.r_96 c arg2 harg2 arg3 harg3 arg4 harg4 arg9 harg9 arg12 arg14 x0 x1 x2 x7) (kernelRun0_B.sl.v2460 c arg2 harg2 arg3 harg3 arg4 harg4 arg12 arg14 x0 x1 x2) (View.readAt (Elt Ideal) arg9.view (Rect.unit (s := S3x512) ![1, 0] S1x512.size inb_S3x512_S1x512_1_0).toLoadRect (harg9.unread x7)) (kernelRun0_B.sl.v2466 c arg2 harg2 arg3 harg3 arg4 harg4 arg12 arg14 x0 x1 x2) (View.readAt (Elt Ideal) arg9.view (Rect.unit (s := S3x512) ![2, 0] S1x512.size inb_S3x512_S1x512_2_0).toLoadRect (harg9.unread x7))) i
    = mixes x0 x1 x2 x3 x4 x5 x6 x7 (seqA x0 x1 x2 xs1) (seqB x0 x1 x2 xs2) ((Rect.unit (s := S512x1024) ![288, 512] S32x512.size inb_S512x1024_S32x512_288_512).emb i) := by
  simp only [kernelRun0_B.sl.r_96, kernelRun0_B.sl.v2455, kernelRun0_B.sl.v2460, kernelRun0_B.sl.v2466, read_w3, gate_B, read1_B (xs1 := xs1), read2_B (xs2 := xs2), over1_B, over2_B, Nat.reduceLeDiff]
  exact (congrFun (blockB9 (fun k => band (seqB x0 x1 x2 xs2) (288 + 6 + k)) (wrow (fun k l => x7 (ix2 k l))) (gates x0 x1 x2)) i).trans
    (bandB x0 x1 x2 x3 x4 x5 x6 x7 (seqA x0 x1 x2 xs1) (seqB x0 x1 x2 xs2) 288 _ inb_S512x1024_S32x512_288_512 i)

include arg2 arg3 arg4 arg5 arg6 arg7 arg8 arg9 harg2 harg3 harg4 harg5 harg6 harg7 harg8 harg9 arg12 arg13 harg13 arg14 harg14 c in
theorem pieceBA9 (i : S32x512.Idx) : (show FVec Ideal S32x512 .bf16 from k0_pay118 (kernelRun0_B.sl.r_95 c arg2 harg2 arg3 harg3 arg4 harg4 arg5 harg5 arg6 harg6 arg12 arg13 x0 x1 x2 x3 x4) (kernelRun0_B.sl.v2419 c arg2 harg2 arg3 harg3 arg4 harg4 arg12 arg13 x0 x1 x2) (View.readAt (Elt Ideal) arg5.view (Rect.unit (s := S31x512) ![30, 0] S1x512.size inb_S31x512_S1x512_30_0).toLoadRect (harg5.unread x3)) (View.readAt (Elt Ideal) arg7.view (Rect.unit (s := S1x512) ![0, 0] S1x512.size inb_S1x512_S1x512_0_0).toLoadRect (harg7.unread x5)) (View.readAt (Elt Ideal) arg8.view (Rect.unit (s := S1x512) ![0, 0] S1x512.size inb_S1x512_S1x512_0_0).toLoadRect (harg8.unread x6))) i
    = mixes x0 x1 x2 x3 x4 x5 x6 x7 (seqA x0 x1 x2 xs1) (seqB x0 x1 x2 xs2) ((Rect.unit (s := S512x1024) ![288, 0] S32x512.size inb_S512x1024_S32x512_288_0).emb i) := by
  simp only [kernelRun0_B.sl.r_90, kernelRun0_B.sl.r_91, kernelRun0_B.sl.r_92, kernelRun0_B.sl.r_93, kernelRun0_B.sl.r_94, kernelRun0_B.sl.r_95, kernelRun0_B.sl.v2239, kernelRun0_B.sl.v2245, kernelRun0_B.sl.v2251, kernelRun0_B.sl.v2257, kernelRun0_B.sl.v2263, kernelRun0_B.sl.v2269, kernelRun0_B.sl.v2275, kernelRun0_B.sl.v2281, kernelRun0_B.sl.v2287, kernelRun0_B.sl.v2293, kernelRun0_B.sl.v2299, kernelRun0_B.sl.v2305, kernelRun0_B.sl.v2311, kernelRun0_B.sl.v2317, kernelRun0_B.sl.v2323, kernelRun0_B.sl.v2329, kernelRun0_B.sl.v2335, kernelRun0_B.sl.v2341, kernelRun0_B.sl.v2347, kernelRun0_B.sl.v2353, kernelRun0_B.sl.v2359, kernelRun0_B.sl.v2365, kernelRun0_B.sl.v2371, kernelRun0_B.sl.v2377, kernelRun0_B.sl.v2383, kernelRun0_B.sl.v2389, kernelRun0_B.sl.v2395, kernelRun0_B.sl.v2401, kernelRun0_B.sl.v2407, kernelRun0_B.sl.v2413, kernelRun0_B.sl.v2419, read_w31, read_row, read1_B (xs1 := xs1), read2_B (xs2 := xs2), over1_B, over2_B, Nat.reduceLeDiff]
  exact (congrFun (blockA9 (fun k => band (seqA x0 x1 x2 xs1) (288 + 2 + k)) (wrow (fun k l => x3 (ix2 k l))) x4 x5 x6) i).trans
    (bandA x0 x1 x2 x3 x4 x5 x6 x7 (seqA x0 x1 x2 xs1) (seqB x0 x1 x2 xs2) 288 inb_S512x1024_S32x512_288_0 i)

include arg2 arg3 arg4 arg5 arg6 arg7 arg8 arg9 harg2 harg3 harg4 harg5 harg6 harg7 harg8 harg9 arg12 arg13 harg13 arg14 harg14 c in
theorem pieceBB8 (i : S32x512.Idx) : (show FVec Ideal S32x512 .bf16 from k0_pay111 (kernelRun0_B.sl.r c arg2 harg2 arg3 harg3 arg4 harg4 arg12 x0 x1 x2) (kernelRun0_B.sl.v2212 c arg2 harg2 arg3 harg3 arg4 harg4 arg12 arg14 x0 x1 x2) (View.readAt (Elt Ideal) arg9.view (Rect.unit (s := S3x512) ![0, 0] S1x512.size inb_S3x512_S1x512_0_0).toLoadRect (harg9.unread x7)) (kernelRun0_B.sl.v2217 c arg2 harg2 arg3 harg3 arg4 harg4 arg12 arg14 x0 x1 x2) (View.readAt (Elt Ideal) arg9.view (Rect.unit (s := S3x512) ![1, 0] S1x512.size inb_S3x512_S1x512_1_0).toLoadRect (harg9.unread x7)) (kernelRun0_B.sl.v2223 c arg2 harg2 arg3 harg3 arg4 harg4 arg12 arg14 x0 x1 x2) (View.readAt (Elt Ideal) arg9.view (Rect.unit (s := S3x512) ![2, 0] S1x512.size inb_S3x512_S1x512_2_0).toLoadRect (harg9.unread x7))) i
    = mixes x0 x1 x2 x3 x4 x5 x6 x7 (seqA x0 x1 x2 xs1) (seqB x0 x1 x2 xs2) ((Rect.unit (s := S512x1024) ![256, 512] S32x512.size inb_S512x1024_S32x512_256_512).emb i) := by
  simp only [kernelRun0_B.sl.v2212, kernelRun0_B.sl.v2217, kernelRun0_B.sl.v2223, read_w3, gate_B, read1_B (xs1 := xs1), read2_B (xs2 := xs2), over1_B, over2_B, Nat.reduceLeDiff]
  exact (congrFun (blockB8 (fun k => band (seqB x0 x1 x2 xs2) (256 + 6 + k)) (wrow (fun k l => x7 (ix2 k l))) (gates x0 x1 x2)) i).trans
    (bandB x0 x1 x2 x3 x4 x5 x6 x7 (seqA x0 x1 x2 xs1) (seqB x0 x1 x2 xs2) 256 _ inb_S512x1024_S32x512_256_512 i)

include arg2 arg3 arg4 arg5 arg6 arg7 arg8 arg9 harg2 harg3 harg4 harg5 harg6 harg7 harg8 harg9 arg12 arg13 harg13 arg14 harg14 c in
theorem pieceBA8 (i : S32x512.Idx) : (show FVec Ideal S32x512 .bf16 from k0_pay110 (kernelRun0_B.sl.r_88 c arg8 harg8 x6) (kernelRun0_B.sl.r_89 c arg2 harg2 arg3 harg3 arg4 harg4 arg5 harg5 arg6 harg6 arg7 harg7 arg12 arg13 x0 x1 x2 x3 x4 x5)) i
    = mixes x0 x1 x2 x3 x4 x5 x6 x7 (seqA x0 x1 x2 xs1) (seqB x0 x1 x2 xs2) ((Rect.unit (s := S512x1024) ![256, 0] S32x512.size inb_S512x1024_S32x512_256_0).emb i) := by
  simp only [kernelRun0_B.sl.r_83, kernelRun0_B.sl.r_84, kernelRun0_B.sl.r_85, kernelRun0_B.sl.r_86, kernelRun0_B.sl.r_87, kernelRun0_B.sl.r_88, kernelRun0_B.sl.r_89, kernelRun0_B.sl.v1996, kernelRun0_B.sl.v2002, kernelRun0_B.sl.v2008, kernelRun0_B.sl.v2014, kernelRun0_B.sl.v2020, kernelRun0_B.sl.v2026, kernelRun0_B.sl.v2032, kernelRun0_B.sl.v2038, kernelRun0_B.sl.v2044, kernelRun0_B.sl.v2050, kernelRun0_B.sl.v2056, kernelRun0_B.sl.v2062, kernelRun0_B.sl.v2068, kernelRun0_B.sl.v2074, kernelRun0_B.sl.v2080, kernelRun0_B.sl.v2086, kernelRun0_B.sl.v2092, kernelRun0_B.sl.v2098, kernelRun0_B.sl.v2104, kernelRun0_B.sl.v2110, kernelRun0_B.sl.v2116, kernelRun0_B.sl.v2122, kernelRun0_B.sl.v2128, kernelRun0_B.sl.v2134, kernelRun0_B.sl.v2140, kernelRun0_B.sl.v2146, kernelRun0_B.sl.v2152, kernelRun0_B.sl.v2158, kernelRun0_B.sl.v2164, kernelRun0_B.sl.v2170, kernelRun0_B.sl.v2176, read_w31, read_row, read1_B (xs1 := xs1), read2_B (xs2 := xs2), over1_B, over2_B, Nat.reduceLeDiff]
  exact (congrFun (blockA8 (fun k => band (seqA x0 x1 x2 xs1) (256 + 2 + k)) (wrow (fun k l => x3 (ix2 k l))) x4 x5 x6) i).trans
    (bandA x0 x1 x2 x3 x4 x5 x6 x7 (seqA x0 x1 x2 xs1) (seqB x0 x1 x2 xs2) 256 inb_S512x1024_S32x512_256_0 i)

include arg2 arg3 arg4 arg5 arg6 arg7 arg8 arg9 harg2 harg3 harg4 harg5 harg6 harg7 harg8 harg9 arg12 arg13 harg13 arg14 harg14 c in
theorem pieceBB7 (i : S32x512.Idx) : (show FVec Ideal S32x512 .bf16 from k0_pay102 (kernelRun0_B.sl.r c arg2 harg2 arg3 harg3 arg4 harg4 arg12 x0 x1 x2) (kernelRun0_B.sl.r_82 c arg2 harg2 arg3 harg3 arg4 harg4 arg9 harg9 arg12 arg14 x0 x1 x2 x7) (kernelRun0_B.sl.v1980 c arg2 harg2 arg3 harg3 arg4 harg4 arg12 arg14 x0 x1 x2) (kernelRun0_B.sl.r_35 c arg9 harg9 x7)) i
    = mixes x0 x1 x2 x3 x4 x5 x6 x7 (seqA x0 x1 x2 xs1) (seqB x0 x1 x2 xs2) ((Rect.unit (s := S512x1024) ![224, 512] S32x512.size inb_S512x1024_S32x512_224_512).emb i) := by
  simp only [kernelRun0_B.sl.r_35, kernelRun0_B.sl.r_82, kernelRun0_B.sl.v1969, kernelRun0_B.sl.v1974, kernelRun0_B.sl.v1980, read_w3, gate_B, read1_B (xs1 := xs1), read2_B (xs2 := xs2), over1_B, over2_B, Nat.reduceLeDiff]
  exact (congrFun (blockB7 (fun k => band (seqB x0 x1 x2 xs2) (224 + 6 + k)) (wrow (fun k l => x7 (ix2 k l))) (gates x0 x1 x2)) i).trans
    (bandB x0 x1 x2 x3 x4 x5 x6 x7 (seqA x0 x1 x2 xs1) (seqB x0 x1 x2 xs2) 224 _ inb_S512x1024_S32x512_224_512 i)

include arg2 arg3 arg4 arg5 arg6 arg7 arg8 arg9 harg2 harg3 harg4 harg5 harg6 harg7 harg8 harg9 arg12 arg13 harg13 arg14 harg14 c in
theorem pieceBA7 (i : S32x512.Idx) : (show FVec Ideal S32x512 .bf16 from k0_pay100 (kernelRun0_B.sl.r_80 c arg2 harg2 arg3 harg3 arg4 harg4 arg5 harg5 arg6 harg6 arg12 arg13 x0 x1 x2 x3 x4) (kernelRun0_B.sl.r_81 c arg7 harg7 x5) (kernelRun0_B.sl.r_33 c arg8 harg8 x6)) i
    = mixes x0 x1 x2 x3 x4 x5 x6 x7 (seqA x0 x1 x2 xs1) (seqB x0 x1 x2 xs2) ((Rect.unit (s := S512x1024) ![224, 0] S32x512.size inb_S512x1024_S32x512_224_0).emb i) := by
  simp only [kernelRun0_B.sl.r_33, kernelRun0_B.sl.r_70, kernelRun0_B.sl.r_71, kernelRun0_B.sl.r_72, kernelRun0_B.sl.r_73, kernelRun0_B.sl.r_74, kernelRun0_B.sl.r_75, kernelRun0_B.sl.r_76, kernelRun0_B.sl.r_77, kernelRun0_B.sl.r_78, kernelRun0_B.sl.r_79, kernelRun0_B.sl.r_80, kernelRun0_B.sl.r_81, kernelRun0_B.sl.v1753, kernelRun0_B.sl.v1759, kernelRun0_B.sl.v1765, kernelRun0_B.sl.v1771, kernelRun0_B.sl.v1777, kernelRun0_B.sl.v1783, kernelRun0_B.sl.v1789, kernelRun0_B.sl.v1795, kernelRun0_B.sl.v1801, kernelRun0_B.sl.v1807, kernelRun0_B.sl.v1813, kernelRun0_B.sl.v1819, kernelRun0_B.sl.v1825, kernelRun0_B.sl.v1831, kernelRun0_B.sl.v1837, kernelRun0_B.sl.v1843, kernelRun0_B.sl.v1849, kernelRun0_B.sl.v1855, kernelRun0_B.sl.v1861, kernelRun0_B.sl.v1867, kernelRun0_B.sl.v1873, kernelRun0_B.sl.v1879, kernelRun0_B.sl.v1885, kernelRun0_B.sl.v1891, kernelRun0_B.sl.v1897, kernelRun0_B.sl.v1903, kernelRun0_B.sl.v1909, kernelRun0_B.sl.v1915, kernelRun0_B.sl.v1921, kernelRun0_B.sl.v1927, kernelRun0_B.sl.v1933, read_w31, read_row, read1_B (xs1 := xs1), read2_B (xs2 := xs2), over1_B, over2_B, Nat.reduceLeDiff]
  exact (congrFun (blockA7 (fun k => band (seqA x0 x1 x2 xs1) (224 + 2 + k)) (wrow (fun k l => x3 (ix2 k l))) x4 x5 x6) i).trans
    (bandA x0 x1 x2 x3 x4 x5 x6 x7 (seqA x0 x1 x2 xs1) (seqB x0 x1 x2 xs2) 224 inb_S512x1024_S32x512_224_0 i)

include arg2 arg3 arg4 arg5 arg6 arg7 arg8 arg9 harg2 harg3 harg4 harg5 harg6 harg7 harg8 harg9 arg12 arg13 harg13 arg14 harg14 c in
theorem pieceBB6 (i : S32x512.Idx) : (show FVec Ideal S32x512 .bf16 from k0_pay87 (kernelRun0_B.sl.r c arg2 harg2 arg3 harg3 arg4 harg4 arg12 x0 x1 x2) (kernelRun0_B.sl.v1726 c arg2 harg2 arg3 harg3 arg4 harg4 arg12 arg14 x0 x1 x2) (View.readAt (Elt Ideal) arg9.view (Rect.unit (s := S3x512) ![0, 0] S1x512.size inb_S3x512_S1x512_0_0).toLoadRect (harg9.unread x7)) (kernelRun0_B.sl.v1731 c arg2 harg2 arg3 harg3 arg4 harg4 arg12 arg14 x0 x1 x2) (View.readAt (Elt Ideal) arg9.view (Rect.unit (s := S3x512) ![1, 0] S1x512.size inb_S3x512_S1x512_1_0).toLoadRect (harg9.unread x7)) (kernelRun0_B.sl.v1737 c arg2 harg2 arg3 harg3 arg4 harg4 arg12 arg14 x0 x1 x2) (View.readAt (Elt Ideal) arg9.view (Rect.unit (s := S3x512) ![2, 0] S1x512.size inb_S3x512_S1x512_2_0).toLoadRect (harg9.unread x7))) i
    = mixes x0 x1 x2 x3 x4 x5 x6 x7 (seqA x0 x1 x2 xs1) (seqB x0 x1 x2 xs2) ((Rect.unit (s := S512x1024) ![192, 512] S32x512.size inb_S512x1024_S32x512_192_512).emb i) := by
  simp only [kernelRun0_B.sl.v1726, kernelRun0_B.sl.v1731, kernelRun0_B.sl.v1737, read_w3, gate_B, read1_B (xs1 := xs1), read2_B (xs2 := xs2), over1_B, over2_B, Nat.reduceLeDiff]
  exact (congrFun (blockB6 (fun k => band (seqB x0 x1 x2 xs2) (192 + 6 + k)) (wrow (fun k l => x7 (ix2 k l))) (gates x0 x1 x2)) i).trans
    (bandB x0 x1 x2 x3 x4 x5 x6 x7 (seqA x0 x1 x2 xs1) (seqB x0 x1 x2 xs2) 192 _ inb_S512x1024_S32x512_192_512 i)

include arg2 arg3 arg4 arg5 arg6 arg7 arg8 arg9 harg2 harg3 harg4 harg5 harg6 harg7 harg8 harg9 arg12 arg13 harg13 arg14 harg14 c in
theorem pieceBA6 (i : S32x512.Idx) : (show FVec Ideal S32x512 .bf16 from k0_pay86 (kernelRun0_B.sl.r_69 c arg2 harg2 arg3 harg3 arg4 harg4 arg5 harg5 arg6 harg6 arg12 arg13 x0 x1 x2 x3 x4) (kernelRun0_B.sl.v1684 c arg2 harg2 arg3 harg3 arg4 harg4 arg12 arg13 x0 x1 x2) (View.readAt (Elt Ideal) arg5.view (Rect.unit (s := S31x512) ![29, 0] S1x512.size inb_S31x512_S1x512_29_0).toLoadRect (harg5.unread x3)) (kernelRun0_B.sl.v1690 c arg2 harg2 arg3 harg3 arg4 harg4 arg12 arg13 x0 x1 x2) (View.readAt (Elt Ideal) arg5.view (Rect.unit (s := S31x512) ![30, 0] S1x512.size inb_S31x512_S1x512_30_0).toLoadRect (harg5.unread x3)) (View.readAt (Elt Ideal) arg7.view (Rect.unit (s := S1x512) ![0, 0] S1x512.size inb_S1x512_S1x512_0_0).toLoadRect (harg7.unread x5)) (View.readAt (Elt Ideal) arg8.view (Rect.unit (s := S1x512) ![0, 0] S1x512.size inb_S1x512_S1x512_0_0).toLoadRect (harg8.unread x6))) i
    = mixes x0 x1 x2 x3 x4 x5 x6 x7 (seqA x0 x1 x2 xs1) (seqB x0 x1 x2 xs2) ((Rect.unit (s := S512x1024) ![192, 0] S32x512.size inb_S512x1024_S32x512_192_0).emb i) := by
  simp only [kernelRun0_B.sl.r_65, kernelRun0_B.sl.r_66, kernelRun0_B.sl.r_67, kernelRun0_B.sl.r_68, kernelRun0_B.sl.r_69, kernelRun0_B.sl.v1510, kernelRun0_B.sl.v1516, kernelRun0_B.sl.v1522, kernelRun0_B.sl.v1528, kernelRun0_B.sl.v1534, kernelRun0_B.sl.v1540, kernelRun0_B.sl.v1546, kernelRun0_B.sl.v1552, kernelRun0_B.sl.v1558, kernelRun0_B.sl.v1564, kernelRun0_B.sl.v1570, kernelRun0_B.sl.v1576, kernelRun0_B.sl.v1582, kernelRun0_B.sl.v1588, kernelRun0_B.sl.v1594, kernelRun0_B.sl.v1600, kernelRun0_B.sl.v1606, kernelRun0_B.sl.v1612, kernelRun0_B.sl.v1618, kernelRun0_B.sl.v1624, kernelRun0_B.sl.v1630, kernelRun0_B.sl.v1636, kernelRun0_B.sl.v1642, kernelRun0_B.sl.v1648, kernelRun0_B.sl.v1654, kernelRun0_B.sl.v1660, kernelRun0_B.sl.v1666, kernelRun0_B.sl.v1672, kernelRun0_B.sl.v1678, kernelRun0_B.sl.v1684, kernelRun0_B.sl.v1690, read_w31, read_row, read1_B (xs1 := xs1), read2_B (xs2 := xs2), over1_B, over2_B, Nat.reduceLeDiff]
  exact (congrFun (blockA6 (fun k => band (seqA x0 x1 x2 xs1) (192 + 2 + k)) (wrow (fun k l => x3 (ix2 k l))) x4 x5 x6) i).trans
    (bandA x0 x1 x2 x3 x4 x5 x6 x7 (seqA x0 x1 x2 xs1) (seqB x0 x1 x2 xs2) 192 inb_S512x1024_S32x512_192_0 i)

include arg2 arg3 arg4 arg5 arg6 arg7 arg8 arg9 harg2 harg3 harg4 harg5 harg6 harg7 harg8 harg9 arg12 arg13 harg13 arg14 harg14 c in
theorem pieceBB5 (i : S32x512.Idx) : (show FVec Ideal S32x512 .bf16 from kernelRun0_B.sl.r_64 c arg2 harg2 arg3 harg3 arg4 harg4 arg9 harg9 arg12 arg14 x0 x1 x2 x7) i
    = mixes x0 x1 x2 x3 x4 x5 x6 x7 (seqA x0 x1 x2 xs1) (seqB x0 x1 x2 xs2) ((Rect.unit (s := S512x1024) ![160, 512] S32x512.size inb_S512x1024_S32x512_160_512).emb i) := by
  simp only [kernelRun0_B.sl.r_64, kernelRun0_B.sl.v1483, kernelRun0_B.sl.v1488, kernelRun0_B.sl.v1494, read_w3, gate_B, read1_B (xs1 := xs1), read2_B (xs2 := xs2), over1_B, over2_B, Nat.reduceLeDiff]
  exact (congrFun (blockB5 (fun k => band (seqB x0 x1 x2 xs2) (160 + 6 + k)) (wrow (fun k l => x7 (ix2 k l))) (gates x0 x1 x2)) i).trans
    (bandB x0 x1 x2 x3 x4 x5 x6 x7 (seqA x0 x1 x2 xs1) (seqB x0 x1 x2 xs2) 160 _ inb_S512x1024_S32x512_160_512 i)

include arg2 arg3 arg4 arg5 arg6 arg7 arg8 arg9 harg2 harg3 harg4 harg5 harg6 harg7 harg8 harg9 arg12 arg13 harg13 arg14 harg14 c in
theorem pieceBA5 (i : S32x512.Idx) : (show FVec Ideal S32x512 .bf16 from k0_pay79 (kernelRun0_B.sl.r_60 c arg7 harg7 x5) (kernelRun0_B.sl.r_61 c arg8 harg8 x6) (kernelRun0_B.sl.r_62 c arg2 harg2 arg3 harg3 arg4 harg4 arg5 harg5 arg6 harg6 arg12 arg13 x0 x1 x2 x3 x4) (kernelRun0_B.sl.r_63 c arg2 harg2 arg3 harg3 arg4 harg4 arg5 harg5 arg6 harg6 arg12 arg13 x0 x1 x2 x3 x4)) i
    = mixes x0 x1 x2 x3 x4 x5 x6 x7 (seqA x0 x1 x2 xs1) (seqB x0 x1 x2 xs2) ((Rect.unit (s := S512x1024) ![160, 0] S32x512.size inb_S512x1024_S32x512_160_0).emb i) := by
  simp only [kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_60, kernelRun0_B.sl.r_61, kernelRun0_B.sl.r_62, kernelRun0_B.sl.r_63, kernelRun0_B.sl.v1267, kernelRun0_B.sl.v1273, kernelRun0_B.sl.v1279, kernelRun0_B.sl.v1285, kernelRun0_B.sl.v1291, kernelRun0_B.sl.v1297, kernelRun0_B.sl.v1303, kernelRun0_B.sl.v1309, kernelRun0_B.sl.v1315, kernelRun0_B.sl.v1321, kernelRun0_B.sl.v1327, kernelRun0_B.sl.v1333, kernelRun0_B.sl.v1339, kernelRun0_B.sl.v1345, kernelRun0_B.sl.v1351, kernelRun0_B.sl.v1357, kernelRun0_B.sl.v1363, kernelRun0_B.sl.v1369, kernelRun0_B.sl.v1375, kernelRun0_B.sl.v1381, kernelRun0_B.sl.v1387, kernelRun0_B.sl.v1393, kernelRun0_B.sl.v1399, kernelRun0_B.sl.v1405, kernelRun0_B.sl.v1411, kernelRun0_B.sl.v1417, kernelRun0_B.sl.v1423, kernelRun0_B.sl.v1429, kernelRun0_B.sl.v1435, kernelRun0_B.sl.v1441, kernelRun0_B.sl.v1447, read_w31, read_row, read1_B (xs1 := xs1), read2_B (xs2 := xs2), over1_B, over2_B, Nat.reduceLeDiff]
  exact (congrFun (blockA5 (fun k => band (seqA x0 x1 x2 xs1) (160 + 2 + k)) (wrow (fun k l => x3 (ix2 k l))) x4 x5 x6) i).trans
    (bandA x0 x1 x2 x3 x4 x5 x6 x7 (seqA x0 x1 x2 xs1) (seqB x0 x1 x2 xs2) 160 inb_S512x1024_S32x512_160_0 i)

include arg2 arg3 arg4 arg5 arg6 arg7 arg8 arg9 harg2 harg3 harg4 harg5 harg6 harg7 harg8 harg9 arg12 arg13 harg13 arg14 harg14 c in
theorem pieceBB4 (i : S32x512.Idx) : (show FVec Ideal S32x512 .bf16 from k0_pay64 (kernelRun0_B.sl.r c arg2 harg2 arg3 harg3 arg4 harg4 arg12 x0 x1 x2) (kernelRun0_B.sl.r_49 c arg2 harg2 arg3 harg3 arg4 harg4 arg9 harg9 arg12 arg14 x0 x1 x2 x7) (kernelRun0_B.sl.v1245 c arg2 harg2 arg3 harg3 arg4 harg4 arg12 arg14 x0 x1 x2) (View.readAt (Elt Ideal) arg9.view (Rect.unit (s := S3x512) ![1, 0] S1x512.size inb_S3x512_S1x512_1_0).toLoadRect (harg9.unread x7)) (kernelRun0_B.sl.v1251 c arg2 harg2 arg3 harg3 arg4 harg4 arg12 arg14 x0 x1 x2) (View.readAt (Elt Ideal) arg9.view (Rect.unit (s := S3x512) ![2, 0] S1x512.size inb_S3x512_S1x512_2_0).toLoadRect (harg9.unread x7))) i
    = mixes x0 x1 x2 x3 x4 x5 x6 x7 (seqA x0 x1 x2 xs1) (seqB x0 x1 x2 xs2) ((Rect.unit (s := S512x1024) ![128, 512] S32x512.size inb_S512x1024_S32x512_128_512).emb i) := by
  simp only [kernelRun0_B.sl.r_49, kernelRun0_B.sl.v1240, kernelRun0_B.sl.v1245, kernelRun0_B.sl.v1251, read_w3, gate_B, read1_B (xs1 := xs1), read2_B (xs2 := xs2), over1_B, over2_B, Nat.reduceLeDiff]
  exact (congrFun (blockB4 (fun k => band (seqB x0 x1 x2 xs2) (128 + 6 + k)) (wrow (fun k l => x7 (ix2 k l))) (gates x0 x1 x2)) i).trans
    (bandB x0 x1 x2 x3 x4 x5 x6 x7 (seqA x0 x1 x2 xs1) (seqB x0 x1 x2 xs2) 128 _ inb_S512x1024_S32x512_128_512 i)

include arg2 arg3 arg4 arg5 arg6 arg7 arg8 arg9 harg2 harg3 harg4 harg5 harg6 harg7 harg8 harg9 arg12 arg13 harg13 arg14 harg14 c in
theorem pieceBA4 (i : S32x512.Idx) : (show FVec Ideal S32x512 .bf16 from k0_pay62 (kernelRun0_B.sl.r_48 c arg2 harg2 arg3 harg3 arg4 harg4 arg5 harg5 arg6 harg6 arg12 arg13 x0 x1 x2 x3 x4) (kernelRun0_B.sl.v1204 c arg2 harg2 arg3 harg3 arg4 harg4 arg12 arg13 x0 x1 x2) (View.readAt (Elt Ideal) arg5.view (Rect.unit (s := S31x512) ![30, 0] S1x512.size inb_S31x512_S1x512_30_0).toLoadRect (harg5.unread x3)) (View.readAt (Elt Ideal) arg7.view (Rect.unit (s := S1x512) ![0, 0] S1x512.size inb_S1x512_S1x512_0_0).toLoadRect (harg7.unread x5)) (View.readAt (Elt Ideal) arg8.view (Rect.unit (s := S1x512) ![0, 0] S1x512.size inb_S1x512_S1x512_0_0).toLoadRect (harg8.unread x6))) i
    = mixes x0 x1 x2 x3 x4 x5 x6 x7 (seqA x0 x1 x2 xs1) (seqB x0 x1 x2 xs2) ((Rect.unit (s := S512x1024) ![128, 0] S32x512.size inb_S512x1024_S32x512_128_0).emb i) := by
  simp only [kernelRun0_B.sl.r_43, kernelRun0_B.sl.r_44, kernelRun0_B.sl.r_45, kernelRun0_B.sl.r_46, kernelRun0_B.sl.r_47, kernelRun0_B.sl.r_48, kernelRun0_B.sl.v1024, kernelRun0_B.sl.v1030, kernelRun0_B.sl.v1036, kernelRun0_B.sl.v1042, kernelRun0_B.sl.v1048, kernelRun0_B.sl.v1054, kernelRun0_B.sl.v1060, kernelRun0_B.sl.v1066, kernelRun0_B.sl.v1072, kernelRun0_B.sl.v1078, kernelRun0_B.sl.v1084, kernelRun0_B.sl.v1090, kernelRun0_B.sl.v1096, kernelRun0_B.sl.v1102, kernelRun0_B.sl.v1108, kernelRun0_B.sl.v1114, kernelRun0_B.sl.v1120, kernelRun0_B.sl.v1126, kernelRun0_B.sl.v1132, kernelRun0_B.sl.v1138, kernelRun0_B.sl.v1144, kernelRun0_B.sl.v1150, kernelRun0_B.sl.v1156, kernelRun0_B.sl.v1162, kernelRun0_B.sl.v1168, kernelRun0_B.sl.v1174, kernelRun0_B.sl.v1180, kernelRun0_B.sl.v1186, kernelRun0_B.sl.v1192, kernelRun0_B.sl.v1198, kernelRun0_B.sl.v1204, read_w31, read_row, read1_B (xs1 := xs1), read2_B (xs2 := xs2), over1_B, over2_B, Nat.reduceLeDiff]
  exact (congrFun (blockA4 (fun k => band (seqA x0 x1 x2 xs1) (128 + 2 + k)) (wrow (fun k l => x3 (ix2 k l))) x4 x5 x6) i).trans
    (bandA x0 x1 x2 x3 x4 x5 x6 x7 (seqA x0 x1 x2 xs1) (seqB x0 x1 x2 xs2) 128 inb_S512x1024_S32x512_128_0 i)

include arg2 arg3 arg4 arg5 arg6 arg7 arg8 arg9 harg2 harg3 harg4 harg5 harg6 harg7 harg8 harg9 arg12 arg13 harg13 arg14 harg14 c in
theorem pieceBB3 (i : S32x512.Idx) : (show FVec Ideal S32x512 .bf16 from k0_pay55 (kernelRun0_B.sl.r c arg2 harg2 arg3 harg3 arg4 harg4 arg12 x0 x1 x2) (kernelRun0_B.sl.v997 c arg2 harg2 arg3 harg3 arg4 harg4 arg12 arg14 x0 x1 x2) (View.readAt (Elt Ideal) arg9.view (Rect.unit (s := S3x512) ![0, 0] S1x512.size inb_S3x512_S1x512_0_0).toLoadRect (harg9.unread x7)) (kernelRun0_B.sl.v1002 c arg2 harg2 arg3 harg3 arg4 harg4 arg12 arg14 x0 x1 x2) (View.readAt (Elt Ideal) arg9.view (Rect.unit (s := S3x512) ![1, 0] S1x512.size inb_S3x512_S1x512_1_0).toLoadRect (harg9.unread x7)) (kernelRun0_B.sl.v1008 c arg2 harg2 arg3 harg3 arg4 harg4 arg12 arg14 x0 x1 x2) (View.readAt (Elt Ideal) arg9.view (Rect.unit (s := S3x512) ![2, 0] S1x512.size inb_S3x512_S1x512_2_0).toLoadRect (harg9.unread x7))) i
    = mixes x0 x1 x2 x3 x4 x5 x6 x7 (seqA x0 x1 x2 xs1) (seqB x0 x1 x2 xs2) ((Rect.unit (s := S512x1024) ![96, 512] S32x512.size inb_S512x1024_S32x512_96_512).emb i) := by
  simp only [kernelRun0_B.sl.v997, kernelRun0_B.sl.v1002, kernelRun0_B.sl.v1008, read_w3, gate_B, read1_B (xs1 := xs1), read2_B (xs2 := xs2), over1_B, over2_B, Nat.reduceLeDiff]
  exact (congrFun (blockB3 (fun k => band (seqB x0 x1 x2 xs2) (96 + 6 + k)) (wrow (fun k l => x7 (ix2 k l))) (gates x0 x1 x2)) i).trans
    (bandB x0 x1 x2 x3 x4 x5 x6 x7 (seqA x0 x1 x2 xs1) (seqB x0 x1 x2 xs2) 96 _ inb_S512x1024_S32x512_96_512 i)

include arg2 arg3 arg4 arg5 arg6 arg7 arg8 arg9 harg2 harg3 harg4 harg5 harg6 harg7 harg8 harg9 arg12 arg13 harg13 arg14 harg14 c in
theorem pieceBA3 (i : S32x512.Idx) : (show FVec Ideal S32x512 .bf16 from k0_pay54 (kernelRun0_B.sl.r_41 c arg8 harg8 x6) (kernelRun0_B.sl.r_42 c arg2 harg2 arg3 harg3 arg4 harg4 arg5 harg5 arg6 harg6 arg7 harg7 arg12 arg13 x0 x1 x2 x3 x4 x5)) i
    = mixes x0 x1 x2 x3 x4 x5 x6 x7 (seqA x0 x1 x2 xs1) (seqB x0 x1 x2 xs2) ((Rect.unit (s := S512x1024) ![96, 0] S32x512.size inb_S512x1024_S32x512_96_0).emb i) := by
  simp only [kernelRun0_B.sl.r_36, kernelRun0_B.sl.r_37, kernelRun0_B.sl.r_38, kernelRun0_B.sl.r_39, kernelRun0_B.sl.r_40, kernelRun0_B.sl.r_41, kernelRun0_B.sl.r_42, kernelRun0_B.sl.v781, kernelRun0_B.sl.v787, kernelRun0_B.sl.v793, kernelRun0_B.sl.v799, kernelRun0_B.sl.v805, kernelRun0_B.sl.v811, kernelRun0_B.sl.v817, kernelRun0_B.sl.v823, kernelRun0_B.sl.v829, kernelRun0_B.sl.v835, kernelRun0_B.sl.v841, kernelRun0_B.sl.v847, kernelRun0_B.sl.v853, kernelRun0_B.sl.v859, kernelRun0_B.sl.v865, kernelRun0_B.sl.v871, kernelRun0_B.sl.v877, kernelRun0_B.sl.v883, kernelRun0_B.sl.v889, kernelRun0_B.sl.v895, kernelRun0_B.sl.v901, kernelRun0_B.sl.v907, kernelRun0_B.sl.v913, kernelRun0_B.sl.v919, kernelRun0_B.sl.v925, kernelRun0_B.sl.v931, kernelRun0_B.sl.v937, kernelRun0_B.sl.v943, kernelRun0_B.sl.v949, kernelRun0_B.sl.v955, kernelRun0_B.sl.v961, read_w31, read_row, read1_B (xs1 := xs1), read2_B (xs2 := xs2), over1_B, over2_B, Nat.reduceLeDiff]
  exact (congrFun (blockA3 (fun k => band (seqA x0 x1 x2 xs1) (96 + 2 + k)) (wrow (fun k l => x3 (ix2 k l))) x4 x5 x6) i).trans
    (bandA x0 x1 x2 x3 x4 x5 x6 x7 (seqA x0 x1 x2 xs1) (seqB x0 x1 x2 xs2) 96 inb_S512x1024_S32x512_96_0 i)

include arg2 arg3 arg4 arg5 arg6 arg7 arg8 arg9 harg2 harg3 harg4 harg5 harg6 harg7 harg8 harg9 arg12 arg13 harg13 arg14 harg14 c in
theorem pieceBB2 (i : S32x512.Idx) : (show FVec Ideal S32x512 .bf16 from k0_pay46 (kernelRun0_B.sl.r c arg2 harg2 arg3 harg3 arg4 harg4 arg12 x0 x1 x2) (kernelRun0_B.sl.r_34 c arg2 harg2 arg3 harg3 arg4 harg4 arg9 harg9 arg12 arg14 x0 x1 x2 x7) (kernelRun0_B.sl.v765 c arg2 harg2 arg3 harg3 arg4 harg4 arg12 arg14 x0 x1 x2) (kernelRun0_B.sl.r_35 c arg9 harg9 x7)) i
    = mixes x0 x1 x2 x3 x4 x5 x6 x7 (seqA x0 x1 x2 xs1) (seqB x0 x1 x2 xs2) ((Rect.unit (s := S512x1024) ![64, 512] S32x512.size inb_S512x1024_S32x512_64_512).emb i) := by
  simp only [kernelRun0_B.sl.r_34, kernelRun0_B.sl.r_35, kernelRun0_B.sl.v754, kernelRun0_B.sl.v759, kernelRun0_B.sl.v765, read_w3, gate_B, read1_B (xs1 := xs1), read2_B (xs2 := xs2), over1_B, over2_B, Nat.reduceLeDiff]
  exact (congrFun (blockB2 (fun k => band (seqB x0 x1 x2 xs2) (64 + 6 + k)) (wrow (fun k l => x7 (ix2 k l))) (gates x0 x1 x2)) i).trans
    (bandB x0 x1 x2 x3 x4 x5 x6 x7 (seqA x0 x1 x2 xs1) (seqB x0 x1 x2 xs2) 64 _ inb_S512x1024_S32x512_64_512 i)

include arg2 arg3 arg4 arg5 arg6 arg7 arg8 arg9 harg2 harg3 harg4 harg5 harg6 harg7 harg8 harg9 arg12 arg13 harg13 arg14 harg14 c in
theorem pieceBA2 (i : S32x512.Idx) : (show FVec Ideal S32x512 .bf16 from k0_pay44 (kernelRun0_B.sl.r_31 c arg2 harg2 arg3 harg3 arg4 harg4 arg5 harg5 arg6 harg6 arg12 arg13 x0 x1 x2 x3 x4) (kernelRun0_B.sl.r_32 c arg7 harg7 x5) (kernelRun0_B.sl.r_33 c arg8 harg8 x6)) i
    = mixes x0 x1 x2 x3 x4 x5 x6 x7 (seqA x0 x1 x2 xs1) (seqB x0 x1 x2 xs2) ((Rect.unit (s := S512x1024) ![64, 0] S32x512.size inb_S512x1024_S32x512_64_0).emb i) := by
  simp only [kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.v538, kernelRun0_B.sl.v544, kernelRun0_B.sl.v550, kernelRun0_B.sl.v556, kernelRun0_B.sl.v562, kernelRun0_B.sl.v568, kernelRun0_B.sl.v574, kernelRun0_B.sl.v580, kernelRun0_B.sl.v586, kernelRun0_B.sl.v592, kernelRun0_B.sl.v598, kernelRun0_B.sl.v604, kernelRun0_B.sl.v610, kernelRun0_B.sl.v616, kernelRun0_B.sl.v622, kernelRun0_B.sl.v628, kernelRun0_B.sl.v634, kernelRun0_B.sl.v640, kernelRun0_B.sl.v646, kernelRun0_B.sl.v652, kernelRun0_B.sl.v658, kernelRun0_B.sl.v664, kernelRun0_B.sl.v670, kernelRun0_B.sl.v676, kernelRun0_B.sl.v682, kernelRun0_B.sl.v688, kernelRun0_B.sl.v694, kernelRun0_B.sl.v700, kernelRun0_B.sl.v706, kernelRun0_B.sl.v712, kernelRun0_B.sl.v718, read_w31, read_row, read1_B (xs1 := xs1), read2_B (xs2 := xs2), over1_B, over2_B, Nat.reduceLeDiff]
  exact (congrFun (blockA2 (fun k => band (seqA x0 x1 x2 xs1) (64 + 2 + k)) (wrow (fun k l => x3 (ix2 k l))) x4 x5 x6) i).trans
    (bandA x0 x1 x2 x3 x4 x5 x6 x7 (seqA x0 x1 x2 xs1) (seqB x0 x1 x2 xs2) 64 inb_S512x1024_S32x512_64_0 i)

include arg2 arg3 arg4 arg5 arg6 arg7 arg8 arg9 harg2 harg3 harg4 harg5 harg6 harg7 harg8 harg9 arg12 arg13 harg13 arg14 harg14 c in
theorem pieceBB1 (i : S32x512.Idx) : (show FVec Ideal S32x512 .bf16 from k0_pay31 (kernelRun0_B.sl.r c arg2 harg2 arg3 harg3 arg4 harg4 arg12 x0 x1 x2) (kernelRun0_B.sl.v511 c arg2 harg2 arg3 harg3 arg4 harg4 arg12 arg14 x0 x1 x2) (View.readAt (Elt Ideal) arg9.view (Rect.unit (s := S3x512) ![0, 0] S1x512.size inb_S3x512_S1x512_0_0).toLoadRect (harg9.unread x7)) (kernelRun0_B.sl.v516 c arg2 harg2 arg3 harg3 arg4 harg4 arg12 arg14 x0 x1 x2) (View.readAt (Elt Ideal) arg9.view (Rect.unit (s := S3x512) ![1, 0] S1x512.size inb_S3x512_S1x512_1_0).toLoadRect (harg9.unread x7)) (kernelRun0_B.sl.v522 c arg2 harg2 arg3 harg3 arg4 harg4 arg12 arg14 x0 x1 x2) (View.readAt (Elt Ideal) arg9.view (Rect.unit (s := S3x512) ![2, 0] S1x512.size inb_S3x512_S1x512_2_0).toLoadRect (harg9.unread x7))) i
    = mixes x0 x1 x2 x3 x4 x5 x6 x7 (seqA x0 x1 x2 xs1) (seqB x0 x1 x2 xs2) ((Rect.unit (s := S512x1024) ![32, 512] S32x512.size inb_S512x1024_S32x512_32_512).emb i) := by
  simp only [kernelRun0_B.sl.v511, kernelRun0_B.sl.v516, kernelRun0_B.sl.v522, read_w3, gate_B, read1_B (xs1 := xs1), read2_B (xs2 := xs2), over1_B, over2_B, Nat.reduceLeDiff]
  exact (congrFun (blockB1 (fun k => band (seqB x0 x1 x2 xs2) (32 + 6 + k)) (wrow (fun k l => x7 (ix2 k l))) (gates x0 x1 x2)) i).trans
    (bandB x0 x1 x2 x3 x4 x5 x6 x7 (seqA x0 x1 x2 xs1) (seqB x0 x1 x2 xs2) 32 _ inb_S512x1024_S32x512_32_512 i)

include arg2 arg3 arg4 arg5 arg6 arg7 arg8 arg9 harg2 harg3 harg4 harg5 harg6 harg7 harg8 harg9 arg12 arg13 harg13 arg14 harg14 c in
theorem pieceBA1 (i : S32x512.Idx) : (show FVec Ideal S32x512 .bf16 from k0_pay30 (kernelRun0_B.sl.r_20 c arg2 harg2 arg3 harg3 arg4 harg4 arg5 harg5 arg6 harg6 arg12 arg13 x0 x1 x2 x3 x4) (kernelRun0_B.sl.v469 c arg2 harg2 arg3 harg3 arg4 harg4 arg12 arg13 x0 x1 x2) (View.readAt (Elt Ideal) arg5.view (Rect.unit (s := S31x512) ![29, 0] S1x512.size inb_S31x512_S1x512_29_0).toLoadRect (harg5.unread x3)) (kernelRun0_B.sl.v475 c arg2 harg2 arg3 harg3 arg4 harg4 arg12 arg13 x0 x1 x2) (View.readAt (Elt Ideal) arg5.view (Rect.unit (s := S31x512) ![30, 0] S1x512.size inb_S31x512_S1x512_30_0).toLoadRect (harg5.unread x3)) (View.readAt (Elt Ideal) arg7.view (Rect.unit (s := S1x512) ![0, 0] S1x512.size inb_S1x512_S1x512_0_0).toLoadRect (harg7.unread x5)) (View.readAt (Elt Ideal) arg8.view (Rect.unit (s := S1x512) ![0, 0] S1x512.size inb_S1x512_S1x512_0_0).toLoadRect (harg8.unread x6))) i
    = mixes x0 x1 x2 x3 x4 x5 x6 x7 (seqA x0 x1 x2 xs1) (seqB x0 x1 x2 xs2) ((Rect.unit (s := S512x1024) ![32, 0] S32x512.size inb_S512x1024_S32x512_32_0).emb i) := by
  simp only [kernelRun0_B.sl.r_16, kernelRun0_B.sl.r_17, kernelRun0_B.sl.r_18, kernelRun0_B.sl.r_19, kernelRun0_B.sl.r_20, kernelRun0_B.sl.v295, kernelRun0_B.sl.v301, kernelRun0_B.sl.v307, kernelRun0_B.sl.v313, kernelRun0_B.sl.v319, kernelRun0_B.sl.v325, kernelRun0_B.sl.v331, kernelRun0_B.sl.v337, kernelRun0_B.sl.v343, kernelRun0_B.sl.v349, kernelRun0_B.sl.v355, kernelRun0_B.sl.v361, kernelRun0_B.sl.v367, kernelRun0_B.sl.v373, kernelRun0_B.sl.v379, kernelRun0_B.sl.v385, kernelRun0_B.sl.v391, kernelRun0_B.sl.v397, kernelRun0_B.sl.v403, kernelRun0_B.sl.v409, kernelRun0_B.sl.v415, kernelRun0_B.sl.v421, kernelRun0_B.sl.v427, kernelRun0_B.sl.v433, kernelRun0_B.sl.v439, kernelRun0_B.sl.v445, kernelRun0_B.sl.v451, kernelRun0_B.sl.v457, kernelRun0_B.sl.v463, kernelRun0_B.sl.v469, kernelRun0_B.sl.v475, read_w31, read_row, read1_B (xs1 := xs1), read2_B (xs2 := xs2), over1_B, over2_B, Nat.reduceLeDiff]
  exact (congrFun (blockA1 (fun k => band (seqA x0 x1 x2 xs1) (32 + 2 + k)) (wrow (fun k l => x3 (ix2 k l))) x4 x5 x6) i).trans
    (bandA x0 x1 x2 x3 x4 x5 x6 x7 (seqA x0 x1 x2 xs1) (seqB x0 x1 x2 xs2) 32 inb_S512x1024_S32x512_32_0 i)

include arg2 arg3 arg4 arg5 arg6 arg7 arg8 arg9 harg2 harg3 harg4 harg5 harg6 harg7 harg8 harg9 arg12 arg13 harg13 arg14 harg14 c in
theorem pieceBB0 (i : S32x512.Idx) : (show FVec Ideal S32x512 .bf16 from kernelRun0_B.sl.r_15 c arg2 harg2 arg3 harg3 arg4 harg4 arg9 harg9 arg12 arg14 harg14 x0 x1 x2 x7 xs2) i
    = mixes x0 x1 x2 x3 x4 x5 x6 x7 (seqA x0 x1 x2 xs1) (seqB x0 x1 x2 xs2) ((Rect.unit (s := S512x1024) ![0, 512] S32x512.size inb_S512x1024_S32x512_0_512).emb i) := by
  simp only [kernelRun0_B.sl.r_15, kernelRun0_B.sl.v279, read_w3, gate_B, read1_B (xs1 := xs1), read2_B (xs2 := xs2), over1_B, over2_B, Nat.reduceLeDiff]
  exact (congrFun (blockB0 (fun k => band (seqB x0 x1 x2 xs2) (0 + 6 + k)) (wrow (fun k l => x7 (ix2 k l))) (gates x0 x1 x2)) i).trans
    (bandB x0 x1 x2 x3 x4 x5 x6 x7 (seqA x0 x1 x2 xs1) (seqB x0 x1 x2 xs2) 0 _ inb_S512x1024_S32x512_0_512 i)

include arg2 arg3 arg4 arg5 arg6 arg7 arg8 arg9 harg2 harg3 harg4 harg5 harg6 harg7 harg8 harg9 arg12 arg13 harg13 arg14 harg14 c in
theorem pieceBA0 (i : S32x512.Idx) : (show FVec Ideal S32x512 .bf16 from k0_pay23 (kernelRun0_B.sl.r_11 c arg7 harg7 x5) (kernelRun0_B.sl.r_12 c arg8 harg8 x6) (kernelRun0_B.sl.r_13 c arg2 harg2 arg3 harg3 arg4 harg4 arg5 harg5 arg6 harg6 arg12 arg13 harg13 x0 x1 x2 x3 x4 xs1) (kernelRun0_B.sl.r_14 c arg2 harg2 arg3 harg3 arg4 harg4 arg5 harg5 arg6 harg6 arg12 arg13 harg13 x0 x1 x2 x3 x4 xs1)) i
    = mixes x0 x1 x2 x3 x4 x5 x6 x7 (seqA x0 x1 x2 xs1) (seqB x0 x1 x2 xs2) ((Rect.unit (s := S512x1024) ![0, 0] S32x512.size inb_S512x1024_S32x512_0_0).emb i) := by
  simp only [kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.v232, read_w31, read_row, read1_B (xs1 := xs1), read2_B (xs2 := xs2), over1_B, over2_B, Nat.reduceLeDiff]
  exact (congrFun (blockA0 (fun k => band (seqA x0 x1 x2 xs1) (0 + 2 + k)) (wrow (fun k l => x3 (ix2 k l))) x4 x5 x6) i).trans
    (bandA x0 x1 x2 x3 x4 x5 x6 x7 (seqA x0 x1 x2 xs1) (seqB x0 x1 x2 xs2) 0 inb_S512x1024_S32x512_0_0 i)

theorem holds3_B : Holds (mixes x0 x1 x2 x3 x4 x5 x6 x7 (seqA x0 x1 x2 xs1) (seqB x0 x1 x2 xs2)) (kernelRun0_B.sl.HS3_32 (F := Ideal) c arg2 harg2 arg3 harg3 arg4 harg4 arg5 harg5 arg6 harg6 arg7 harg7 arg8 harg8 arg9 harg9 arg12 arg13 harg13 arg14 harg14 x0 x1 x2 x3 x4 x5 x6 x7 xs1 xs2) := by
  unfold kernelRun0_B.sl.HS3_32
  exact holds_cons (fun (i : S32x512.Idx) => pieceBB15 c arg2 harg2 arg3 harg3 arg4 harg4 arg5 harg5 arg6 harg6 arg7 harg7 arg8 harg8 arg9 harg9 arg12 arg13 harg13 arg14 harg14 x0 x1 x2 x3 x4 x5 x6 x7 xs1 xs2 i) (
    holds_cons (fun (i : S32x512.Idx) => pieceBA15 c arg2 harg2 arg3 harg3 arg4 harg4 arg5 harg5 arg6 harg6 arg7 harg7 arg8 harg8 arg9 harg9 arg12 arg13 harg13 arg14 harg14 x0 x1 x2 x3 x4 x5 x6 x7 xs1 xs2 i) (
    holds_cons (fun (i : S32x512.Idx) => pieceBB14 c arg2 harg2 arg3 harg3 arg4 harg4 arg5 harg5 arg6 harg6 arg7 harg7 arg8 harg8 arg9 harg9 arg12 arg13 harg13 arg14 harg14 x0 x1 x2 x3 x4 x5 x6 x7 xs1 xs2 i) (
    holds_cons (fun (i : S32x512.Idx) => pieceBA14 c arg2 harg2 arg3 harg3 arg4 harg4 arg5 harg5 arg6 harg6 arg7 harg7 arg8 harg8 arg9 harg9 arg12 arg13 harg13 arg14 harg14 x0 x1 x2 x3 x4 x5 x6 x7 xs1 xs2 i) (
    holds_cons (fun (i : S32x512.Idx) => pieceBB13 c arg2 harg2 arg3 harg3 arg4 harg4 arg5 harg5 arg6 harg6 arg7 harg7 arg8 harg8 arg9 harg9 arg12 arg13 harg13 arg14 harg14 x0 x1 x2 x3 x4 x5 x6 x7 xs1 xs2 i) (
    holds_cons (fun (i : S32x512.Idx) => pieceBA13 c arg2 harg2 arg3 harg3 arg4 harg4 arg5 harg5 arg6 harg6 arg7 harg7 arg8 harg8 arg9 harg9 arg12 arg13 harg13 arg14 harg14 x0 x1 x2 x3 x4 x5 x6 x7 xs1 xs2 i) (
    holds_cons (fun (i : S32x512.Idx) => pieceBB12 c arg2 harg2 arg3 harg3 arg4 harg4 arg5 harg5 arg6 harg6 arg7 harg7 arg8 harg8 arg9 harg9 arg12 arg13 harg13 arg14 harg14 x0 x1 x2 x3 x4 x5 x6 x7 xs1 xs2 i) (
    holds_cons (fun (i : S32x512.Idx) => pieceBA12 c arg2 harg2 arg3 harg3 arg4 harg4 arg5 harg5 arg6 harg6 arg7 harg7 arg8 harg8 arg9 harg9 arg12 arg13 harg13 arg14 harg14 x0 x1 x2 x3 x4 x5 x6 x7 xs1 xs2 i) (
    holds_cons (fun (i : S32x512.Idx) => pieceBB11 c arg2 harg2 arg3 harg3 arg4 harg4 arg5 harg5 arg6 harg6 arg7 harg7 arg8 harg8 arg9 harg9 arg12 arg13 harg13 arg14 harg14 x0 x1 x2 x3 x4 x5 x6 x7 xs1 xs2 i) (
    holds_cons (fun (i : S32x512.Idx) => pieceBA11 c arg2 harg2 arg3 harg3 arg4 harg4 arg5 harg5 arg6 harg6 arg7 harg7 arg8 harg8 arg9 harg9 arg12 arg13 harg13 arg14 harg14 x0 x1 x2 x3 x4 x5 x6 x7 xs1 xs2 i) (
    holds_cons (fun (i : S32x512.Idx) => pieceBB10 c arg2 harg2 arg3 harg3 arg4 harg4 arg5 harg5 arg6 harg6 arg7 harg7 arg8 harg8 arg9 harg9 arg12 arg13 harg13 arg14 harg14 x0 x1 x2 x3 x4 x5 x6 x7 xs1 xs2 i) (
    holds_cons (fun (i : S32x512.Idx) => pieceBA10 c arg2 harg2 arg3 harg3 arg4 harg4 arg5 harg5 arg6 harg6 arg7 harg7 arg8 harg8 arg9 harg9 arg12 arg13 harg13 arg14 harg14 x0 x1 x2 x3 x4 x5 x6 x7 xs1 xs2 i) (
    holds_cons (fun (i : S32x512.Idx) => pieceBB9 c arg2 harg2 arg3 harg3 arg4 harg4 arg5 harg5 arg6 harg6 arg7 harg7 arg8 harg8 arg9 harg9 arg12 arg13 harg13 arg14 harg14 x0 x1 x2 x3 x4 x5 x6 x7 xs1 xs2 i) (
    holds_cons (fun (i : S32x512.Idx) => pieceBA9 c arg2 harg2 arg3 harg3 arg4 harg4 arg5 harg5 arg6 harg6 arg7 harg7 arg8 harg8 arg9 harg9 arg12 arg13 harg13 arg14 harg14 x0 x1 x2 x3 x4 x5 x6 x7 xs1 xs2 i) (
    holds_cons (fun (i : S32x512.Idx) => pieceBB8 c arg2 harg2 arg3 harg3 arg4 harg4 arg5 harg5 arg6 harg6 arg7 harg7 arg8 harg8 arg9 harg9 arg12 arg13 harg13 arg14 harg14 x0 x1 x2 x3 x4 x5 x6 x7 xs1 xs2 i) (
    holds_cons (fun (i : S32x512.Idx) => pieceBA8 c arg2 harg2 arg3 harg3 arg4 harg4 arg5 harg5 arg6 harg6 arg7 harg7 arg8 harg8 arg9 harg9 arg12 arg13 harg13 arg14 harg14 x0 x1 x2 x3 x4 x5 x6 x7 xs1 xs2 i) (
    holds_cons (fun (i : S32x512.Idx) => pieceBB7 c arg2 harg2 arg3 harg3 arg4 harg4 arg5 harg5 arg6 harg6 arg7 harg7 arg8 harg8 arg9 harg9 arg12 arg13 harg13 arg14 harg14 x0 x1 x2 x3 x4 x5 x6 x7 xs1 xs2 i) (
    holds_cons (fun (i : S32x512.Idx) => pieceBA7 c arg2 harg2 arg3 harg3 arg4 harg4 arg5 harg5 arg6 harg6 arg7 harg7 arg8 harg8 arg9 harg9 arg12 arg13 harg13 arg14 harg14 x0 x1 x2 x3 x4 x5 x6 x7 xs1 xs2 i) (
    holds_cons (fun (i : S32x512.Idx) => pieceBB6 c arg2 harg2 arg3 harg3 arg4 harg4 arg5 harg5 arg6 harg6 arg7 harg7 arg8 harg8 arg9 harg9 arg12 arg13 harg13 arg14 harg14 x0 x1 x2 x3 x4 x5 x6 x7 xs1 xs2 i) (
    holds_cons (fun (i : S32x512.Idx) => pieceBA6 c arg2 harg2 arg3 harg3 arg4 harg4 arg5 harg5 arg6 harg6 arg7 harg7 arg8 harg8 arg9 harg9 arg12 arg13 harg13 arg14 harg14 x0 x1 x2 x3 x4 x5 x6 x7 xs1 xs2 i) (
    holds_cons (fun (i : S32x512.Idx) => pieceBB5 c arg2 harg2 arg3 harg3 arg4 harg4 arg5 harg5 arg6 harg6 arg7 harg7 arg8 harg8 arg9 harg9 arg12 arg13 harg13 arg14 harg14 x0 x1 x2 x3 x4 x5 x6 x7 xs1 xs2 i) (
    holds_cons (fun (i : S32x512.Idx) => pieceBA5 c arg2 harg2 arg3 harg3 arg4 harg4 arg5 harg5 arg6 harg6 arg7 harg7 arg8 harg8 arg9 harg9 arg12 arg13 harg13 arg14 harg14 x0 x1 x2 x3 x4 x5 x6 x7 xs1 xs2 i) (
    holds_cons (fun (i : S32x512.Idx) => pieceBB4 c arg2 harg2 arg3 harg3 arg4 harg4 arg5 harg5 arg6 harg6 arg7 harg7 arg8 harg8 arg9 harg9 arg12 arg13 harg13 arg14 harg14 x0 x1 x2 x3 x4 x5 x6 x7 xs1 xs2 i) (
    holds_cons (fun (i : S32x512.Idx) => pieceBA4 c arg2 harg2 arg3 harg3 arg4 harg4 arg5 harg5 arg6 harg6 arg7 harg7 arg8 harg8 arg9 harg9 arg12 arg13 harg13 arg14 harg14 x0 x1 x2 x3 x4 x5 x6 x7 xs1 xs2 i) (
    holds_cons (fun (i : S32x512.Idx) => pieceBB3 c arg2 harg2 arg3 harg3 arg4 harg4 arg5 harg5 arg6 harg6 arg7 harg7 arg8 harg8 arg9 harg9 arg12 arg13 harg13 arg14 harg14 x0 x1 x2 x3 x4 x5 x6 x7 xs1 xs2 i) (
    holds_cons (fun (i : S32x512.Idx) => pieceBA3 c arg2 harg2 arg3 harg3 arg4 harg4 arg5 harg5 arg6 harg6 arg7 harg7 arg8 harg8 arg9 harg9 arg12 arg13 harg13 arg14 harg14 x0 x1 x2 x3 x4 x5 x6 x7 xs1 xs2 i) (
    holds_cons (fun (i : S32x512.Idx) => pieceBB2 c arg2 harg2 arg3 harg3 arg4 harg4 arg5 harg5 arg6 harg6 arg7 harg7 arg8 harg8 arg9 harg9 arg12 arg13 harg13 arg14 harg14 x0 x1 x2 x3 x4 x5 x6 x7 xs1 xs2 i) (
    holds_cons (fun (i : S32x512.Idx) => pieceBA2 c arg2 harg2 arg3 harg3 arg4 harg4 arg5 harg5 arg6 harg6 arg7 harg7 arg8 harg8 arg9 harg9 arg12 arg13 harg13 arg14 harg14 x0 x1 x2 x3 x4 x5 x6 x7 xs1 xs2 i) (
    holds_cons (fun (i : S32x512.Idx) => pieceBB1 c arg2 harg2 arg3 harg3 arg4 harg4 arg5 harg5 arg6 harg6 arg7 harg7 arg8 harg8 arg9 harg9 arg12 arg13 harg13 arg14 harg14 x0 x1 x2 x3 x4 x5 x6 x7 xs1 xs2 i) (
    holds_cons (fun (i : S32x512.Idx) => pieceBA1 c arg2 harg2 arg3 harg3 arg4 harg4 arg5 harg5 arg6 harg6 arg7 harg7 arg8 harg8 arg9 harg9 arg12 arg13 harg13 arg14 harg14 x0 x1 x2 x3 x4 x5 x6 x7 xs1 xs2 i) (
    holds_cons (fun (i : S32x512.Idx) => pieceBB0 c arg2 harg2 arg3 harg3 arg4 harg4 arg5 harg5 arg6 harg6 arg7 harg7 arg8 harg8 arg9 harg9 arg12 arg13 harg13 arg14 harg14 x0 x1 x2 x3 x4 x5 x6 x7 xs1 xs2 i) (
    holds_cons (fun (i : S32x512.Idx) => pieceBA0 c arg2 harg2 arg3 harg3 arg4 harg4 arg5 harg5 arg6 harg6 arg7 harg7 arg8 harg8 arg9 harg9 arg12 arg13 harg13 arg14 harg14 x0 x1 x2 x3 x4 x5 x6 x7 xs1 xs2 i) holds_nil)))))))))))))))))))))))))))))))

theorem read3_B : kernelRun0_B.sl.v3946 (F := Ideal) c arg2 harg2 arg3 harg3 arg4 harg4 arg5 harg5 arg6 harg6 arg7 harg7 arg8 harg8 arg9 harg9 arg12 arg13 harg13 arg14 harg14 arg15 x0 x1 x2 x3 x4 x5 x6 x7 xs1 xs2 = mixes x0 x1 x2 x3 x4 x5 x6 x7 (seqA x0 x1 x2 xs1) (seqB x0 x1 x2 xs2) := by
  unfold kernelRun0_B.sl.v3946
  exact (read_all _ _ _ _ (holds3_B c arg2 harg2 arg3 harg3 arg4 harg4 arg5 harg5 arg6 harg6 arg7 harg7 arg8 harg8 arg9 harg9 arg12 arg13 harg13 arg14 harg14 x0 x1 x2 x3 x4 x5 x6 x7 xs1 xs2) (View.cover_of_tiledL _ S32x512.size (by sl_kernel_rfl))).trans
    (View.ld_unit_zero (S := S512x1024) hz _ _)

end BuffersB

end Cert.Conv

end
-- ==== Proof.Conv.Block.lean ====
/- What the convolution mixers' body leaves for a block of 512 rows: the output's block, and at the top of the two buffers it keeps
   the rows the next block's convolutions read. -/
module

public import proofs.«01_k».proof.Proof.Conv.BuffersA
public import proofs.«01_k».proof.Proof.Conv.BuffersB

@[expose] public section

noncomputable section

namespace Cert.Conv

open Cert.Kernel4Ideal Cert.Kernel4Ideal.Gen Idealize.ShloMosaic Idealize.ShloMosaic.TcCoe Idealize.SL.Sem
open Idealize.ShloMosaic.Pointwise Cert.Rows Cert.Bands
open Cert.Spatial (hz holds_cons holds_nil)

theorem pay193_apply (v : Vec Ideal S32x512 .f32) (r : Fin 32) (l : Fin 512) : k0_pay193 v (ix2 r l) = v (ix2 r l) := by
  unfold k0_pay193
  pointwise

theorem pay1_apply (v : Vec Ideal S8x512 .f32) (r : Fin 8) (l : Fin 512) : k0_pay1 v (ix2 r l) = v (ix2 r l) := by
  unfold k0_pay1
  pointwise

theorem seqA_end (x0 : Vec Ideal S1x512x1024 .f32) (x1 : Vec Ideal S1x1024 .f32) (x2 : Vec Ideal S1024x2560 .bf16) (h : Vec Ideal S544x512 .f32) (q : ℕ) (l : Fin 512) :
    seqA x0 x1 x2 h (512 + q) l = rowsOf (glus x0 x1 x2) (480 + q) l :=
  (if_neg (by omega)).trans (congrArg (fun q => rowsOf (glus x0 x1 x2) q l) (show 512 + q - 32 = 480 + q by omega))

theorem seqB_end (x0 : Vec Ideal S1x512x1024 .f32) (x1 : Vec Ideal S1x1024 .f32) (x2 : Vec Ideal S1024x2560 .bf16) (h : Vec Ideal S520x512 .f32) (q : ℕ) (l : Fin 512) :
    seqB x0 x1 x2 h (512 + q) l = rowsOf (duos x0 x1 x2) (504 + q) l :=
  (if_neg (by omega)).trans (congrArg (fun q => rowsOf (duos x0 x1 x2) q l) (show 512 + q - 8 = 504 + q by omega))

/-- The output's block from its start is itself. -/
theorem unit_emb3 {h : ∀ a, (![0, 0, 0] : Fin 3 → ℕ) a + (![1, 512, 1024] : Fin 3 → ℕ) a ≤ S1x512x1024.size a} (x : S1x512x1024.Idx) :
    (Rect.unit (s := S1x512x1024) ![0, 0, 0] ![1, 512, 1024] h).emb x = x :=
  funext fun a => Fin.ext (match a with
    | ⟨0, _⟩ => by show 0 + 1 * (x 0).val = (x 0).val; omega
    | ⟨1, _⟩ => by show 0 + 1 * (x 1).val = (x 1).val; omega
    | ⟨2, _⟩ => by show 0 + 1 * (x 2).val = (x 2).val; omega)

section Block

variable (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x2560 .bf16) (harg4 : arg4.IsWhole) (arg5 : Memref sig .tc .vmem S31x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S3x512 .f32) (harg9 : arg9.IsWhole) (arg10 : Memref sig .tc .vmem S1024x1024 .bf16) (harg10 : arg10.IsWhole) (arg11 : Memref sig .tc .vmem S1x512x1024 .f32) (harg11 : arg11.IsWhole) (arg12 : Memref sig .tc .vmem S512x1024 .bf16) (harg12 : arg12.IsWhole) (arg13 : Memref sig .tc .vmem S544x512 .f32) (harg13 : arg13.IsWhole) (arg14 : Memref sig .tc .vmem S520x512 .f32) (harg14 : arg14.IsWhole) (arg15 : Memref sig .tc .vmem S512x1024 .bf16) (harg15 : arg15.IsWhole)
  (x0 : Vec Ideal S1x512x1024 .f32) (x1 : Vec Ideal S1x1024 .f32) (x2 : Vec Ideal S1024x2560 .bf16) (x3 : Vec Ideal S31x512 .f32)
  (x4 x5 x6 : Vec Ideal S1x512 .f32) (x7 : Vec Ideal S3x512 .f32) (x8 : Vec Ideal S1024x1024 .bf16)
  (xs1 : Vec Ideal S544x512 .f32) (xs2 : Vec Ideal S520x512 .f32)

/-- What case A leaves in the output's block. -/
theorem out_A (hc0 : cond0_0 i) : out0_A_9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 = k0_pay2 x0 (mixes x0 x1 x2 x3 x4 x5 x6 x7 (seqA x0 x1 x2 (fun _ => 0)) (seqB x0 x1 x2 (fun _ => 0))) x8 := by
  have hc := cover0_A_9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8
  unfold out0_A_9
  rw [View.read_writes_eq_canon _ _ _ hc]
  funext y
  refine View.canon_apply_of_pieces (k0_pay2 x0 (mixes x0 x1 x2 x3 x4 x5 x6 x7 (seqA x0 x1 x2 (fun _ => 0)) (seqB x0 x1 x2 (fun _ => 0))) x8) _ ?_ y (hc y)
  unfold kernelRun0_A
  dsimp only
  rw [read3_A c arg2 harg2 arg3 harg3 arg4 harg4 arg5 harg5 arg6 harg6 arg7 harg7 arg8 harg8 arg9 harg9 arg12 arg13 arg14 arg15 x0 x1 x2 x3 x4 x5 x6 x7, View.readAt_eq_ld, View.readAt_eq_ld, harg2.read_unread, harg10.read_unread, View.ld_unit_zero (S := S1024x1024) hz,
    View.ld_unit_zero (S := S1x512x1024) hz3]
  exact holds_cons (fun x => congrArg (k0_pay2 x0 (mixes x0 x1 x2 x3 x4 x5 x6 x7 (seqA x0 x1 x2 (fun _ => 0)) (seqB x0 x1 x2 (fun _ => 0))) x8) (unit_emb3 (h := inb_S1x512x1024_S1x512x1024_0_0_0) x).symm) holds_nil

/-- What case A leaves at the top of the buffer kept for the first convolution: the block's last 32 rows. -/
theorem kept1_A (hc0 : cond0_0 i) (q : ℕ) (hq : q < 32) (l : Fin 512) :
    rowsOf (sout0_A_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8) q l = rowsOf (glus x0 x1 x2) (480 + q) l := by
  rw [rowsOf_lt _ q (by omega)]
  have ei : (ix2 ⟨q, by omega⟩ l : S544x512.Idx) = (Rect.unit (s := S544x512) ![0, 0] S32x512.size inb_S544x512_S32x512_0_0).emb (ix2 ⟨q, hq⟩ l) := by
    rw [emb_apply 0 0 inb_S544x512_S32x512_0_0 ⟨q, hq⟩ l (by decide) (by decide)]
    exact congr (congrArg ix2 (Fin.ext (Nat.zero_add _).symm)) (Fin.ext (Nat.zero_add _).symm)
  rw [ei]
  unfold sout0_A_1
  rw [View.read_writes_junk_eq_canon]
  unfold kernelRun0_A
  dsimp only
  refine (View.canon_cons_emb _ _ _ _).trans ((pay193_apply _ ⟨q, hq⟩ l).trans ?_)
  unfold kernelRun0_A.sl.v3877
  rw [ld1_A c arg2 harg2 arg3 harg3 arg4 harg4 arg12 arg13 x0 x1 x2 _]
  refine (ld_apply 512 0 inb_S544x512_S32x512_512_0 ⟨q, hq⟩ l (by decide) (by decide) _).trans ?_
  refine Eq.trans ?_ (seqA_end x0 x1 x2 (fun _ => 0) q l)
  exact congrArg (seqA x0 x1 x2 (fun _ => 0) (512 + q)) (Fin.ext (Nat.zero_add _))

/-- What case A leaves at the top of the buffer kept for the second convolution: the block's last 8 rows. -/
theorem kept2_A (hc0 : cond0_0 i) (q : ℕ) (hq : q < 8) (l : Fin 512) :
    rowsOf (sout0_A_2 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8) q l = rowsOf (duos x0 x1 x2) (504 + q) l := by
  rw [rowsOf_lt _ q (by omega)]
  have ei : (ix2 ⟨q, by omega⟩ l : S520x512.Idx) = (Rect.unit (s := S520x512) ![0, 0] S8x512.size inb_S520x512_S8x512_0_0).emb (ix2 ⟨q, hq⟩ l) := by
    rw [emb_apply 0 0 inb_S520x512_S8x512_0_0 ⟨q, hq⟩ l (by decide) (by decide)]
    exact congr (congrArg ix2 (Fin.ext (Nat.zero_add _).symm)) (Fin.ext (Nat.zero_add _).symm)
  rw [ei]
  unfold sout0_A_2
  rw [View.read_writes_junk_eq_canon]
  unfold kernelRun0_A
  dsimp only
  refine (View.canon_cons_emb _ _ _ _).trans ((pay1_apply _ ⟨q, hq⟩ l).trans ?_)
  unfold kernelRun0_A.sl.v
  rw [ld2_A c arg2 harg2 arg3 harg3 arg4 harg4 arg12 arg14 x0 x1 x2 _]
  refine (ld_apply 512 0 inb_S520x512_S8x512_512_0 ⟨q, hq⟩ l (by decide) (by decide) _).trans ?_
  refine Eq.trans ?_ (seqB_end x0 x1 x2 (fun _ => 0) q l)
  exact congrArg (seqB x0 x1 x2 (fun _ => 0) (512 + q)) (Fin.ext (Nat.zero_add _))

/-- What case B leaves in the output's block. -/
theorem out_B (hc0 : ¬cond0_0 i) : out0_B_9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs1 xs2 = k0_pay2 x0 (mixes x0 x1 x2 x3 x4 x5 x6 x7 (seqA x0 x1 x2 xs1) (seqB x0 x1 x2 xs2)) x8 := by
  have hc := cover0_B_9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs1 xs2
  unfold out0_B_9
  rw [View.read_writes_eq_canon _ _ _ hc]
  funext y
  refine View.canon_apply_of_pieces (k0_pay2 x0 (mixes x0 x1 x2 x3 x4 x5 x6 x7 (seqA x0 x1 x2 xs1) (seqB x0 x1 x2 xs2)) x8) _ ?_ y (hc y)
  unfold kernelRun0_B
  dsimp only
  rw [read3_B c arg2 harg2 arg3 harg3 arg4 harg4 arg5 harg5 arg6 harg6 arg7 harg7 arg8 harg8 arg9 harg9 arg12 arg13 harg13 arg14 harg14 arg15 x0 x1 x2 x3 x4 x5 x6 x7 xs1 xs2, View.readAt_eq_ld, View.readAt_eq_ld, harg2.read_unread, harg10.read_unread, View.ld_unit_zero (S := S1024x1024) hz,
    View.ld_unit_zero (S := S1x512x1024) hz3]
  exact holds_cons (fun x => congrArg (k0_pay2 x0 (mixes x0 x1 x2 x3 x4 x5 x6 x7 (seqA x0 x1 x2 xs1) (seqB x0 x1 x2 xs2)) x8) (unit_emb3 (h := inb_S1x512x1024_S1x512x1024_0_0_0) x).symm) holds_nil

/-- What case B leaves at the top of the buffer kept for the first convolution: the block's last 32 rows. -/
theorem kept1_B (hc0 : ¬cond0_0 i) (q : ℕ) (hq : q < 32) (l : Fin 512) :
    rowsOf (sout0_B_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs1 xs2) q l = rowsOf (glus x0 x1 x2) (480 + q) l := by
  rw [rowsOf_lt _ q (by omega)]
  have ei : (ix2 ⟨q, by omega⟩ l : S544x512.Idx) = (Rect.unit (s := S544x512) ![0, 0] S32x512.size inb_S544x512_S32x512_0_0).emb (ix2 ⟨q, hq⟩ l) := by
    rw [emb_apply 0 0 inb_S544x512_S32x512_0_0 ⟨q, hq⟩ l (by decide) (by decide)]
    exact congr (congrArg ix2 (Fin.ext (Nat.zero_add _).symm)) (Fin.ext (Nat.zero_add _).symm)
  rw [ei]
  unfold sout0_B_1
  rw [View.read_writes_junk_eq_canon]
  unfold kernelRun0_B
  dsimp only
  refine (View.canon_cons_emb _ _ _ _).trans ((pay193_apply _ ⟨q, hq⟩ l).trans ?_)
  unfold kernelRun0_B.sl.v3877
  rw [ld1_B c arg2 harg2 arg3 harg3 arg4 harg4 arg12 arg13 x0 x1 x2 xs1 _ (fun x => by have h := (x 0).isLt; show 32 ≤ 512 + 1 * (x 0).val; omega)]
  refine (ld_apply 512 0 inb_S544x512_S32x512_512_0 ⟨q, hq⟩ l (by decide) (by decide) _).trans ?_
  refine Eq.trans ?_ (seqA_end x0 x1 x2 xs1 q l)
  exact congrArg (seqA x0 x1 x2 xs1 (512 + q)) (Fin.ext (Nat.zero_add _))

/-- What case B leaves at the top of the buffer kept for the second convolution: the block's last 8 rows. -/
theorem kept2_B (hc0 : ¬cond0_0 i) (q : ℕ) (hq : q < 8) (l : Fin 512) :
    rowsOf (sout0_B_2 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs1 xs2) q l = rowsOf (duos x0 x1 x2) (504 + q) l := by
  rw [rowsOf_lt _ q (by omega)]
  have ei : (ix2 ⟨q, by omega⟩ l : S520x512.Idx) = (Rect.unit (s := S520x512) ![0, 0] S8x512.size inb_S520x512_S8x512_0_0).emb (ix2 ⟨q, hq⟩ l) := by
    rw [emb_apply 0 0 inb_S520x512_S8x512_0_0 ⟨q, hq⟩ l (by decide) (by decide)]
    exact congr (congrArg ix2 (Fin.ext (Nat.zero_add _).symm)) (Fin.ext (Nat.zero_add _).symm)
  rw [ei]
  unfold sout0_B_2
  rw [View.read_writes_junk_eq_canon]
  unfold kernelRun0_B
  dsimp only
  refine (View.canon_cons_emb _ _ _ _).trans ((pay1_apply _ ⟨q, hq⟩ l).trans ?_)
  unfold kernelRun0_B.sl.v
  rw [ld2_B c arg2 harg2 arg3 harg3 arg4 harg4 arg12 arg14 x0 x1 x2 xs2 _ (fun x => by have h := (x 0).isLt; show 8 ≤ 512 + 1 * (x 0).val; omega)]
  refine (ld_apply 512 0 inb_S520x512_S8x512_512_0 ⟨q, hq⟩ l (by decide) (by decide) _).trans ?_
  refine Eq.trans ?_ (seqB_end x0 x1 x2 xs2 q l)
  exact congrArg (seqB x0 x1 x2 xs2 (512 + q)) (Fin.ext (Nat.zero_add _))

end Block

end Cert.Conv

end
-- ==== Proof.Conv.Array.lean ====
/- The convolution mixers' result array, token by token, as a function of its arguments. -/
module

public import proofs.«01_k».proof.Proof.Conv.Block

@[expose] public section

noncomputable section

namespace Cert.Conv

open Cert.Kernel4Ideal Cert.Kernel4Ideal.Gen Idealize.ShloMosaic Idealize.ShloMosaic.TcCoe Idealize.SL.Sem
open Idealize.ShloMosaic.Pointwise Cert.Rows

/-! ### A block of a sequence -/

theorem acc_congr (b : EReal) (f g : ℕ → EReal) : ∀ n, (∀ k < n, f k = g k) → acc b f n = acc b g n
  | 0, _ => rfl
  | n + 1, h => by
    show acc b f n + f n = acc b g n + g n
    rw [acc_congr b f g n fun k hk => h k (Nat.lt_succ_of_lt hk), h n (Nat.lt_succ_self n)]

section Tile

variable (x0 : Vec Ideal S1x512x1024 .f32) (x1 : Vec Ideal S1x1024 .f32) (x2 : Vec Ideal S1024x2560 .bf16) (x3 : Vec Ideal S31x512 .f32)
  (x4 x5 x6 : Vec Ideal S1x512 .f32) (x7 : Vec Ideal S3x512 .f32) (x8 : Vec Ideal S1024x1024 .bf16)

/-- What the convolutions read of a sequence's tokens. -/
def seen1 (X : Fin 2048 → Fin 1024 → EReal) (s : Fin 2048) : Fin 512 → EReal := glu (rms (X s) (fun k => x1 (ix2 0 k))) (fun k f => x2 (ix2 k f))
def seen2 (X : Fin 2048 → Fin 1024 → EReal) (s : Fin 2048) : Fin 512 → EReal := duo (rms (X s) (fun k => x1 (ix2 0 k))) (fun k f => x2 (ix2 k f))

variable (X : Fin 2048 → Fin 1024 → EReal) (j : ℕ) (hj : j < 4)
  (h0 : ∀ (r : Fin 512) (k : Fin 1024), x0 (ix3 0 r k) = X ⟨512 * j + r.val, by have := r.isLt; omega⟩ k)

include h0 in
theorem nrow_eq (r : Fin 512) : nrow x0 x1 r = rms (X ⟨512 * j + r.val, by have := r.isLt; omega⟩) (fun k => x1 (ix2 0 k)) :=
  congrArg (fun x => rms x (fun k => x1 (ix2 0 k))) (funext fun k => h0 r k)

include hj h0 in
/-- A block's rows are the sequence's, at their positions. -/
theorem rows_glus (p q : ℕ) (hq : q < 512) (l : Fin 512) :
    rowsOf (glus x0 x1 x2) q l = past p (seen1 x1 x2 X) (512 * j + q + p) l := by
  rw [rowsOf_lt _ q hq]
  unfold past
  rw [dif_pos (by omega)]
  show glu (nrow x0 x1 ⟨q, hq⟩) (fun k f => x2 (ix2 k f)) l = seen1 x1 x2 X _ l
  rw [nrow_eq x0 x1 X j hj h0]
  exact congrArg (fun s => seen1 x1 x2 X s l) (Fin.ext (by show 512 * j + q = 512 * j + q + p - p; omega))

include hj h0 in
theorem rows_duos (p q : ℕ) (hq : q < 512) (l : Fin 512) :
    rowsOf (duos x0 x1 x2) q l = past p (seen2 x1 x2 X) (512 * j + q + p) l := by
  rw [rowsOf_lt _ q hq]
  unfold past
  rw [dif_pos (by omega)]
  show duo (nrow x0 x1 ⟨q, hq⟩) (fun k f => x2 (ix2 k f)) l = seen2 x1 x2 X _ l
  rw [nrow_eq x0 x1 X j hj h0]
  exact congrArg (fun s => seen2 x1 x2 X s l) (Fin.ext (by show 512 * j + q = 512 * j + q + p - p; omega))

include hj h0 in
/-- The rows a convolution reads are the sequence's from 32 (8) before the block, when what the block found before its rows is. -/
theorem seqA_past (h : Vec Ideal S544x512 .f32) (hh : ∀ q < 32, ∀ l, rowsOf h q l = past 32 (seen1 x1 x2 X) (512 * j + q) l)
    (q : ℕ) (hq : q < 544) (l : Fin 512) : seqA x0 x1 x2 h q l = past 32 (seen1 x1 x2 X) (512 * j + q) l := by
  unfold seqA
  by_cases hc : q < 32
  · rw [if_pos hc]
    exact hh q hc l
  · rw [if_neg hc, rows_glus x0 x1 x2 X j hj h0 32 (q - 32) (by omega) l]
    exact congrArg (fun q => past 32 (seen1 x1 x2 X) q l) (by omega)

include hj h0 in
theorem seqB_past (h : Vec Ideal S520x512 .f32) (hh : ∀ q < 8, ∀ l, rowsOf h q l = past 8 (seen2 x1 x2 X) (512 * j + q) l)
    (q : ℕ) (hq : q < 520) (l : Fin 512) : seqB x0 x1 x2 h q l = past 8 (seen2 x1 x2 X) (512 * j + q) l := by
  unfold seqB
  by_cases hc : q < 8
  · rw [if_pos hc]
    exact hh q hc l
  · rw [if_neg hc, rows_duos x0 x1 x2 X j hj h0 8 (q - 8) (by omega) l]
    exact congrArg (fun q => past 8 (seen2 x1 x2 X) q l) (by omega)

/-- The first mixer's columns of a block's row. -/
theorem colA_eq (u : ℕ → Fin 512 → EReal) (hu : ∀ q < 544, ∀ l, u q l = past 32 (seen1 x1 x2 X) (512 * j + q) l) (r l : Fin 512) :
    colA x3 x4 x5 x6 u r l = mixA X (fun k => x1 (ix2 0 k)) (fun k f => x2 (ix2 k f)) (fun k l => x3 (ix2 k l)) (fun l => x4 (ix2 0 l))
      (fun l => x5 (ix2 0 l)) (fun l => x6 (ix2 0 l)) (512 * j + r.val) l := by
  have hr := r.isLt
  unfold colA mixA
  refine congrArg swish (congrFun (congrFun (congrFun (congrArg hnorm (funext fun l => ?_)) _) _) _)
  unfold convA
  refine acc_congr _ _ _ 31 fun k hk => ?_
  rw [hu _ (by omega) l, show 512 * j + (k + (r.val + 2)) = k + (512 * j + r.val) + 2 by omega]
  exact congrArg (· * _) (past_add 30 2 _ _ l)

include hj h0 in
/-- The second mixer's. -/
theorem colB_eq (v : ℕ → Fin 512 → EReal) (hv : ∀ q < 520, ∀ l, v q l = past 8 (seen2 x1 x2 X) (512 * j + q) l) (r l : Fin 512) :
    colB x0 x1 x2 x7 v r l = mixB X (fun k => x1 (ix2 0 k)) (fun k f => x2 (ix2 k f)) (fun k l => x7 (ix2 k l))
      ⟨512 * j + r.val, by have := r.isLt; omega⟩ l := by
  have hr := r.isLt
  unfold colB mixB
  refine congr (congrArg HMul.hMul ?_) ?_
  · show proj (nrow x0 x1 r) (fun k f => x2 (ix2 k f)) 1024 _ l = _
    rw [nrow_eq x0 x1 X j hj h0]
  · unfold convB
    refine acc_congr _ _ _ 3 fun k hk => ?_
    rw [hv _ (by omega) l, show 512 * j + (k + (r.val + 6)) = k + (512 * j + r.val) + 6 by omega]
    exact congrArg (· * _) (past_add 2 6 _ _ l)

include hj h0 in
/-- A block's row of the output is the sequence's token. -/
theorem tile_eq (u v : ℕ → Fin 512 → EReal) (hu : ∀ q < 544, ∀ l, u q l = past 32 (seen1 x1 x2 X) (512 * j + q) l)
    (hv : ∀ q < 520, ∀ l, v q l = past 8 (seen2 x1 x2 X) (512 * j + q) l) (r : Fin 512) (l : Fin 1024) :
    k0_pay2 x0 (mixes x0 x1 x2 x3 x4 x5 x6 x7 u v) x8 (ix3 0 r l)
      = convmix X (fun k => x1 (ix2 0 k)) (fun k f => x2 (ix2 k f)) (fun k l => x3 (ix2 k l)) (fun l => x4 (ix2 0 l))
        (fun l => x5 (ix2 0 l)) (fun l => x6 (ix2 0 l)) (fun k l => x7 (ix2 k l)) (fun c l => x8 (ix2 c l))
        ⟨512 * j + r.val, by have := r.isLt; omega⟩ l := by
  rw [last_apply, h0]
  unfold convmix
  refine congrArg (_ + ·) (Finset.sum_congr rfl fun c _ => congrArg (· * _) ?_)
  unfold mixes mixed
  by_cases h : c.val < 512
  · exact ((dif_pos h).trans (colA_eq x1 x2 x3 x4 x5 x6 X j u hu r ⟨c.val, h⟩)).trans (dif_pos h).symm
  · exact ((dif_neg h).trans (colB_eq x0 x1 x2 x7 X j hj h0 v hv r ⟨c.val - 512, by have := c.isLt; omega⟩)).trans (dif_neg h).symm

end Tile

/-! ### The array -/

variable (m : (ℓ : Loc nD τ sig) → Buf (Elt Ideal) ℓ) (c : Dev nD)

/-- The arguments as arrays. -/
abbrev arg0 : FVec Ideal S16x2048x1024 .f32 := m ((c : Thread nD τ).loc main_arg0)
abbrev arg1 : FVec Ideal S1x1024 .f32 := m ((c : Thread nD τ).loc main_arg1)
abbrev arg2 : FVec Ideal S1x1024x2560 .f32 := m ((c : Thread nD τ).loc main_arg2)
abbrev arg3 : FVec Ideal S1x31x512 .f32 := m ((c : Thread nD τ).loc main_arg3)
abbrev arg4 : FVec Ideal S1x512 .f32 := m ((c : Thread nD τ).loc main_arg4)
abbrev arg5 : FVec Ideal S1x512 .f32 := m ((c : Thread nD τ).loc main_arg5)
abbrev arg6 : FVec Ideal S1x512 .f32 := m ((c : Thread nD τ).loc main_arg6)
abbrev arg7 : FVec Ideal S1x3x512 .f32 := m ((c : Thread nD τ).loc main_arg7)
abbrev arg8 : FVec Ideal S1x1024x1024 .f32 := m ((c : Thread nD τ).loc main_arg8)

/-- What the region finds in the nine windows' arrays: the arguments, regrouped. -/
theorem V0 : (V m c main_arg0 : FVec Ideal S16x2048x1024 .f32) = arg0 m c := by
  unfold V hostOps0; after_results
theorem V1 : (V m c main_v8 : FVec Ideal S1x1024 .f32) = shapeCast S1x1024 (shapeCast S1024 (arg1 m c) shapeCasts_S1x1024_S1024) shapeCasts_S1024_S1x1024 := by
  unfold V hostOps0; after_results; rfl
theorem V2 : (V m c main_v9 : FVec Ideal S1024x2560 .bf16) = truncf .bf16 (shapeCast S1024x2560 (arg2 m c) shapeCasts_S1x1024x2560_S1024x2560) bitsLt_bf16_f32 := by
  unfold V hostOps0; after_results; rfl
theorem V3 : (V m c main_v2 : FVec Ideal S31x512 .f32) = shapeCast S31x512 (arg3 m c) shapeCasts_S1x31x512_S31x512 := by
  unfold V hostOps0; after_results; rfl
theorem V4 : (V m c main_v10 : FVec Ideal S1x512 .f32) = shapeCast S1x512 (shapeCast S512 (arg4 m c) shapeCasts_S1x512_S512) shapeCasts_S512_S1x512 := by
  unfold V hostOps0; after_results; rfl
theorem V5 : (V m c main_v11 : FVec Ideal S1x512 .f32) = shapeCast S1x512 (shapeCast S512 (arg5 m c) shapeCasts_S1x512_S512) shapeCasts_S512_S1x512 := by
  unfold V hostOps0; after_results; rfl
theorem V6 : (V m c main_v12 : FVec Ideal S1x512 .f32) = shapeCast S1x512 (shapeCast S512 (arg6 m c) shapeCasts_S1x512_S512) shapeCasts_S512_S1x512 := by
  unfold V hostOps0; after_results; rfl
theorem V7 : (V m c main_v6 : FVec Ideal S3x512 .f32) = shapeCast S3x512 (arg7 m c) shapeCasts_S1x3x512_S3x512 := by
  unfold V hostOps0; after_results; rfl
theorem V8 : (V m c main_v13 : FVec Ideal S1024x1024 .bf16) = truncf .bf16 (shapeCast S1024x1024 (arg8 m c) shapeCasts_S1x1024x1024_S1024x1024) bitsLt_bf16_f32 := by
  unfold V hostOps0; after_results; rfl

/-- Where the windows' blocks sit: at point `t` the rows' block `t % 4` of sequence `t / 4`, every other window its whole array. -/
theorem idx_facts : ∀ t : Fin cfg0.N, win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0 ∧ win0_2.index t (0 : Fin 2) = 0
    ∧ win0_2.index t (1 : Fin 2) = 0 ∧ win0_3.index t (0 : Fin 2) = 0 ∧ win0_3.index t (1 : Fin 2) = 0
    ∧ win0_4.index t (0 : Fin 2) = 0 ∧ win0_4.index t (1 : Fin 2) = 0 ∧ win0_5.index t (0 : Fin 2) = 0
    ∧ win0_5.index t (1 : Fin 2) = 0 ∧ win0_6.index t (0 : Fin 2) = 0 ∧ win0_6.index t (1 : Fin 2) = 0
    ∧ win0_7.index t (0 : Fin 2) = 0 ∧ win0_7.index t (1 : Fin 2) = 0 ∧ win0_8.index t (0 : Fin 2) = 0
    ∧ win0_8.index t (1 : Fin 2) = 0 ∧ win0_9.index t (0 : Fin 3) = t.val / 4 ∧ win0_9.index t (1 : Fin 3) = t.val % 4
    ∧ win0_9.index t (2 : Fin 3) = 0 :=
  (by decide +kernel : ∀ t : Fin grid0.N, _)

variable (t : Fin cfg0.N)

theorem seq_lt : t.val / 4 < 16 := by
  have := t.isLt; have hN : cfg0.N = 64 := N_0; omega

theorem blk_lt : t.val % 4 < 4 := Nat.mod_lt _ (by decide)

theorem tok_lt (r : Fin 512) : 512 * (t.val % 4) + r.val < 2048 := by
  have := blk_lt t; have := r.isLt; omega

/-- The sequence a point works on. -/
def seqn : Fin 2048 → Fin 1024 → EReal := fun s k => arg0 m c (ix3 ⟨t.val / 4, seq_lt t⟩ s k)

theorem blk0 (r : Fin 512) (k : Fin 1024) : (iblk m c 0 t : Vec Ideal S1x512x1024 .f32) (ix3 0 r k)
    = seqn m c t ⟨512 * (t.val % 4) + r.val, by have := blk_lt t; have := r.isLt; omega⟩ k := by
  obtain ⟨e0, e1, e2, -⟩ := idx_facts t
  have hr := r.isLt
  have hs := seq_lt t
  have hb := blk_lt t
  show (V m c main_arg0 : FVec Ideal S16x2048x1024 .f32) (((cfg0.win 0).blk t).view.emb (ix3 0 r k)) = _
  rw [show ((cfg0.win 0).blk t).view.emb (ix3 0 r k) = (ix3 ⟨t.val / 4, hs⟩ ⟨512 * (t.val % 4) + r.val, by omega⟩ k : S16x2048x1024.Idx) from funext fun a => Fin.ext (match a with
    | ⟨0, _⟩ => by show win0_0.index t (0 : Fin 3) * 1 + 1 * 0 = t.val / 4; omega
    | ⟨1, _⟩ => by show win0_0.index t (1 : Fin 3) * 512 + 1 * r.val = 512 * (t.val % 4) + r.val; omega
    | ⟨2, _⟩ => by show win0_0.index t (2 : Fin 3) * 1024 + 1 * k.val = k.val; omega), V0]
  rfl

theorem blk1 (k : Fin 1024) : (iblk m c 1 t : Vec Ideal S1x1024 .f32) (ix2 0 k) = arg1 m c (ix2 0 k) := by
  obtain ⟨-, -, -, e0, e1, -⟩ := idx_facts t
  show (V m c main_v8 : FVec Ideal S1x1024 .f32) (((cfg0.win 1).blk t).view.emb (ix2 0 k)) = _
  rw [show ((cfg0.win 1).blk t).view.emb (ix2 0 k) = (ix2 0 k : S1x1024.Idx) from funext fun a => Fin.ext (match a with
    | ⟨0, _⟩ => by show win0_1.index t (0 : Fin 2) * 1 + 1 * 0 = 0; omega
    | ⟨1, _⟩ => by show win0_1.index t (1 : Fin 2) * 1024 + 1 * k.val = k.val; omega), V1]
  pointwise

theorem blk2 (k : Fin 1024) (f : Fin 2560) : (iblk m c 2 t : Vec Ideal S1024x2560 .bf16) (ix2 k f) = arg2 m c (ix3 0 k f) := by
  obtain ⟨-, -, -, -, -, e0, e1, -⟩ := idx_facts t
  show (V m c main_v9 : FVec Ideal S1024x2560 .bf16) (((cfg0.win 2).blk t).view.emb (ix2 k f)) = _
  rw [show ((cfg0.win 2).blk t).view.emb (ix2 k f) = (ix2 k f : S1024x2560.Idx) from funext fun a => Fin.ext (match a with
    | ⟨0, _⟩ => by show win0_2.index t (0 : Fin 2) * 1024 + 1 * k.val = k.val; omega
    | ⟨1, _⟩ => by show win0_2.index t (1 : Fin 2) * 2560 + 1 * f.val = f.val; omega), V2]
  pointwise

theorem blk3 (k : Fin 31) (f : Fin 512) : (iblk m c 3 t : Vec Ideal S31x512 .f32) (ix2 k f) = arg3 m c (ix3 0 k f) := by
  obtain ⟨-, -, -, -, -, -, -, e0, e1, -⟩ := idx_facts t
  show (V m c main_v2 : FVec Ideal S31x512 .f32) (((cfg0.win 3).blk t).view.emb (ix2 k f)) = _
  rw [show ((cfg0.win 3).blk t).view.emb (ix2 k f) = (ix2 k f : S31x512.Idx) from funext fun a => Fin.ext (match a with
    | ⟨0, _⟩ => by show win0_3.index t (0 : Fin 2) * 31 + 1 * k.val = k.val; omega
    | ⟨1, _⟩ => by show win0_3.index t (1 : Fin 2) * 512 + 1 * f.val = f.val; omega), V3]
  pointwise

theorem blk4 (k : Fin 512) : (iblk m c 4 t : Vec Ideal S1x512 .f32) (ix2 0 k) = arg4 m c (ix2 0 k) := by
  obtain ⟨-, -, -, -, -, -, -, -, -, e0, e1, -⟩ := idx_facts t
  show (V m c main_v10 : FVec Ideal S1x512 .f32) (((cfg0.win 4).blk t).view.emb (ix2 0 k)) = _
  rw [show ((cfg0.win 4).blk t).view.emb (ix2 0 k) = (ix2 0 k : S1x512.Idx) from funext fun a => Fin.ext (match a with
    | ⟨0, _⟩ => by show win0_4.index t (0 : Fin 2) * 1 + 1 * 0 = 0; omega
    | ⟨1, _⟩ => by show win0_4.index t (1 : Fin 2) * 512 + 1 * k.val = k.val; omega), V4]
  pointwise

theorem blk5 (k : Fin 512) : (iblk m c 5 t : Vec Ideal S1x512 .f32) (ix2 0 k) = arg5 m c (ix2 0 k) := by
  obtain ⟨-, -, -, -, -, -, -, -, -, -, -, e0, e1, -⟩ := idx_facts t
  show (V m c main_v11 : FVec Ideal S1x512 .f32) (((cfg0.win 5).blk t).view.emb (ix2 0 k)) = _
  rw [show ((cfg0.win 5).blk t).view.emb (ix2 0 k) = (ix2 0 k : S1x512.Idx) from funext fun a => Fin.ext (match a with
    | ⟨0, _⟩ => by show win0_5.index t (0 : Fin 2) * 1 + 1 * 0 = 0; omega
    | ⟨1, _⟩ => by show win0_5.index t (1 : Fin 2) * 512 + 1 * k.val = k.val; omega), V5]
  pointwise

theorem blk6 (k : Fin 512) : (iblk m c 6 t : Vec Ideal S1x512 .f32) (ix2 0 k) = arg6 m c (ix2 0 k) := by
  obtain ⟨-, -, -, -, -, -, -, -, -, -, -, -, -, e0, e1, -⟩ := idx_facts t
  show (V m c main_v12 : FVec Ideal S1x512 .f32) (((cfg0.win 6).blk t).view.emb (ix2 0 k)) = _
  rw [show ((cfg0.win 6).blk t).view.emb (ix2 0 k) = (ix2 0 k : S1x512.Idx) from funext fun a => Fin.ext (match a with
    | ⟨0, _⟩ => by show win0_6.index t (0 : Fin 2) * 1 + 1 * 0 = 0; omega
    | ⟨1, _⟩ => by show win0_6.index t (1 : Fin 2) * 512 + 1 * k.val = k.val; omega), V6]
  pointwise

theorem blk7 (k : Fin 3) (f : Fin 512) : (iblk m c 7 t : Vec Ideal S3x512 .f32) (ix2 k f) = arg7 m c (ix3 0 k f) := by
  obtain ⟨-, -, -, -, -, -, -, -, -, -, -, -, -, -, -, e0, e1, -⟩ := idx_facts t
  show (V m c main_v6 : FVec Ideal S3x512 .f32) (((cfg0.win 7).blk t).view.emb (ix2 k f)) = _
  rw [show ((cfg0.win 7).blk t).view.emb (ix2 k f) = (ix2 k f : S3x512.Idx) from funext fun a => Fin.ext (match a with
    | ⟨0, _⟩ => by show win0_7.index t (0 : Fin 2) * 3 + 1 * k.val = k.val; omega
    | ⟨1, _⟩ => by show win0_7.index t (1 : Fin 2) * 512 + 1 * f.val = f.val; omega), V7]
  pointwise

theorem blk8 (k : Fin 1024) (f : Fin 1024) : (iblk m c 8 t : Vec Ideal S1024x1024 .bf16) (ix2 k f) = arg8 m c (ix3 0 k f) := by
  obtain ⟨-, -, -, -, -, -, -, -, -, -, -, -, -, -, -, -, -, e0, e1, -⟩ := idx_facts t
  show (V m c main_v13 : FVec Ideal S1024x1024 .bf16) (((cfg0.win 8).blk t).view.emb (ix2 k f)) = _
  rw [show ((cfg0.win 8).blk t).view.emb (ix2 k f) = (ix2 k f : S1024x1024.Idx) from funext fun a => Fin.ext (match a with
    | ⟨0, _⟩ => by show win0_8.index t (0 : Fin 2) * 1024 + 1 * k.val = k.val; omega
    | ⟨1, _⟩ => by show win0_8.index t (1 : Fin 2) * 1024 + 1 * f.val = f.val; omega), V8]
  pointwise

/-- What a point leaves in the buffers it keeps: its block's last rows. -/
theorem left1 (q : ℕ) (hq : q < 32) (l : Fin 512) : rowsOf (outsAt0 m c t.val t.isLt).2.1 q l
    = rowsOf (glus (iblk m c 0 t) (iblk m c 1 t) (iblk m c 2 t)) (480 + q) l := by
  by_cases h0 : t.val % 4 = 0
  · have e := congrArg (fun p => p.2.1) (outsAt0_A m c t h0)
    dsimp only at e
    rw [e]
    exact kept1_A _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _ q hq l
  · have e := congrArg (fun p => p.2.1) (outsAt0_B m c t h0)
    dsimp only at e
    rw [e]
    exact kept1_B _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _ _ _ q hq l

theorem left2 (q : ℕ) (hq : q < 8) (l : Fin 512) : rowsOf (outsAt0 m c t.val t.isLt).2.2 q l
    = rowsOf (duos (iblk m c 0 t) (iblk m c 1 t) (iblk m c 2 t)) (504 + q) l := by
  by_cases h0 : t.val % 4 = 0
  · have e := congrArg (fun p => p.2.2) (outsAt0_A m c t h0)
    dsimp only at e
    rw [e]
    exact kept2_A _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _ q hq l
  · have e := congrArg (fun p => p.2.2) (outsAt0_B m c t h0)
    dsimp only at e
    rw [e]
    exact kept2_B _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _ _ _ q hq l

/-- What the convolutions read of a sequence does not depend on the point: the gain and the weight are one block. -/
def arr1 (b : Fin 16) : Fin 2048 → Fin 512 → EReal := fun s =>
  glu (rms (fun k => arg0 m c (ix3 b s k)) (fun k => arg1 m c (ix2 0 k))) (fun k f => arg2 m c (ix3 0 k f))
def arr2 (b : Fin 16) : Fin 2048 → Fin 512 → EReal := fun s =>
  duo (rms (fun k => arg0 m c (ix3 b s k)) (fun k => arg1 m c (ix2 0 k))) (fun k f => arg2 m c (ix3 0 k f))

theorem seen1_eq : seen1 (iblk m c 1 t) (iblk m c 2 t) (seqn m c t) = arr1 m c ⟨t.val / 4, seq_lt t⟩ := by
  unfold seen1 arr1 seqn
  simp only [blk1, blk2]

theorem seen2_eq : seen2 (iblk m c 1 t) (iblk m c 2 t) (seqn m c t) = arr2 m c ⟨t.val / 4, seq_lt t⟩ := by
  unfold seen2 arr2 seqn
  simp only [blk1, blk2]

/-- What a point that does not start a sequence finds before its rows: the sequence's rows before the block. -/
theorem found1 (h0 : ¬t.val % 4 = 0) (hn : t.val - 1 < cfg0.N) (q : ℕ) (hq : q < 32) (l : Fin 512) :
    rowsOf (outsAt0 m c (t.val - 1) hn).2.1 q l = past 32 (seen1 (iblk m c 1 t) (iblk m c 2 t) (seqn m c t)) (512 * (t.val % 4) + q) l := by
  have e := left1 m c ⟨t.val - 1, hn⟩ q hq l
  rw [rows_glus _ _ _ (seqn m c ⟨t.val - 1, hn⟩) ((t.val - 1) % 4) (blk_lt ⟨t.val - 1, hn⟩) (blk0 m c ⟨t.val - 1, hn⟩) 32 (480 + q) (by omega) l, seen1_eq] at e
  refine e.trans ?_
  rw [seen1_eq]
  have eb : (⟨(t.val - 1) / 4, seq_lt ⟨t.val - 1, hn⟩⟩ : Fin 16) = ⟨t.val / 4, seq_lt t⟩ := Fin.ext (by show (t.val - 1) / 4 = t.val / 4; omega)
  have eq : 512 * ((t.val - 1) % 4) + (480 + q) + 32 = 512 * (t.val % 4) + q := by omega
  rw [eq]
  exact congrArg (fun b => past 32 (arr1 m c b) _ l) eb

theorem found2 (h0 : ¬t.val % 4 = 0) (hn : t.val - 1 < cfg0.N) (q : ℕ) (hq : q < 8) (l : Fin 512) :
    rowsOf (outsAt0 m c (t.val - 1) hn).2.2 q l = past 8 (seen2 (iblk m c 1 t) (iblk m c 2 t) (seqn m c t)) (512 * (t.val % 4) + q) l := by
  have e := left2 m c ⟨t.val - 1, hn⟩ q hq l
  rw [rows_duos _ _ _ (seqn m c ⟨t.val - 1, hn⟩) ((t.val - 1) % 4) (blk_lt ⟨t.val - 1, hn⟩) (blk0 m c ⟨t.val - 1, hn⟩) 8 (504 + q) (by omega) l, seen2_eq] at e
  refine e.trans ?_
  rw [seen2_eq]
  have eb : (⟨(t.val - 1) / 4, seq_lt ⟨t.val - 1, hn⟩⟩ : Fin 16) = ⟨t.val / 4, seq_lt t⟩ := Fin.ext (by show (t.val - 1) / 4 = t.val / 4; omega)
  have eq : 512 * ((t.val - 1) % 4) + (504 + q) + 8 = 512 * (t.val % 4) + q := by omega
  rw [eq]
  exact congrArg (fun b => past 8 (arr2 m c b) _ l) eb

/-- What a point that starts a sequence finds there: zeros. -/
theorem zeros {n : ℕ} (p q : ℕ) (hq : q < p) (hn : q < n) (u : Fin 2048 → Fin 512 → EReal) (j : ℕ) (hj : j = 0) (l : Fin 512) :
    rowsOf (fun _ : (⟨2, ![n, 512]⟩ : Shape).Idx => (0 : EReal)) q l = past p u (512 * j + q) l := by
  rw [rowsOf_lt _ q hn]
  unfold past
  rw [dif_neg (by rw [hj]; omega)]

/-- What a point leaves in the output's block. -/
theorem point_apply (r : Fin 512) (l : Fin 1024) : (outsAt0 m c t.val t.isLt).1 (ix3 0 r l)
    = convmix (seqn m c t) (fun k => arg1 m c (ix2 0 k)) (fun k f => arg2 m c (ix3 0 k f)) (fun k l => arg3 m c (ix3 0 k l))
        (fun l => arg4 m c (ix2 0 l)) (fun l => arg5 m c (ix2 0 l)) (fun l => arg6 m c (ix2 0 l)) (fun k l => arg7 m c (ix3 0 k l))
        (fun c' l => arg8 m c (ix3 0 c' l)) ⟨512 * (t.val % 4) + r.val, by have := blk_lt t; have := r.isLt; omega⟩ l := by
  have key : ∀ u v, (∀ q < 544, ∀ l, u q l = past 32 (seen1 (iblk m c 1 t) (iblk m c 2 t) (seqn m c t)) (512 * (t.val % 4) + q) l) →
      (∀ q < 520, ∀ l, v q l = past 8 (seen2 (iblk m c 1 t) (iblk m c 2 t) (seqn m c t)) (512 * (t.val % 4) + q) l) →
      k0_pay2 (iblk m c 0 t) (mixes (iblk m c 0 t) (iblk m c 1 t) (iblk m c 2 t) (iblk m c 3 t) (iblk m c 4 t) (iblk m c 5 t) (iblk m c 6 t) (iblk m c 7 t) u v) (iblk m c 8 t) (ix3 0 r l)
        = convmix (seqn m c t) (fun k => arg1 m c (ix2 0 k)) (fun k f => arg2 m c (ix3 0 k f)) (fun k l => arg3 m c (ix3 0 k l))
        (fun l => arg4 m c (ix2 0 l)) (fun l => arg5 m c (ix2 0 l)) (fun l => arg6 m c (ix2 0 l)) (fun k l => arg7 m c (ix3 0 k l))
        (fun c' l => arg8 m c (ix3 0 c' l)) ⟨512 * (t.val % 4) + r.val, by have := blk_lt t; have := r.isLt; omega⟩ l := fun u v hu hv => by
    rw [tile_eq (iblk m c 0 t) (iblk m c 1 t) (iblk m c 2 t) (iblk m c 3 t) (iblk m c 4 t) (iblk m c 5 t) (iblk m c 6 t) (iblk m c 7 t) (iblk m c 8 t) (seqn m c t) (t.val % 4) (blk_lt t) (blk0 m c t) u v hu hv r l]
    simp only [blk1, blk2, blk3, blk4, blk5, blk6, blk7, blk8]
  by_cases h0 : t.val % 4 = 0
  · have e := congrArg (fun p => p.1) (outsAt0_A m c t h0)
    dsimp only at e
    rw [e, out_A]
    exact key _ _ (seqA_past _ _ _ (seqn m c t) _ (blk_lt t) (blk0 m c t) _ fun q hq l => zeros 32 q hq (by omega) _ _ h0 l)
      (seqB_past _ _ _ (seqn m c t) _ (blk_lt t) (blk0 m c t) _ fun q hq l => zeros 8 q hq (by omega) _ _ h0 l)
  · have e := congrArg (fun p => p.1) (outsAt0_B m c t h0)
    dsimp only at e
    rw [e, out_B]
    exact key _ _ (seqA_past _ _ _ (seqn m c t) _ (blk_lt t) (blk0 m c t) _ (found1 m c t h0 _))
      (seqB_past _ _ _ (seqn m c t) _ (blk_lt t) (blk0 m c t) _ (found2 m c t h0 _))

/-- THE RESULT ARRAY AT AN INDEX: the convolution mixers' block on the sequence, at the token. -/
theorem result_apply (b : Fin 16) (s : Fin 2048) (l : Fin 1024) : ((dats m 0 c).arrAt 9 cfg0.N : FVec Ideal S16x2048x1024 .f32) (ix3 b s l)
    = convmix (fun s k => arg0 m c (ix3 b s k)) (fun k => arg1 m c (ix2 0 k)) (fun k f => arg2 m c (ix3 0 k f)) (fun k l => arg3 m c (ix3 0 k l))
        (fun l => arg4 m c (ix2 0 l)) (fun l => arg5 m c (ix2 0 l)) (fun l => arg6 m c (ix2 0 l)) (fun k l => arg7 m c (ix3 0 k l))
        (fun c' l => arg8 m c (ix3 0 c' l)) s l := by
  have hN : cfg0.N = 64 := N_0
  obtain ⟨t, q, hb, hs⟩ : ∃ (t : Fin cfg0.N) (q : Fin 512), b.val = t.val / 4 ∧ s.val = 512 * (t.val % 4) + q.val :=
    ⟨⟨4 * b.val + s.val / 512, by have := b.isLt; have := s.isLt; omega⟩, ⟨s.val % 512, by omega⟩,
      by have := s.isLt; show b.val = (4 * b.val + s.val / 512) / 4; omega,
      by have := s.isLt; show s.val = 512 * ((4 * b.val + s.val / 512) % 4) + s.val % 512; omega⟩
  obtain rfl : b = ⟨t.val / 4, seq_lt t⟩ := Fin.ext hb
  obtain rfl : s = ⟨512 * (t.val % 4) + q.val, tok_lt t q⟩ := Fin.ext hs
  have hq := q.isLt
  have ht := blk_lt t
  obtain ⟨-, -, -, -, -, -, -, -, -, -, -, -, -, -, -, -, -, -, -, e0, e1, e2⟩ := idx_facts t
  have w := congrFun (Kernel4Ideal.Value.blocks9 m c t (flush0_9 t)) (ix3 0 q l)
  rw [Kernel4Ideal.Value.flushed9] at w
  have w' : ((dats m 0 c).arrAt 9 cfg0.N : FVec Ideal S16x2048x1024 .f32) (((cfg0.win 9).blk t).view.emb (ix3 0 q l))
    = (outsAt0 m c t.val t.isLt).1 (ix3 0 q l) := w
  rw [show ((cfg0.win 9).blk t).view.emb (ix3 0 q l) = (ix3 ⟨t.val / 4, seq_lt t⟩ ⟨512 * (t.val % 4) + q.val, by omega⟩ l : S16x2048x1024.Idx) from funext fun a => Fin.ext (match a with
    | ⟨0, _⟩ => by show win0_9.index t (0 : Fin 3) * 1 + 1 * 0 = t.val / 4; omega
    | ⟨1, _⟩ => by show win0_9.index t (1 : Fin 3) * 512 + 1 * q.val = 512 * (t.val % 4) + q.val; omega
    | ⟨2, _⟩ => by show win0_9.index t (2 : Fin 3) * 1024 + 1 * l.val = l.val; omega)] at w'
  exact w'.trans (point_apply m c t q l)

end Cert.Conv

end
-- ==== Proof.Conv.Reference.lean ====
/- The convolution mixers' reference: its result, token by token, as a function of its arguments. -/
module

public import proofs.«01_k».proof.Proof.Conv.Rows
public import proofs.«01_k».proof.Proof.Gen.Reference4Ideal.Read

@[expose] public section

noncomputable section

namespace Cert.Conv

open Cert.Reference4Ideal Cert.Reference4Ideal.Value Cert.Reference4Ideal.Gen Idealize.ShloMosaic Idealize.ShloMosaic.TcCoe Idealize.SL.Sem
open Idealize.ShloMosaic.Pointwise Cert.Rows

open Cert.Reference4Ideal.Read

section

variable (x0 : FVec Ideal S16x2048x1024 .f32) (x1 : FVec Ideal S1x1024 .f32) (x2 : FVec Ideal S1x1024x2560 .f32) (x3 : FVec Ideal S1x31x512 .f32)
  (x4 x5 x6 : FVec Ideal S1x512 .f32) (x7 : FVec Ideal S1x3x512 .f32) (x8 : FVec Ideal S1x1024x1024 .f32)
  (b : Fin 16) (s : Fin 2048)

/-- The norm at an index. -/
theorem ref_norm (k : Fin 1024) : val_main_v13 (F := Ideal) x0 x1 (ix3 b s k) = rms (fun k => x0 (ix3 b s k)) (fun k => x1 (ix2 0 k)) k := by
  pointwise [val_main_v13, val_main_v12, val_main_v11, val_main_v10, val_main_v9, val_main_v8, val_main_v7, val_main_v6,
    val_main_cst_1, val_main_v5, val_main_v4, val_main_cst_0, val_main_v3, val_main_v2, val_main_cst, val_main_v1, val_main_v0]
  rfl

/-- The input projection at an index. -/
theorem ref_proj (f : Fin 2560) : val_main_v21 (F := Ideal) x0 x1 x2 (ix3 b s f)
    = ∑ k, rms (fun k => x0 (ix3 b s k)) (fun k => x1 (ix2 0 k)) k * x2 (ix3 0 k f) := by
  have h : val_main_v21 (F := Ideal) x0 x1 x2 (ix3 b s f) = ∑ k, val_main_v13 (F := Ideal) x0 x1 (ix3 b s k) * x2 (ix3 0 k f) := by
    pointwise [val_main_v21, val_main_v14]
  rw [h]
  simp only [ref_norm]

/-- What the first convolution reads, at an index. -/
theorem ref_glu (l : Fin 512) : val_main_v33 (F := Ideal) x0 x1 x2 (ix3 b s l)
    = glu (rms (fun k => x0 (ix3 b s k)) (fun k => x1 (ix2 0 k))) (fun k f => x2 (ix3 0 k f)) l := by
  have h : val_main_v33 (F := Ideal) x0 x1 x2 (ix3 b s l)
      = val_main_v21 (F := Ideal) x0 x1 x2 (ix3 b s ⟨0 + l.val, by have := l.isLt; omega⟩)
        * Ideal.logistic (val_main_v21 (F := Ideal) x0 x1 x2 (ix3 b s ⟨512 + l.val, by have := l.isLt; omega⟩)) := by
    unfold Ideal.logistic
    pointwise [val_main_v33, val_main_v32, val_main_v31, val_main_cst_3, val_main_v30, val_main_v29, val_main_cst_2, val_main_v28,
      val_main_v27, val_main_v23, val_main_v22]
  rw [h, ref_proj, ref_proj]
  rfl

/-- What the second convolution reads, at an index. -/
theorem ref_duo (l : Fin 512) : val_main_v280 (F := Ideal) x0 x1 x2 (ix3 b s l)
    = duo (rms (fun k => x0 (ix3 b s k)) (fun k => x1 (ix2 0 k))) (fun k f => x2 (ix3 0 k f)) l := by
  have h : val_main_v280 (F := Ideal) x0 x1 x2 (ix3 b s l)
      = val_main_v21 (F := Ideal) x0 x1 x2 (ix3 b s ⟨1536 + l.val, by have := l.isLt; omega⟩)
        * val_main_v21 (F := Ideal) x0 x1 x2 (ix3 b s ⟨2048 + l.val, by have := l.isLt; omega⟩) := by
    pointwise [val_main_v280, val_main_v25, val_main_v26]
  rw [h, ref_proj, ref_proj]
  rfl

/-- The gate of the second mixer, at an index. -/
theorem ref_gate (l : Fin 512) : val_main_v24 (F := Ideal) x0 x1 x2 (ix3 b s l)
    = proj (rms (fun k => x0 (ix3 b s k)) (fun k => x1 (ix2 0 k))) (fun k f => x2 (ix3 0 k f)) 1024 (by decide) l := by
  have h : val_main_v24 (F := Ideal) x0 x1 x2 (ix3 b s l)
      = val_main_v21 (F := Ideal) x0 x1 x2 (ix3 b s ⟨1024 + l.val, by have := l.isLt; omega⟩) := by
    pointwise [val_main_v24]
  rw [h, ref_proj]
  rfl

/-- The first convolution's sequence, after its 30 zeros. -/
theorem ref_pastA (q : Fin 2078) (l : Fin 512) : val_main_v35 (F := Ideal) x0 x1 x2 (ix3 b q l)
    = past 30 (fun s l => val_main_v33 (F := Ideal) x0 x1 x2 (ix3 b s l)) q.val l := by
  have hq := q.isLt
  pointwise [val_main_v35, val_main_v34, val_main_cst_4]
  unfold past
  by_cases h : q.val < 30
  · rw [dif_neg (show ¬(30 ≤ q.val ∧ q.val < 30 + 2048) by omega)]
    simp [h]
  · rw [dif_pos (show 30 ≤ q.val ∧ q.val < 30 + 2048 by omega)]
    simp [h]

/-- The second convolution's sequence, after its 2 zeros. -/
theorem ref_pastB (q : Fin 2050) (l : Fin 512) : val_main_v282 (F := Ideal) x0 x1 x2 (ix3 b q l)
    = past 2 (fun s l => val_main_v280 (F := Ideal) x0 x1 x2 (ix3 b s l)) q.val l := by
  have hq := q.isLt
  pointwise [val_main_v282, val_main_v281, val_main_cst_11]
  unfold past
  by_cases h : q.val < 2
  · rw [dif_neg (show ¬(2 ≤ q.val ∧ q.val < 2 + 2048) by omega)]
    simp [h]
  · rw [dif_pos (show 2 ≤ q.val ∧ q.val < 2 + 2048 by omega)]
    simp [h]

/-! ### The taps, added in order -/

theorem tapA0 (l : Fin 512) : val_main_v43 (F := Ideal) x0 x1 x2 x3 (ix3 b s l)
    = 0 + val_main_v35 (F := Ideal) x0 x1 x2 (ix3 b ⟨0 + s.val, by have := s.isLt; omega⟩ l) * x3 (ix3 0 0 l) := by
  pointwise [val_main_v43, val_main_v42, val_main_v41, val_main_v40, val_main_v39, val_main_v38, val_main_v37, val_main_v36, val_main_v15, val_main_cst_5]

theorem tapA1 (l : Fin 512) : val_main_v50 (F := Ideal) x0 x1 x2 x3 (ix3 b s l)
    = val_main_v43 (F := Ideal) x0 x1 x2 x3 (ix3 b s l) + val_main_v35 (F := Ideal) x0 x1 x2 (ix3 b ⟨1 + s.val, by have := s.isLt; omega⟩ l) * x3 (ix3 0 1 l) := by
  pointwise [val_main_v50, val_main_v49, val_main_v48, val_main_v47, val_main_v46, val_main_v45, val_main_v44, val_main_v15]

theorem tapA2 (l : Fin 512) : val_main_v57 (F := Ideal) x0 x1 x2 x3 (ix3 b s l)
    = val_main_v50 (F := Ideal) x0 x1 x2 x3 (ix3 b s l) + val_main_v35 (F := Ideal) x0 x1 x2 (ix3 b ⟨2 + s.val, by have := s.isLt; omega⟩ l) * x3 (ix3 0 2 l) := by
  pointwise [val_main_v57, val_main_v56, val_main_v55, val_main_v54, val_main_v53, val_main_v52, val_main_v51, val_main_v15]

theorem tapA3 (l : Fin 512) : val_main_v64 (F := Ideal) x0 x1 x2 x3 (ix3 b s l)
    = val_main_v57 (F := Ideal) x0 x1 x2 x3 (ix3 b s l) + val_main_v35 (F := Ideal) x0 x1 x2 (ix3 b ⟨3 + s.val, by have := s.isLt; omega⟩ l) * x3 (ix3 0 3 l) := by
  pointwise [val_main_v64, val_main_v63, val_main_v62, val_main_v61, val_main_v60, val_main_v59, val_main_v58, val_main_v15]

theorem tapA4 (l : Fin 512) : val_main_v71 (F := Ideal) x0 x1 x2 x3 (ix3 b s l)
    = val_main_v64 (F := Ideal) x0 x1 x2 x3 (ix3 b s l) + val_main_v35 (F := Ideal) x0 x1 x2 (ix3 b ⟨4 + s.val, by have := s.isLt; omega⟩ l) * x3 (ix3 0 4 l) := by
  pointwise [val_main_v71, val_main_v70, val_main_v69, val_main_v68, val_main_v67, val_main_v66, val_main_v65, val_main_v15]

theorem tapA5 (l : Fin 512) : val_main_v78 (F := Ideal) x0 x1 x2 x3 (ix3 b s l)
    = val_main_v71 (F := Ideal) x0 x1 x2 x3 (ix3 b s l) + val_main_v35 (F := Ideal) x0 x1 x2 (ix3 b ⟨5 + s.val, by have := s.isLt; omega⟩ l) * x3 (ix3 0 5 l) := by
  pointwise [val_main_v78, val_main_v77, val_main_v76, val_main_v75, val_main_v74, val_main_v73, val_main_v72, val_main_v15]

theorem tapA6 (l : Fin 512) : val_main_v85 (F := Ideal) x0 x1 x2 x3 (ix3 b s l)
    = val_main_v78 (F := Ideal) x0 x1 x2 x3 (ix3 b s l) + val_main_v35 (F := Ideal) x0 x1 x2 (ix3 b ⟨6 + s.val, by have := s.isLt; omega⟩ l) * x3 (ix3 0 6 l) := by
  pointwise [val_main_v85, val_main_v84, val_main_v83, val_main_v82, val_main_v81, val_main_v80, val_main_v79, val_main_v15]

theorem tapA7 (l : Fin 512) : val_main_v92 (F := Ideal) x0 x1 x2 x3 (ix3 b s l)
    = val_main_v85 (F := Ideal) x0 x1 x2 x3 (ix3 b s l) + val_main_v35 (F := Ideal) x0 x1 x2 (ix3 b ⟨7 + s.val, by have := s.isLt; omega⟩ l) * x3 (ix3 0 7 l) := by
  pointwise [val_main_v92, val_main_v91, val_main_v90, val_main_v89, val_main_v88, val_main_v87, val_main_v86, val_main_v15]

theorem tapA8 (l : Fin 512) : val_main_v99 (F := Ideal) x0 x1 x2 x3 (ix3 b s l)
    = val_main_v92 (F := Ideal) x0 x1 x2 x3 (ix3 b s l) + val_main_v35 (F := Ideal) x0 x1 x2 (ix3 b ⟨8 + s.val, by have := s.isLt; omega⟩ l) * x3 (ix3 0 8 l) := by
  pointwise [val_main_v99, val_main_v98, val_main_v97, val_main_v96, val_main_v95, val_main_v94, val_main_v93, val_main_v15]

theorem tapA9 (l : Fin 512) : val_main_v106 (F := Ideal) x0 x1 x2 x3 (ix3 b s l)
    = val_main_v99 (F := Ideal) x0 x1 x2 x3 (ix3 b s l) + val_main_v35 (F := Ideal) x0 x1 x2 (ix3 b ⟨9 + s.val, by have := s.isLt; omega⟩ l) * x3 (ix3 0 9 l) := by
  pointwise [val_main_v106, val_main_v105, val_main_v104, val_main_v103, val_main_v102, val_main_v101, val_main_v100, val_main_v15]

theorem tapA10 (l : Fin 512) : val_main_v113 (F := Ideal) x0 x1 x2 x3 (ix3 b s l)
    = val_main_v106 (F := Ideal) x0 x1 x2 x3 (ix3 b s l) + val_main_v35 (F := Ideal) x0 x1 x2 (ix3 b ⟨10 + s.val, by have := s.isLt; omega⟩ l) * x3 (ix3 0 10 l) := by
  pointwise [val_main_v113, val_main_v112, val_main_v111, val_main_v110, val_main_v109, val_main_v108, val_main_v107, val_main_v15]

theorem tapA11 (l : Fin 512) : val_main_v120 (F := Ideal) x0 x1 x2 x3 (ix3 b s l)
    = val_main_v113 (F := Ideal) x0 x1 x2 x3 (ix3 b s l) + val_main_v35 (F := Ideal) x0 x1 x2 (ix3 b ⟨11 + s.val, by have := s.isLt; omega⟩ l) * x3 (ix3 0 11 l) := by
  pointwise [val_main_v120, val_main_v119, val_main_v118, val_main_v117, val_main_v116, val_main_v115, val_main_v114, val_main_v15]

theorem tapA12 (l : Fin 512) : val_main_v127 (F := Ideal) x0 x1 x2 x3 (ix3 b s l)
    = val_main_v120 (F := Ideal) x0 x1 x2 x3 (ix3 b s l) + val_main_v35 (F := Ideal) x0 x1 x2 (ix3 b ⟨12 + s.val, by have := s.isLt; omega⟩ l) * x3 (ix3 0 12 l) := by
  pointwise [val_main_v127, val_main_v126, val_main_v125, val_main_v124, val_main_v123, val_main_v122, val_main_v121, val_main_v15]

theorem tapA13 (l : Fin 512) : val_main_v134 (F := Ideal) x0 x1 x2 x3 (ix3 b s l)
    = val_main_v127 (F := Ideal) x0 x1 x2 x3 (ix3 b s l) + val_main_v35 (F := Ideal) x0 x1 x2 (ix3 b ⟨13 + s.val, by have := s.isLt; omega⟩ l) * x3 (ix3 0 13 l) := by
  pointwise [val_main_v134, val_main_v133, val_main_v132, val_main_v131, val_main_v130, val_main_v129, val_main_v128, val_main_v15]

theorem tapA14 (l : Fin 512) : val_main_v141 (F := Ideal) x0 x1 x2 x3 (ix3 b s l)
    = val_main_v134 (F := Ideal) x0 x1 x2 x3 (ix3 b s l) + val_main_v35 (F := Ideal) x0 x1 x2 (ix3 b ⟨14 + s.val, by have := s.isLt; omega⟩ l) * x3 (ix3 0 14 l) := by
  pointwise [val_main_v141, val_main_v140, val_main_v139, val_main_v138, val_main_v137, val_main_v136, val_main_v135, val_main_v15]

theorem tapA15 (l : Fin 512) : val_main_v148 (F := Ideal) x0 x1 x2 x3 (ix3 b s l)
    = val_main_v141 (F := Ideal) x0 x1 x2 x3 (ix3 b s l) + val_main_v35 (F := Ideal) x0 x1 x2 (ix3 b ⟨15 + s.val, by have := s.isLt; omega⟩ l) * x3 (ix3 0 15 l) := by
  pointwise [val_main_v148, val_main_v147, val_main_v146, val_main_v145, val_main_v144, val_main_v143, val_main_v142, val_main_v15]

theorem tapA16 (l : Fin 512) : val_main_v155 (F := Ideal) x0 x1 x2 x3 (ix3 b s l)
    = val_main_v148 (F := Ideal) x0 x1 x2 x3 (ix3 b s l) + val_main_v35 (F := Ideal) x0 x1 x2 (ix3 b ⟨16 + s.val, by have := s.isLt; omega⟩ l) * x3 (ix3 0 16 l) := by
  pointwise [val_main_v155, val_main_v154, val_main_v153, val_main_v152, val_main_v151, val_main_v150, val_main_v149, val_main_v15]

theorem tapA17 (l : Fin 512) : val_main_v162 (F := Ideal) x0 x1 x2 x3 (ix3 b s l)
    = val_main_v155 (F := Ideal) x0 x1 x2 x3 (ix3 b s l) + val_main_v35 (F := Ideal) x0 x1 x2 (ix3 b ⟨17 + s.val, by have := s.isLt; omega⟩ l) * x3 (ix3 0 17 l) := by
  pointwise [val_main_v162, val_main_v161, val_main_v160, val_main_v159, val_main_v158, val_main_v157, val_main_v156, val_main_v15]

theorem tapA18 (l : Fin 512) : val_main_v169 (F := Ideal) x0 x1 x2 x3 (ix3 b s l)
    = val_main_v162 (F := Ideal) x0 x1 x2 x3 (ix3 b s l) + val_main_v35 (F := Ideal) x0 x1 x2 (ix3 b ⟨18 + s.val, by have := s.isLt; omega⟩ l) * x3 (ix3 0 18 l) := by
  pointwise [val_main_v169, val_main_v168, val_main_v167, val_main_v166, val_main_v165, val_main_v164, val_main_v163, val_main_v15]

theorem tapA19 (l : Fin 512) : val_main_v176 (F := Ideal) x0 x1 x2 x3 (ix3 b s l)
    = val_main_v169 (F := Ideal) x0 x1 x2 x3 (ix3 b s l) + val_main_v35 (F := Ideal) x0 x1 x2 (ix3 b ⟨19 + s.val, by have := s.isLt; omega⟩ l) * x3 (ix3 0 19 l) := by
  pointwise [val_main_v176, val_main_v175, val_main_v174, val_main_v173, val_main_v172, val_main_v171, val_main_v170, val_main_v15]

theorem tapA20 (l : Fin 512) : val_main_v183 (F := Ideal) x0 x1 x2 x3 (ix3 b s l)
    = val_main_v176 (F := Ideal) x0 x1 x2 x3 (ix3 b s l) + val_main_v35 (F := Ideal) x0 x1 x2 (ix3 b ⟨20 + s.val, by have := s.isLt; omega⟩ l) * x3 (ix3 0 20 l) := by
  pointwise [val_main_v183, val_main_v182, val_main_v181, val_main_v180, val_main_v179, val_main_v178, val_main_v177, val_main_v15]

theorem tapA21 (l : Fin 512) : val_main_v190 (F := Ideal) x0 x1 x2 x3 (ix3 b s l)
    = val_main_v183 (F := Ideal) x0 x1 x2 x3 (ix3 b s l) + val_main_v35 (F := Ideal) x0 x1 x2 (ix3 b ⟨21 + s.val, by have := s.isLt; omega⟩ l) * x3 (ix3 0 21 l) := by
  pointwise [val_main_v190, val_main_v189, val_main_v188, val_main_v187, val_main_v186, val_main_v185, val_main_v184, val_main_v15]

theorem tapA22 (l : Fin 512) : val_main_v197 (F := Ideal) x0 x1 x2 x3 (ix3 b s l)
    = val_main_v190 (F := Ideal) x0 x1 x2 x3 (ix3 b s l) + val_main_v35 (F := Ideal) x0 x1 x2 (ix3 b ⟨22 + s.val, by have := s.isLt; omega⟩ l) * x3 (ix3 0 22 l) := by
  pointwise [val_main_v197, val_main_v196, val_main_v195, val_main_v194, val_main_v193, val_main_v192, val_main_v191, val_main_v15]

theorem tapA23 (l : Fin 512) : val_main_v204 (F := Ideal) x0 x1 x2 x3 (ix3 b s l)
    = val_main_v197 (F := Ideal) x0 x1 x2 x3 (ix3 b s l) + val_main_v35 (F := Ideal) x0 x1 x2 (ix3 b ⟨23 + s.val, by have := s.isLt; omega⟩ l) * x3 (ix3 0 23 l) := by
  pointwise [val_main_v204, val_main_v203, val_main_v202, val_main_v201, val_main_v200, val_main_v199, val_main_v198, val_main_v15]

theorem tapA24 (l : Fin 512) : val_main_v211 (F := Ideal) x0 x1 x2 x3 (ix3 b s l)
    = val_main_v204 (F := Ideal) x0 x1 x2 x3 (ix3 b s l) + val_main_v35 (F := Ideal) x0 x1 x2 (ix3 b ⟨24 + s.val, by have := s.isLt; omega⟩ l) * x3 (ix3 0 24 l) := by
  pointwise [val_main_v211, val_main_v210, val_main_v209, val_main_v208, val_main_v207, val_main_v206, val_main_v205, val_main_v15]

theorem tapA25 (l : Fin 512) : val_main_v218 (F := Ideal) x0 x1 x2 x3 (ix3 b s l)
    = val_main_v211 (F := Ideal) x0 x1 x2 x3 (ix3 b s l) + val_main_v35 (F := Ideal) x0 x1 x2 (ix3 b ⟨25 + s.val, by have := s.isLt; omega⟩ l) * x3 (ix3 0 25 l) := by
  pointwise [val_main_v218, val_main_v217, val_main_v216, val_main_v215, val_main_v214, val_main_v213, val_main_v212, val_main_v15]

theorem tapA26 (l : Fin 512) : val_main_v225 (F := Ideal) x0 x1 x2 x3 (ix3 b s l)
    = val_main_v218 (F := Ideal) x0 x1 x2 x3 (ix3 b s l) + val_main_v35 (F := Ideal) x0 x1 x2 (ix3 b ⟨26 + s.val, by have := s.isLt; omega⟩ l) * x3 (ix3 0 26 l) := by
  pointwise [val_main_v225, val_main_v224, val_main_v223, val_main_v222, val_main_v221, val_main_v220, val_main_v219, val_main_v15]

theorem tapA27 (l : Fin 512) : val_main_v232 (F := Ideal) x0 x1 x2 x3 (ix3 b s l)
    = val_main_v225 (F := Ideal) x0 x1 x2 x3 (ix3 b s l) + val_main_v35 (F := Ideal) x0 x1 x2 (ix3 b ⟨27 + s.val, by have := s.isLt; omega⟩ l) * x3 (ix3 0 27 l) := by
  pointwise [val_main_v232, val_main_v231, val_main_v230, val_main_v229, val_main_v228, val_main_v227, val_main_v226, val_main_v15]

theorem tapA28 (l : Fin 512) : val_main_v239 (F := Ideal) x0 x1 x2 x3 (ix3 b s l)
    = val_main_v232 (F := Ideal) x0 x1 x2 x3 (ix3 b s l) + val_main_v35 (F := Ideal) x0 x1 x2 (ix3 b ⟨28 + s.val, by have := s.isLt; omega⟩ l) * x3 (ix3 0 28 l) := by
  pointwise [val_main_v239, val_main_v238, val_main_v237, val_main_v236, val_main_v235, val_main_v234, val_main_v233, val_main_v15]

theorem tapA29 (l : Fin 512) : val_main_v246 (F := Ideal) x0 x1 x2 x3 (ix3 b s l)
    = val_main_v239 (F := Ideal) x0 x1 x2 x3 (ix3 b s l) + val_main_v35 (F := Ideal) x0 x1 x2 (ix3 b ⟨29 + s.val, by have := s.isLt; omega⟩ l) * x3 (ix3 0 29 l) := by
  pointwise [val_main_v246, val_main_v245, val_main_v244, val_main_v243, val_main_v242, val_main_v241, val_main_v240, val_main_v15]

theorem tapA30 (l : Fin 512) : val_main_v253 (F := Ideal) x0 x1 x2 x3 (ix3 b s l)
    = val_main_v246 (F := Ideal) x0 x1 x2 x3 (ix3 b s l) + val_main_v35 (F := Ideal) x0 x1 x2 (ix3 b ⟨30 + s.val, by have := s.isLt; omega⟩ l) * x3 (ix3 0 30 l) := by
  pointwise [val_main_v253, val_main_v252, val_main_v251, val_main_v250, val_main_v249, val_main_v248, val_main_v247, val_main_v15]

theorem tapB0 (l : Fin 512) : val_main_v290 (F := Ideal) x0 x1 x2 x7 (ix3 b s l)
    = 0 + val_main_v282 (F := Ideal) x0 x1 x2 (ix3 b ⟨0 + s.val, by have := s.isLt; omega⟩ l) * x7 (ix3 0 0 l) := by
  pointwise [val_main_v290, val_main_v289, val_main_v288, val_main_v287, val_main_v286, val_main_v285, val_main_v284, val_main_v283, val_main_v19, val_main_cst_12]

theorem tapB1 (l : Fin 512) : val_main_v297 (F := Ideal) x0 x1 x2 x7 (ix3 b s l)
    = val_main_v290 (F := Ideal) x0 x1 x2 x7 (ix3 b s l) + val_main_v282 (F := Ideal) x0 x1 x2 (ix3 b ⟨1 + s.val, by have := s.isLt; omega⟩ l) * x7 (ix3 0 1 l) := by
  pointwise [val_main_v297, val_main_v296, val_main_v295, val_main_v294, val_main_v293, val_main_v292, val_main_v291, val_main_v19]

theorem tapB2 (l : Fin 512) : val_main_v304 (F := Ideal) x0 x1 x2 x7 (ix3 b s l)
    = val_main_v297 (F := Ideal) x0 x1 x2 x7 (ix3 b s l) + val_main_v282 (F := Ideal) x0 x1 x2 (ix3 b ⟨2 + s.val, by have := s.isLt; omega⟩ l) * x7 (ix3 0 2 l) := by
  pointwise [val_main_v304, val_main_v303, val_main_v302, val_main_v301, val_main_v300, val_main_v299, val_main_v298, val_main_v19]

/-- The first convolution at an index. -/
theorem ref_convA (l : Fin 512) : val_main_v256 (F := Ideal) x0 x1 x2 x3 x4 (ix3 b s l)
    = convA (fun s => glu (rms (fun k => x0 (ix3 b s k)) (fun k => x1 (ix2 0 k))) (fun k f => x2 (ix3 0 k f)))
        (fun k l => x3 (ix3 0 k l)) (fun l => x4 (ix2 0 l)) s.val l := by
  have h : val_main_v256 (F := Ideal) x0 x1 x2 x3 x4 (ix3 b s l) = val_main_v253 (F := Ideal) x0 x1 x2 x3 (ix3 b s l) + x4 (ix2 0 l) := by
    pointwise [val_main_v256, val_main_v255, val_main_v254, val_main_v16]
  have e : (fun s l => val_main_v33 (F := Ideal) x0 x1 x2 (ix3 b s l))
      = fun s => glu (rms (fun k => x0 (ix3 b s k)) (fun k => x1 (ix2 0 k))) (fun k f => x2 (ix3 0 k f)) :=
    funext fun s => funext fun l => ref_glu x0 x1 x2 b s l
  unfold convA
  rw [h, acc_shift, ← e]
  refine congr (congrArg HAdd.hAdd ?_) rfl
  simp only [tapA30, tapA29, tapA28, tapA27, tapA26, tapA25, tapA24, tapA23, tapA22, tapA21, tapA20, tapA19, tapA18, tapA17, tapA16, tapA15, tapA14, tapA13, tapA12, tapA11, tapA10, tapA9, tapA8, tapA7, tapA6, tapA5, tapA4, tapA3, tapA2, tapA1, tapA0, ref_pastA, acc, tap, Nat.reduceLT, dite_true, zero_add]
  rfl

/-- The second convolution at an index. -/
theorem ref_convB (l : Fin 512) : val_main_v304 (F := Ideal) x0 x1 x2 x7 (ix3 b s l)
    = convB (fun s => duo (rms (fun k => x0 (ix3 b s k)) (fun k => x1 (ix2 0 k))) (fun k f => x2 (ix3 0 k f)))
        (fun k l => x7 (ix3 0 k l)) s.val l := by
  have e : (fun s l => val_main_v280 (F := Ideal) x0 x1 x2 (ix3 b s l))
      = fun s => duo (rms (fun k => x0 (ix3 b s k)) (fun k => x1 (ix2 0 k))) (fun k f => x2 (ix3 0 k f)) :=
    funext fun s => funext fun l => ref_duo x0 x1 x2 b s l
  unfold convB
  rw [← e]
  simp only [tapB2, tapB1, tapB0, ref_pastB, acc, tap, Nat.reduceLT, dite_true, zero_add]
  rfl

/-- The first mixer's columns at an index. -/
theorem ref_mixA (l : Fin 512) : val_main_v279 (F := Ideal) x0 x1 x2 x3 x4 x5 x6 (ix3 b s l)
    = swish (hnorm (fun l => val_main_v256 (F := Ideal) x0 x1 x2 x3 x4 (ix3 b s l)) (fun k => x5 (ix2 0 k)) (fun k => x6 (ix2 0 k)) l) := by
  pointwise [val_main_v279, val_main_call0_v5, val_main_call0_v4, val_main_call0_cst_0, val_main_call0_v3, val_main_call0_v2,
    val_main_call0_cst, val_main_call0_v1, val_main_call0_v0, val_main_v278, val_main_v277, val_main_v276, val_main_v275, val_main_v274, val_main_v273, val_main_v272, val_main_v271, val_main_v270, val_main_v269, val_main_v268, val_main_v267, val_main_v266, val_main_v265, val_main_v264, val_main_v263, val_main_v262, val_main_v261, val_main_v260, val_main_v259, val_main_v258, val_main_v257,
    val_main_v17, val_main_v18, val_main_cst_6, val_main_cst_7, val_main_cst_8, val_main_cst_9, val_main_cst_10]
  rfl

/-- The mixers' columns at an index. -/
theorem ref_mixed (c : Fin 1024) : val_main_v306 (F := Ideal) x0 x1 x2 x3 x4 x5 x6 x7 (ix3 b s c)
    = mixed (fun s k => x0 (ix3 b s k)) (fun k => x1 (ix2 0 k)) (fun k f => x2 (ix3 0 k f)) (fun k l => x3 (ix3 0 k l))
        (fun l => x4 (ix2 0 l)) (fun l => x5 (ix2 0 l)) (fun l => x6 (ix2 0 l)) (fun k l => x7 (ix3 0 k l)) s c := by
  pointwise [val_main_v306, val_main_v305]
  simp only [ref_mixA, ref_convA, ref_convB, ref_gate]
  rfl

/-- The result at an index: the convolution mixers' block on the sequence. -/
theorem ref_apply (l : Fin 1024) : val_main_v308 (F := Ideal) x0 x1 x2 x3 x4 x5 x6 x7 x8 (ix3 b s l)
    = convmix (fun s k => x0 (ix3 b s k)) (fun k => x1 (ix2 0 k)) (fun k f => x2 (ix3 0 k f)) (fun k l => x3 (ix3 0 k l))
        (fun l => x4 (ix2 0 l)) (fun l => x5 (ix2 0 l)) (fun l => x6 (ix2 0 l)) (fun k l => x7 (ix3 0 k l))
        (fun c l => x8 (ix3 0 c l)) s l := by
  have h : val_main_v308 (F := Ideal) x0 x1 x2 x3 x4 x5 x6 x7 x8 (ix3 b s l)
      = x0 (ix3 b s l) + ∑ c, val_main_v306 (F := Ideal) x0 x1 x2 x3 x4 x5 x6 x7 (ix3 b s c) * x8 (ix3 0 c l) := by
    pointwise [val_main_v308, val_main_v307, val_main_v20]
  rw [h]
  simp only [ref_mixed]
  rfl

end

end Cert.Conv

end
-- ==== Proof.Conv.Claims.lean ====
/- The convolution mixers pair's claims: the reference's frame and the equality of the two results over the extended reals. -/
module

public import proofs.«01_k».proof.Defs
public import proofs.«01_k».proof.Proof.Conv.Array
public import proofs.«01_k».proof.Proof.Conv.Reference

@[expose] public section

noncomputable section

namespace Cert.Conv

open Idealize.ShloMosaic Idealize.ShloMosaic.TcCoe Idealize.SL.Sem Idealize.ShloMosaic.Pointwise

/-- The reference runs, keeps its arguments and has no semaphore. -/
theorem frame_ref : Cert.quiescent_Reference4Ideal := fun m ρ _ =>
  (θ_run Cert.Reference4Ideal.defs _ _).mono
    (fun r h => ⟨fun c => (h c).2, sem_eq_zero_of_no_sems (by decide) r.2⟩) (Cert.Reference4Ideal.Value.run (F := Ideal) m ρ)

/-- The kernel's result array is the reference's result of the same arguments. -/
theorem result_eq (m : (ℓ : Loc Cert.Kernel4Ideal.nD Cert.Kernel4Ideal.τ Cert.Kernel4Ideal.sig) → Buf (Elt Ideal) ℓ)
    (c : Dev Cert.Kernel4Ideal.nD) :
    ((Cert.Kernel4Ideal.Gen.dats m 0 c).arrAt 9 Cert.Kernel4Ideal.cfg0.N : FVec Ideal Cert.Kernel4Ideal.S16x2048x1024 .f32)
      = Cert.Reference4Ideal.Read.val_main_v308 (F := Ideal) (arg0 m c) (arg1 m c) (arg2 m c) (arg3 m c) (arg4 m c) (arg5 m c) (arg6 m c) (arg7 m c) (arg8 m c) := by
  funext i
  obtain ⟨b, s, l, rfl⟩ : ∃ (b : Fin 16) (s : Fin 2048) (l : Fin 1024), i = ix3 b s l := ⟨i 0, i 1, i 2, eq_ix3 i⟩
  exact (result_apply m c b s l).trans (ref_apply (arg0 m c) (arg1 m c) (arg2 m c) (arg3 m c) (arg4 m c) (arg5 m c) (arg6 m c) (arg7 m c) (arg8 m c) b s l).symm

/-- From the same arguments both programs end with equal results. -/
theorem algebraic : Cert.algebraic_Kernel4Ideal_Reference4Ideal := by
  intro m ρ m' ρ' _ hagree
  refine ⟨fun c => Cert.Reference4Ideal.Read.val_main_v308 (F := Ideal) (arg0 m c) (arg1 m c) (arg2 m c) (arg3 m c) (arg4 m c) (arg5 m c) (arg6 m c) (arg7 m c) (arg8 m c), ?_, ?_⟩
  · exact (θ_run Cert.Kernel4Ideal.defs _ _).mono (fun _ h c => ⟨(h c).1.trans (result_eq m c), (h c).2⟩)
      (Cert.Kernel4Ideal.Value.run_blocks m ρ)
  · refine (θ_run Cert.Reference4Ideal.defs _ _).mono (fun _ h c => ⟨((h c).1.trans (Cert.Reference4Ideal.Read.val_main_v308_eq (StableHlo.launchContents m' c))).trans ?_, (h c).2⟩)
      (Cert.Reference4Ideal.Value.run (F := Ideal) m' ρ')
    show Cert.Reference4Ideal.Read.val_main_v308 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg8)) = _
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]

end Cert.Conv

end
-- ==== Proof.Mlp.Block.lean ====
/- What one grid point of the feed-forward kernel leaves in its block of 1024 rows: row by row the function `Rows.mlp`. -/
module

public import proofs.«01_k».proof.Proof.Rows
public import proofs.«01_k».proof.Proof.Gen.Kernel2Ideal.Value

@[expose] public section

noncomputable section

namespace Cert.Mlp

open Cert.Kernel2Ideal Cert.Kernel2Ideal.Gen Idealize.ShloMosaic Idealize.ShloMosaic.TcCoe Idealize.SL.Sem
open Idealize.ShloMosaic.Pointwise Cert.Rows

theorem hz : (![0, 0] : Fin 2 → Nat) = fun _ => 0 := by funext a; fin_cases a <;> rfl

section Payloads

variable (x : Vec Ideal S1024x1024 .f32) (g : Vec Ideal S1x1024 .f32) (w1 : Vec Ideal S1024x4096 .bf16)
  (w2 : Vec Ideal S4096x1024 .bf16) (gf : Vec Ideal S1x1024 .f32)

/-- The hidden units of row `r` times column `l` of the second weight. -/
def unit (r l : Fin 1024) (f : Fin 4096) : EReal :=
  sqrelu (rms (fun k => x (ix2 r k)) (fun k => g (ix2 0 k))) (fun k => w1 (ix2 k f)) * w2 (ix2 f l)

/-- The normed block at an index. -/
theorem normed_apply (r k : Fin 1024) : k0_pay3 x g (ix2 r k) = rms (fun k => x (ix2 r k)) (fun k => g (ix2 0 k)) k := by
  pointwise [k0_pay3]
  rfl

/-- The columns of the first weight that chunk `o` loads. -/
abbrev cols (o : ℕ) (h : ∀ a, (![0, o] : Fin 2 → ℕ) a + S1024x512.size a ≤ S1024x4096.size a) : Vec Ideal S1024x512 .bf16 :=
  View.ld w1 (Rect.unit (s := S1024x4096) ![0, o] S1024x512.size h)

/-- The rows of the second weight that chunk `o` loads. -/
abbrev rows (o : ℕ) (h : ∀ a, (![o, 0] : Fin 2 → ℕ) a + S512x1024.size a ≤ S4096x1024.size a) : Vec Ideal S512x1024 .bf16 :=
  View.ld w2 (Rect.unit (s := S4096x1024) ![o, 0] S512x1024.size h)

theorem cols_apply (o : ℕ) (h) (ho : o + 512 ≤ 4096) (k : Fin 1024) (f : Fin 512) :
    cols w1 o h (ix2 k f) = w1 (ix2 k ⟨o + f.val, by have := f.isLt; omega⟩) := by
  pointwise [cols]

theorem rows_apply (o : ℕ) (h) (ho : o + 512 ≤ 4096) (f : Fin 512) (l : Fin 1024) :
    rows w2 o h (ix2 f l) = w2 (ix2 ⟨o + f.val, by have := f.isLt; omega⟩ l) := by
  pointwise [rows]

/-- A chunk's product, as the payloads spell it, is its part of the sum over the hidden units. -/
theorem chunk_apply (o : ℕ) (h h') (ho : o + 512 ≤ 4096) (r l : Fin 1024) :
    ∑ f : Fin 512, max (∑ k, rms (fun k => x (ix2 r k)) (fun k => g (ix2 0 k)) k * cols w1 o h (ix2 k f)) 0
        * max (∑ k, rms (fun k => x (ix2 r k)) (fun k => g (ix2 0 k)) k * cols w1 o h (ix2 k f)) 0 * rows w2 o h' (ix2 f l)
      = part (unit x g w1 w2 r l) o ho := by
  simp only [cols_apply w1 o h ho, rows_apply w2 o h' ho]
  rfl

/-- The accumulator after the first seven chunks. -/
def acc : Vec Ideal S1024x1024 .f32 :=
  k0_pay10 (k0_pay9 (k0_pay8 (k0_pay7 (k0_pay6 (k0_pay5 (k0_pay4 (k0_pay3 x g)
    (cols w1 0 inb_S1024x4096_S1024x512_0_0) (rows w2 0 inb_S4096x1024_S512x1024_0_0)) (k0_pay3 x g)
    (cols w1 512 inb_S1024x4096_S1024x512_0_512) (rows w2 512 inb_S4096x1024_S512x1024_512_0)) (k0_pay3 x g)
    (cols w1 1024 inb_S1024x4096_S1024x512_0_1024) (rows w2 1024 inb_S4096x1024_S512x1024_1024_0)) (k0_pay3 x g)
    (cols w1 1536 inb_S1024x4096_S1024x512_0_1536) (rows w2 1536 inb_S4096x1024_S512x1024_1536_0)) (k0_pay3 x g)
    (cols w1 2048 inb_S1024x4096_S1024x512_0_2048) (rows w2 2048 inb_S4096x1024_S512x1024_2048_0)) (k0_pay3 x g)
    (cols w1 2560 inb_S1024x4096_S1024x512_0_2560) (rows w2 2560 inb_S4096x1024_S512x1024_2560_0)) (k0_pay3 x g)
    (cols w1 3072 inb_S1024x4096_S1024x512_0_3072) (rows w2 3072 inb_S4096x1024_S512x1024_3072_0)

/-- The accumulator at an index: the first seven parts of the sum over the hidden units. -/
theorem acc_apply (r l : Fin 1024) : acc x g w1 w2 (ix2 r l) =
    part (unit x g w1 w2 r l) 0 (by decide) + part (unit x g w1 w2 r l) 512 (by decide) + part (unit x g w1 w2 r l) 1024 (by decide)
      + part (unit x g w1 w2 r l) 1536 (by decide) + part (unit x g w1 w2 r l) 2048 (by decide)
      + part (unit x g w1 w2 r l) 2560 (by decide) + part (unit x g w1 w2 r l) 3072 (by decide) := by
  pointwise [acc, k0_pay10, k0_pay9, k0_pay8, k0_pay7, k0_pay6, k0_pay5, k0_pay4]
  simp only [normed_apply]
  rw [chunk_apply x g w1 w2 0, chunk_apply x g w1 w2 512, chunk_apply x g w1 w2 1024, chunk_apply x g w1 w2 1536,
    chunk_apply x g w1 w2 2048, chunk_apply x g w1 w2 2560, chunk_apply x g w1 w2 3072]

/-- The block's value at an index, row by row. -/
def val (i : S1024x1024.Idx) : EReal :=
  mlp (fun k => x (ix2 (i 0) k)) (fun k => g (ix2 0 k)) (fun k f => w1 (ix2 k f)) (fun f k => w2 (ix2 f k)) (fun k => gf (ix2 0 k)) (i 1)

/-- A row of the value from the accumulator and the last chunk. -/
theorem val_tail (r l : Fin 1024) : val x g w1 w2 gf (ix2 r l) = rms (fun l => x (ix2 r l) + (acc x g w1 w2 (ix2 r l)
    + part (unit x g w1 w2 r l) 3584 (by decide))) (fun k => gf (ix2 0 k)) l := by
  simp only [acc_apply, ← sum_parts]
  rfl

/-- The 256 rows from `o` of a block of 1024. -/
abbrev band (o : ℕ) (h : ∀ a, (![o, 0] : Fin 2 → ℕ) a + S256x1024.size a ≤ S1024x1024.size a) (y : Vec Ideal S1024x1024 .f32) :
    Vec Ideal S256x1024 .f32 :=
  View.ld y (Rect.unit (s := S1024x1024) ![o, 0] S256x1024.size h)

theorem band_apply (o : ℕ) (h) (ho : o + 256 ≤ 1024) (y : Vec Ideal S1024x1024 .f32) (r : Fin 256) (l : Fin 1024) :
    band o h y (ix2 r l) = y (ix2 ⟨o + r.val, by have := r.isLt; omega⟩ l) := by
  pointwise [band]

/-- The last chunk's loads. -/
abbrev c7 : Vec Ideal S1024x512 .bf16 := cols w1 3584 inb_S1024x4096_S1024x512_0_3584
abbrev r7 : Vec Ideal S512x1024 .bf16 := rows w2 3584 inb_S4096x1024_S512x1024_3584_0

/-- The last step of a band from row `o`: the rows, the accumulator's rows and the last chunk's product, normed. -/
def tail (xn : Vec Ideal S1024x1024 .bf16) (c : Vec Ideal S1024x512 .bf16) (w : Vec Ideal S512x1024 .bf16)
    (gf : Vec Ideal S1x1024 .f32) (hb ab : Vec Ideal S256x1024 .f32) (o : ℕ) (ho : o + 256 ≤ 1024) (r : Fin 256) (l : Fin 1024) : EReal :=
  rms (fun l => hb (ix2 r l) + (ab (ix2 r l) + ∑ f : Fin 512,
    sqrelu (fun k => xn (ix2 ⟨o + r.val, by have := r.isLt; omega⟩ k)) (fun k => c (ix2 k f)) * w (ix2 f l))) (fun k => gf (ix2 0 k)) l

/-- Over the block's own rows it is the value's row. -/
theorem tail_eq (o : ℕ) (h) (ho : o + 256 ≤ 1024) (r : Fin 256) (l : Fin 1024) :
    tail (k0_pay3 x g) (c7 w1) (r7 w2) gf (band o h x) (band o h (acc x g w1 w2)) o ho r l
      = val x g w1 w2 gf (ix2 ⟨o + r.val, by have := r.isLt; omega⟩ l) := by
  rw [val_tail]
  unfold tail
  refine congrArg (fun y => rms y (fun k => gf (ix2 0 k)) l) (funext fun l => ?_)
  rw [band_apply o h ho, band_apply o h ho]
  simp only [normed_apply, sqrelu, chunk_apply x g w1 w2 3584 _ _ (by decide)]

variable (xn : Vec Ideal S1024x1024 .bf16) (c : Vec Ideal S1024x512 .bf16) (w : Vec Ideal S512x1024 .bf16)
  (hb ab : Vec Ideal S256x1024 .f32) (r : Fin 256) (l : Fin 1024)

theorem store0 : k0_pay12 xn c hb ab w gf (ix2 r l) = tail xn c w gf hb ab 0 (by decide) r l := by
  pointwise [k0_pay12, k0_pay11, tail]
  simp only [rms, mean, sqrelu]

theorem store1 : k0_pay15 (k0_pay13 hb) ab (k0_pay14 xn c) w gf (ix2 r l) = tail xn c w gf hb ab 256 (by decide) r l := by
  pointwise [k0_pay15, k0_pay14, k0_pay13, k0_pay11, tail]
  simp only [rms, mean, sqrelu]

theorem store2 : k0_pay1 (k0_pay16 (k0_pay11 xn c) hb ab w) (k0_pay17 gf) (k0_pay18 (k0_pay11 xn c) hb ab w) (ix2 r l)
    = tail xn c w gf hb ab 512 (by decide) r l := by
  pointwise [k0_pay1, k0_pay16, k0_pay17, k0_pay18, k0_pay11, tail]
  simp only [rms, mean, sqrelu]

theorem store3 : k0_pay2 (k0_pay11 xn c) hb ab w gf (ix2 r l) = tail xn c w gf hb ab 768 (by decide) r l := by
  pointwise [k0_pay2, k0_pay11, tail]
  simp only [rms, mean, sqrelu]

end Payloads

/-- The band's rectangle places row `r` at row `o + r`. -/
theorem emb_band (o : ℕ) (h : ∀ a, (![o, 0] : Fin 2 → ℕ) a + S256x1024.size a ≤ S1024x1024.size a) (ho : o + 256 ≤ 1024)
    (r : Fin 256) (l : Fin 1024) : (Rect.unit (s := S1024x1024) ![o, 0] S256x1024.size h).emb (ix2 r l)
      = ix2 ⟨o + r.val, by have := r.isLt; omega⟩ l := by
  funext a; apply Fin.ext
  match a with
  | ⟨0, _⟩ => show o + 1 * r.val = o + r.val; omega
  | ⟨1, _⟩ => show 0 + 1 * l.val = l.val; omega

/-- WHAT A GRID POINT LEAVES in the output's block: `val` of its input blocks. -/
theorem out_apply (c : Dev nD) (i : grid0.Coords) (m0 : Memref sig .tc .vmem S1024x1024 .f32) (h0 : m0.IsWhole)
    (m1 : Memref sig .tc .vmem S1x1024 .f32) (h1 : m1.IsWhole) (m2 : Memref sig .tc .vmem S1024x4096 .bf16) (h2 : m2.IsWhole)
    (m3 : Memref sig .tc .vmem S4096x1024 .bf16) (h3 : m3.IsWhole) (m4 : Memref sig .tc .vmem S1x1024 .f32) (h4 : m4.IsWhole)
    (m5 : Memref sig .tc .vmem S1024x1024 .f32) (h5 : m5.IsWhole) (m6 : Memref sig .tc .vmem S1024x1024 .bf16) (h6 : m6.IsWhole)
    (m7 : Memref sig .tc .vmem S1024x1024 .f32) (h7 : m7.IsWhole) (x0 : Vec Ideal S1024x1024 .f32) (x1 : Vec Ideal S1x1024 .f32)
    (x2 : Vec Ideal S1024x4096 .bf16) (x3 : Vec Ideal S4096x1024 .bf16) (x4 : Vec Ideal S1x1024 .f32) :
    out0_A_5 c i m0 h0 m1 h1 m2 h2 m3 h3 m4 h4 m5 h5 m6 h6 m7 h7 x0 x1 x2 x3 x4 = val x0 x1 x2 x3 x4 := by
  have hc := cover0_A_5 c i m0 h0 m1 h1 m2 h2 m3 h3 m4 h4 m5 h5 m6 h6 m7 h7 x0 x1 x2 x3 x4
  unfold out0_A_5
  rw [View.read_writes_eq_canon _ _ _ hc]
  funext y
  refine View.canon_apply_of_pieces (val x0 x1 x2 x3 x4) _ ?_ y (hc y)
  unfold kernelRun0_A
  dsimp only
  sl_unfold_words
  simp only [View.readAt_eq_ld, h0.read_unread, h1.read_unread, h2.read_unread, h3.read_unread, h4.read_unread,
    View.ld_unit_zero (S := S1024x1024) hz, View.ld_unit_zero (S := S1x1024) hz, View.readCov_cons_toLoadRect]
  simp only [View.readCov_eq_canon', View.canon_cons_unit_zero (S := S1024x1024) hz]
  simp only [List.forall_mem_cons]
  refine ⟨?_, ?_, ?_, ?_, by simp⟩
  all_goals intro (p : S256x1024.Idx); obtain ⟨r, l, rfl⟩ : ∃ (r : Fin 256) (l : Fin 1024), p = ix2 r l := ⟨p 0, p 1, eq_ix2 p⟩
  · exact (store3 ..).trans ((tail_eq x0 x1 x2 x3 x4 768 inb_S1024x1024_S256x1024_768_0 (by decide) r l).trans
      (congrArg _ (emb_band 768 _ (by decide) r l).symm))
  · exact (store2 ..).trans ((tail_eq x0 x1 x2 x3 x4 512 inb_S1024x1024_S256x1024_512_0 (by decide) r l).trans
      (congrArg _ (emb_band 512 _ (by decide) r l).symm))
  · exact (store1 ..).trans ((tail_eq x0 x1 x2 x3 x4 256 inb_S1024x1024_S256x1024_256_0 (by decide) r l).trans
      (congrArg _ (emb_band 256 _ (by decide) r l).symm))
  · exact (store0 ..).trans ((tail_eq x0 x1 x2 x3 x4 0 inb_S1024x1024_S256x1024_0_0 (by decide) r l).trans
      (congrArg _ (emb_band 0 _ (by decide) r l).symm))

end Cert.Mlp

end
-- ==== Proof.Mlp.Array.lean ====
/- The feed-forward kernel's result array, row by row, as a function of its arguments. -/
module

public import proofs.«01_k».proof.Proof.Mlp.Block

@[expose] public section

noncomputable section

namespace Cert.Mlp

open Cert.Kernel2Ideal Cert.Kernel2Ideal.Gen Idealize.ShloMosaic Idealize.ShloMosaic.TcCoe Idealize.SL.Sem
open Idealize.ShloMosaic.Pointwise Cert.Rows

variable (m : (ℓ : Loc nD τ sig) → Buf (Elt Ideal) ℓ) (c : Dev nD)

/-- The arguments as arrays. -/
abbrev arg0 : FVec Ideal S16x2048x1024 .f32 := m ((c : Thread nD τ).loc main_arg0)
abbrev arg1 : FVec Ideal S2x1024 .f32 := m ((c : Thread nD τ).loc main_arg1)
abbrev arg2 : FVec Ideal S2x1024x4096 .f32 := m ((c : Thread nD τ).loc main_arg2)
abbrev arg3 : FVec Ideal S2x4096x1024 .f32 := m ((c : Thread nD τ).loc main_arg3)
abbrev arg4 : FVec Ideal S1024 .f32 := m ((c : Thread nD τ).loc main_arg4)

/-- What the region finds in the five windows' arrays: the arguments, regrouped. -/
theorem V0 : (V m c main_v0 : FVec Ideal S32768x1024 .f32) = shapeCast S32768x1024 (arg0 m c) shapeCasts_S16x2048x1024_S32768x1024 := by
  unfold V hostOps0; after_results; rfl
theorem V9 : (V m c main_v9 : FVec Ideal S1x1024 .f32) = shapeCast S1x1024 (shapeCast S1024 (extractStridedSlice S1x1024 ![1, 0] (arg1 m c)
    slices_S2x1024_S1x1024_1_0) shapeCasts_S1x1024_S1024) shapeCasts_S1024_S1x1024 := by
  unfold V hostOps0; after_results; rfl
theorem V5 : (V m c main_v5 : FVec Ideal S1024x4096 .bf16) = truncf .bf16 (shapeCast S1024x4096 (extractStridedSlice S1x1024x4096 ![1, 0, 0] (arg2 m c)
    slices_S2x1024x4096_S1x1024x4096_1_0_0) shapeCasts_S1x1024x4096_S1024x4096) bitsLt_bf16_f32 := by
  unfold V hostOps0; after_results; rfl
theorem V8 : (V m c main_v8 : FVec Ideal S4096x1024 .bf16) = truncf .bf16 (shapeCast S4096x1024 (extractStridedSlice S1x4096x1024 ![1, 0, 0] (arg3 m c)
    slices_S2x4096x1024_S1x4096x1024_1_0_0) shapeCasts_S1x4096x1024_S4096x1024) bitsLt_bf16_f32 := by
  unfold V hostOps0; after_results; rfl
theorem V10 : (V m c main_v10 : FVec Ideal S1x1024 .f32) = shapeCast S1x1024 (arg4 m c) shapeCasts_S1024_S1x1024 := by
  unfold V hostOps0; after_results; rfl

/-- Where the windows' blocks sit: the rows' block `t` at point `t`, every other window its whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 2) = 0 ∧ win0_2.index t (1 : Fin 2) = 0
    ∧ win0_3.index t (0 : Fin 2) = 0 ∧ win0_3.index t (1 : Fin 2) = 0 ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

variable (t : Fin cfg0.N)

theorem row_lt (r : Fin 1024) : t.val * 1024 + r.val < 32768 := by
  have := t.isLt; have hN : cfg0.N = 32 := N_0; have := r.isLt; omega

theorem blk0 (r k : Fin 1024) : (iblk m c 0 t : Vec Ideal S1024x1024 .f32) (ix2 r k)
    = arg0 m c (ix3 ⟨(t.val * 1024 + r.val) / 2048, by have := row_lt t r; omega⟩ ⟨(t.val * 1024 + r.val) % 2048, by omega⟩ k) := by
  obtain ⟨e0, e1, -⟩ := idx_facts t
  have hr := row_lt t r
  show (V m c main_v0 : FVec Ideal S32768x1024 .f32) (((cfg0.win 0).blk t).view.emb (ix2 r k)) = _
  rw [show ((cfg0.win 0).blk t).view.emb (ix2 r k) = (ix2 ⟨t.val * 1024 + r.val, hr⟩ k : S32768x1024.Idx) from funext fun a => Fin.ext (match a with
    | ⟨0, _⟩ => by show win0_0.index t (0 : Fin 2) * 1024 + 1 * r.val = t.val * 1024 + r.val; omega
    | ⟨1, _⟩ => by show win0_0.index t (1 : Fin 2) * 1024 + 1 * k.val = k.val; omega), V0]
  pointwise

theorem blk1 (k : Fin 1024) : (iblk m c 1 t : Vec Ideal S1x1024 .f32) (ix2 0 k) = arg1 m c (ix2 1 k) := by
  obtain ⟨-, -, e0, e1, -⟩ := idx_facts t
  show (V m c main_v9 : FVec Ideal S1x1024 .f32) (((cfg0.win 1).blk t).view.emb (ix2 0 k)) = _
  rw [show ((cfg0.win 1).blk t).view.emb (ix2 0 k) = (ix2 0 k : S1x1024.Idx) from funext fun a => Fin.ext (match a with
    | ⟨0, _⟩ => by show win0_1.index t (0 : Fin 2) * 1 + 1 * 0 = 0; omega
    | ⟨1, _⟩ => by show win0_1.index t (1 : Fin 2) * 1024 + 1 * k.val = k.val; omega), V9]
  pointwise

theorem blk2 (k : Fin 1024) (f : Fin 4096) : (iblk m c 2 t : Vec Ideal S1024x4096 .bf16) (ix2 k f) = arg2 m c (ix3 1 k f) := by
  obtain ⟨-, -, -, -, e0, e1, -⟩ := idx_facts t
  show (V m c main_v5 : FVec Ideal S1024x4096 .bf16) (((cfg0.win 2).blk t).view.emb (ix2 k f)) = _
  rw [show ((cfg0.win 2).blk t).view.emb (ix2 k f) = (ix2 k f : S1024x4096.Idx) from funext fun a => Fin.ext (match a with
    | ⟨0, _⟩ => by show win0_2.index t (0 : Fin 2) * 1024 + 1 * k.val = k.val; omega
    | ⟨1, _⟩ => by show win0_2.index t (1 : Fin 2) * 4096 + 1 * f.val = f.val; omega), V5]
  pointwise

theorem blk3 (f : Fin 4096) (k : Fin 1024) : (iblk m c 3 t : Vec Ideal S4096x1024 .bf16) (ix2 f k) = arg3 m c (ix3 1 f k) := by
  obtain ⟨-, -, -, -, -, -, e0, e1, -⟩ := idx_facts t
  show (V m c main_v8 : FVec Ideal S4096x1024 .bf16) (((cfg0.win 3).blk t).view.emb (ix2 f k)) = _
  rw [show ((cfg0.win 3).blk t).view.emb (ix2 f k) = (ix2 f k : S4096x1024.Idx) from funext fun a => Fin.ext (match a with
    | ⟨0, _⟩ => by show win0_3.index t (0 : Fin 2) * 4096 + 1 * f.val = f.val; omega
    | ⟨1, _⟩ => by show win0_3.index t (1 : Fin 2) * 1024 + 1 * k.val = k.val; omega), V8]
  pointwise

theorem blk4 (k : Fin 1024) : (iblk m c 4 t : Vec Ideal S1x1024 .f32) (ix2 0 k) = arg4 m c (ix1 k) := by
  obtain ⟨-, -, -, -, -, -, -, -, e0, e1, -⟩ := idx_facts t
  show (V m c main_v10 : FVec Ideal S1x1024 .f32) (((cfg0.win 4).blk t).view.emb (ix2 0 k)) = _
  rw [show ((cfg0.win 4).blk t).view.emb (ix2 0 k) = (ix2 0 k : S1x1024.Idx) from funext fun a => Fin.ext (match a with
    | ⟨0, _⟩ => by show win0_4.index t (0 : Fin 2) * 1 + 1 * 0 = 0; omega
    | ⟨1, _⟩ => by show win0_4.index t (1 : Fin 2) * 1024 + 1 * k.val = k.val; omega), V10]
  pointwise

/-- THE RESULT ARRAY AT AN INDEX: the feed-forward block on the row. -/
theorem result_apply (r : Fin 32768) (l : Fin 1024) : ((dats m 0 c).arrAt 5 cfg0.N : FVec Ideal S32768x1024 .f32) (ix2 r l)
    = mlp (fun k => arg0 m c (ix3 ⟨r.val / 2048, by have := r.isLt; omega⟩ ⟨r.val % 2048, by omega⟩ k)) (fun k => arg1 m c (ix2 1 k))
        (fun k f => arg2 m c (ix3 1 k f)) (fun f k => arg3 m c (ix3 1 f k)) (fun k => arg4 m c (ix1 k)) l := by
  have hN : cfg0.N = 32 := N_0
  obtain ⟨t, q, hq⟩ : ∃ (t : Fin cfg0.N) (q : Fin 1024), r.val = t.val * 1024 + q.val :=
    ⟨⟨r.val / 1024, by have := r.isLt; omega⟩, ⟨r.val % 1024, by omega⟩, by show r.val = r.val / 1024 * 1024 + r.val % 1024; omega⟩
  obtain rfl : r = ⟨t.val * 1024 + q.val, row_lt t q⟩ := Fin.ext hq
  obtain ⟨-, -, -, -, -, -, -, -, -, -, e0, e1⟩ := idx_facts t
  have b := congrFun (Kernel2Ideal.Value.blocks5 m c t (flush0_5 t)) (ix2 q l)
  rw [Kernel2Ideal.Value.flushed5_A, out_apply] at b
  have b' : ((dats m 0 c).arrAt 5 cfg0.N : FVec Ideal S32768x1024 .f32) (((cfg0.win 5).blk t).view.emb (ix2 q l))
    = val (iblk m c 0 t) (iblk m c 1 t) (iblk m c 2 t) (iblk m c 3 t) (iblk m c 4 t) (ix2 q l) := b
  rw [show ((cfg0.win 5).blk t).view.emb (ix2 q l) = (ix2 ⟨t.val * 1024 + q.val, row_lt t q⟩ l : S32768x1024.Idx) from funext fun a => Fin.ext (match a with
    | ⟨0, _⟩ => by show win0_5.index t (0 : Fin 2) * 1024 + 1 * q.val = t.val * 1024 + q.val; omega
    | ⟨1, _⟩ => by show win0_5.index t (1 : Fin 2) * 1024 + 1 * l.val = l.val; omega)] at b'
  rw [b']
  unfold val
  simp only [ix2_0, ix2_1, blk0, blk1, blk2, blk3, blk4]

end Cert.Mlp

end
-- ==== Proof.Mlp.Reference.lean ====
/- The feed-forward reference's result, row by row, as a function of its arguments. -/
module

public import proofs.«01_k».proof.Proof.Rows
public import proofs.«01_k».proof.Proof.Gen.Reference2Ideal.Read

@[expose] public section

noncomputable section

namespace Cert.Mlp

open Cert.Reference2Ideal Cert.Reference2Ideal.Value Cert.Reference2Ideal.Gen Idealize.ShloMosaic Idealize.ShloMosaic.TcCoe Idealize.SL.Sem
open Idealize.ShloMosaic.Pointwise Cert.Rows

open Cert.Reference2Ideal.Read

section

variable (x : FVec Ideal S16x2048x1024 .f32) (g : FVec Ideal S2x1024 .f32) (w1 : FVec Ideal S2x1024x4096 .f32)
  (w2 : FVec Ideal S2x4096x1024 .f32) (gf : FVec Ideal S1024 .f32) (b : Fin 16) (s : Fin 2048)

/-- The first norm at an index. -/
theorem ref_norm (k : Fin 1024) : val_main_v14 (F := Ideal) x g (ix3 b s k) = rms (fun k => x (ix3 b s k)) (fun k => g (ix2 1 k)) k := by
  pointwise [val_main_v14, val_main_v13, val_main_v12, val_main_v11, val_main_v10, val_main_v9, val_main_v8, val_main_v7,
    val_main_cst_1, val_main_v6, val_main_v5, val_main_cst_0, val_main_v4, val_main_v3, val_main_cst, val_main_v2,
    val_main_v1, val_main_v0]
  rfl

/-- The hidden layer at an index. -/
theorem ref_hidden (f : Fin 4096) : val_main_v19 (F := Ideal) x g w1 (ix3 b s f)
    = sqrelu (fun k => val_main_v14 (F := Ideal) x g (ix3 b s k)) (fun k => w1 (ix3 1 k f)) := by
  pointwise [val_main_v19, val_main_v18, val_main_call0_v0, val_main_call0_cst, val_main_v17, val_main_v16, val_main_v15]
  rfl

/-- The residual sum at an index. -/
theorem ref_sum (l : Fin 1024) : val_main_v23 (F := Ideal) x g w1 w2 (ix3 b s l)
    = x (ix3 b s l) + ∑ f, val_main_v19 (F := Ideal) x g w1 (ix3 b s f) * w2 (ix3 1 f l) := by
  pointwise [val_main_v23, val_main_v22, val_main_v21, val_main_v20]

/-- The last norm at an index. -/
theorem ref_out (l : Fin 1024) : val_main_v36 (F := Ideal) x g w1 w2 gf (ix3 b s l)
    = rms (fun l => val_main_v23 (F := Ideal) x g w1 w2 (ix3 b s l)) (fun k => gf (ix1 k)) l := by
  pointwise [val_main_v36, val_main_v35, val_main_v34, val_main_v33, val_main_v32, val_main_v31, val_main_v30, val_main_v29,
    val_main_cst_4, val_main_v28, val_main_v27, val_main_cst_3, val_main_v26, val_main_v25, val_main_cst_2, val_main_v24]
  rfl

/-- The result at an index: the feed-forward block on the row. -/
theorem ref_apply (r : Fin 32768) (l : Fin 1024) : val_main_v37 (F := Ideal) x g w1 w2 gf (ix2 r l)
    = mlp (fun k => x (ix3 ⟨r.val / 2048, by have := r.isLt; omega⟩ ⟨r.val % 2048, by omega⟩ k)) (fun k => g (ix2 1 k))
        (fun k f => w1 (ix3 1 k f)) (fun f k => w2 (ix3 1 f k)) (fun k => gf (ix1 k)) l := by
  have h : val_main_v37 (F := Ideal) x g w1 w2 gf (ix2 r l)
      = val_main_v36 (F := Ideal) x g w1 w2 gf (ix3 ⟨r.val / 2048, by have := r.isLt; omega⟩ ⟨r.val % 2048, by omega⟩ l) := by
    pointwise [val_main_v37]
  rw [h, ref_out]
  simp only [ref_sum, ref_hidden, ref_norm]
  rfl

end

end Cert.Mlp

end
-- ==== Proof.Mlp.Claims.lean ====
/- The feed-forward pair's claims: the reference's frame and the equality of the two results over the extended reals. -/
module

public import proofs.«01_k».proof.Defs
public import proofs.«01_k».proof.Proof.Mlp.Array
public import proofs.«01_k».proof.Proof.Mlp.Reference

@[expose] public section

noncomputable section

namespace Cert.Mlp

open Idealize.ShloMosaic Idealize.ShloMosaic.TcCoe Idealize.SL.Sem Idealize.ShloMosaic.Pointwise

/-- The reference runs, keeps its arguments and has no semaphore. -/
theorem frame_ref : Cert.quiescent_Reference2Ideal := fun m ρ _ =>
  (θ_run Cert.Reference2Ideal.defs _ _).mono
    (fun r h => ⟨fun c => (h c).2, sem_eq_zero_of_no_sems (by decide) r.2⟩) (Cert.Reference2Ideal.Value.run (F := Ideal) m ρ)

/-- The kernel's result array is the reference's result of the same arguments. -/
theorem result_eq (m : (ℓ : Loc Cert.Kernel2Ideal.nD Cert.Kernel2Ideal.τ Cert.Kernel2Ideal.sig) → Buf (Elt Ideal) ℓ)
    (c : Dev Cert.Kernel2Ideal.nD) :
    ((Cert.Kernel2Ideal.Gen.dats m 0 c).arrAt 5 Cert.Kernel2Ideal.cfg0.N : FVec Ideal Cert.Kernel2Ideal.S32768x1024 .f32)
      = Cert.Reference2Ideal.Read.val_main_v37 (F := Ideal) (arg0 m c) (arg1 m c) (arg2 m c) (arg3 m c) (arg4 m c) := by
  funext i
  obtain ⟨r, l, rfl⟩ : ∃ (r : Fin 32768) (l : Fin 1024), i = ix2 r l := ⟨i 0, i 1, eq_ix2 i⟩
  exact (result_apply m c r l).trans (ref_apply (arg0 m c) (arg1 m c) (arg2 m c) (arg3 m c) (arg4 m c) r l).symm

/-- From the same arguments both programs end with equal results. -/
theorem algebraic : Cert.algebraic_Kernel2Ideal_Reference2Ideal := by
  intro m ρ m' ρ' _ hagree
  refine ⟨fun c => Cert.Reference2Ideal.Read.val_main_v37 (F := Ideal) (arg0 m c) (arg1 m c) (arg2 m c) (arg3 m c) (arg4 m c), ?_, ?_⟩
  · exact (θ_run Cert.Kernel2Ideal.defs _ _).mono (fun _ h c => ⟨(h c).1.trans (result_eq m c), (h c).2⟩)
      (Cert.Kernel2Ideal.Value.run_blocks m ρ)
  · refine (θ_run Cert.Reference2Ideal.defs _ _).mono (fun _ h c => ⟨((h c).1.trans (Cert.Reference2Ideal.Read.val_main_v37_eq m' c)).trans ?_, (h c).2⟩)
      (Cert.Reference2Ideal.Value.run (F := Ideal) m' ρ')
    rw [(hagree c).1, (hagree c).2.1, (hagree c).2.2.1, (hagree c).2.2.2.1, (hagree c).2.2.2.2]

end Cert.Mlp

end
-- ==== Proof.Spatial.Block.lean ====
/- The spatial gating kernel's body on a block of 1024 rows: what it stores in the output's block is `val` of its input blocks. -/
module

public import proofs.«01_k».proof.Proof.Spatial.Buffers

@[expose] public section

noncomputable section

namespace Cert.Spatial

open Cert.KernelIdeal Cert.KernelIdeal.Gen Idealize.ShloMosaic Idealize.ShloMosaic.TcCoe Idealize.SL.Sem
open Idealize.ShloMosaic.Pointwise Cert.Rows Cert.Bands

/-- A square of a stack of eight. -/
theorem square_apply (x : Vec Ideal S8x128x128 .f32) (g : Fin 8) (h : ∀ a, (![g.val, 0, 0] : Fin 3 → ℕ) a + S1x128x128.size a ≤ S8x128x128.size a)
    (t s : Fin 128) : View.ld x (Rect.unit (s := S8x128x128) ![g.val, 0, 0] S1x128x128.size h) (ix3 0 t s) = x (ix3 g t s) := by
  refine congrArg x (funext fun a => Fin.ext ?_)
  match a with
  | ⟨0, _⟩ => show g.val + 1 * 0 = g.val; omega
  | ⟨1, _⟩ => show 0 + 1 * t.val = t.val; omega
  | ⟨2, _⟩ => show 0 + 1 * s.val = s.val; omega

theorem square_in (g : Fin 8) (a : Fin 3) : (![g.val, 0, 0] : Fin 3 → ℕ) a + S1x128x128.size a ≤ S8x128x128.size a := by
  have := g.isLt
  match a with
  | ⟨0, _⟩ => show g.val + 1 ≤ 8; omega
  | ⟨1, _⟩ => show 0 + 128 ≤ 128; omega
  | ⟨2, _⟩ => show 0 + 128 ≤ 128; omega

/-- The first row of a row's chunk, and a row of it. -/
def peer (r : Fin 1024) (s : Fin 128) : Fin 1024 := ⟨r.val / 128 * 128 + s.val, by have := r.isLt; have := s.isLt; omega⟩

section Values

variable (x0 : Vec Ideal S1024x1024 .f32) (x1 : Vec Ideal S1x1024 .f32) (x2 : Vec Ideal S1024x2048 .bf16) (x3 : Vec Ideal S1x2048 .f32)
  (x4 x5 : Vec Ideal S1x1024 .f32) (x6 x7 : Vec Ideal S8x128x128 .f32) (x8 : Vec Ideal S1024x1024 .bf16)

/-- A group's values, mixed within each chunk: column `128 n + c` is chunk `n`'s column `c`. -/
def mixed (g : Fin 8) : Vec Ideal S128x1024 .f32 := fun i => ∑ s, tri (fun t s => x6 (ix3 g t s)) (i 0) s
  * values x0 x1 x2 x3 x4 x5 (ix2 (peer (i 1) s) ⟨g.val * 128 + (lane (i 1)).val, by have := g.isLt; have := (lane (i 1)).isLt; omega⟩)

/-- The output block at an index. -/
def val (i : S1024x1024.Idx) : EReal := x0 i + ∑ c, gates x0 x1 x2 x3 (ix2 (i 0) c)
  * (∑ s, tri (fun t s => x6 (ix3 (grp c) t s)) (lane (i 0)) s * values x0 x1 x2 x3 x4 x5 (ix2 (peer (i 0) s) c)
    + x7 (ix3 (grp c) (lane (i 0)) (lane c))) * x8 (ix2 c (i 1))

/-- A chunk's values of a group. -/
abbrev chunk (v : Vec Ideal S1024x1024 .bf16) (g n : Fin 8) : Vec Ideal S128x128 .bf16 :=
  View.ld v (Rect.unit (s := S1024x1024) ![n.val * 128, g.val * 128] S128x128.size (by
    intro a; have := n.isLt; have := g.isLt
    match a with
    | ⟨0, _⟩ => show n.val * 128 + 128 ≤ 1024; omega
    | ⟨1, _⟩ => show g.val * 128 + 128 ≤ 1024; omega))

/-- The eight chunks' values of a group against the group's weights. -/
theorem mixed_eq (v : Vec Ideal S1024x1024 .bf16) (hv : v = values x0 x1 x2 x3 x4 x5) (g : Fin 8) (h) :
    k0_pay31 (k0_pay30 (View.ld x6 (Rect.unit (s := S8x128x128) ![g.val, 0, 0] S1x128x128.size h)))
      (chunk v g 0) (chunk v g 1) (chunk v g 2) (chunk v g 3) (chunk v g 4) (chunk v g 5) (chunk v g 6) (chunk v g 7)
    = mixed x0 x1 x2 x3 x4 x5 x6 g := by
  subst hv
  funext i
  obtain ⟨t, l, rfl⟩ : ∃ (t : Fin 128) (l : Fin 1024), i = ix2 t l := ⟨i 0, i 1, eq_ix2 i⟩
  refine (mixed_apply _ (fun n => chunk (values x0 x1 x2 x3 x4 x5) g n) t l).trans (Finset.sum_congr rfl fun s _ => ?_)
  have hg := g.isLt
  exact congr (congrArg HMul.hMul (congrArg (fun w => tri w t s) (funext fun t => funext fun s => square_apply x6 g h t s)))
    (ld_apply _ _ _ s (lane l) (by have := (grp l).isLt; omega) (by omega) _)

/-- A block of 256 rows of the output, where it is stored. -/
theorem out_band (o : ℕ) (k : Fin 4) (ho : o = k.val * 256) (p : ℕ) (hp : p = o + 128) (h h0 h1 s0 s1)
    (bs : Fin 8 → Vec Ideal S1x128x128 .f32) (hbs : ∀ g t c, bs g (ix3 0 t c) = x7 (ix3 g t c)) (i : S256x1024.Idx) :
    last (View.ld x0 (Rect.unit (s := S1024x1024) ![o, 0] S256x1024.size h))
      (gated (mixed x0 x1 x2 x3 x4 x5 x6) bs o s0 (View.ld (gates x0 x1 x2 x3) (Rect.unit (s := S1024x1024) ![o, 0] S128x1024.size h0)))
      (gated (mixed x0 x1 x2 x3 x4 x5 x6) bs p s1 (View.ld (gates x0 x1 x2 x3) (Rect.unit (s := S1024x1024) ![p, 0] S128x1024.size h1))) x8 i
    = val x0 x1 x2 x3 x4 x5 x6 x7 x8 ((Rect.unit (s := S1024x1024) ![o, 0] S256x1024.size h).emb i) := by
  obtain ⟨r, l, rfl⟩ : ∃ (r : Fin 256) (l : Fin 1024), i = ix2 r l := ⟨i 0, i 1, eq_ix2 i⟩
  have hk := k.isLt
  have hr := r.isLt
  have e0 : ∀ (R : Fin 1024) (t : Fin 128) (q : ℕ) (hq : q % 128 = 0) (hql : q + 128 ≤ 1024) (sq) (hu), R.val = q + t.val → ∀ c,
      gated (mixed x0 x1 x2 x3 x4 x5 x6) bs q sq (View.ld (gates x0 x1 x2 x3) (Rect.unit (s := S1024x1024) ![q, 0] S128x1024.size hu)) (ix2 t c)
        = gates x0 x1 x2 x3 (ix2 R c) * (∑ s, tri (fun t s => x6 (ix3 (grp c) t s)) (lane R) s * values x0 x1 x2 x3 x4 x5 (ix2 (peer R s) c)
          + x7 (ix3 (grp c) (lane R) (lane c))) := by
    intro R t q hq hql sq hu hR c
    have ht := t.isLt
    have hc := c.isLt
    have hl : lane R = t := Fin.ext (by show R.val % 128 = t.val; omega)
    rw [gated_apply _ _ _ _ hql, hbs, hl]
    refine congr (congrArg HMul.hMul ?_) (congrArg (· + _) (Finset.sum_congr rfl fun s _ => ?_))
    · exact (ld_apply q 0 hu t c hql (by decide) _).trans (congrArg (gates x0 x1 x2 x3) (congr (congrArg ix2 (Fin.ext hR.symm))
        (Fin.ext (Nat.zero_add _))))
    · refine congr (congrArg HMul.hMul rfl) (congrArg (values x0 x1 x2 x3 x4 x5) (congr (congrArg ix2 (Fin.ext ?_)) (Fin.ext ?_)))
      · show (q + c.val % 128) / 128 * 128 + s.val = R.val / 128 * 128 + s.val
        omega
      · show c.val / 128 * 128 + (q + c.val % 128) % 128 = c.val
        omega
  have hl : (⟨0 + l.val, by have := l.isLt; omega⟩ : Fin 1024) = l := Fin.ext (Nat.zero_add _)
  rw [last_apply, emb_apply o 0 h r l (by omega) (by decide), hl]
  refine congr (congrArg HAdd.hAdd ((ld_apply o 0 h r l (by omega) (by decide) x0).trans (by rw [hl])))
    (Finset.sum_congr rfl fun c _ => congrArg (· * _) ?_)
  split
  · exact e0 _ _ o (by omega) (by omega) s0 h0 rfl c
  · exact e0 _ _ p (by omega) (by omega) s1 h1 (by show o + r.val = p + (r.val - 128); omega) c

end Values

section Buffers

variable (c : Dev nD) (m1 : Memref sig .tc .vmem S1024x1024 .f32) (h1 : m1.IsWhole) (m2 : Memref sig .tc .vmem S1x1024 .f32) (h2 : m2.IsWhole) (m3 : Memref sig .tc .vmem S1024x2048 .bf16) (h3 : m3.IsWhole) (m4 : Memref sig .tc .vmem S1x2048 .f32) (h4 : m4.IsWhole) (m5 : Memref sig .tc .vmem S1x1024 .f32) (h5 : m5.IsWhole) (m6 : Memref sig .tc .vmem S1x1024 .f32) (h6 : m6.IsWhole) (m7 : Memref sig .tc .vmem S8x128x128 .f32) (h7 : m7.IsWhole) (m8 : Memref sig .tc .vmem S8x128x128 .f32) (h8 : m8.IsWhole) (m9 : Memref sig .tc .vmem S1024x1024 .bf16) (h9 : m9.IsWhole)
  (m11 : Memref sig .tc .vmem S1024x1024 .bf16) (m12 : Memref sig .tc .vmem S1024x1024 .f32) (m13 : Memref sig .tc .vmem S1024x1024 .bf16)
  (x0 : Vec Ideal S1024x1024 .f32) (x1 : Vec Ideal S1x1024 .f32) (x2 : Vec Ideal S1024x2048 .bf16) (x3 : Vec Ideal S1x2048 .f32)
  (x4 x5 : Vec Ideal S1x1024 .f32) (x6 x7 : Vec Ideal S8x128x128 .f32) (x8 : Vec Ideal S1024x1024 .bf16)

/-! ### The eight groups' mixed values -/

theorem mixed_r_17 : kernelRun0_A.sl.r_17 (F := Ideal) c m1 h1 m2 h2 m3 h3 m4 h4 m5 h5 m6 h6 m7 h7 m11 m13 x0 x1 x2 x3 x4 x5 x6 = mixed x0 x1 x2 x3 x4 x5 x6 0 := by
  simp only [kernelRun0_A.sl.r_17, kernelRun0_A.sl.r_16, kernelRun0_A.sl.v340, kernelRun0_A.sl.v341, kernelRun0_A.sl.v342, kernelRun0_A.sl.v343, kernelRun0_A.sl.v344, kernelRun0_A.sl.v345, kernelRun0_A.sl.v346, kernelRun0_A.sl.v347, read2, View.readAt_eq_ld, h7.read_unread]
  exact mixed_eq x0 x1 x2 x3 x4 x5 x6 _ rfl 0 inb_S8x128x128_S1x128x128_0_0_0

theorem mixed_r_18 : kernelRun0_A.sl.r_18 (F := Ideal) c m1 h1 m2 h2 m3 h3 m4 h4 m5 h5 m6 h6 m7 h7 m11 m13 x0 x1 x2 x3 x4 x5 x6 = mixed x0 x1 x2 x3 x4 x5 x6 1 := by
  simp only [kernelRun0_A.sl.r_18, kernelRun0_A.sl.v355, kernelRun0_A.sl.v356, kernelRun0_A.sl.v357, kernelRun0_A.sl.v358, kernelRun0_A.sl.v359, kernelRun0_A.sl.v360, kernelRun0_A.sl.v361, kernelRun0_A.sl.v362, read2, View.readAt_eq_ld, h7.read_unread, mixed1]
  exact mixed_eq x0 x1 x2 x3 x4 x5 x6 _ rfl 1 inb_S8x128x128_S1x128x128_1_0_0

theorem mixed_r_20 : kernelRun0_A.sl.r_20 (F := Ideal) c m1 h1 m2 h2 m3 h3 m4 h4 m5 h5 m6 h6 m7 h7 m11 m13 x0 x1 x2 x3 x4 x5 x6 = mixed x0 x1 x2 x3 x4 x5 x6 2 := by
  simp only [kernelRun0_A.sl.r_20, kernelRun0_A.sl.r_19, kernelRun0_A.sl.v370, kernelRun0_A.sl.v371, kernelRun0_A.sl.v372, kernelRun0_A.sl.v373, kernelRun0_A.sl.v374, kernelRun0_A.sl.v375, kernelRun0_A.sl.v376, kernelRun0_A.sl.v377, read2, View.readAt_eq_ld, h7.read_unread, mixed2]
  exact mixed_eq x0 x1 x2 x3 x4 x5 x6 _ rfl 2 inb_S8x128x128_S1x128x128_2_0_0

theorem mixed_r_21 : kernelRun0_A.sl.r_21 (F := Ideal) c m1 h1 m2 h2 m3 h3 m4 h4 m5 h5 m6 h6 m7 h7 m11 m13 x0 x1 x2 x3 x4 x5 x6 = mixed x0 x1 x2 x3 x4 x5 x6 3 := by
  simp only [kernelRun0_A.sl.r_21, kernelRun0_A.sl.v385, kernelRun0_A.sl.v386, kernelRun0_A.sl.v387, kernelRun0_A.sl.v388, kernelRun0_A.sl.v389, kernelRun0_A.sl.v390, kernelRun0_A.sl.v391, kernelRun0_A.sl.v392, read2, View.readAt_eq_ld, h7.read_unread, mixed3]
  exact mixed_eq x0 x1 x2 x3 x4 x5 x6 _ rfl 3 inb_S8x128x128_S1x128x128_3_0_0

theorem mixed_r_22 : kernelRun0_A.sl.r_22 (F := Ideal) c m1 h1 m2 h2 m3 h3 m4 h4 m5 h5 m6 h6 m7 h7 m11 m13 x0 x1 x2 x3 x4 x5 x6 = mixed x0 x1 x2 x3 x4 x5 x6 4 := by
  simp only [kernelRun0_A.sl.r_22, kernelRun0_A.sl.v400, kernelRun0_A.sl.v401, kernelRun0_A.sl.v402, kernelRun0_A.sl.v403, kernelRun0_A.sl.v404, kernelRun0_A.sl.v405, kernelRun0_A.sl.v406, kernelRun0_A.sl.v407, read2, View.readAt_eq_ld, h7.read_unread, mixed4]
  exact mixed_eq x0 x1 x2 x3 x4 x5 x6 _ rfl 4 inb_S8x128x128_S1x128x128_4_0_0

theorem mixed_r_24 : kernelRun0_A.sl.r_24 (F := Ideal) c m1 h1 m2 h2 m3 h3 m4 h4 m5 h5 m6 h6 m7 h7 m11 m13 x0 x1 x2 x3 x4 x5 x6 = mixed x0 x1 x2 x3 x4 x5 x6 5 := by
  simp only [kernelRun0_A.sl.r_24, kernelRun0_A.sl.r_23, kernelRun0_A.sl.v415, kernelRun0_A.sl.v416, kernelRun0_A.sl.v417, kernelRun0_A.sl.v418, kernelRun0_A.sl.v419, kernelRun0_A.sl.v420, kernelRun0_A.sl.v421, kernelRun0_A.sl.v422, read2, View.readAt_eq_ld, h7.read_unread, mixed5]
  exact mixed_eq x0 x1 x2 x3 x4 x5 x6 _ rfl 5 inb_S8x128x128_S1x128x128_5_0_0

theorem mixed_r_25 : kernelRun0_A.sl.r_25 (F := Ideal) c m1 h1 m2 h2 m3 h3 m4 h4 m5 h5 m6 h6 m7 h7 m11 m13 x0 x1 x2 x3 x4 x5 x6 = mixed x0 x1 x2 x3 x4 x5 x6 6 := by
  simp only [kernelRun0_A.sl.r_25, kernelRun0_A.sl.v430, kernelRun0_A.sl.v431, kernelRun0_A.sl.v432, kernelRun0_A.sl.v433, kernelRun0_A.sl.v434, kernelRun0_A.sl.v435, kernelRun0_A.sl.v436, kernelRun0_A.sl.v437, read2, View.readAt_eq_ld, h7.read_unread, mixed6]
  exact mixed_eq x0 x1 x2 x3 x4 x5 x6 _ rfl 6 inb_S8x128x128_S1x128x128_6_0_0

theorem mixed_r_27 : kernelRun0_A.sl.r_27 (F := Ideal) c m1 h1 m2 h2 m3 h3 m4 h4 m5 h5 m6 h6 m7 h7 m11 m13 x0 x1 x2 x3 x4 x5 x6 = mixed x0 x1 x2 x3 x4 x5 x6 7 := by
  simp only [kernelRun0_A.sl.r_27, kernelRun0_A.sl.r_26, kernelRun0_A.sl.v445, kernelRun0_A.sl.v446, kernelRun0_A.sl.v447, kernelRun0_A.sl.v448, kernelRun0_A.sl.v449, kernelRun0_A.sl.v450, kernelRun0_A.sl.v451, kernelRun0_A.sl.v452, read2, View.readAt_eq_ld, h7.read_unread, mixed7]
  exact mixed_eq x0 x1 x2 x3 x4 x5 x6 _ rfl 7 inb_S8x128x128_S1x128x128_7_0_0

end Buffers

/-- WHAT A GRID POINT LEAVES in the output's block: `val` of its input blocks. -/
theorem out_apply (c : Dev nD) (i : grid0.Coords) (m1 : Memref sig .tc .vmem S1024x1024 .f32) (h1 : m1.IsWhole) (m2 : Memref sig .tc .vmem S1x1024 .f32) (h2 : m2.IsWhole) (m3 : Memref sig .tc .vmem S1024x2048 .bf16) (h3 : m3.IsWhole) (m4 : Memref sig .tc .vmem S1x2048 .f32) (h4 : m4.IsWhole) (m5 : Memref sig .tc .vmem S1x1024 .f32) (h5 : m5.IsWhole) (m6 : Memref sig .tc .vmem S1x1024 .f32) (h6 : m6.IsWhole) (m7 : Memref sig .tc .vmem S8x128x128 .f32) (h7 : m7.IsWhole) (m8 : Memref sig .tc .vmem S8x128x128 .f32) (h8 : m8.IsWhole) (m9 : Memref sig .tc .vmem S1024x1024 .bf16) (h9 : m9.IsWhole) (m10 : Memref sig .tc .vmem S1024x1024 .f32) (h10 : m10.IsWhole)
    (m11 : Memref sig .tc .vmem S1024x1024 .bf16) (h11 : m11.IsWhole) (m12 : Memref sig .tc .vmem S1024x1024 .f32) (h12 : m12.IsWhole) (m13 : Memref sig .tc .vmem S1024x1024 .bf16) (h13 : m13.IsWhole) (m14 : Memref sig .tc .vmem S1024x1024 .bf16) (h14 : m14.IsWhole)
    (x0 : Vec Ideal S1024x1024 .f32) (x1 : Vec Ideal S1x1024 .f32) (x2 : Vec Ideal S1024x2048 .bf16) (x3 : Vec Ideal S1x2048 .f32)
    (x4 x5 : Vec Ideal S1x1024 .f32) (x6 x7 : Vec Ideal S8x128x128 .f32) (x8 : Vec Ideal S1024x1024 .bf16) :
    out0_A_9 c i m1 h1 m2 h2 m3 h3 m4 h4 m5 h5 m6 h6 m7 h7 m8 h8 m9 h9 m10 h10 m11 h11 m12 h12 m13 h13 m14 h14 x0 x1 x2 x3 x4 x5 x6 x7 x8 = val x0 x1 x2 x3 x4 x5 x6 x7 x8 := by
  have hc := cover0_A_9 c i m1 h1 m2 h2 m3 h3 m4 h4 m5 h5 m6 h6 m7 h7 m8 h8 m9 h9 m10 h10 m11 h11 m12 h12 m13 h13 m14 h14 x0 x1 x2 x3 x4 x5 x6 x7 x8
  unfold out0_A_9
  rw [View.read_writes_eq_canon _ _ _ hc]
  funext y
  refine View.canon_apply_of_pieces (val x0 x1 x2 x3 x4 x5 x6 x7 x8) _ ?_ y (hc y)
  unfold kernelRun0_A
  dsimp only
  simp only [mixed_r_17, mixed_r_18, mixed_r_20, mixed_r_21, mixed_r_22, mixed_r_24, mixed_r_25, mixed_r_27, read1,
    kernelRun0_A.sl.v488, kernelRun0_A.sl.v524, kernelRun0_A.sl.v568, kernelRun0_A.sl.v604, kernelRun0_A.sl.v648, kernelRun0_A.sl.v684, kernelRun0_A.sl.v728, kernelRun0_A.sl.v764,
    kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.cst_552,
    View.readAt_eq_ld, h1.read_unread, h8.read_unread, h9.read_unread, View.ld_unit_zero (S := S1024x1024) hz]
  let bs : Fin 8 → Vec Ideal S1x128x128 .f32 := fun g => View.ld x7 (Rect.unit (s := S8x128x128) ![g.val, 0, 0] S1x128x128.size (square_in g))
  have hbs : ∀ g t c, bs g (ix3 0 t c) = x7 (ix3 g t c) := fun g t c => square_apply x7 g _ t c
  simp only [List.forall_mem_cons]
  refine ⟨?_, ?_, ?_, ?_, by simp⟩
  · intro (p : S256x1024.Idx)
    exact (congrFun (store3 (mixed x0 x1 x2 x3 x4 x5 x6) bs (View.ld (gates x0 x1 x2 x3) (Rect.unit (s := S1024x1024) ![768, 0] S128x1024.size inb_S1024x1024_S128x1024_768_0))
      (View.ld (gates x0 x1 x2 x3) (Rect.unit (s := S1024x1024) ![896, 0] S128x1024.size inb_S1024x1024_S128x1024_896_0))
      (View.ld x0 (Rect.unit (s := S1024x1024) ![768, 0] S256x1024.size inb_S1024x1024_S256x1024_768_0)) x8) p).trans
      (out_band x0 x1 x2 x3 x4 x5 x6 x7 x8 768 3 rfl 896 rfl inb_S1024x1024_S256x1024_768_0 inb_S1024x1024_S128x1024_768_0 inb_S1024x1024_S128x1024_896_0 _ _ bs hbs p)
  · intro (p : S256x1024.Idx)
    exact (congrFun (store2 (mixed x0 x1 x2 x3 x4 x5 x6) bs (View.ld (gates x0 x1 x2 x3) (Rect.unit (s := S1024x1024) ![512, 0] S128x1024.size inb_S1024x1024_S128x1024_512_0))
      (View.ld (gates x0 x1 x2 x3) (Rect.unit (s := S1024x1024) ![640, 0] S128x1024.size inb_S1024x1024_S128x1024_640_0))
      (View.ld x0 (Rect.unit (s := S1024x1024) ![512, 0] S256x1024.size inb_S1024x1024_S256x1024_512_0)) x8) p).trans
      (out_band x0 x1 x2 x3 x4 x5 x6 x7 x8 512 2 rfl 640 rfl inb_S1024x1024_S256x1024_512_0 inb_S1024x1024_S128x1024_512_0 inb_S1024x1024_S128x1024_640_0 _ _ bs hbs p)
  · intro (p : S256x1024.Idx)
    exact (congrFun (store1 (mixed x0 x1 x2 x3 x4 x5 x6) bs (View.ld (gates x0 x1 x2 x3) (Rect.unit (s := S1024x1024) ![256, 0] S128x1024.size inb_S1024x1024_S128x1024_256_0))
      (View.ld (gates x0 x1 x2 x3) (Rect.unit (s := S1024x1024) ![384, 0] S128x1024.size inb_S1024x1024_S128x1024_384_0))
      (View.ld x0 (Rect.unit (s := S1024x1024) ![256, 0] S256x1024.size inb_S1024x1024_S256x1024_256_0)) x8) p).trans
      (out_band x0 x1 x2 x3 x4 x5 x6 x7 x8 256 1 rfl 384 rfl inb_S1024x1024_S256x1024_256_0 inb_S1024x1024_S128x1024_256_0 inb_S1024x1024_S128x1024_384_0 _ _ bs hbs p)
  · intro (p : S256x1024.Idx)
    exact (congrFun (store0 (mixed x0 x1 x2 x3 x4 x5 x6) bs (View.ld (gates x0 x1 x2 x3) (Rect.unit (s := S1024x1024) ![0, 0] S128x1024.size inb_S1024x1024_S128x1024_0_0))
      (View.ld (gates x0 x1 x2 x3) (Rect.unit (s := S1024x1024) ![128, 0] S128x1024.size inb_S1024x1024_S128x1024_128_0))
      (View.ld x0 (Rect.unit (s := S1024x1024) ![0, 0] S256x1024.size inb_S1024x1024_S256x1024_0_0)) x8) p).trans
      (out_band x0 x1 x2 x3 x4 x5 x6 x7 x8 0 0 rfl 128 rfl inb_S1024x1024_S256x1024_0_0 inb_S1024x1024_S128x1024_0_0 inb_S1024x1024_S128x1024_128_0 _ _ bs hbs p)

end Cert.Spatial

end
-- ==== Proof.Spatial.Array.lean ====
/- The spatial gating kernel's result array, row by row, as a function of its arguments. -/
module

public import proofs.«01_k».proof.Proof.Spatial.Block

@[expose] public section

noncomputable section

namespace Cert.Spatial

open Cert.KernelIdeal Cert.KernelIdeal.Gen Idealize.ShloMosaic Idealize.ShloMosaic.TcCoe Idealize.SL.Sem
open Idealize.ShloMosaic.Pointwise Cert.Rows

variable (m : (ℓ : Loc nD τ sig) → Buf (Elt Ideal) ℓ) (c : Dev nD)

/-- The arguments as arrays. -/
abbrev arg0 : FVec Ideal S16x2048x1024 .f32 := m ((c : Thread nD τ).loc main_arg0)
abbrev arg1 : FVec Ideal S1x1024 .f32 := m ((c : Thread nD τ).loc main_arg1)
abbrev arg2 : FVec Ideal S1x1024x2048 .f32 := m ((c : Thread nD τ).loc main_arg2)
abbrev arg3 : FVec Ideal S1x2048 .f32 := m ((c : Thread nD τ).loc main_arg3)
abbrev arg4 : FVec Ideal S1x1024 .f32 := m ((c : Thread nD τ).loc main_arg4)
abbrev arg5 : FVec Ideal S1x1024 .f32 := m ((c : Thread nD τ).loc main_arg5)
abbrev arg6 : FVec Ideal S1x8x128x128 .f32 := m ((c : Thread nD τ).loc main_arg6)
abbrev arg7 : FVec Ideal S1x8x128 .f32 := m ((c : Thread nD τ).loc main_arg7)
abbrev arg8 : FVec Ideal S1x1024x1024 .f32 := m ((c : Thread nD τ).loc main_arg8)

/-- What the region finds in the nine windows' arrays: the arguments, regrouped. -/
theorem V0 : (V m c main_v0 : FVec Ideal S32768x1024 .f32) = shapeCast S32768x1024 (arg0 m c) shapeCasts_S16x2048x1024_S32768x1024 := by
  unfold V hostOps0; after_results; rfl
theorem V13 : (V m c main_v13 : FVec Ideal S1x1024 .f32) = shapeCast S1x1024 (shapeCast S1024 (arg1 m c) shapeCasts_S1x1024_S1024) shapeCasts_S1024_S1x1024 := by
  unfold V hostOps0; after_results; rfl
theorem V3 : (V m c main_v3 : FVec Ideal S1024x2048 .bf16) = truncf .bf16 (shapeCast S1024x2048 (arg2 m c) shapeCasts_S1x1024x2048_S1024x2048) bitsLt_bf16_f32 := by
  unfold V hostOps0; after_results; rfl
theorem V14 : (V m c main_v14 : FVec Ideal S1x2048 .f32) = shapeCast S1x2048 (shapeCast S2048 (arg3 m c) shapeCasts_S1x2048_S2048) shapeCasts_S2048_S1x2048 := by
  unfold V hostOps0; after_results; rfl
theorem V15 : (V m c main_v15 : FVec Ideal S1x1024 .f32) = shapeCast S1x1024 (shapeCast S1024 (arg4 m c) shapeCasts_S1x1024_S1024) shapeCasts_S1024_S1x1024 := by
  unfold V hostOps0; after_results; rfl
theorem V16 : (V m c main_v16 : FVec Ideal S1x1024 .f32) = shapeCast S1x1024 (shapeCast S1024 (arg5 m c) shapeCasts_S1x1024_S1024) shapeCasts_S1024_S1x1024 := by
  unfold V hostOps0; after_results; rfl
theorem V7 : (V m c main_v7 : FVec Ideal S8x128x128 .f32) = shapeCast S8x128x128 (arg6 m c) shapeCasts_S1x8x128x128_S8x128x128 := by
  unfold V hostOps0; after_results; rfl
theorem V12 : (V m c main_v12 : FVec Ideal S8x128x128 .f32) = broadcastInDim S8x128x128 ![0, 1, 2] bcast_S8x128x1_S8x128x128_0_1_2
    (broadcastInDim S8x128x1 ![0, 1] bcast_S8x128_S8x128x1_0_1 (shapeCast S8x128 (arg7 m c) shapeCasts_S1x8x128_S8x128)) := by
  unfold V hostOps0; after_results; rfl
theorem V10 : (V m c main_v10 : FVec Ideal S1024x1024 .bf16) = truncf .bf16 (shapeCast S1024x1024 (arg8 m c) shapeCasts_S1x1024x1024_S1024x1024) bitsLt_bf16_f32 := by
  unfold V hostOps0; after_results; rfl

/-- Where the windows' blocks sit: the rows' block `t` at point `t`, every other window its whole array. -/
theorem idx_facts : ∀ t : Fin cfg0.N, win0_0.index t (0 : Fin 2) = t.val ∧ win0_0.index t (1 : Fin 2) = 0 ∧ win0_1.index t (0 : Fin 2) = 0 ∧ win0_1.index t (1 : Fin 2) = 0
    ∧ win0_2.index t (0 : Fin 2) = 0 ∧ win0_2.index t (1 : Fin 2) = 0 ∧ win0_3.index t (0 : Fin 2) = 0 ∧ win0_3.index t (1 : Fin 2) = 0
    ∧ win0_4.index t (0 : Fin 2) = 0 ∧ win0_4.index t (1 : Fin 2) = 0 ∧ win0_5.index t (0 : Fin 2) = 0 ∧ win0_5.index t (1 : Fin 2) = 0
    ∧ win0_6.index t (0 : Fin 3) = 0 ∧ win0_6.index t (1 : Fin 3) = 0 ∧ win0_6.index t (2 : Fin 3) = 0 ∧ win0_7.index t (0 : Fin 3) = 0
    ∧ win0_7.index t (1 : Fin 3) = 0 ∧ win0_7.index t (2 : Fin 3) = 0 ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

variable (t : Fin cfg0.N)

theorem row_lt (r : Fin 1024) : t.val * 1024 + r.val < 32768 := by
  have := t.isLt; have hN : cfg0.N = 32 := N_0; have := r.isLt; omega

theorem blk0 (r k : Fin 1024) : (iblk m c 0 t : Vec Ideal S1024x1024 .f32) (ix2 r k)
    = arg0 m c (ix3 ⟨(t.val * 1024 + r.val) / 2048, by have := row_lt t r; omega⟩ ⟨(t.val * 1024 + r.val) % 2048, by omega⟩ k) := by
  obtain ⟨e0, e1, -⟩ := idx_facts t
  have hr := row_lt t r
  show (V m c main_v0 : FVec Ideal S32768x1024 .f32) (((cfg0.win 0).blk t).view.emb (ix2 r k)) = _
  rw [show ((cfg0.win 0).blk t).view.emb (ix2 r k) = (ix2 ⟨t.val * 1024 + r.val, hr⟩ k : S32768x1024.Idx) from funext fun a => Fin.ext (match a with
    | ⟨0, _⟩ => by show win0_0.index t (0 : Fin 2) * 1024 + 1 * r.val = t.val * 1024 + r.val; omega
    | ⟨1, _⟩ => by show win0_0.index t (1 : Fin 2) * 1024 + 1 * k.val = k.val; omega), V0]
  pointwise

theorem blk1 (k : Fin 1024) : (iblk m c 1 t : Vec Ideal S1x1024 .f32) (ix2 0 k) = arg1 m c (ix2 0 k) := by
  obtain ⟨-, -, e0, e1, -⟩ := idx_facts t
  show (V m c main_v13 : FVec Ideal S1x1024 .f32) (((cfg0.win 1).blk t).view.emb (ix2 0 k)) = _
  rw [show ((cfg0.win 1).blk t).view.emb (ix2 0 k) = (ix2 0 k : S1x1024.Idx) from funext fun a => Fin.ext (match a with
    | ⟨0, _⟩ => by show win0_1.index t (0 : Fin 2) * 1 + 1 * 0 = 0; omega
    | ⟨1, _⟩ => by show win0_1.index t (1 : Fin 2) * 1024 + 1 * k.val = k.val; omega), V13]
  pointwise

theorem blk2 (k : Fin 1024) (f : Fin 2048) : (iblk m c 2 t : Vec Ideal S1024x2048 .bf16) (ix2 k f) = arg2 m c (ix3 0 k f) := by
  obtain ⟨-, -, -, -, e0, e1, -⟩ := idx_facts t
  show (V m c main_v3 : FVec Ideal S1024x2048 .bf16) (((cfg0.win 2).blk t).view.emb (ix2 k f)) = _
  rw [show ((cfg0.win 2).blk t).view.emb (ix2 k f) = (ix2 k f : S1024x2048.Idx) from funext fun a => Fin.ext (match a with
    | ⟨0, _⟩ => by show win0_2.index t (0 : Fin 2) * 1024 + 1 * k.val = k.val; omega
    | ⟨1, _⟩ => by show win0_2.index t (1 : Fin 2) * 2048 + 1 * f.val = f.val; omega), V3]
  pointwise

theorem blk3 (k : Fin 2048) : (iblk m c 3 t : Vec Ideal S1x2048 .f32) (ix2 0 k) = arg3 m c (ix2 0 k) := by
  obtain ⟨-, -, -, -, -, -, e0, e1, -⟩ := idx_facts t
  show (V m c main_v14 : FVec Ideal S1x2048 .f32) (((cfg0.win 3).blk t).view.emb (ix2 0 k)) = _
  rw [show ((cfg0.win 3).blk t).view.emb (ix2 0 k) = (ix2 0 k : S1x2048.Idx) from funext fun a => Fin.ext (match a with
    | ⟨0, _⟩ => by show win0_3.index t (0 : Fin 2) * 1 + 1 * 0 = 0; omega
    | ⟨1, _⟩ => by show win0_3.index t (1 : Fin 2) * 2048 + 1 * k.val = k.val; omega), V14]
  pointwise

theorem blk4 (k : Fin 1024) : (iblk m c 4 t : Vec Ideal S1x1024 .f32) (ix2 0 k) = arg4 m c (ix2 0 k) := by
  obtain ⟨-, -, -, -, -, -, -, -, e0, e1, -⟩ := idx_facts t
  show (V m c main_v15 : FVec Ideal S1x1024 .f32) (((cfg0.win 4).blk t).view.emb (ix2 0 k)) = _
  rw [show ((cfg0.win 4).blk t).view.emb (ix2 0 k) = (ix2 0 k : S1x1024.Idx) from funext fun a => Fin.ext (match a with
    | ⟨0, _⟩ => by show win0_4.index t (0 : Fin 2) * 1 + 1 * 0 = 0; omega
    | ⟨1, _⟩ => by show win0_4.index t (1 : Fin 2) * 1024 + 1 * k.val = k.val; omega), V15]
  pointwise

theorem blk5 (k : Fin 1024) : (iblk m c 5 t : Vec Ideal S1x1024 .f32) (ix2 0 k) = arg5 m c (ix2 0 k) := by
  obtain ⟨-, -, -, -, -, -, -, -, -, -, e0, e1, -⟩ := idx_facts t
  show (V m c main_v16 : FVec Ideal S1x1024 .f32) (((cfg0.win 5).blk t).view.emb (ix2 0 k)) = _
  rw [show ((cfg0.win 5).blk t).view.emb (ix2 0 k) = (ix2 0 k : S1x1024.Idx) from funext fun a => Fin.ext (match a with
    | ⟨0, _⟩ => by show win0_5.index t (0 : Fin 2) * 1 + 1 * 0 = 0; omega
    | ⟨1, _⟩ => by show win0_5.index t (1 : Fin 2) * 1024 + 1 * k.val = k.val; omega), V16]
  pointwise

theorem blk6 (g : Fin 8) (k : Fin 128) (f : Fin 128) : (iblk m c 6 t : Vec Ideal S8x128x128 .f32) (ix3 g k f) = arg6 m c (ix4 0 g k f) := by
  obtain ⟨-, -, -, -, -, -, -, -, -, -, -, -, e0, e1, e2, -⟩ := idx_facts t
  show (V m c main_v7 : FVec Ideal S8x128x128 .f32) (((cfg0.win 6).blk t).view.emb (ix3 g k f)) = _
  rw [show ((cfg0.win 6).blk t).view.emb (ix3 g k f) = (ix3 g k f : S8x128x128.Idx) from funext fun a => Fin.ext (match a with
    | ⟨0, _⟩ => by show win0_6.index t (0 : Fin 3) * 8 + 1 * g.val = g.val; omega
    | ⟨1, _⟩ => by show win0_6.index t (1 : Fin 3) * 128 + 1 * k.val = k.val; omega
    | ⟨2, _⟩ => by show win0_6.index t (2 : Fin 3) * 128 + 1 * f.val = f.val; omega), V7]
  pointwise

theorem blk7 (g : Fin 8) (k : Fin 128) (f : Fin 128) : (iblk m c 7 t : Vec Ideal S8x128x128 .f32) (ix3 g k f) = arg7 m c (ix3 0 g k) := by
  obtain ⟨-, -, -, -, -, -, -, -, -, -, -, -, -, -, -, e0, e1, e2, -⟩ := idx_facts t
  show (V m c main_v12 : FVec Ideal S8x128x128 .f32) (((cfg0.win 7).blk t).view.emb (ix3 g k f)) = _
  rw [show ((cfg0.win 7).blk t).view.emb (ix3 g k f) = (ix3 g k f : S8x128x128.Idx) from funext fun a => Fin.ext (match a with
    | ⟨0, _⟩ => by show win0_7.index t (0 : Fin 3) * 8 + 1 * g.val = g.val; omega
    | ⟨1, _⟩ => by show win0_7.index t (1 : Fin 3) * 128 + 1 * k.val = k.val; omega
    | ⟨2, _⟩ => by show win0_7.index t (2 : Fin 3) * 128 + 1 * f.val = f.val; omega), V12]
  pointwise

theorem blk8 (k : Fin 1024) (f : Fin 1024) : (iblk m c 8 t : Vec Ideal S1024x1024 .bf16) (ix2 k f) = arg8 m c (ix3 0 k f) := by
  obtain ⟨-, -, -, -, -, -, -, -, -, -, -, -, -, -, -, -, -, -, e0, e1, -⟩ := idx_facts t
  show (V m c main_v10 : FVec Ideal S1024x1024 .bf16) (((cfg0.win 8).blk t).view.emb (ix2 k f)) = _
  rw [show ((cfg0.win 8).blk t).view.emb (ix2 k f) = (ix2 k f : S1024x1024.Idx) from funext fun a => Fin.ext (match a with
    | ⟨0, _⟩ => by show win0_8.index t (0 : Fin 2) * 1024 + 1 * k.val = k.val; omega
    | ⟨1, _⟩ => by show win0_8.index t (1 : Fin 2) * 1024 + 1 * f.val = f.val; omega), V10]
  pointwise

/-- THE RESULT ARRAY AT AN INDEX: the spatial gating block on the row's chunk of 128 rows. -/
theorem result_apply (r : Fin 32768) (l : Fin 1024) : ((dats m 0 c).arrAt 9 cfg0.N : FVec Ideal S32768x1024 .f32) (ix2 r l)
    = spatial (fun s k => arg0 m c (ix3 ⟨r.val / 2048, by have := r.isLt; omega⟩ ⟨r.val % 2048 / 128 * 128 + s.val, by have := s.isLt; omega⟩ k))
        (fun k => arg1 m c (ix2 0 k)) (fun k l => arg2 m c (ix3 0 k l)) (fun l => arg3 m c (ix2 0 l)) (fun k => arg4 m c (ix2 0 k))
        (fun k => arg5 m c (ix2 0 k)) (fun g t s => arg6 m c (ix4 0 g t s)) (fun g t => arg7 m c (ix3 0 g t)) (fun k l => arg8 m c (ix3 0 k l))
        ⟨r.val % 128, by omega⟩ l := by
  have hN : cfg0.N = 32 := N_0
  obtain ⟨t, q, hq⟩ : ∃ (t : Fin cfg0.N) (q : Fin 1024), r.val = t.val * 1024 + q.val :=
    ⟨⟨r.val / 1024, by have := r.isLt; omega⟩, ⟨r.val % 1024, by omega⟩, by show r.val = r.val / 1024 * 1024 + r.val % 1024; omega⟩
  obtain rfl : r = ⟨t.val * 1024 + q.val, row_lt t q⟩ := Fin.ext hq
  obtain ⟨-, -, -, -, -, -, -, -, -, -, -, -, -, -, -, -, -, -, -, -, e0, e1⟩ := idx_facts t
  have b := congrFun (KernelIdeal.Value.blocks9 m c t (flush0_9 t)) (ix2 q l)
  rw [KernelIdeal.Value.flushed9_A, out_apply] at b
  have b' : ((dats m 0 c).arrAt 9 cfg0.N : FVec Ideal S32768x1024 .f32) (((cfg0.win 9).blk t).view.emb (ix2 q l))
    = val (iblk m c 0 t) (iblk m c 1 t) (iblk m c 2 t) (iblk m c 3 t) (iblk m c 4 t) (iblk m c 5 t) (iblk m c 6 t) (iblk m c 7 t)
        (iblk m c 8 t) (ix2 q l) := b
  rw [show ((cfg0.win 9).blk t).view.emb (ix2 q l) = (ix2 ⟨t.val * 1024 + q.val, row_lt t q⟩ l : S32768x1024.Idx) from funext fun a => Fin.ext (match a with
    | ⟨0, _⟩ => by show win0_9.index t (0 : Fin 2) * 1024 + 1 * q.val = t.val * 1024 + q.val; omega
    | ⟨1, _⟩ => by show win0_9.index t (1 : Fin 2) * 1024 + 1 * l.val = l.val; omega)] at b'
  have hq := q.isLt
  have own : ∀ k, (iblk m c 0 t : Vec Ideal S1024x1024 .f32) (ix2 q k) = arg0 m c (ix3 ⟨(t.val * 1024 + q.val) / 2048, by have := row_lt t q; omega⟩
      ⟨(t.val * 1024 + q.val) % 2048 / 128 * 128 + (t.val * 1024 + q.val) % 128, by omega⟩ k) := fun k =>
    (blk0 m c t q k).trans (congrArg (fun s => arg0 m c (ix3 _ s k)) (Fin.ext (by
      show (t.val * 1024 + q.val) % 2048 = (t.val * 1024 + q.val) % 2048 / 128 * 128 + (t.val * 1024 + q.val) % 128; omega)))
  have other : ∀ s k, (iblk m c 0 t : Vec Ideal S1024x1024 .f32) (ix2 (peer q s) k) = arg0 m c (ix3 ⟨(t.val * 1024 + q.val) / 2048, by have := row_lt t q; omega⟩
      ⟨(t.val * 1024 + q.val) % 2048 / 128 * 128 + s.val, by have := s.isLt; omega⟩ k) := fun s k =>
    (blk0 m c t (peer q s) k).trans (congrArg (arg0 m c) (congr (congr (congrArg ix3 (Fin.ext (by
        have := s.isLt; show (t.val * 1024 + (q.val / 128 * 128 + s.val)) / 2048 = (t.val * 1024 + q.val) / 2048; omega)))
      (Fin.ext (by have := s.isLt; show (t.val * 1024 + (q.val / 128 * 128 + s.val)) % 2048 = (t.val * 1024 + q.val) % 2048 / 128 * 128 + s.val; omega))) rfl))
  have turn : lane q = ⟨(t.val * 1024 + q.val) % 128, by omega⟩ := Fin.ext (by show q.val % 128 = (t.val * 1024 + q.val) % 128; omega)
  rw [b']
  unfold val spatial
  simp only [ix2_0, ix2_1, gates, values, own, other, turn, blk1, blk2, blk3, blk4, blk5, blk6, blk7, blk8]

end Cert.Spatial

end
-- ==== Proof.Spatial.Reference.lean ====
/- The spatial gating reference's result, row by row, as a function of its arguments. -/
module

public import proofs.«01_k».proof.Proof.Rows
public import proofs.«01_k».proof.Proof.Gen.ReferenceIdeal.Read

@[expose] public section

noncomputable section

namespace Cert.Spatial

open Cert.ReferenceIdeal Cert.ReferenceIdeal.Value Cert.ReferenceIdeal.Gen Idealize.ShloMosaic Idealize.ShloMosaic.TcCoe Idealize.SL.Sem
open Idealize.ShloMosaic.Pointwise Cert.Rows

open Cert.ReferenceIdeal.Read

section

variable (x0 : FVec Ideal S16x2048x1024 .f32) (x1 : FVec Ideal S1x1024 .f32) (x2 : FVec Ideal S1x1024x2048 .f32) (x3 : FVec Ideal S1x2048 .f32)
  (x4 x5 : FVec Ideal S1x1024 .f32) (x6 : FVec Ideal S1x8x128x128 .f32) (x7 : FVec Ideal S1x8x128 .f32) (x8 : FVec Ideal S1x1024x1024 .f32)
  (b : Fin 16) (s : Fin 2048)

/-- The norm at an index. -/
theorem ref_norm (k : Fin 1024) : val_main_v13 (F := Ideal) x0 x1 (ix3 b s k) = rms (fun k => x0 (ix3 b s k)) (fun k => x1 (ix2 0 k)) k := by
  pointwise [val_main_v13, val_main_v12, val_main_v11, val_main_v10, val_main_v9, val_main_v8, val_main_v7, val_main_v6,
    val_main_cst_1, val_main_v5, val_main_v4, val_main_cst_0, val_main_v3, val_main_v2, val_main_cst, val_main_v1, val_main_v0]
  rfl

/-- The input projection at an index. -/
theorem ref_dense (f : Fin 2048) : val_main_v19 (F := Ideal) x0 x1 x2 x3 (ix3 b s f)
    = ∑ k, val_main_v13 (F := Ideal) x0 x1 (ix3 b s k) * x2 (ix3 0 k f) + x3 (ix2 0 f) := by
  pointwise [val_main_v19, val_main_v18, val_main_v17, val_main_v16, val_main_v15, val_main_v14]

/-- The Gaussian unit at an index. -/
theorem ref_gelu (f : Fin 2048) : val_main_v26 (F := Ideal) x0 x1 x2 x3 (ix3 b s f) = gelu (val_main_v19 (F := Ideal) x0 x1 x2 x3 (ix3 b s f)) := by
  pointwise [val_main_v26, val_main_v25, val_main_v24, val_main_v23, val_main_cst_3, val_main_v22, val_main_v21, val_main_v20, val_main_cst_2]
  rw [gelu, ← Ideal.erfc_neg, EReal.neg_mul]

/-- The gated half at an index. -/
theorem ref_gates (l : Fin 1024) : val_main_v27 (F := Ideal) x0 x1 x2 x3 (ix3 b s l)
    = gatedRow (fun k => x0 (ix3 b s k)) (fun k => x1 (ix2 0 k)) (fun k l => x2 (ix3 0 k l)) (fun l => x3 (ix2 0 l)) l := by
  pointwise [val_main_v27]
  simp only [ref_gelu, ref_dense, ref_norm]
  simp only [gatedRow, dense, lanes, shift, Nat.zero_add]

/-- The other half before its norm, at an index. -/
theorem ref_half (l : Fin 1024) : val_main_v28 (F := Ideal) x0 x1 x2 x3 (ix3 b s l)
    = gelu (dense (rms (fun k => x0 (ix3 b s k)) (fun k => x1 (ix2 0 k))) (lanes 1024 (by decide) (fun k l => x2 (ix3 0 k l)))
        (shift 1024 (by decide) (fun l => x3 (ix2 0 l))) l) := by
  pointwise [val_main_v28]
  simp only [ref_gelu, ref_dense, ref_norm]
  rfl

/-- The layer norm of the other half at an index. -/
theorem ref_lnorm (l : Fin 1024) : val_main_v52 (F := Ideal) x0 x1 x2 x3 x4 x5 (ix3 b s l)
    = lnorm (fun l => val_main_v28 (F := Ideal) x0 x1 x2 x3 (ix3 b s l)) (fun k => x4 (ix2 0 k)) (fun k => x5 (ix2 0 k)) l := by
  pointwise [val_main_v52, val_main_v51, val_main_v50, val_main_v49, val_main_v48, val_main_v47, val_main_v46, val_main_v45, val_main_v44,
    val_main_v43, val_main_v42, val_main_cst_8, val_main_v41, val_main_v40, val_main_cst_7, val_main_v39, val_main_v38, val_main_cst_6,
    val_main_v37, val_main_v36, val_main_v35, val_main_v34, val_main_v33, val_main_cst_5, val_main_v32, val_main_v31, val_main_cst_4,
    val_main_v30, val_main_v29]
  rfl

/-- The values at an index. -/
theorem ref_values (l : Fin 1024) : val_main_v52 (F := Ideal) x0 x1 x2 x3 x4 x5 (ix3 b s l)
    = valueRow (fun k => x0 (ix3 b s k)) (fun k => x1 (ix2 0 k)) (fun k l => x2 (ix3 0 k l)) (fun l => x3 (ix2 0 l))
      (fun k => x4 (ix2 0 k)) (fun k => x5 (ix2 0 k)) l := by
  rw [ref_lnorm]
  simp only [ref_half]
  rfl

/-- The weights with what lies above the diagonal cut, at an index. -/
theorem ref_cut (g : Fin 8) (t p : Fin 128) : val_main_v58 (F := Ideal) x6 (ix3 g t p) = tri (fun t s => x6 (ix4 0 g t s)) t p := by
  pointwise [val_main_v58, val_main_call1_v1, val_main_v57, val_main_call1_v2, val_main_call1_v0, val_main_cst_9, val_main_v56,
    val_main_v55, val_main_call0_v4, val_main_call0_v2, val_main_call0_v0, val_main_call0_v1, val_main_call0_c, val_main_call0_v3,
    val_main_v54, val_main_c, val_main_call0_v5, val_main_call0_c_0]
  unfold Scalar.select IntOp.cmpi IntOp.addi tri
  simp only [BitVec.add_zero, word_le]
  by_cases h : p.val ≤ t.val
  · simp [h]
  · simp [h]
    exact Ideal.ofBits_zero .f32

/-- A row's column as the mixing sees it: batch, chunk, row of the chunk, group, column of the group. -/
theorem split_eq (l : Fin 1024) : idx_main_v66 (ix3 b s l) = ix5 b ⟨s.val / 128, by have := s.isLt; omega⟩ ⟨s.val % 128, by omega⟩ (grp l) (lane l) := by
  have hb := b.isLt
  have hs := s.isLt
  have hl := l.isLt
  refine funext fun a => Fin.ext ?_
  match a with
  | ⟨0, _⟩ => show ((b.val * 2048 + s.val) * 1024 + l.val) / 2097152 = b.val; omega
  | ⟨1, _⟩ => show ((b.val * 2048 + s.val) * 1024 + l.val) / 131072 % 16 = s.val / 128; omega
  | ⟨2, _⟩ => show ((b.val * 2048 + s.val) * 1024 + l.val) / 1024 % 128 = s.val % 128; omega
  | ⟨3, _⟩ => show ((b.val * 2048 + s.val) * 1024 + l.val) / 128 % 8 = l.val / 128; omega
  | ⟨4, _⟩ => show ((b.val * 2048 + s.val) * 1024 + l.val) % 128 = l.val % 128; omega

/-- The values as the mixing reads them. -/
theorem ref_chunk (n : Fin 16) (p : Fin 128) (l : Fin 1024) : val_main_v53 (F := Ideal) x0 x1 x2 x3 x4 x5 (ix5 b n p (grp l) (lane l))
    = val_main_v52 (F := Ideal) x0 x1 x2 x3 x4 x5 (ix3 b ⟨n.val * 128 + p.val, by have := n.isLt; have := p.isLt; omega⟩ l) := by
  have hb := b.isLt
  have hn := n.isLt
  have hp := p.isLt
  have hl := l.isLt
  rw [val_main_v53_apply]
  refine congrArg _ (funext fun a => Fin.ext ?_)
  match a with
  | ⟨0, _⟩ => show ((((b.val * 16 + n.val) * 128 + p.val) * 8 + l.val / 128) * 128 + l.val % 128) / 2097152 = b.val; omega
  | ⟨1, _⟩ => show ((((b.val * 16 + n.val) * 128 + p.val) * 8 + l.val / 128) * 128 + l.val % 128) / 1024 % 2048 = n.val * 128 + p.val; omega
  | ⟨2, _⟩ => show ((((b.val * 16 + n.val) * 128 + p.val) * 8 + l.val / 128) * 128 + l.val % 128) % 1024 = l.val; omega

/-- The mixed values plus the bias at an index. -/
theorem ref_mix (l : Fin 1024) : val_main_v66 (F := Ideal) x0 x1 x2 x3 x4 x5 x6 x7 (ix3 b s l)
    = ∑ p, tri (fun t s => x6 (ix4 0 (grp l) t s)) ⟨s.val % 128, by omega⟩ p
        * val_main_v52 (F := Ideal) x0 x1 x2 x3 x4 x5 (ix3 b ⟨s.val / 128 * 128 + p.val, by have := s.isLt; have := p.isLt; omega⟩ l)
      + x7 (ix3 0 (grp l) ⟨s.val % 128, by omega⟩) := by
  rw [val_main_v66_apply, split_eq, val_main_v65_apply, val_main_v60_apply, val_main_v59_apply, Ideal.addf_def]
  refine congr (congrArg HAdd.hAdd (Finset.sum_congr rfl fun p _ => ?_)) ?_
  · rw [mul_comm]
    refine congr (congrArg HMul.hMul ((congrArg _ (funext fun a => ?_)).trans (ref_cut x6 (grp l) ⟨s.val % 128, by omega⟩ p)))
      ((congrArg _ (funext fun a => ?_)).trans (ref_chunk x0 x1 x2 x3 x4 x5 b ⟨s.val / 128, by have := s.isLt; omega⟩ p l))
    · match a with
      | ⟨0, _⟩ => rfl
      | ⟨1, _⟩ => rfl
      | ⟨2, _⟩ => rfl
    · match a with
      | ⟨0, _⟩ => rfl
      | ⟨1, _⟩ => rfl
      | ⟨2, _⟩ => rfl
      | ⟨3, _⟩ => rfl
      | ⟨4, _⟩ => rfl
  · rw [val_main_v64_apply, val_main_v63_apply, val_main_v62_apply]
    have e : idx_main_v62 (idx_main_v63 (idx_main_v64 (ix5 b ⟨s.val / 128, by have := s.isLt; omega⟩ ⟨s.val % 128, by omega⟩ (grp l) (lane l))))
        = ix2 (grp l) ⟨s.val % 128, by omega⟩ := funext fun a => match a with
      | ⟨0, _⟩ => rfl
      | ⟨1, _⟩ => rfl
    rw [e]
    pointwise [val_main_v61]

/-- The output projection at an index. -/
theorem ref_out (l : Fin 1024) : val_main_v70 (F := Ideal) x0 x1 x2 x3 x4 x5 x6 x7 x8 (ix3 b s l) = x0 (ix3 b s l)
    + ∑ c, val_main_v27 (F := Ideal) x0 x1 x2 x3 (ix3 b s c) * val_main_v66 (F := Ideal) x0 x1 x2 x3 x4 x5 x6 x7 (ix3 b s c) * x8 (ix3 0 c l) := by
  pointwise [val_main_v70, val_main_v69, val_main_v68, val_main_v67]

/-- The result at an index: the spatial gating block on the row's chunk. -/
theorem ref_apply (r : Fin 32768) (l : Fin 1024) : val_main_v71 (F := Ideal) x0 x1 x2 x3 x4 x5 x6 x7 x8 (ix2 r l)
    = spatial (fun s k => x0 (ix3 ⟨r.val / 2048, by have := r.isLt; omega⟩ ⟨r.val % 2048 / 128 * 128 + s.val, by have := s.isLt; omega⟩ k))
        (fun k => x1 (ix2 0 k)) (fun k l => x2 (ix3 0 k l)) (fun l => x3 (ix2 0 l)) (fun k => x4 (ix2 0 k))
        (fun k => x5 (ix2 0 k)) (fun g t s => x6 (ix4 0 g t s)) (fun g t => x7 (ix3 0 g t)) (fun k l => x8 (ix3 0 k l))
        ⟨r.val % 128, by omega⟩ l := by
  have h : val_main_v71 (F := Ideal) x0 x1 x2 x3 x4 x5 x6 x7 x8 (ix2 r l)
      = val_main_v70 (F := Ideal) x0 x1 x2 x3 x4 x5 x6 x7 x8 (ix3 ⟨r.val / 2048, by have := r.isLt; omega⟩ ⟨r.val % 2048, by omega⟩ l) := by
    pointwise [val_main_v71]
  have hr := r.isLt
  have own : (⟨r.val % 2048 / 128 * 128 + r.val % 128, by omega⟩ : Fin 2048) = ⟨r.val % 2048, by omega⟩ :=
    Fin.ext (by show r.val % 2048 / 128 * 128 + r.val % 128 = r.val % 2048; omega)
  have turn : (⟨r.val % 2048 % 128, by omega⟩ : Fin 128) = ⟨r.val % 128, by omega⟩ :=
    Fin.ext (by show r.val % 2048 % 128 = r.val % 128; omega)
  rw [h, ref_out]
  unfold spatial
  simp only [ref_gates, ref_mix, ref_values, own, turn]

end

end Cert.Spatial

end
-- ==== Proof.Spatial.Claims.lean ====
/- The spatial gating pair's claims: the reference's frame and the equality of the two results over the extended reals. -/
module

public import proofs.«01_k».proof.Defs
public import proofs.«01_k».proof.Proof.Spatial.Array
public import proofs.«01_k».proof.Proof.Spatial.Reference

@[expose] public section

noncomputable section

namespace Cert.Spatial

open Idealize.ShloMosaic Idealize.ShloMosaic.TcCoe Idealize.SL.Sem Idealize.ShloMosaic.Pointwise

/-- The reference runs, keeps its arguments and has no semaphore. -/
theorem frame_ref : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- The kernel's result array is the reference's result of the same arguments. -/
theorem result_eq (m : (ℓ : Loc Cert.KernelIdeal.nD Cert.KernelIdeal.τ Cert.KernelIdeal.sig) → Buf (Elt Ideal) ℓ)
    (c : Dev Cert.KernelIdeal.nD) :
    ((Cert.KernelIdeal.Gen.dats m 0 c).arrAt 9 Cert.KernelIdeal.cfg0.N : FVec Ideal Cert.KernelIdeal.S32768x1024 .f32)
      = Cert.ReferenceIdeal.Read.val_main_v71 (F := Ideal) (arg0 m c) (arg1 m c) (arg2 m c) (arg3 m c) (arg4 m c) (arg5 m c) (arg6 m c) (arg7 m c) (arg8 m c) := by
  funext i
  obtain ⟨r, l, rfl⟩ : ∃ (r : Fin 32768) (l : Fin 1024), i = ix2 r l := ⟨i 0, i 1, eq_ix2 i⟩
  exact (result_apply m c r l).trans (ref_apply (arg0 m c) (arg1 m c) (arg2 m c) (arg3 m c) (arg4 m c) (arg5 m c) (arg6 m c) (arg7 m c) (arg8 m c) r l).symm

/-- From the same arguments both programs end with equal results. -/
theorem algebraic : Cert.algebraic_KernelIdeal_ReferenceIdeal := by
  intro m ρ m' ρ' _ hagree
  refine ⟨fun c => Cert.ReferenceIdeal.Read.val_main_v71 (F := Ideal) (arg0 m c) (arg1 m c) (arg2 m c) (arg3 m c) (arg4 m c) (arg5 m c) (arg6 m c) (arg7 m c) (arg8 m c), ?_, ?_⟩
  · exact (θ_run Cert.KernelIdeal.defs _ _).mono (fun _ h c => ⟨(h c).1.trans (result_eq m c), (h c).2⟩)
      (Cert.KernelIdeal.Value.run_blocks m ρ)
  · refine (θ_run Cert.ReferenceIdeal.defs _ _).mono (fun _ h c => ⟨((h c).1.trans (Cert.ReferenceIdeal.Read.val_main_v71_eq m' c)).trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]

end Cert.Spatial

end
-- ==== Proof.Staged.Block.lean ====
/- What one grid point of the first feed-forward kernel leaves: its block of 1024 rows, row by row the function `Rows.ffn`, and its
   rows of the four weights that it stages for the next calls. -/
module

public import proofs.«01_k».proof.Proof.Mlp.Block
public import proofs.«01_k».proof.Proof.Gen.Kernel3Ideal.Value

@[expose] public section

noncomputable section

namespace Cert.Staged

open Cert.Kernel3Ideal Cert.Kernel3Ideal.Gen Idealize.ShloMosaic Idealize.ShloMosaic.TcCoe Idealize.SL.Sem
open Idealize.ShloMosaic.Pointwise Cert.Rows
open Cert.Mlp (hz unit cols rows band band_apply acc acc_apply normed_apply chunk_apply c7 r7 emb_band)

theorem hz3 : (![0, 0, 0] : Fin 3 → Nat) = fun _ => 0 := by funext a; fin_cases a <;> rfl

section Payloads

variable (x : Vec Ideal S1024x1024 .f32) (g : Vec Ideal S1x1024 .f32) (w1 : Vec Ideal S1024x4096 .bf16) (w2 : Vec Ideal S4096x1024 .bf16)

/-- The normed block. -/
def normed : Vec Ideal S1024x1024 .bf16 := k0_pay9 (k0_pay6 x) (k0_pay7 g) (k0_pay8 x)

/-- It is the last feed-forward kernel's. -/
theorem normed_eq : normed x g = Cert.Kernel2Ideal.Gen.k0_pay3 x g := rfl

/-- The accumulator after the first seven chunks is the last feed-forward kernel's too. -/
theorem acc_eq : k0_pay19 (k0_pay18 (k0_pay16 (k0_pay15 (k0_pay13 (k0_pay12 (k0_pay10 (normed x g)
    (cols w1 0 inb_S1024x4096_S1024x512_0_0) (rows w2 0 inb_S4096x1024_S512x1024_0_0)) (k0_pay11 (normed x g)
    (cols w1 512 inb_S1024x4096_S1024x512_0_512) (rows w2 512 inb_S4096x1024_S512x1024_512_0))) (normed x g)
    (cols w1 1024 inb_S1024x4096_S1024x512_0_1024) (rows w2 1024 inb_S4096x1024_S512x1024_1024_0)) (k0_pay14 (normed x g)
    (cols w1 1536 inb_S1024x4096_S1024x512_0_1536) (rows w2 1536 inb_S4096x1024_S512x1024_1536_0))) (normed x g)
    (cols w1 2048 inb_S1024x4096_S1024x512_0_2048) (rows w2 2048 inb_S4096x1024_S512x1024_2048_0)) (k0_pay17 (normed x g)
    (cols w1 2560 inb_S1024x4096_S1024x512_0_2560) (rows w2 2560 inb_S4096x1024_S512x1024_2560_0))) (normed x g)
    (cols w1 3072 inb_S1024x4096_S1024x512_0_3072) (rows w2 3072 inb_S4096x1024_S512x1024_3072_0) = acc x g w1 w2 := rfl

/-- The block's value at an index, row by row. -/
def val (i : S1024x1024.Idx) : EReal :=
  ffn (fun k => x (ix2 (i 0) k)) (fun k => g (ix2 0 k)) (fun k f => w1 (ix2 k f)) (fun f k => w2 (ix2 f k)) (i 1)

/-- An entry of the value from the accumulator and the last chunk. -/
theorem val_tail (r l : Fin 1024) : val x g w1 w2 (ix2 r l) = x (ix2 r l) + (acc x g w1 w2 (ix2 r l)
    + part (unit x g w1 w2 r l) 3584 (by decide)) := by
  rw [acc_apply, ← sum_parts]
  rfl

/-- The last step of a band from row `o`: the rows, the accumulator's rows and the last chunk's product. -/
def tail (xn : Vec Ideal S1024x1024 .bf16) (c : Vec Ideal S1024x512 .bf16) (w : Vec Ideal S512x1024 .bf16)
    (hb ab : Vec Ideal S256x1024 .f32) (o : ℕ) (ho : o + 256 ≤ 1024) (r : Fin 256) (l : Fin 1024) : EReal :=
  hb (ix2 r l) + (ab (ix2 r l) + ∑ f : Fin 512,
    sqrelu (fun k => xn (ix2 ⟨o + r.val, by have := r.isLt; omega⟩ k)) (fun k => c (ix2 k f)) * w (ix2 f l))

/-- Over the block's own rows it is the value's row. -/
theorem tail_eq (o : ℕ) (h) (ho : o + 256 ≤ 1024) (r : Fin 256) (l : Fin 1024) :
    tail (normed x g) (c7 w1) (r7 w2) (band o h x) (band o h (acc x g w1 w2)) o ho r l
      = val x g w1 w2 (ix2 ⟨o + r.val, by have := r.isLt; omega⟩ l) := by
  rw [val_tail, normed_eq]
  unfold tail
  rw [band_apply o h ho, band_apply o h ho]
  simp only [normed_apply, sqrelu, chunk_apply x g w1 w2 3584 _ _ (by decide)]

variable (xn : Vec Ideal S1024x1024 .bf16) (c : Vec Ideal S1024x512 .bf16) (w : Vec Ideal S512x1024 .bf16)
  (hb ab : Vec Ideal S256x1024 .f32) (r : Fin 256) (l : Fin 1024)

theorem store0 : k0_pay23 (k0_pay21 hb) ab (k0_pay22 xn c) w (ix2 r l) = tail xn c w hb ab 0 (by decide) r l := by
  pointwise [k0_pay23, k0_pay22, k0_pay21, k0_pay20, tail]
  simp only [sqrelu]

theorem store1 : k0_pay24 (k0_pay20 xn c) hb ab w (ix2 r l) = tail xn c w hb ab 256 (by decide) r l := by
  pointwise [k0_pay24, k0_pay20, tail]
  simp only [sqrelu]

theorem store2 : k0_pay25 (k0_pay20 xn c) hb ab w (ix2 r l) = tail xn c w hb ab 512 (by decide) r l := by
  pointwise [k0_pay25, k0_pay20, tail]
  simp only [sqrelu]

theorem store3 : k0_pay1 (k0_pay26 hb) ab (k0_pay27 (k0_pay20 xn c)) w (ix2 r l) = tail xn c w hb ab 768 (by decide) r l := by
  pointwise [k0_pay1, k0_pay26, k0_pay27, k0_pay20, tail]
  simp only [sqrelu]

end Payloads

section Point

variable (c : Dev nD) (i : grid0.Coords)
  (m1 : Memref sig .tc .vmem S1024x1024 .f32) (h1 : m1.IsWhole) (m2 : Memref sig .tc .vmem S1x1024 .f32) (h2 : m2.IsWhole)
  (m3 : Memref sig .tc .vmem S1024x4096 .bf16) (h3 : m3.IsWhole) (m4 : Memref sig .tc .vmem S4096x1024 .bf16) (h4 : m4.IsWhole)
  (m5 : Memref sig .tc .vmem S1x32x2048 .f32) (h5 : m5.IsWhole) (m6 : Memref sig .tc .vmem S1x32x1024 .f32) (h6 : m6.IsWhole)
  (m7 : Memref sig .tc .vmem S1x32x4096 .f32) (h7 : m7.IsWhole) (m8 : Memref sig .tc .vmem S1x128x1024 .f32) (h8 : m8.IsWhole)
  (m9 : Memref sig .tc .vmem S1024x1024 .f32) (h9 : m9.IsWhole) (m10 : Memref sig .tc .vmem S32x2048 .bf16) (h10 : m10.IsWhole)
  (m11 : Memref sig .tc .vmem S32x1024 .bf16) (h11 : m11.IsWhole) (m12 : Memref sig .tc .vmem S32x4096 .bf16) (h12 : m12.IsWhole)
  (m13 : Memref sig .tc .vmem S128x1024 .bf16) (h13 : m13.IsWhole) (m14 : Memref sig .tc .vmem S1024x1024 .bf16) (h14 : m14.IsWhole)
  (m15 : Memref sig .tc .vmem S1024x1024 .f32) (h15 : m15.IsWhole)
  (x0 : Vec Ideal S1024x1024 .f32) (x1 : Vec Ideal S1x1024 .f32) (x2 : Vec Ideal S1024x4096 .bf16) (x3 : Vec Ideal S4096x1024 .bf16)
  (x4 : Vec Ideal S1x32x2048 .f32) (x5 : Vec Ideal S1x32x1024 .f32) (x6 : Vec Ideal S1x32x4096 .f32) (x7 : Vec Ideal S1x128x1024 .f32)

/-- WHAT A GRID POINT LEAVES in the first output's block: `val` of its input blocks. -/
theorem out8_apply : out0_A_8 c i m1 h1 m2 h2 m3 h3 m4 h4 m5 h5 m6 h6 m7 h7 m8 h8 m9 h9 m10 h10 m11 h11 m12 h12 m13 h13 m14 h14 m15 h15 x0 x1 x2 x3 x4 x5 x6 x7 = val x0 x1 x2 x3 := by
  have hc := cover0_A_8 c i m1 h1 m2 h2 m3 h3 m4 h4 m5 h5 m6 h6 m7 h7 m8 h8 m9 h9 m10 h10 m11 h11 m12 h12 m13 h13 m14 h14 m15 h15 x0 x1 x2 x3 x4 x5 x6 x7
  unfold out0_A_8
  rw [View.read_writes_eq_canon _ _ _ hc]
  funext y
  refine View.canon_apply_of_pieces (val x0 x1 x2 x3) _ ?_ y (hc y)
  unfold kernelRun0_A
  dsimp only
  sl_unfold_words
  simp only [View.readAt_eq_ld, h1.read_unread, h2.read_unread, h3.read_unread, h4.read_unread,
    View.ld_unit_zero (S := S1024x1024) hz, View.ld_unit_zero (S := S1x1024) hz, View.readCov_cons_toLoadRect]
  simp only [View.readCov_eq_canon', View.canon_cons_unit_zero (S := S1024x1024) hz]
  simp only [List.forall_mem_cons]
  refine ⟨?_, ?_, ?_, ?_, by simp⟩
  all_goals intro (p : S256x1024.Idx); obtain ⟨r, l, rfl⟩ : ∃ (r : Fin 256) (l : Fin 1024), p = ix2 r l := ⟨p 0, p 1, eq_ix2 p⟩
  · exact (store3 ..).trans ((tail_eq x0 x1 x2 x3 768 inb_S1024x1024_S256x1024_768_0 (by decide) r l).trans
      (congrArg _ (emb_band 768 _ (by decide) r l).symm))
  · exact (store2 ..).trans ((tail_eq x0 x1 x2 x3 512 inb_S1024x1024_S256x1024_512_0 (by decide) r l).trans
      (congrArg _ (emb_band 512 _ (by decide) r l).symm))
  · exact (store1 ..).trans ((tail_eq x0 x1 x2 x3 256 inb_S1024x1024_S256x1024_256_0 (by decide) r l).trans
      (congrArg _ (emb_band 256 _ (by decide) r l).symm))
  · exact (store0 ..).trans ((tail_eq x0 x1 x2 x3 0 inb_S1024x1024_S256x1024_0_0 (by decide) r l).trans
      (congrArg _ (emb_band 0 _ (by decide) r l).symm))

/-- … and in the block of the first staged weight: the rows it reads. -/
theorem out9_apply (r : Fin 32) (l : Fin 2048) : out0_A_9 c i m1 h1 m2 h2 m3 h3 m4 h4 m5 h5 m6 h6 m7 h7 m8 h8 m9 h9 m10 h10 m11 h11 m12 h12 m13 h13 m14 h14 m15 h15 x0 x1 x2 x3 x4 x5 x6 x7 (ix2 r l) = x4 (ix3 0 r l) := by
  have hc := cover0_A_9 c i m1 h1 m2 h2 m3 h3 m4 h4 m5 h5 m6 h6 m7 h7 m8 h8 m9 h9 m10 h10 m11 h11 m12 h12 m13 h13 m14 h14 m15 h15 x0 x1 x2 x3 x4 x5 x6 x7
  unfold out0_A_9
  rw [View.read_writes_eq_canon _ _ _ hc]
  unfold kernelRun0_A
  dsimp only
  sl_unfold_words
  rw [View.canon_cons_unit_zero (S := S32x2048) hz]
  simp only [View.readAt_eq_ld, h5.read_unread, View.ld_unit_zero (S := S1x32x2048) hz3]
  pointwise [k0_pay2]

/-- … and in the block of the second staged weight: the rows it reads. -/
theorem out10_apply (r : Fin 32) (l : Fin 1024) : out0_A_10 c i m1 h1 m2 h2 m3 h3 m4 h4 m5 h5 m6 h6 m7 h7 m8 h8 m9 h9 m10 h10 m11 h11 m12 h12 m13 h13 m14 h14 m15 h15 x0 x1 x2 x3 x4 x5 x6 x7 (ix2 r l) = x5 (ix3 0 r l) := by
  have hc := cover0_A_10 c i m1 h1 m2 h2 m3 h3 m4 h4 m5 h5 m6 h6 m7 h7 m8 h8 m9 h9 m10 h10 m11 h11 m12 h12 m13 h13 m14 h14 m15 h15 x0 x1 x2 x3 x4 x5 x6 x7
  unfold out0_A_10
  rw [View.read_writes_eq_canon _ _ _ hc]
  unfold kernelRun0_A
  dsimp only
  sl_unfold_words
  rw [View.canon_cons_unit_zero (S := S32x1024) hz]
  simp only [View.readAt_eq_ld, h6.read_unread, View.ld_unit_zero (S := S1x32x1024) hz3]
  pointwise [k0_pay3]

/-- … and in the block of the third staged weight: the rows it reads. -/
theorem out11_apply (r : Fin 32) (l : Fin 4096) : out0_A_11 c i m1 h1 m2 h2 m3 h3 m4 h4 m5 h5 m6 h6 m7 h7 m8 h8 m9 h9 m10 h10 m11 h11 m12 h12 m13 h13 m14 h14 m15 h15 x0 x1 x2 x3 x4 x5 x6 x7 (ix2 r l) = x6 (ix3 0 r l) := by
  have hc := cover0_A_11 c i m1 h1 m2 h2 m3 h3 m4 h4 m5 h5 m6 h6 m7 h7 m8 h8 m9 h9 m10 h10 m11 h11 m12 h12 m13 h13 m14 h14 m15 h15 x0 x1 x2 x3 x4 x5 x6 x7
  unfold out0_A_11
  rw [View.read_writes_eq_canon _ _ _ hc]
  unfold kernelRun0_A
  dsimp only
  sl_unfold_words
  rw [View.canon_cons_unit_zero (S := S32x4096) hz]
  simp only [View.readAt_eq_ld, h7.read_unread, View.ld_unit_zero (S := S1x32x4096) hz3]
  pointwise [k0_pay4]

/-- … and in the block of the fourth staged weight: the rows it reads. -/
theorem out12_apply (r : Fin 128) (l : Fin 1024) : out0_A_12 c i m1 h1 m2 h2 m3 h3 m4 h4 m5 h5 m6 h6 m7 h7 m8 h8 m9 h9 m10 h10 m11 h11 m12 h12 m13 h13 m14 h14 m15 h15 x0 x1 x2 x3 x4 x5 x6 x7 (ix2 r l) = x7 (ix3 0 r l) := by
  have hc := cover0_A_12 c i m1 h1 m2 h2 m3 h3 m4 h4 m5 h5 m6 h6 m7 h7 m8 h8 m9 h9 m10 h10 m11 h11 m12 h12 m13 h13 m14 h14 m15 h15 x0 x1 x2 x3 x4 x5 x6 x7
  unfold out0_A_12
  rw [View.read_writes_eq_canon _ _ _ hc]
  unfold kernelRun0_A
  dsimp only
  sl_unfold_words
  rw [View.canon_cons_unit_zero (S := S128x1024) hz]
  simp only [View.readAt_eq_ld, h8.read_unread, View.ld_unit_zero (S := S1x128x1024) hz3]
  pointwise [k0_pay5]

end Point

end Cert.Staged

end
-- ==== Proof.Staged.Array.lean ====
/- The first feed-forward kernel's result arrays as functions of its arguments. -/
module

public import proofs.«01_k».proof.Proof.Staged.Block

@[expose] public section

noncomputable section

namespace Cert.Staged

open Cert.Kernel3Ideal Cert.Kernel3Ideal.Gen Idealize.ShloMosaic Idealize.ShloMosaic.TcCoe Idealize.SL.Sem
open Idealize.ShloMosaic.Pointwise Cert.Rows

variable (m : (ℓ : Loc nD τ sig) → Buf (Elt Ideal) ℓ) (c : Dev nD)

/-- The arguments as arrays. -/
abbrev arg0 : FVec Ideal S16x2048x1024 .f32 := m ((c : Thread nD τ).loc main_arg0)
abbrev arg1 : FVec Ideal S2x1024 .f32 := m ((c : Thread nD τ).loc main_arg1)
abbrev arg2 : FVec Ideal S2x1024x4096 .f32 := m ((c : Thread nD τ).loc main_arg2)
abbrev arg3 : FVec Ideal S2x4096x1024 .f32 := m ((c : Thread nD τ).loc main_arg3)
abbrev arg4 : FVec Ideal S1x1024x2048 .f32 := m ((c : Thread nD τ).loc main_arg4)
abbrev arg5 : FVec Ideal S1x1024x1024 .f32 := m ((c : Thread nD τ).loc main_arg5)

/-- What the region finds in its inputs' arrays: the arguments, regrouped. -/
theorem V0 : (V m c main_v0 : FVec Ideal S32768x1024 .f32) = shapeCast S32768x1024 (arg0 m c) shapeCasts_S16x2048x1024_S32768x1024 := by
  unfold V hostOps0; after_results; rfl
theorem V9 : (V m c main_v9 : FVec Ideal S1x1024 .f32) = shapeCast S1x1024 (shapeCast S1024 (extractStridedSlice S1x1024 ![0, 0] (arg1 m c)
    slices_S2x1024_S1x1024_0_0) shapeCasts_S1x1024_S1024) shapeCasts_S1024_S1x1024 := by
  unfold V hostOps0; after_results; rfl
theorem V5 : (V m c main_v5 : FVec Ideal S1024x4096 .bf16) = truncf .bf16 (shapeCast S1024x4096 (extractStridedSlice S1x1024x4096 ![0, 0, 0] (arg2 m c)
    slices_S2x1024x4096_S1x1024x4096_0_0_0) shapeCasts_S1x1024x4096_S1024x4096) bitsLt_bf16_f32 := by
  unfold V hostOps0; after_results; rfl
theorem V8 : (V m c main_v8 : FVec Ideal S4096x1024 .bf16) = truncf .bf16 (shapeCast S4096x1024 (extractStridedSlice S1x4096x1024 ![0, 0, 0] (arg3 m c)
    slices_S2x4096x1024_S1x4096x1024_0_0_0) shapeCasts_S1x4096x1024_S4096x1024) bitsLt_bf16_f32 := by
  unfold V hostOps0; after_results; rfl
theorem Va4 : (V m c main_arg4 : FVec Ideal S1x1024x2048 .f32) = arg4 m c := by
  unfold V hostOps0; after_results
theorem Va5 : (V m c main_arg5 : FVec Ideal S1x1024x1024 .f32) = arg5 m c := by
  unfold V hostOps0; after_results
theorem Va2 : (V m c main_arg2 : FVec Ideal S2x1024x4096 .f32) = arg2 m c := by
  unfold V hostOps0; after_results
theorem Va3 : (V m c main_arg3 : FVec Ideal S2x4096x1024 .f32) = arg3 m c := by
  unfold V hostOps0; after_results

/-- Where the windows' blocks sit: the rows' and the staged weights' block `t` at point `t`, the other windows their whole arrays. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 3) = 0 ∧ win0_4.index t (1 : Fin 3) = t.val ∧ win0_4.index t (2 : Fin 3) = 0 :=
  (by decide +kernel : ∀ t : Fin grid0.N, _)
theorem idx5 : ∀ t : Fin cfg0.N, win0_5.index t (0 : Fin 3) = 0 ∧ win0_5.index t (1 : Fin 3) = t.val ∧ win0_5.index t (2 : Fin 3) = 0 :=
  (by decide +kernel : ∀ t : Fin grid0.N, _)
theorem idx6 : ∀ t : Fin cfg0.N, win0_6.index t (0 : Fin 3) = 1 ∧ win0_6.index t (1 : Fin 3) = t.val ∧ win0_6.index t (2 : Fin 3) = 0 :=
  (by decide +kernel : ∀ t : Fin grid0.N, _)
theorem idx7 : ∀ t : Fin cfg0.N, win0_7.index t (0 : Fin 3) = 1 ∧ win0_7.index t (1 : Fin 3) = t.val ∧ win0_7.index t (2 : Fin 3) = 0 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)
theorem idx10 : ∀ t : Fin cfg0.N, win0_10.index t (0 : Fin 2) = t.val ∧ win0_10.index t (1 : Fin 2) = 0 :=
  (by decide +kernel : ∀ t : Fin grid0.N, _)
theorem idx11 : ∀ t : Fin cfg0.N, win0_11.index t (0 : Fin 2) = t.val ∧ win0_11.index t (1 : Fin 2) = 0 :=
  (by decide +kernel : ∀ t : Fin grid0.N, _)
theorem idx12 : ∀ t : Fin cfg0.N, win0_12.index t (0 : Fin 2) = t.val ∧ win0_12.index t (1 : Fin 2) = 0 :=
  (by decide +kernel : ∀ t : Fin grid0.N, _)

variable (t : Fin cfg0.N)

theorem point_lt : t.val < 32 := by have := t.isLt; have hN : cfg0.N = 32 := N_0; omega

theorem row_lt (r : Fin 1024) : t.val * 1024 + r.val < 32768 := by
  have := point_lt t; have := r.isLt; omega

/-- The row of a staged weight with 1024 rows, and of one with 4096, that point `t` copies as its row `r`. -/
abbrev slab (r : Fin 32) : Fin 1024 := ⟨t.val * 32 + r.val, by have := point_lt t; have := r.isLt; omega⟩
abbrev slab' (r : Fin 128) : Fin 4096 := ⟨t.val * 128 + r.val, by have := point_lt t; have := r.isLt; omega⟩

/-- The input blocks at an index, as entries of the arguments. -/
theorem blk0 (r k : Fin 1024) : (iblk m c 0 t : Vec Ideal S1024x1024 .f32) (ix2 r k) = arg0 m c (ix3 ⟨(t.val * 1024 + r.val) / 2048, by have := row_lt t r; omega⟩ ⟨(t.val * 1024 + r.val) % 2048, by omega⟩ k) := by
  obtain ⟨e0, e1⟩ := idx0 t
  have hr := row_lt t r
  show (V m c main_v0 : FVec Ideal S32768x1024 .f32) (((cfg0.win 0).blk t).view.emb (ix2 r k)) = _
  rw [show ((cfg0.win 0).blk t).view.emb (ix2 r k) = (ix2 ⟨t.val * 1024 + r.val, hr⟩ k : S32768x1024.Idx) from funext fun a => Fin.ext (match a with
    | ⟨0, _⟩ => by show win0_0.index t (0 : Fin 2) * 1024 + 1 * r.val = t.val * 1024 + r.val; omega
    | ⟨1, _⟩ => by show win0_0.index t (1 : Fin 2) * 1024 + 1 * k.val = k.val; omega), V0]
  pointwise

theorem blk1 (k : Fin 1024) : (iblk m c 1 t : Vec Ideal S1x1024 .f32) (ix2 0 k) = arg1 m c (ix2 0 k) := by
  obtain ⟨e0, e1⟩ := idx1 t
  show (V m c main_v9 : FVec Ideal S1x1024 .f32) (((cfg0.win 1).blk t).view.emb (ix2 0 k)) = _
  rw [show ((cfg0.win 1).blk t).view.emb (ix2 0 k) = (ix2 0 k : S1x1024.Idx) from funext fun a => Fin.ext (match a with
    | ⟨0, _⟩ => by show win0_1.index t (0 : Fin 2) * 1 + 1 * 0 = 0; omega
    | ⟨1, _⟩ => by show win0_1.index t (1 : Fin 2) * 1024 + 1 * k.val = k.val; omega), V9]
  pointwise

theorem blk2 (k : Fin 1024) (f : Fin 4096) : (iblk m c 2 t : Vec Ideal S1024x4096 .bf16) (ix2 k f) = arg2 m c (ix3 0 k f) := by
  obtain ⟨e0, e1⟩ := idx2 t
  show (V m c main_v5 : FVec Ideal S1024x4096 .bf16) (((cfg0.win 2).blk t).view.emb (ix2 k f)) = _
  rw [show ((cfg0.win 2).blk t).view.emb (ix2 k f) = (ix2 k f : S1024x4096.Idx) from funext fun a => Fin.ext (match a with
    | ⟨0, _⟩ => by show win0_2.index t (0 : Fin 2) * 1024 + 1 * k.val = k.val; omega
    | ⟨1, _⟩ => by show win0_2.index t (1 : Fin 2) * 4096 + 1 * f.val = f.val; omega), V5]
  pointwise

theorem blk3 (f : Fin 4096) (k : Fin 1024) : (iblk m c 3 t : Vec Ideal S4096x1024 .bf16) (ix2 f k) = arg3 m c (ix3 0 f k) := by
  obtain ⟨e0, e1⟩ := idx3 t
  show (V m c main_v8 : FVec Ideal S4096x1024 .bf16) (((cfg0.win 3).blk t).view.emb (ix2 f k)) = _
  rw [show ((cfg0.win 3).blk t).view.emb (ix2 f k) = (ix2 f k : S4096x1024.Idx) from funext fun a => Fin.ext (match a with
    | ⟨0, _⟩ => by show win0_3.index t (0 : Fin 2) * 4096 + 1 * f.val = f.val; omega
    | ⟨1, _⟩ => by show win0_3.index t (1 : Fin 2) * 1024 + 1 * k.val = k.val; omega), V8]
  pointwise

theorem blk4 (r : Fin 32) (l : Fin 2048) : (iblk m c 4 t : Vec Ideal S1x32x2048 .f32) (ix3 0 r l) = arg4 m c (ix3 0 (slab t r) l) := by
  obtain ⟨e0, e1, e2⟩ := idx4 t
  show (V m c main_arg4 : FVec Ideal S1x1024x2048 .f32) (((cfg0.win 4).blk t).view.emb (ix3 0 r l)) = _
  rw [show ((cfg0.win 4).blk t).view.emb (ix3 0 r l) = (ix3 0 (slab t r) l : S1x1024x2048.Idx) from funext fun a => Fin.ext (match a with
    | ⟨0, _⟩ => by show win0_4.index t (0 : Fin 3) * 1 + 1 * 0 = 0; omega
    | ⟨1, _⟩ => by show win0_4.index t (1 : Fin 3) * 32 + 1 * r.val = t.val * 32 + r.val; omega
    | ⟨2, _⟩ => by show win0_4.index t (2 : Fin 3) * 2048 + 1 * l.val = l.val; omega), Va4]

theorem blk5 (r : Fin 32) (l : Fin 1024) : (iblk m c 5 t : Vec Ideal S1x32x1024 .f32) (ix3 0 r l) = arg5 m c (ix3 0 (slab t r) l) := by
  obtain ⟨e0, e1, e2⟩ := idx5 t
  show (V m c main_arg5 : FVec Ideal S1x1024x1024 .f32) (((cfg0.win 5).blk t).view.emb (ix3 0 r l)) = _
  rw [show ((cfg0.win 5).blk t).view.emb (ix3 0 r l) = (ix3 0 (slab t r) l : S1x1024x1024.Idx) from funext fun a => Fin.ext (match a with
    | ⟨0, _⟩ => by show win0_5.index t (0 : Fin 3) * 1 + 1 * 0 = 0; omega
    | ⟨1, _⟩ => by show win0_5.index t (1 : Fin 3) * 32 + 1 * r.val = t.val * 32 + r.val; omega
    | ⟨2, _⟩ => by show win0_5.index t (2 : Fin 3) * 1024 + 1 * l.val = l.val; omega), Va5]

theorem blk6 (r : Fin 32) (l : Fin 4096) : (iblk m c 6 t : Vec Ideal S1x32x4096 .f32) (ix3 0 r l) = arg2 m c (ix3 1 (slab t r) l) := by
  obtain ⟨e0, e1, e2⟩ := idx6 t
  show (V m c main_arg2 : FVec Ideal S2x1024x4096 .f32) (((cfg0.win 6).blk t).view.emb (ix3 0 r l)) = _
  rw [show ((cfg0.win 6).blk t).view.emb (ix3 0 r l) = (ix3 1 (slab t r) l : S2x1024x4096.Idx) from funext fun a => Fin.ext (match a with
    | ⟨0, _⟩ => by show win0_6.index t (0 : Fin 3) * 1 + 1 * 0 = 1; omega
    | ⟨1, _⟩ => by show win0_6.index t (1 : Fin 3) * 32 + 1 * r.val = t.val * 32 + r.val; omega
    | ⟨2, _⟩ => by show win0_6.index t (2 : Fin 3) * 4096 + 1 * l.val = l.val; omega), Va2]

theorem blk7 (r : Fin 128) (l : Fin 1024) : (iblk m c 7 t : Vec Ideal S1x128x1024 .f32) (ix3 0 r l) = arg3 m c (ix3 1 (slab' t r) l) := by
  obtain ⟨e0, e1, e2⟩ := idx7 t
  show (V m c main_arg3 : FVec Ideal S2x4096x1024 .f32) (((cfg0.win 7).blk t).view.emb (ix3 0 r l)) = _
  rw [show ((cfg0.win 7).blk t).view.emb (ix3 0 r l) = (ix3 1 (slab' t r) l : S2x4096x1024.Idx) from funext fun a => Fin.ext (match a with
    | ⟨0, _⟩ => by show win0_7.index t (0 : Fin 3) * 1 + 1 * 0 = 1; omega
    | ⟨1, _⟩ => by show win0_7.index t (1 : Fin 3) * 128 + 1 * r.val = t.val * 128 + r.val; omega
    | ⟨2, _⟩ => by show win0_7.index t (2 : Fin 3) * 1024 + 1 * l.val = l.val; omega), Va3]

/-- THE FIRST RESULT AT AN INDEX: the feed-forward block on the row. -/
theorem result8_apply (r : Fin 32768) (l : Fin 1024) : ((dats m 0 c).arrAt 8 cfg0.N : FVec Ideal S32768x1024 .f32) (ix2 r l)
    = ffn (fun k => arg0 m c (ix3 ⟨r.val / 2048, by have := r.isLt; omega⟩ ⟨r.val % 2048, by omega⟩ k)) (fun k => arg1 m c (ix2 0 k))
        (fun k f => arg2 m c (ix3 0 k f)) (fun f k => arg3 m c (ix3 0 f k)) l := by
  have hN : cfg0.N = 32 := N_0
  obtain ⟨t, q, hq⟩ : ∃ (t : Fin cfg0.N) (q : Fin 1024), r.val = t.val * 1024 + q.val :=
    ⟨⟨r.val / 1024, by have := r.isLt; omega⟩, ⟨r.val % 1024, by omega⟩, by show r.val = r.val / 1024 * 1024 + r.val % 1024; omega⟩
  obtain rfl : r = ⟨t.val * 1024 + q.val, row_lt t q⟩ := Fin.ext hq
  obtain ⟨e0, e1⟩ := idx8 t
  have b := congrFun (Kernel3Ideal.Value.blocks8 m c t (flush0_8 t)) (ix2 q l)
  rw [Kernel3Ideal.Value.flushed8_A, out8_apply] at b
  have b' : ((dats m 0 c).arrAt 8 cfg0.N : FVec Ideal S32768x1024 .f32) (((cfg0.win 8).blk t).view.emb (ix2 q l))
    = val (iblk m c 0 t) (iblk m c 1 t) (iblk m c 2 t) (iblk m c 3 t) (ix2 q l) := b
  rw [show ((cfg0.win 8).blk t).view.emb (ix2 q l) = (ix2 ⟨t.val * 1024 + q.val, row_lt t q⟩ l : S32768x1024.Idx) from funext fun a => Fin.ext (match a with
    | ⟨0, _⟩ => by show win0_8.index t (0 : Fin 2) * 1024 + 1 * q.val = t.val * 1024 + q.val; omega
    | ⟨1, _⟩ => by show win0_8.index t (1 : Fin 2) * 1024 + 1 * l.val = l.val; omega)] at b'
  rw [b']
  unfold val
  simp only [ix2_0, ix2_1, blk0, blk1, blk2, blk3]

/-- THE STAGED WEIGHTS AT AN INDEX: the layer's weights, whose rounding to half width is none over the extended reals. -/
theorem result9_apply (r : Fin 1024) (l : Fin 2048) :
    ((dats m 0 c).arrAt 9 cfg0.N : FVec Ideal S1024x2048 .bf16) (ix2 r l) = arg4 m c (ix3 0 r l) := by
  have hN : cfg0.N = 32 := N_0
  obtain ⟨t, q, hq⟩ : ∃ (t : Fin cfg0.N) (q : Fin 32), r.val = t.val * 32 + q.val :=
    ⟨⟨r.val / 32, by have := r.isLt; omega⟩, ⟨r.val % 32, by omega⟩, by show r.val = r.val / 32 * 32 + r.val % 32; omega⟩
  obtain rfl : r = slab t q := Fin.ext hq
  obtain ⟨e0, e1⟩ := idx9 t
  have b := congrFun (Kernel3Ideal.Value.blocks9 m c t (flush0_9 t)) (ix2 q l)
  rw [Kernel3Ideal.Value.flushed9_A] at b
  have b' : ((dats m 0 c).arrAt 9 cfg0.N : FVec Ideal S1024x2048 .bf16) (((cfg0.win 9).blk t).view.emb (ix2 q l))
    = (iblk m c 4 t : Vec Ideal S1x32x2048 .f32) (ix3 0 q l) := b.trans (out9_apply _ _ _ _ _ _ _ _ _ _ _ _ _ _ _ _ _ _ _ _ _ _ _ _ _ _ _ _ _ _ _ _ _ _ _ _ _ _ _ _ q l)
  rw [show ((cfg0.win 9).blk t).view.emb (ix2 q l) = (ix2 (slab t q) l : S1024x2048.Idx) from funext fun a => Fin.ext (match a with
    | ⟨0, _⟩ => by show win0_9.index t (0 : Fin 2) * 32 + 1 * q.val = t.val * 32 + q.val; omega
    | ⟨1, _⟩ => by show win0_9.index t (1 : Fin 2) * 2048 + 1 * l.val = l.val; omega), blk4] at b'
  exact b'

theorem result10_apply (r : Fin 1024) (l : Fin 1024) :
    ((dats m 0 c).arrAt 10 cfg0.N : FVec Ideal S1024x1024 .bf16) (ix2 r l) = arg5 m c (ix3 0 r l) := by
  have hN : cfg0.N = 32 := N_0
  obtain ⟨t, q, hq⟩ : ∃ (t : Fin cfg0.N) (q : Fin 32), r.val = t.val * 32 + q.val :=
    ⟨⟨r.val / 32, by have := r.isLt; omega⟩, ⟨r.val % 32, by omega⟩, by show r.val = r.val / 32 * 32 + r.val % 32; omega⟩
  obtain rfl : r = slab t q := Fin.ext hq
  obtain ⟨e0, e1⟩ := idx10 t
  have b := congrFun (Kernel3Ideal.Value.blocks10 m c t (flush0_10 t)) (ix2 q l)
  rw [Kernel3Ideal.Value.flushed10_A] at b
  have b' : ((dats m 0 c).arrAt 10 cfg0.N : FVec Ideal S1024x1024 .bf16) (((cfg0.win 10).blk t).view.emb (ix2 q l))
    = (iblk m c 5 t : Vec Ideal S1x32x1024 .f32) (ix3 0 q l) := b.trans (out10_apply _ _ _ _ _ _ _ _ _ _ _ _ _ _ _ _ _ _ _ _ _ _ _ _ _ _ _ _ _ _ _ _ _ _ _ _ _ _ _ _ q l)
  rw [show ((cfg0.win 10).blk t).view.emb (ix2 q l) = (ix2 (slab t q) l : S1024x1024.Idx) from funext fun a => Fin.ext (match a with
    | ⟨0, _⟩ => by show win0_10.index t (0 : Fin 2) * 32 + 1 * q.val = t.val * 32 + q.val; omega
    | ⟨1, _⟩ => by show win0_10.index t (1 : Fin 2) * 1024 + 1 * l.val = l.val; omega), blk5] at b'
  exact b'

theorem result11_apply (r : Fin 1024) (l : Fin 4096) :
    ((dats m 0 c).arrAt 11 cfg0.N : FVec Ideal S1024x4096 .bf16) (ix2 r l) = arg2 m c (ix3 1 r l) := by
  have hN : cfg0.N = 32 := N_0
  obtain ⟨t, q, hq⟩ : ∃ (t : Fin cfg0.N) (q : Fin 32), r.val = t.val * 32 + q.val :=
    ⟨⟨r.val / 32, by have := r.isLt; omega⟩, ⟨r.val % 32, by omega⟩, by show r.val = r.val / 32 * 32 + r.val % 32; omega⟩
  obtain rfl : r = slab t q := Fin.ext hq
  obtain ⟨e0, e1⟩ := idx11 t
  have b := congrFun (Kernel3Ideal.Value.blocks11 m c t (flush0_11 t)) (ix2 q l)
  rw [Kernel3Ideal.Value.flushed11_A] at b
  have b' : ((dats m 0 c).arrAt 11 cfg0.N : FVec Ideal S1024x4096 .bf16) (((cfg0.win 11).blk t).view.emb (ix2 q l))
    = (iblk m c 6 t : Vec Ideal S1x32x4096 .f32) (ix3 0 q l) := b.trans (out11_apply _ _ _ _ _ _ _ _ _ _ _ _ _ _ _ _ _ _ _ _ _ _ _ _ _ _ _ _ _ _ _ _ _ _ _ _ _ _ _ _ q l)
  rw [show ((cfg0.win 11).blk t).view.emb (ix2 q l) = (ix2 (slab t q) l : S1024x4096.Idx) from funext fun a => Fin.ext (match a with
    | ⟨0, _⟩ => by show win0_11.index t (0 : Fin 2) * 32 + 1 * q.val = t.val * 32 + q.val; omega
    | ⟨1, _⟩ => by show win0_11.index t (1 : Fin 2) * 4096 + 1 * l.val = l.val; omega), blk6] at b'
  exact b'

theorem result12_apply (r : Fin 4096) (l : Fin 1024) :
    ((dats m 0 c).arrAt 12 cfg0.N : FVec Ideal S4096x1024 .bf16) (ix2 r l) = arg3 m c (ix3 1 r l) := by
  have hN : cfg0.N = 32 := N_0
  obtain ⟨t, q, hq⟩ : ∃ (t : Fin cfg0.N) (q : Fin 128), r.val = t.val * 128 + q.val :=
    ⟨⟨r.val / 128, by have := r.isLt; omega⟩, ⟨r.val % 128, by omega⟩, by show r.val = r.val / 128 * 128 + r.val % 128; omega⟩
  obtain rfl : r = slab' t q := Fin.ext hq
  obtain ⟨e0, e1⟩ := idx12 t
  have b := congrFun (Kernel3Ideal.Value.blocks12 m c t (flush0_12 t)) (ix2 q l)
  rw [Kernel3Ideal.Value.flushed12_A] at b
  have b' : ((dats m 0 c).arrAt 12 cfg0.N : FVec Ideal S4096x1024 .bf16) (((cfg0.win 12).blk t).view.emb (ix2 q l))
    = (iblk m c 7 t : Vec Ideal S1x128x1024 .f32) (ix3 0 q l) := b.trans (out12_apply _ _ _ _ _ _ _ _ _ _ _ _ _ _ _ _ _ _ _ _ _ _ _ _ _ _ _ _ _ _ _ _ _ _ _ _ _ _ _ _ q l)
  rw [show ((cfg0.win 12).blk t).view.emb (ix2 q l) = (ix2 (slab' t q) l : S4096x1024.Idx) from funext fun a => Fin.ext (match a with
    | ⟨0, _⟩ => by show win0_12.index t (0 : Fin 2) * 128 + 1 * q.val = t.val * 128 + q.val; omega
    | ⟨1, _⟩ => by show win0_12.index t (1 : Fin 2) * 1024 + 1 * l.val = l.val; omega), blk7] at b'
  exact b'

end Cert.Staged

end
-- ==== Proof.Staged.Reference.lean ====
/- The first feed-forward reference's results as functions of its arguments. -/
module

public import proofs.«01_k».proof.Proof.Rows
public import proofs.«01_k».proof.Proof.Gen.Reference3Ideal.Read

@[expose] public section

noncomputable section

namespace Cert.Staged

open Cert.Reference3Ideal Cert.Reference3Ideal.Value Cert.Reference3Ideal.Gen Idealize.ShloMosaic Idealize.ShloMosaic.TcCoe Idealize.SL.Sem
open Idealize.ShloMosaic.Pointwise Cert.Rows

open Cert.Reference3Ideal.Read

section

variable (x : FVec Ideal S16x2048x1024 .f32) (g : FVec Ideal S2x1024 .f32) (w1 : FVec Ideal S2x1024x4096 .f32)
  (w2 : FVec Ideal S2x4096x1024 .f32) (b : Fin 16) (s : Fin 2048)

/-- The first norm at an index. -/
theorem ref_norm (k : Fin 1024) : val_main_v14 (F := Ideal) x g (ix3 b s k) = rms (fun k => x (ix3 b s k)) (fun k => g (ix2 0 k)) k := by
  pointwise [val_main_v14, val_main_v13, val_main_v12, val_main_v11, val_main_v10, val_main_v9, val_main_v8, val_main_v7,
    val_main_cst_1, val_main_v6, val_main_v5, val_main_cst_0, val_main_v4, val_main_v3, val_main_cst, val_main_v2,
    val_main_v1, val_main_v0]
  rfl

/-- The hidden layer at an index. -/
theorem ref_hidden (f : Fin 4096) : val_main_v19 (F := Ideal) x g w1 (ix3 b s f)
    = sqrelu (fun k => val_main_v14 (F := Ideal) x g (ix3 b s k)) (fun k => w1 (ix3 0 k f)) := by
  pointwise [val_main_v19, val_main_v18, val_main_call0_v0, val_main_call0_cst, val_main_v17, val_main_v16, val_main_v15]
  rfl

/-- The residual sum at an index. -/
theorem ref_sum (l : Fin 1024) : val_main_v23 (F := Ideal) x g w1 w2 (ix3 b s l)
    = x (ix3 b s l) + ∑ f, val_main_v19 (F := Ideal) x g w1 (ix3 b s f) * w2 (ix3 0 f l) := by
  pointwise [val_main_v23, val_main_v22, val_main_v21, val_main_v20]

/-- The first result at an index: the feed-forward block on the row. -/
theorem ref_apply (r : Fin 32768) (l : Fin 1024) : val_main_v24 (F := Ideal) x g w1 w2 (ix2 r l)
    = ffn (fun k => x (ix3 ⟨r.val / 2048, by have := r.isLt; omega⟩ ⟨r.val % 2048, by omega⟩ k)) (fun k => g (ix2 0 k))
        (fun k f => w1 (ix3 0 k f)) (fun f k => w2 (ix3 0 f k)) l := by
  have h : val_main_v24 (F := Ideal) x g w1 w2 (ix2 r l)
      = val_main_v23 (F := Ideal) x g w1 w2 (ix3 ⟨r.val / 2048, by have := r.isLt; omega⟩ ⟨r.val % 2048, by omega⟩ l) := by
    pointwise [val_main_v24]
  rw [h, ref_sum]
  simp only [ref_hidden, ref_norm]
  rfl

/-- The staged weights at an index: the layer's weights. -/
theorem ref_in (w : FVec Ideal S1x1024x2048 .f32) (r : Fin 1024) (l : Fin 2048) : val_main_v26 (F := Ideal) w (ix2 r l) = w (ix3 0 r l) := by
  pointwise [val_main_v26, val_main_v25]

theorem ref_out (w : FVec Ideal S1x1024x1024 .f32) (r l : Fin 1024) : val_main_v28 (F := Ideal) w (ix2 r l) = w (ix3 0 r l) := by
  pointwise [val_main_v28, val_main_v27]

theorem ref_w1 (r : Fin 1024) (l : Fin 4096) : val_main_v31 (F := Ideal) w1 (ix2 r l) = w1 (ix3 1 r l) := by
  pointwise [val_main_v31, val_main_v30, val_main_v29]

theorem ref_w2 (r : Fin 4096) (l : Fin 1024) : val_main_v34 (F := Ideal) w2 (ix2 r l) = w2 (ix3 1 r l) := by
  pointwise [val_main_v34, val_main_v33, val_main_v32]

end

end Cert.Staged

end
-- ==== Proof.Staged.Claims.lean ====
/- The first feed-forward pair's claims: the reference's frame and the equality of the five results over the extended reals. -/
module

public import proofs.«01_k».proof.Defs
public import proofs.«01_k».proof.Proof.Staged.Array
public import proofs.«01_k».proof.Proof.Staged.Reference

@[expose] public section

noncomputable section

namespace Cert.Staged

open Idealize.ShloMosaic Idealize.ShloMosaic.TcCoe Idealize.SL.Sem Idealize.ShloMosaic.Pointwise
open Cert.Reference3Ideal.Read

/-- The reference runs, keeps its arguments and has no semaphore. -/
theorem frame_ref : Cert.quiescent_Reference3Ideal := fun m ρ _ =>
  (θ_run Cert.Reference3Ideal.defs _ _).mono
    (fun r h => ⟨fun c => (h c).2.2.2.2.2, sem_eq_zero_of_no_sems (by decide) r.2⟩) (Cert.Reference3Ideal.Value.run (F := Ideal) m ρ)

/-- Two matrices with the same entries are equal. -/
theorem ext2 {n p : ℕ} {α : Type} {f g : (⟨2, ![n, p]⟩ : Shape).Idx → α} (h : ∀ (r : Fin n) (l : Fin p), f (ix2 r l) = g (ix2 r l)) : f = g := by
  funext i
  rw [eq_ix2 i]
  exact h _ _

section

variable (m : (ℓ : Loc Cert.Kernel3Ideal.nD Cert.Kernel3Ideal.τ Cert.Kernel3Ideal.sig) → Buf (Elt Ideal) ℓ) (c : Dev Cert.Kernel3Ideal.nD)

open Cert.Kernel3Ideal Cert.Kernel3Ideal.Gen

/-- The kernel's five result arrays are the reference's results of the same arguments. -/
theorem eq8 : ((dats m 0 c).arrAt 8 cfg0.N : FVec Ideal S32768x1024 .f32)
    = val_main_v24 (F := Ideal) (arg0 m c) (arg1 m c) (arg2 m c) (arg3 m c) :=
  ext2 fun r l => (result8_apply m c r l).trans (ref_apply (arg0 m c) (arg1 m c) (arg2 m c) (arg3 m c) r l).symm
theorem eq9 : ((dats m 0 c).arrAt 9 cfg0.N : FVec Ideal S1024x2048 .bf16) = val_main_v26 (F := Ideal) (arg4 m c) :=
  ext2 fun r l => (result9_apply m c r l).trans (ref_in (arg4 m c) r l).symm
theorem eq10 : ((dats m 0 c).arrAt 10 cfg0.N : FVec Ideal S1024x1024 .bf16) = val_main_v28 (F := Ideal) (arg5 m c) :=
  ext2 fun r l => (result10_apply m c r l).trans (ref_out (arg5 m c) r l).symm
theorem eq11 : ((dats m 0 c).arrAt 11 cfg0.N : FVec Ideal S1024x4096 .bf16) = val_main_v31 (F := Ideal) (arg2 m c) :=
  ext2 fun r l => (result11_apply m c r l).trans (ref_w1 (arg2 m c) r l).symm
theorem eq12 : ((dats m 0 c).arrAt 12 cfg0.N : FVec Ideal S4096x1024 .bf16) = val_main_v34 (F := Ideal) (arg3 m c) :=
  ext2 fun r l => (result12_apply m c r l).trans (ref_w2 (arg3 m c) r l).symm

end

/-- From the same arguments both programs end with equal results. -/
theorem algebraic : Cert.algebraic_Kernel3Ideal_Reference3Ideal := by
  intro m ρ m' ρ' _ hagree
  refine ⟨fun c => val_main_v24 (F := Ideal) (arg0 m c) (arg1 m c) (arg2 m c) (arg3 m c), fun c => val_main_v26 (F := Ideal) (arg4 m c),
    fun c => val_main_v28 (F := Ideal) (arg5 m c), fun c => val_main_v31 (F := Ideal) (arg2 m c),
    fun c => val_main_v34 (F := Ideal) (arg3 m c), ?_, ?_⟩
  · exact (θ_run Cert.Kernel3Ideal.defs _ _).mono (fun _ h c => ⟨(h c).1.trans (eq8 m c), (h c).2.1.trans (eq9 m c),
      (h c).2.2.1.trans (eq10 m c), (h c).2.2.2.1.trans (eq11 m c), (h c).2.2.2.2.1.trans (eq12 m c), (h c).2.2.2.2.2⟩)
      (Cert.Kernel3Ideal.Value.run_blocks m ρ)
  · refine (θ_run Cert.Reference3Ideal.defs _ _).mono (fun _ h c => ?_) (Cert.Reference3Ideal.Value.run (F := Ideal) m' ρ')
    obtain ⟨a0, a1, a2, a3, a4, a5⟩ := hagree c
    obtain ⟨h0, h1, h2, h3, h4, hk⟩ := h c
    refine ⟨(h0.trans (val_main_v24_eq ..)).trans ?_, (h1.trans (val_main_v26_eq ..)).trans ?_, (h2.trans (val_main_v28_eq ..)).trans ?_,
      (h3.trans (val_main_v31_eq ..)).trans ?_, (h4.trans (val_main_v34_eq ..)).trans ?_, hk⟩
    · rw [a0, a1, a2, a3]
    · rw [a4]
    · rw [a5]
    · rw [a2]
    · rw [a3]

end Cert.Staged

end
-- ==== Proof.lean ====
/- The certificate: the frames, and the value equations of the four calls: the spatial gating, the two feed-forward blocks and the convolution mixers. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.Reference2Ideal.Run
public import proofs.«01_k».proof.Proof.Gen.ReferenceIdeal.Read
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Conv.Claims
public import proofs.«01_k».proof.Proof.Mlp.Claims
public import proofs.«01_k».proof.Proof.Spatial.Claims
public import proofs.«01_k».proof.Proof.Staged.Claims
public import Idealize.ShloMosaic.Adequacy
public import Idealize.ShloMosaic.Init

@[expose] public section

noncomputable section

namespace Cert.Proof

open Idealize.ShloMosaic Idealize.SL.Sem Cert.Kernel

/-- Every claim: the programs' facts, then for each call the three frames, and for each call that idealizing changes
nothing and that the kernel and the reference compute the same array. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    fun m ρ _ => Cert.Kernel.Gen.frame m ρ, fun m ρ _ => Cert.KernelIdeal.Gen.frame m ρ, Cert.Spatial.frame_ref,
    fun m ρ _ => Cert.Kernel2.Gen.frame m ρ, fun m ρ _ => Cert.Kernel2Ideal.Gen.frame m ρ, Cert.Mlp.frame_ref,
    fun m ρ _ => Cert.Kernel3.Gen.frame m ρ, fun m ρ _ => Cert.Kernel3Ideal.Gen.frame m ρ, Cert.Staged.frame_ref,
    fun m ρ _ => Cert.Kernel4.Gen.frame m ρ, fun m ρ _ => Cert.Kernel4Ideal.Gen.frame m ρ, Cert.Conv.frame_ref,
    trivial, Cert.Spatial.algebraic, trivial, Cert.Mlp.algebraic, trivial, Cert.Staged.algebraic,
    trivial, Cert.Conv.algebraic⟩

end Cert.Proof

end
